-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 1024]⟩ ⟨2, ![32768, 1024]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x1024 : Shape := ⟨2, ![2048, 1024]⟩
abbrev S1024x1024 : Shape := ⟨2, ![1024, 1024]⟩
abbrev S4x256x1024 : Shape := ⟨3, ![4, 256, 1024]⟩
abbrev S512x1024 : Shape := ⟨2, ![512, 1024]⟩
abbrev S4x128x1024 : Shape := ⟨3, ![4, 128, 1024]⟩
abbrev S3x8 : Shape := ⟨2, ![3, 8]⟩
abbrev S3x4 : Shape := ⟨2, ![3, 4]⟩
abbrev S_ : Shape := ⟨0, ![]⟩
abbrev S32x1024 : Shape := ⟨2, ![32, 1024]⟩
abbrev S1x32x1024 : Shape := ⟨3, ![1, 32, 1024]⟩
abbrev S1x1 : Shape := ⟨2, ![1, 1]⟩
abbrev S1x256x1024 : Shape := ⟨3, ![1, 256, 1024]⟩
abbrev S256x1024 : Shape := ⟨2, ![256, 1024]⟩
abbrev S1x64x1024 : Shape := ⟨3, ![1, 64, 1024]⟩
abbrev S64x1024 : Shape := ⟨2, ![64, 1024]⟩

abbrev nBuf : Space → Nat
  | .hbm => 3
  | .vmem => 10
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S2048x1024, .f32⟩
  | .local _ .vmem, ⟨0, _⟩ => ⟨S2048x1024, .f32⟩
  | .local _ .vmem, ⟨1, _⟩ => ⟨S1024x1024, .f32⟩
  | .local _ .vmem, ⟨2, _⟩ => ⟨S2048x1024, .f32⟩
  | .local _ .vmem, ⟨3, _⟩ => ⟨S4x256x1024, .bf16⟩
  | .local _ .vmem, ⟨4, _⟩ => ⟨S4x256x1024, .bf16⟩
  | .local _ .vmem, ⟨5, _⟩ => ⟨S512x1024, .bf16⟩
  | .local _ .vmem, ⟨6, _⟩ => ⟨S4x128x1024, .bf16⟩
  | .local _ .vmem, ⟨7, _⟩ => ⟨S512x1024, .bf16⟩
  | .local _ .vmem, ⟨8, _⟩ => ⟨S2048x1024, .bf16⟩
  | .local _ .vmem, ⟨9, _⟩ => ⟨S1024x1024, .bf16⟩
  | _, _ => ⟨S2048x1024, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 243 → Bool
  | ⟨i, _⟩ => dmaSemScopedAt i

abbrev sig : RefSig :=
  (ofTc nBuf bufTy 1 243 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_16 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c3_i32 : BitVec 32 := 3#32
  let v25 : BitVec 32 := Scalar.addi v3 c3_i32
  let c4_i32_8 : BitVec 32 := 4#32
  let v26 : BitVec 32 := Scalar.remsi v25 c4_i32_8
  let v27 : BitVec 32 := Scalar.addi v21 v26
  let c1_i32_15 : BitVec 32 := 1#32
  let v34 : BitVec 32 := Scalar.muli v27 c1_i32_15
  let v35 : BitVec 32 := Scalar.addi c0_i32_16 v34
  v35.toNat
def k0_dev2 (d0 : Dev nD) : Nat :=
  let c0_i32_19 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c1_i32_6 : BitVec 32 := 1#32
  let v22 : BitVec 32 := Scalar.addi v3 c1_i32_6
  let c4_i32_7 : BitVec 32 := 4#32
  let v23 : BitVec 32 := Scalar.remsi v22 c4_i32_7
  let v24 : BitVec 32 := Scalar.addi v21 v23
  let c1_i32_18 : BitVec 32 := 1#32
  let v36 : BitVec 32 := Scalar.muli v24 c1_i32_18
  let v37 : BitVec 32 := Scalar.addi c0_i32_19 v36
  v37.toNat
def k0_dev3 (d0 : Dev nD) : Nat :=
  let c0_i32_22 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_9 : BitVec 32 := 4#32
  let v28 : BitVec 32 := Scalar.addi v2 c4_i32_9
  let c16_i32_10 : BitVec 32 := 16#32
  let v29 : BitVec 32 := Scalar.remsi v28 c16_i32_10
  let c1_i32_21 : BitVec 32 := 1#32
  let v38 : BitVec 32 := Scalar.muli v29 c1_i32_21
  let v39 : BitVec 32 := Scalar.addi c0_i32_22 v38
  v39.toNat
def k0_dev4 (d0 : Dev nD) : Nat :=
  let c0_i32_25 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_11 : BitVec 32 := 16#32
  let v30 : BitVec 32 := Scalar.addi v2 c16_i32_11
  let c4_i32_12 : BitVec 32 := 4#32
  let v31 : BitVec 32 := Scalar.subi v30 c4_i32_12
  let c16_i32_13 : BitVec 32 := 16#32
  let v32 : BitVec 32 := Scalar.remsi v31 c16_i32_13
  let c1_i32_24 : BitVec 32 := 1#32
  let v40 : BitVec 32 := Scalar.muli v32 c1_i32_24
  let v41 : BitVec 32 := Scalar.addi c0_i32_25 v40
  v41.toNat
def k0_off1 (d0 : Dev nD) (c0_i32_32 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c4_i32_27 : BitVec 32 := 4#32
  let v42 : BitVec 32 := Scalar.addi v3 c4_i32_27
  let c1_i32_28 : BitVec 32 := 1#32
  let v43 : BitVec 32 := Scalar.subi v42 c1_i32_28
  let c4_i32_29 : BitVec 32 := 4#32
  let v44 : BitVec 32 := Scalar.remsi v43 c4_i32_29
  let c512_i32 : BitVec 32 := 512#32
  let v47 : BitVec 32 := Scalar.muli v44 c512_i32
  let v48 : BitVec 32 := Scalar.addi v47 c0_i32_32
  let v49 : Index := Scalar.indexCast v48
  let c0 : Index := 0#32
  ![v49.toNat, 0]
def k0_dev5 (d0 : Dev nD) : Nat :=
  let c0_i32_42 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c1_i32_6 : BitVec 32 := 1#32
  let v22 : BitVec 32 := Scalar.addi v3 c1_i32_6
  let c4_i32_7 : BitVec 32 := 4#32
  let v23 : BitVec 32 := Scalar.remsi v22 c4_i32_7
  let v24 : BitVec 32 := Scalar.addi v21 v23
  let c1_i32_41 : BitVec 32 := 1#32
  let v56 : BitVec 32 := Scalar.muli v24 c1_i32_41
  let v57 : BitVec 32 := Scalar.addi c0_i32_42 v56
  v57.toNat
def k0_off2 (d0 : Dev nD) (c0_i32_48 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_30 : BitVec 32 := 1#32
  let v45 : BitVec 32 := Scalar.addi v3 c1_i32_30
  let c4_i32_31 : BitVec 32 := 4#32
  let v46 : BitVec 32 := Scalar.remsi v45 c4_i32_31
  let c512_i32_47 : BitVec 32 := 512#32
  let v66 : BitVec 32 := Scalar.muli v46 c512_i32_47
  let c256_i32 : BitVec 32 := 256#32
  let v67 : BitVec 32 := Scalar.addi v66 c256_i32
  let v68 : BitVec 32 := Scalar.addi v67 c0_i32_48
  let v69 : Index := Scalar.indexCast v68
  let c0_49 : Index := 0#32
  ![v69.toNat, 0]
def k0_dev6 (d0 : Dev nD) : Nat :=
  let c0_i32_60 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c3_i32 : BitVec 32 := 3#32
  let v25 : BitVec 32 := Scalar.addi v3 c3_i32
  let c4_i32_8 : BitVec 32 := 4#32
  let v26 : BitVec 32 := Scalar.remsi v25 c4_i32_8
  let v27 : BitVec 32 := Scalar.addi v21 v26
  let c1_i32_59 : BitVec 32 := 1#32
  let v76 : BitVec 32 := Scalar.muli v27 c1_i32_59
  let v77 : BitVec 32 := Scalar.addi c0_i32_60 v76
  v77.toNat
def k0_dev7 (d0 : Dev nD) : Nat :=
  let c0_i32_76 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c1_i32_6 : BitVec 32 := 1#32
  let v22 : BitVec 32 := Scalar.addi v3 c1_i32_6
  let c4_i32_7 : BitVec 32 := 4#32
  let v23 : BitVec 32 := Scalar.remsi v22 c4_i32_7
  let v24 : BitVec 32 := Scalar.addi v21 v23
  let c1_i32_75 : BitVec 32 := 1#32
  let v95 : BitVec 32 := Scalar.muli v24 c1_i32_75
  let v96 : BitVec 32 := Scalar.addi c0_i32_76 v95
  v96.toNat
def k0_dev8 (d0 : Dev nD) : Nat :=
  let c0_i32_95 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c3_i32 : BitVec 32 := 3#32
  let v25 : BitVec 32 := Scalar.addi v3 c3_i32
  let c4_i32_8 : BitVec 32 := 4#32
  let v26 : BitVec 32 := Scalar.remsi v25 c4_i32_8
  let v27 : BitVec 32 := Scalar.addi v21 v26
  let c1_i32_94 : BitVec 32 := 1#32
  let v115 : BitVec 32 := Scalar.muli v27 c1_i32_94
  let v116 : BitVec 32 := Scalar.addi c0_i32_95 v115
  v116.toNat
def k0_dev9 (d0 : Dev nD) : Nat :=
  let c0_i32_110 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c1_i32_6 : BitVec 32 := 1#32
  let v22 : BitVec 32 := Scalar.addi v3 c1_i32_6
  let c4_i32_7 : BitVec 32 := 4#32
  let v23 : BitVec 32 := Scalar.remsi v22 c4_i32_7
  let v24 : BitVec 32 := Scalar.addi v21 v23
  let c1_i32_109 : BitVec 32 := 1#32
  let v134 : BitVec 32 := Scalar.muli v24 c1_i32_109
  let v135 : BitVec 32 := Scalar.addi c0_i32_110 v134
  v135.toNat
def k0_dev10 (d0 : Dev nD) : Nat :=
  let c0_i32_129 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c3_i32 : BitVec 32 := 3#32
  let v25 : BitVec 32 := Scalar.addi v3 c3_i32
  let c4_i32_8 : BitVec 32 := 4#32
  let v26 : BitVec 32 := Scalar.remsi v25 c4_i32_8
  let v27 : BitVec 32 := Scalar.addi v21 v26
  let c1_i32_128 : BitVec 32 := 1#32
  let v154 : BitVec 32 := Scalar.muli v27 c1_i32_128
  let v155 : BitVec 32 := Scalar.addi c0_i32_129 v154
  v155.toNat
def k0_dev11 (d0 : Dev nD) : Nat :=
  let c0_i32_145 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c1_i32_6 : BitVec 32 := 1#32
  let v22 : BitVec 32 := Scalar.addi v3 c1_i32_6
  let c4_i32_7 : BitVec 32 := 4#32
  let v23 : BitVec 32 := Scalar.remsi v22 c4_i32_7
  let v24 : BitVec 32 := Scalar.addi v21 v23
  let c1_i32_144 : BitVec 32 := 1#32
  let v173 : BitVec 32 := Scalar.muli v24 c1_i32_144
  let v174 : BitVec 32 := Scalar.addi c0_i32_145 v173
  v174.toNat
def k0_dev12 (d0 : Dev nD) : Nat :=
  let c0_i32_164 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c3_i32 : BitVec 32 := 3#32
  let v25 : BitVec 32 := Scalar.addi v3 c3_i32
  let c4_i32_8 : BitVec 32 := 4#32
  let v26 : BitVec 32 := Scalar.remsi v25 c4_i32_8
  let v27 : BitVec 32 := Scalar.addi v21 v26
  let c1_i32_163 : BitVec 32 := 1#32
  let v193 : BitVec 32 := Scalar.muli v27 c1_i32_163
  let v194 : BitVec 32 := Scalar.addi c0_i32_164 v193
  v194.toNat
def k0_dev13 (d0 : Dev nD) : Nat :=
  let c0_i32_180 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c1_i32_6 : BitVec 32 := 1#32
  let v22 : BitVec 32 := Scalar.addi v3 c1_i32_6
  let c4_i32_7 : BitVec 32 := 4#32
  let v23 : BitVec 32 := Scalar.remsi v22 c4_i32_7
  let v24 : BitVec 32 := Scalar.addi v21 v23
  let c1_i32_179 : BitVec 32 := 1#32
  let v212 : BitVec 32 := Scalar.muli v24 c1_i32_179
  let v213 : BitVec 32 := Scalar.addi c0_i32_180 v212
  v213.toNat
def k0_dev14 (d0 : Dev nD) : Nat :=
  let c0_i32_199 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c3_i32 : BitVec 32 := 3#32
  let v25 : BitVec 32 := Scalar.addi v3 c3_i32
  let c4_i32_8 : BitVec 32 := 4#32
  let v26 : BitVec 32 := Scalar.remsi v25 c4_i32_8
  let v27 : BitVec 32 := Scalar.addi v21 v26
  let c1_i32_198 : BitVec 32 := 1#32
  let v232 : BitVec 32 := Scalar.muli v27 c1_i32_198
  let v233 : BitVec 32 := Scalar.addi c0_i32_199 v232
  v233.toNat
def k0_dev15 (d0 : Dev nD) : Nat :=
  let c0_i32_214 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c1_i32_6 : BitVec 32 := 1#32
  let v22 : BitVec 32 := Scalar.addi v3 c1_i32_6
  let c4_i32_7 : BitVec 32 := 4#32
  let v23 : BitVec 32 := Scalar.remsi v22 c4_i32_7
  let v24 : BitVec 32 := Scalar.addi v21 v23
  let c1_i32_213 : BitVec 32 := 1#32
  let v251 : BitVec 32 := Scalar.muli v24 c1_i32_213
  let v252 : BitVec 32 := Scalar.addi c0_i32_214 v251
  v252.toNat
def k0_dev16 (d0 : Dev nD) : Nat :=
  let c0_i32_233 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c3_i32 : BitVec 32 := 3#32
  let v25 : BitVec 32 := Scalar.addi v3 c3_i32
  let c4_i32_8 : BitVec 32 := 4#32
  let v26 : BitVec 32 := Scalar.remsi v25 c4_i32_8
  let v27 : BitVec 32 := Scalar.addi v21 v26
  let c1_i32_232 : BitVec 32 := 1#32
  let v271 : BitVec 32 := Scalar.muli v27 c1_i32_232
  let v272 : BitVec 32 := Scalar.addi c0_i32_233 v271
  v272.toNat
def k0_dev17 (d0 : Dev nD) : Nat :=
  let c0_i32_248 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c1_i32_6 : BitVec 32 := 1#32
  let v22 : BitVec 32 := Scalar.addi v3 c1_i32_6
  let c4_i32_7 : BitVec 32 := 4#32
  let v23 : BitVec 32 := Scalar.remsi v22 c4_i32_7
  let v24 : BitVec 32 := Scalar.addi v21 v23
  let c1_i32_247 : BitVec 32 := 1#32
  let v290 : BitVec 32 := Scalar.muli v24 c1_i32_247
  let v291 : BitVec 32 := Scalar.addi c0_i32_248 v290
  v291.toNat
def k0_dev18 (d0 : Dev nD) : Nat :=
  let c0_i32_267 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c3_i32 : BitVec 32 := 3#32
  let v25 : BitVec 32 := Scalar.addi v3 c3_i32
  let c4_i32_8 : BitVec 32 := 4#32
  let v26 : BitVec 32 := Scalar.remsi v25 c4_i32_8
  let v27 : BitVec 32 := Scalar.addi v21 v26
  let c1_i32_266 : BitVec 32 := 1#32
  let v310 : BitVec 32 := Scalar.muli v27 c1_i32_266
  let v311 : BitVec 32 := Scalar.addi c0_i32_267 v310
  v311.toNat
def k0_dev19 (d0 : Dev nD) : Nat :=
  let c0_i32_282 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c1_i32_6 : BitVec 32 := 1#32
  let v22 : BitVec 32 := Scalar.addi v3 c1_i32_6
  let c4_i32_7 : BitVec 32 := 4#32
  let v23 : BitVec 32 := Scalar.remsi v22 c4_i32_7
  let v24 : BitVec 32 := Scalar.addi v21 v23
  let c1_i32_281 : BitVec 32 := 1#32
  let v329 : BitVec 32 := Scalar.muli v24 c1_i32_281
  let v330 : BitVec 32 := Scalar.addi c0_i32_282 v329
  v330.toNat
def k0_dev20 (d0 : Dev nD) : Nat :=
  let c0_i32_301 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c3_i32 : BitVec 32 := 3#32
  let v25 : BitVec 32 := Scalar.addi v3 c3_i32
  let c4_i32_8 : BitVec 32 := 4#32
  let v26 : BitVec 32 := Scalar.remsi v25 c4_i32_8
  let v27 : BitVec 32 := Scalar.addi v21 v26
  let c1_i32_300 : BitVec 32 := 1#32
  let v349 : BitVec 32 := Scalar.muli v27 c1_i32_300
  let v350 : BitVec 32 := Scalar.addi c0_i32_301 v349
  v350.toNat
def k0_off3 (d0 : Dev nD) (c0_i32_310 : BitVec 32) (c2_i32_311 : BitVec 32) (c0_i32_332 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c8_i32 : BitVec 32 := 8#32
  let v365 : BitVec 32 := Scalar.addi v3 c8_i32
  let v366 : BitVec 32 := Scalar.subi v365 c0_i32_310
  let v367 : BitVec 32 := Scalar.subi v366 c2_i32_311
  let c4_i32_312 : BitVec 32 := 4#32
  let v368 : BitVec 32 := Scalar.remsi v367 c4_i32_312
  let c512_i32_331 : BitVec 32 := 512#32
  let v383 : BitVec 32 := Scalar.muli v368 c512_i32_331
  let v384 : BitVec 32 := Scalar.addi v383 c0_i32_332
  let v385 : Index := Scalar.indexCast v384
  let c0_333 : Index := 0#32
  ![v385.toNat, 0]
def k0_dev21 (d0 : Dev nD) : Nat :=
  let c0_i32_344 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c1_i32_6 : BitVec 32 := 1#32
  let v22 : BitVec 32 := Scalar.addi v3 c1_i32_6
  let c4_i32_7 : BitVec 32 := 4#32
  let v23 : BitVec 32 := Scalar.remsi v22 c4_i32_7
  let v24 : BitVec 32 := Scalar.addi v21 v23
  let c1_i32_343 : BitVec 32 := 1#32
  let v393 : BitVec 32 := Scalar.muli v24 c1_i32_343
  let v394 : BitVec 32 := Scalar.addi c0_i32_344 v393
  v394.toNat
def k0_off4 (d0 : Dev nD) (c0_i32_313 : BitVec 32) (c2_i32_314 : BitVec 32) (c0_i32_366 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v369 : BitVec 32 := Scalar.addi v3 c0_i32_313
  let v370 : BitVec 32 := Scalar.addi v369 c2_i32_314
  let c4_i32_315 : BitVec 32 := 4#32
  let v371 : BitVec 32 := Scalar.remsi v370 c4_i32_315
  let c512_i32_364 : BitVec 32 := 512#32
  let v414 : BitVec 32 := Scalar.muli v371 c512_i32_364
  let c256_i32_365 : BitVec 32 := 256#32
  let v415 : BitVec 32 := Scalar.addi v414 c256_i32_365
  let v416 : BitVec 32 := Scalar.addi v415 c0_i32_366
  let v417 : Index := Scalar.indexCast v416
  let c0_367 : Index := 0#32
  ![v417.toNat, 0]
def k0_dev22 (d0 : Dev nD) : Nat :=
  let c0_i32_378 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c3_i32 : BitVec 32 := 3#32
  let v25 : BitVec 32 := Scalar.addi v3 c3_i32
  let c4_i32_8 : BitVec 32 := 4#32
  let v26 : BitVec 32 := Scalar.remsi v25 c4_i32_8
  let v27 : BitVec 32 := Scalar.addi v21 v26
  let c1_i32_377 : BitVec 32 := 1#32
  let v425 : BitVec 32 := Scalar.muli v27 c1_i32_377
  let v426 : BitVec 32 := Scalar.addi c0_i32_378 v425
  v426.toNat
def k0_dev23 (d0 : Dev nD) : Nat :=
  let c0_i32_411 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c1_i32_6 : BitVec 32 := 1#32
  let v22 : BitVec 32 := Scalar.addi v3 c1_i32_6
  let c4_i32_7 : BitVec 32 := 4#32
  let v23 : BitVec 32 := Scalar.remsi v22 c4_i32_7
  let v24 : BitVec 32 := Scalar.addi v21 v23
  let c1_i32_410 : BitVec 32 := 1#32
  let v456 : BitVec 32 := Scalar.muli v24 c1_i32_410
  let v457 : BitVec 32 := Scalar.addi c0_i32_411 v456
  v457.toNat
def k0_dev24 (d0 : Dev nD) : Nat :=
  let c0_i32_445 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c3_i32 : BitVec 32 := 3#32
  let v25 : BitVec 32 := Scalar.addi v3 c3_i32
  let c4_i32_8 : BitVec 32 := 4#32
  let v26 : BitVec 32 := Scalar.remsi v25 c4_i32_8
  let v27 : BitVec 32 := Scalar.addi v21 v26
  let c1_i32_444 : BitVec 32 := 1#32
  let v488 : BitVec 32 := Scalar.muli v27 c1_i32_444
  let v489 : BitVec 32 := Scalar.addi c0_i32_445 v488
  v489.toNat
def k0_dev25 (d0 : Dev nD) : Nat :=
  let c0_i32_478 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c1_i32_6 : BitVec 32 := 1#32
  let v22 : BitVec 32 := Scalar.addi v3 c1_i32_6
  let c4_i32_7 : BitVec 32 := 4#32
  let v23 : BitVec 32 := Scalar.remsi v22 c4_i32_7
  let v24 : BitVec 32 := Scalar.addi v21 v23
  let c1_i32_477 : BitVec 32 := 1#32
  let v519 : BitVec 32 := Scalar.muli v24 c1_i32_477
  let v520 : BitVec 32 := Scalar.addi c0_i32_478 v519
  v520.toNat
def k0_dev26 (d0 : Dev nD) : Nat :=
  let c0_i32_512 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c3_i32 : BitVec 32 := 3#32
  let v25 : BitVec 32 := Scalar.addi v3 c3_i32
  let c4_i32_8 : BitVec 32 := 4#32
  let v26 : BitVec 32 := Scalar.remsi v25 c4_i32_8
  let v27 : BitVec 32 := Scalar.addi v21 v26
  let c1_i32_511 : BitVec 32 := 1#32
  let v551 : BitVec 32 := Scalar.muli v27 c1_i32_511
  let v552 : BitVec 32 := Scalar.addi c0_i32_512 v551
  v552.toNat
def k0_dev27 (d0 : Dev nD) : Nat :=
  let c0_i32_545 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c1_i32_6 : BitVec 32 := 1#32
  let v22 : BitVec 32 := Scalar.addi v3 c1_i32_6
  let c4_i32_7 : BitVec 32 := 4#32
  let v23 : BitVec 32 := Scalar.remsi v22 c4_i32_7
  let v24 : BitVec 32 := Scalar.addi v21 v23
  let c1_i32_544 : BitVec 32 := 1#32
  let v582 : BitVec 32 := Scalar.muli v24 c1_i32_544
  let v583 : BitVec 32 := Scalar.addi c0_i32_545 v582
  v583.toNat
def k0_dev28 (d0 : Dev nD) : Nat :=
  let c0_i32_579 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c3_i32 : BitVec 32 := 3#32
  let v25 : BitVec 32 := Scalar.addi v3 c3_i32
  let c4_i32_8 : BitVec 32 := 4#32
  let v26 : BitVec 32 := Scalar.remsi v25 c4_i32_8
  let v27 : BitVec 32 := Scalar.addi v21 v26
  let c1_i32_578 : BitVec 32 := 1#32
  let v614 : BitVec 32 := Scalar.muli v27 c1_i32_578
  let v615 : BitVec 32 := Scalar.addi c0_i32_579 v614
  v615.toNat
def k0_dev29 (d0 : Dev nD) : Nat :=
  let c0_i32_612 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c1_i32_6 : BitVec 32 := 1#32
  let v22 : BitVec 32 := Scalar.addi v3 c1_i32_6
  let c4_i32_7 : BitVec 32 := 4#32
  let v23 : BitVec 32 := Scalar.remsi v22 c4_i32_7
  let v24 : BitVec 32 := Scalar.addi v21 v23
  let c1_i32_611 : BitVec 32 := 1#32
  let v645 : BitVec 32 := Scalar.muli v24 c1_i32_611
  let v646 : BitVec 32 := Scalar.addi c0_i32_612 v645
  v646.toNat
def k0_dev30 (d0 : Dev nD) : Nat :=
  let c0_i32_646 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c3_i32 : BitVec 32 := 3#32
  let v25 : BitVec 32 := Scalar.addi v3 c3_i32
  let c4_i32_8 : BitVec 32 := 4#32
  let v26 : BitVec 32 := Scalar.remsi v25 c4_i32_8
  let v27 : BitVec 32 := Scalar.addi v21 v26
  let c1_i32_645 : BitVec 32 := 1#32
  let v677 : BitVec 32 := Scalar.muli v27 c1_i32_645
  let v678 : BitVec 32 := Scalar.addi c0_i32_646 v677
  v678.toNat
def k0_dev31 (d0 : Dev nD) : Nat :=
  let c0_i32_679 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c1_i32_6 : BitVec 32 := 1#32
  let v22 : BitVec 32 := Scalar.addi v3 c1_i32_6
  let c4_i32_7 : BitVec 32 := 4#32
  let v23 : BitVec 32 := Scalar.remsi v22 c4_i32_7
  let v24 : BitVec 32 := Scalar.addi v21 v23
  let c1_i32_678 : BitVec 32 := 1#32
  let v708 : BitVec 32 := Scalar.muli v24 c1_i32_678
  let v709 : BitVec 32 := Scalar.addi c0_i32_679 v708
  v709.toNat
def k0_dev32 (d0 : Dev nD) : Nat :=
  let c0_i32_713 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c3_i32 : BitVec 32 := 3#32
  let v25 : BitVec 32 := Scalar.addi v3 c3_i32
  let c4_i32_8 : BitVec 32 := 4#32
  let v26 : BitVec 32 := Scalar.remsi v25 c4_i32_8
  let v27 : BitVec 32 := Scalar.addi v21 v26
  let c1_i32_712 : BitVec 32 := 1#32
  let v740 : BitVec 32 := Scalar.muli v27 c1_i32_712
  let v741 : BitVec 32 := Scalar.addi c0_i32_713 v740
  v741.toNat
def k0_dev33 (d0 : Dev nD) : Nat :=
  let c0_i32_746 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c1_i32_6 : BitVec 32 := 1#32
  let v22 : BitVec 32 := Scalar.addi v3 c1_i32_6
  let c4_i32_7 : BitVec 32 := 4#32
  let v23 : BitVec 32 := Scalar.remsi v22 c4_i32_7
  let v24 : BitVec 32 := Scalar.addi v21 v23
  let c1_i32_745 : BitVec 32 := 1#32
  let v771 : BitVec 32 := Scalar.muli v24 c1_i32_745
  let v772 : BitVec 32 := Scalar.addi c0_i32_746 v771
  v772.toNat
def k0_dev34 (d0 : Dev nD) : Nat :=
  let c0_i32_780 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c3_i32 : BitVec 32 := 3#32
  let v25 : BitVec 32 := Scalar.addi v3 c3_i32
  let c4_i32_8 : BitVec 32 := 4#32
  let v26 : BitVec 32 := Scalar.remsi v25 c4_i32_8
  let v27 : BitVec 32 := Scalar.addi v21 v26
  let c1_i32_779 : BitVec 32 := 1#32
  let v803 : BitVec 32 := Scalar.muli v27 c1_i32_779
  let v804 : BitVec 32 := Scalar.addi c0_i32_780 v803
  v804.toNat
def k0_dev35 (d0 : Dev nD) : Nat :=
  let c0_i32_813 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c1_i32_6 : BitVec 32 := 1#32
  let v22 : BitVec 32 := Scalar.addi v3 c1_i32_6
  let c4_i32_7 : BitVec 32 := 4#32
  let v23 : BitVec 32 := Scalar.remsi v22 c4_i32_7
  let v24 : BitVec 32 := Scalar.addi v21 v23
  let c1_i32_812 : BitVec 32 := 1#32
  let v834 : BitVec 32 := Scalar.muli v24 c1_i32_812
  let v835 : BitVec 32 := Scalar.addi c0_i32_813 v834
  v835.toNat
def k0_dev36 (d0 : Dev nD) : Nat :=
  let c0_i32_847 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c3_i32 : BitVec 32 := 3#32
  let v25 : BitVec 32 := Scalar.addi v3 c3_i32
  let c4_i32_8 : BitVec 32 := 4#32
  let v26 : BitVec 32 := Scalar.remsi v25 c4_i32_8
  let v27 : BitVec 32 := Scalar.addi v21 v26
  let c1_i32_846 : BitVec 32 := 1#32
  let v866 : BitVec 32 := Scalar.muli v27 c1_i32_846
  let v867 : BitVec 32 := Scalar.addi c0_i32_847 v866
  v867.toNat
def k0_dev37 (d0 : Dev nD) : Nat :=
  let c0_i32_886 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c1_i32_6 : BitVec 32 := 1#32
  let v22 : BitVec 32 := Scalar.addi v3 c1_i32_6
  let c4_i32_7 : BitVec 32 := 4#32
  let v23 : BitVec 32 := Scalar.remsi v22 c4_i32_7
  let v24 : BitVec 32 := Scalar.addi v21 v23
  let c1_i32_885 : BitVec 32 := 1#32
  let v904 : BitVec 32 := Scalar.muli v24 c1_i32_885
  let v905 : BitVec 32 := Scalar.addi c0_i32_886 v904
  v905.toNat
def k0_dev38 (d0 : Dev nD) : Nat :=
  let c0_i32_920 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c3_i32 : BitVec 32 := 3#32
  let v25 : BitVec 32 := Scalar.addi v3 c3_i32
  let c4_i32_8 : BitVec 32 := 4#32
  let v26 : BitVec 32 := Scalar.remsi v25 c4_i32_8
  let v27 : BitVec 32 := Scalar.addi v21 v26
  let c1_i32_919 : BitVec 32 := 1#32
  let v936 : BitVec 32 := Scalar.muli v27 c1_i32_919
  let v937 : BitVec 32 := Scalar.addi c0_i32_920 v936
  v937.toNat
def k0_dev39 (d0 : Dev nD) : Nat :=
  let c0_i32_953 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c1_i32_6 : BitVec 32 := 1#32
  let v22 : BitVec 32 := Scalar.addi v3 c1_i32_6
  let c4_i32_7 : BitVec 32 := 4#32
  let v23 : BitVec 32 := Scalar.remsi v22 c4_i32_7
  let v24 : BitVec 32 := Scalar.addi v21 v23
  let c1_i32_952 : BitVec 32 := 1#32
  let v967 : BitVec 32 := Scalar.muli v24 c1_i32_952
  let v968 : BitVec 32 := Scalar.addi c0_i32_953 v967
  v968.toNat
def k0_dev40 (d0 : Dev nD) : Nat :=
  let c0_i32_987 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c3_i32 : BitVec 32 := 3#32
  let v25 : BitVec 32 := Scalar.addi v3 c3_i32
  let c4_i32_8 : BitVec 32 := 4#32
  let v26 : BitVec 32 := Scalar.remsi v25 c4_i32_8
  let v27 : BitVec 32 := Scalar.addi v21 v26
  let c1_i32_986 : BitVec 32 := 1#32
  let v999 : BitVec 32 := Scalar.muli v27 c1_i32_986
  let v1000 : BitVec 32 := Scalar.addi c0_i32_987 v999
  v1000.toNat
def k0_dev41 (d0 : Dev nD) : Nat :=
  let c0_i32_1020 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c1_i32_6 : BitVec 32 := 1#32
  let v22 : BitVec 32 := Scalar.addi v3 c1_i32_6
  let c4_i32_7 : BitVec 32 := 4#32
  let v23 : BitVec 32 := Scalar.remsi v22 c4_i32_7
  let v24 : BitVec 32 := Scalar.addi v21 v23
  let c1_i32_1019 : BitVec 32 := 1#32
  let v1030 : BitVec 32 := Scalar.muli v24 c1_i32_1019
  let v1031 : BitVec 32 := Scalar.addi c0_i32_1020 v1030
  v1031.toNat
def k0_dev42 (d0 : Dev nD) : Nat :=
  let c0_i32_1054 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c3_i32 : BitVec 32 := 3#32
  let v25 : BitVec 32 := Scalar.addi v3 c3_i32
  let c4_i32_8 : BitVec 32 := 4#32
  let v26 : BitVec 32 := Scalar.remsi v25 c4_i32_8
  let v27 : BitVec 32 := Scalar.addi v21 v26
  let c1_i32_1053 : BitVec 32 := 1#32
  let v1062 : BitVec 32 := Scalar.muli v27 c1_i32_1053
  let v1063 : BitVec 32 := Scalar.addi c0_i32_1054 v1062
  v1063.toNat
def k0_dev43 (d0 : Dev nD) : Nat :=
  let c0_i32_1087 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c1_i32_6 : BitVec 32 := 1#32
  let v22 : BitVec 32 := Scalar.addi v3 c1_i32_6
  let c4_i32_7 : BitVec 32 := 4#32
  let v23 : BitVec 32 := Scalar.remsi v22 c4_i32_7
  let v24 : BitVec 32 := Scalar.addi v21 v23
  let c1_i32_1086 : BitVec 32 := 1#32
  let v1093 : BitVec 32 := Scalar.muli v24 c1_i32_1086
  let v1094 : BitVec 32 := Scalar.addi c0_i32_1087 v1093
  v1094.toNat
def k0_dev44 (d0 : Dev nD) : Nat :=
  let c0_i32_1121 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c3_i32 : BitVec 32 := 3#32
  let v25 : BitVec 32 := Scalar.addi v3 c3_i32
  let c4_i32_8 : BitVec 32 := 4#32
  let v26 : BitVec 32 := Scalar.remsi v25 c4_i32_8
  let v27 : BitVec 32 := Scalar.addi v21 v26
  let c1_i32_1120 : BitVec 32 := 1#32
  let v1125 : BitVec 32 := Scalar.muli v27 c1_i32_1120
  let v1126 : BitVec 32 := Scalar.addi c0_i32_1121 v1125
  v1126.toNat
def k0_dev45 (d0 : Dev nD) : Nat :=
  let c0_i32_1154 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c1_i32_6 : BitVec 32 := 1#32
  let v22 : BitVec 32 := Scalar.addi v3 c1_i32_6
  let c4_i32_7 : BitVec 32 := 4#32
  let v23 : BitVec 32 := Scalar.remsi v22 c4_i32_7
  let v24 : BitVec 32 := Scalar.addi v21 v23
  let c1_i32_1153 : BitVec 32 := 1#32
  let v1156 : BitVec 32 := Scalar.muli v24 c1_i32_1153
  let v1157 : BitVec 32 := Scalar.addi c0_i32_1154 v1156
  v1157.toNat
def k0_dev46 (d0 : Dev nD) : Nat :=
  let c0_i32_1188 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c3_i32 : BitVec 32 := 3#32
  let v25 : BitVec 32 := Scalar.addi v3 c3_i32
  let c4_i32_8 : BitVec 32 := 4#32
  let v26 : BitVec 32 := Scalar.remsi v25 c4_i32_8
  let v27 : BitVec 32 := Scalar.addi v21 v26
  let c1_i32_1187 : BitVec 32 := 1#32
  let v1188 : BitVec 32 := Scalar.muli v27 c1_i32_1187
  let v1189 : BitVec 32 := Scalar.addi c0_i32_1188 v1188
  v1189.toNat
def k0_dev47 (d0 : Dev nD) : Nat :=
  let c0_i32_1221 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c1_i32_6 : BitVec 32 := 1#32
  let v22 : BitVec 32 := Scalar.addi v3 c1_i32_6
  let c4_i32_7 : BitVec 32 := 4#32
  let v23 : BitVec 32 := Scalar.remsi v22 c4_i32_7
  let v24 : BitVec 32 := Scalar.addi v21 v23
  let c1_i32_1220 : BitVec 32 := 1#32
  let v1219 : BitVec 32 := Scalar.muli v24 c1_i32_1220
  let v1220 : BitVec 32 := Scalar.addi c0_i32_1221 v1219
  v1220.toNat
def k0_dev48 (d0 : Dev nD) : Nat :=
  let c0_i32_1255 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c3_i32 : BitVec 32 := 3#32
  let v25 : BitVec 32 := Scalar.addi v3 c3_i32
  let c4_i32_8 : BitVec 32 := 4#32
  let v26 : BitVec 32 := Scalar.remsi v25 c4_i32_8
  let v27 : BitVec 32 := Scalar.addi v21 v26
  let c1_i32_1254 : BitVec 32 := 1#32
  let v1251 : BitVec 32 := Scalar.muli v27 c1_i32_1254
  let v1252 : BitVec 32 := Scalar.addi c0_i32_1255 v1251
  v1252.toNat
def k0_dev49 (d0 : Dev nD) : Nat :=
  let c0_i32_1288 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c1_i32_6 : BitVec 32 := 1#32
  let v22 : BitVec 32 := Scalar.addi v3 c1_i32_6
  let c4_i32_7 : BitVec 32 := 4#32
  let v23 : BitVec 32 := Scalar.remsi v22 c4_i32_7
  let v24 : BitVec 32 := Scalar.addi v21 v23
  let c1_i32_1287 : BitVec 32 := 1#32
  let v1282 : BitVec 32 := Scalar.muli v24 c1_i32_1287
  let v1283 : BitVec 32 := Scalar.addi c0_i32_1288 v1282
  v1283.toNat
def k0_dev50 (d0 : Dev nD) : Nat :=
  let c0_i32_1322 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c3_i32 : BitVec 32 := 3#32
  let v25 : BitVec 32 := Scalar.addi v3 c3_i32
  let c4_i32_8 : BitVec 32 := 4#32
  let v26 : BitVec 32 := Scalar.remsi v25 c4_i32_8
  let v27 : BitVec 32 := Scalar.addi v21 v26
  let c1_i32_1321 : BitVec 32 := 1#32
  let v1314 : BitVec 32 := Scalar.muli v27 c1_i32_1321
  let v1315 : BitVec 32 := Scalar.addi c0_i32_1322 v1314
  v1315.toNat
def k0_dev51 (d0 : Dev nD) : Nat :=
  let c0_i32_1355 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c1_i32_6 : BitVec 32 := 1#32
  let v22 : BitVec 32 := Scalar.addi v3 c1_i32_6
  let c4_i32_7 : BitVec 32 := 4#32
  let v23 : BitVec 32 := Scalar.remsi v22 c4_i32_7
  let v24 : BitVec 32 := Scalar.addi v21 v23
  let c1_i32_1354 : BitVec 32 := 1#32
  let v1345 : BitVec 32 := Scalar.muli v24 c1_i32_1354
  let v1346 : BitVec 32 := Scalar.addi c0_i32_1355 v1345
  v1346.toNat
def k0_dev52 (d0 : Dev nD) : Nat :=
  let c0_i32_1389 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c3_i32 : BitVec 32 := 3#32
  let v25 : BitVec 32 := Scalar.addi v3 c3_i32
  let c4_i32_8 : BitVec 32 := 4#32
  let v26 : BitVec 32 := Scalar.remsi v25 c4_i32_8
  let v27 : BitVec 32 := Scalar.addi v21 v26
  let c1_i32_1388 : BitVec 32 := 1#32
  let v1377 : BitVec 32 := Scalar.muli v27 c1_i32_1388
  let v1378 : BitVec 32 := Scalar.addi c0_i32_1389 v1377
  v1378.toNat
def k0_off5 (d0 : Dev nD) (c0_i32_1757 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c4_i32_1753 : BitVec 32 := 4#32
  let v1748 : BitVec 32 := Scalar.addi v20 c4_i32_1753
  let c1_i32_1754 : BitVec 32 := 1#32
  let v1749 : BitVec 32 := Scalar.subi v1748 c1_i32_1754
  let c4_i32_1755 : BitVec 32 := 4#32
  let v1750 : BitVec 32 := Scalar.remsi v1749 c4_i32_1755
  let c128_i32_1756 : BitVec 32 := 128#32
  let v1751 : BitVec 32 := Scalar.muli v1750 c128_i32_1756
  let v1752 : BitVec 32 := Scalar.addi v1751 c0_i32_1757
  let v1753 : Index := Scalar.indexCast v1752
  let c0_1758 : Index := 0#32
  ![v1753.toNat, 0]
def k0_dev53 (d0 : Dev nD) : Nat :=
  let c0_i32_1769 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_9 : BitVec 32 := 4#32
  let v28 : BitVec 32 := Scalar.addi v2 c4_i32_9
  let c16_i32_10 : BitVec 32 := 16#32
  let v29 : BitVec 32 := Scalar.remsi v28 c16_i32_10
  let c1_i32_1768 : BitVec 32 := 1#32
  let v1758 : BitVec 32 := Scalar.muli v29 c1_i32_1768
  let v1759 : BitVec 32 := Scalar.addi c0_i32_1769 v1758
  v1759.toNat
def k0_dev54 (d0 : Dev nD) : Nat :=
  let c0_i32_1787 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_9 : BitVec 32 := 4#32
  let v28 : BitVec 32 := Scalar.addi v2 c4_i32_9
  let c16_i32_10 : BitVec 32 := 16#32
  let v29 : BitVec 32 := Scalar.remsi v28 c16_i32_10
  let c1_i32_1786 : BitVec 32 := 1#32
  let v1775 : BitVec 32 := Scalar.muli v29 c1_i32_1786
  let v1776 : BitVec 32 := Scalar.addi c0_i32_1787 v1775
  v1776.toNat
def k0_dev55 (d0 : Dev nD) : Nat :=
  let c0_i32_1805 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_9 : BitVec 32 := 4#32
  let v28 : BitVec 32 := Scalar.addi v2 c4_i32_9
  let c16_i32_10 : BitVec 32 := 16#32
  let v29 : BitVec 32 := Scalar.remsi v28 c16_i32_10
  let c1_i32_1804 : BitVec 32 := 1#32
  let v1792 : BitVec 32 := Scalar.muli v29 c1_i32_1804
  let v1793 : BitVec 32 := Scalar.addi c0_i32_1805 v1792
  v1793.toNat
def k0_dev56 (d0 : Dev nD) : Nat :=
  let c0_i32_1823 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_9 : BitVec 32 := 4#32
  let v28 : BitVec 32 := Scalar.addi v2 c4_i32_9
  let c16_i32_10 : BitVec 32 := 16#32
  let v29 : BitVec 32 := Scalar.remsi v28 c16_i32_10
  let c1_i32_1822 : BitVec 32 := 1#32
  let v1809 : BitVec 32 := Scalar.muli v29 c1_i32_1822
  let v1810 : BitVec 32 := Scalar.addi c0_i32_1823 v1809
  v1810.toNat
def k0_off6 (d0 : Dev nD) (c0_i32_1829 : BitVec 32) (c2_i32_1830 : BitVec 32) (c0_i32_1848 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c8_i32_1828 : BitVec 32 := 8#32
  let v1819 : BitVec 32 := Scalar.addi v20 c8_i32_1828
  let v1820 : BitVec 32 := Scalar.subi v1819 c0_i32_1829
  let v1821 : BitVec 32 := Scalar.subi v1820 c2_i32_1830
  let c4_i32_1831 : BitVec 32 := 4#32
  let v1822 : BitVec 32 := Scalar.remsi v1821 c4_i32_1831
  let c128_i32_1847 : BitVec 32 := 128#32
  let v1834 : BitVec 32 := Scalar.muli v1822 c128_i32_1847
  let v1835 : BitVec 32 := Scalar.addi v1834 c0_i32_1848
  let v1836 : Index := Scalar.indexCast v1835
  let c0_1849 : Index := 0#32
  ![v1836.toNat, 0]
def k0_dev57 (d0 : Dev nD) : Nat :=
  let c0_i32_1860 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_9 : BitVec 32 := 4#32
  let v28 : BitVec 32 := Scalar.addi v2 c4_i32_9
  let c16_i32_10 : BitVec 32 := 16#32
  let v29 : BitVec 32 := Scalar.remsi v28 c16_i32_10
  let c1_i32_1859 : BitVec 32 := 1#32
  let v1844 : BitVec 32 := Scalar.muli v29 c1_i32_1859
  let v1845 : BitVec 32 := Scalar.addi c0_i32_1860 v1844
  v1845.toNat
def k0_dev58 (d0 : Dev nD) : Nat :=
  let c0_i32_1893 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_9 : BitVec 32 := 4#32
  let v28 : BitVec 32 := Scalar.addi v2 c4_i32_9
  let c16_i32_10 : BitVec 32 := 16#32
  let v29 : BitVec 32 := Scalar.remsi v28 c16_i32_10
  let c1_i32_1892 : BitVec 32 := 1#32
  let v1875 : BitVec 32 := Scalar.muli v29 c1_i32_1892
  let v1876 : BitVec 32 := Scalar.addi c0_i32_1893 v1875
  v1876.toNat
def k0_dev59 (d0 : Dev nD) : Nat :=
  let c0_i32_1926 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_9 : BitVec 32 := 4#32
  let v28 : BitVec 32 := Scalar.addi v2 c4_i32_9
  let c16_i32_10 : BitVec 32 := 16#32
  let v29 : BitVec 32 := Scalar.remsi v28 c16_i32_10
  let c1_i32_1925 : BitVec 32 := 1#32
  let v1906 : BitVec 32 := Scalar.muli v29 c1_i32_1925
  let v1907 : BitVec 32 := Scalar.addi c0_i32_1926 v1906
  v1907.toNat
def k0_dev60 (d0 : Dev nD) : Nat :=
  let c0_i32_1959 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_9 : BitVec 32 := 4#32
  let v28 : BitVec 32 := Scalar.addi v2 c4_i32_9
  let c16_i32_10 : BitVec 32 := 16#32
  let v29 : BitVec 32 := Scalar.remsi v28 c16_i32_10
  let c1_i32_1958 : BitVec 32 := 1#32
  let v1937 : BitVec 32 := Scalar.muli v29 c1_i32_1958
  let v1938 : BitVec 32 := Scalar.addi c0_i32_1959 v1937
  v1938.toNat
def k0_dev61 (d0 : Dev nD) : Nat :=
  let c0_i32_1996 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_9 : BitVec 32 := 4#32
  let v28 : BitVec 32 := Scalar.addi v2 c4_i32_9
  let c16_i32_10 : BitVec 32 := 16#32
  let v29 : BitVec 32 := Scalar.remsi v28 c16_i32_10
  let c1_i32_1995 : BitVec 32 := 1#32
  let v1972 : BitVec 32 := Scalar.muli v29 c1_i32_1995
  let v1973 : BitVec 32 := Scalar.addi c0_i32_1996 v1972
  v1973.toNat
def k0_dev62 (d0 : Dev nD) : Nat :=
  let c0_i32_2029 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_9 : BitVec 32 := 4#32
  let v28 : BitVec 32 := Scalar.addi v2 c4_i32_9
  let c16_i32_10 : BitVec 32 := 16#32
  let v29 : BitVec 32 := Scalar.remsi v28 c16_i32_10
  let c1_i32_2028 : BitVec 32 := 1#32
  let v2003 : BitVec 32 := Scalar.muli v29 c1_i32_2028
  let v2004 : BitVec 32 := Scalar.addi c0_i32_2029 v2003
  v2004.toNat
def k0_dev63 (d0 : Dev nD) : Nat :=
  let c0_i32_2062 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_9 : BitVec 32 := 4#32
  let v28 : BitVec 32 := Scalar.addi v2 c4_i32_9
  let c16_i32_10 : BitVec 32 := 16#32
  let v29 : BitVec 32 := Scalar.remsi v28 c16_i32_10
  let c1_i32_2061 : BitVec 32 := 1#32
  let v2034 : BitVec 32 := Scalar.muli v29 c1_i32_2061
  let v2035 : BitVec 32 := Scalar.addi c0_i32_2062 v2034
  v2035.toNat
def k0_dev64 (d0 : Dev nD) : Nat :=
  let c0_i32_2095 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_9 : BitVec 32 := 4#32
  let v28 : BitVec 32 := Scalar.addi v2 c4_i32_9
  let c16_i32_10 : BitVec 32 := 16#32
  let v29 : BitVec 32 := Scalar.remsi v28 c16_i32_10
  let c1_i32_2094 : BitVec 32 := 1#32
  let v2065 : BitVec 32 := Scalar.muli v29 c1_i32_2094
  let v2066 : BitVec 32 := Scalar.addi c0_i32_2095 v2065
  v2066.toNat
def k0_off7 (d0 : Dev nD) (c0_i32_2195 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c512_i32_2193 : BitVec 32 := 512#32
  let v2167 : BitVec 32 := Scalar.muli v3 c512_i32_2193
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c128_i32_2194 : BitVec 32 := 128#32
  let v2168 : BitVec 32 := Scalar.muli v20 c128_i32_2194
  let v2169 : BitVec 32 := Scalar.addi v2167 v2168
  let v2170 : BitVec 32 := Scalar.addi v2169 c0_i32_2195
  let v2171 : Index := Scalar.indexCast v2170
  let c0_2196 : Index := 0#32
  ![v2171.toNat, 0]
def k0_off8 (d0 : Dev nD) (c0_i32_2198 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c128_i32_2197 : BitVec 32 := 128#32
  let v2174 : BitVec 32 := Scalar.muli v20 c128_i32_2197
  let v2175 : BitVec 32 := Scalar.addi v2174 c0_i32_2198
  let v2176 : Index := Scalar.indexCast v2175
  let c0_2199 : Index := 0#32
  ![v2176.toNat, 0]
def k0_off9 (d0 : Dev nD) (c0_i32_2201 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c128_i32_2200 : BitVec 32 := 128#32
  let v2180 : BitVec 32 := Scalar.muli v20 c128_i32_2200
  let v2181 : BitVec 32 := Scalar.addi v2180 c0_i32_2201
  let c0_i32_2208 : BitVec 32 := 0#32
  ![v2181.toNat, 0]
def k0_dev65 (d0 : Dev nD) : Nat :=
  let c0_i32_2207 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_9 : BitVec 32 := 4#32
  let v28 : BitVec 32 := Scalar.addi v2 c4_i32_9
  let c16_i32_10 : BitVec 32 := 16#32
  let v29 : BitVec 32 := Scalar.remsi v28 c16_i32_10
  let c1_i32_2206 : BitVec 32 := 1#32
  let v2182 : BitVec 32 := Scalar.muli v29 c1_i32_2206
  let v2183 : BitVec 32 := Scalar.addi c0_i32_2207 v2182
  v2183.toNat
def k0_dev66 (d0 : Dev nD) : Nat :=
  let c0_i32_2217 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_9 : BitVec 32 := 4#32
  let v28 : BitVec 32 := Scalar.addi v2 c4_i32_9
  let c16_i32_10 : BitVec 32 := 16#32
  let v29 : BitVec 32 := Scalar.remsi v28 c16_i32_10
  let c1_i32_2216 : BitVec 32 := 1#32
  let v2192 : BitVec 32 := Scalar.muli v29 c1_i32_2216
  let v2193 : BitVec 32 := Scalar.addi c0_i32_2217 v2192
  v2193.toNat
def k0_cond1 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c0_i32_2220 : BitVec 32 := 0#32
  let v2200 : BitVec 1 := Scalar.cmpi .eq v20 c0_i32_2220
  let v2201 : BitVec 32 := Scalar.extui v2200
  let c0_i32_2221 : BitVec 32 := 0#32
  let v2202 : BitVec 1 := Scalar.cmpi .ne v2201 c0_i32_2221
  v2202

def k0_off10 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c512_i32_5042 : BitVec 32 := 512#32
  let v4682 : BitVec 32 := Scalar.muli v3 c512_i32_5042
  let c0_i32_5043 : BitVec 32 := 0#32
  let v4683 : BitVec 32 := Scalar.addi v4682 c0_i32_5043
  let c0_i32_5044 : BitVec 32 := 0#32
  let v4684 : BitVec 32 := Scalar.addi v4683 c0_i32_5044
  let c0_i32_5051 : BitVec 32 := 0#32
  ![v4684.toNat, 0]
def k0_dev67 (d0 : Dev nD) : Nat :=
  let c0_i32_5050 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c1_i32_6 : BitVec 32 := 1#32
  let v22 : BitVec 32 := Scalar.addi v3 c1_i32_6
  let c4_i32_7 : BitVec 32 := 4#32
  let v23 : BitVec 32 := Scalar.remsi v22 c4_i32_7
  let v24 : BitVec 32 := Scalar.addi v21 v23
  let c1_i32_5049 : BitVec 32 := 1#32
  let v4685 : BitVec 32 := Scalar.muli v24 c1_i32_5049
  let v4686 : BitVec 32 := Scalar.addi c0_i32_5050 v4685
  v4686.toNat
def k0_cond2 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c2_i32_2222 : BitVec 32 := 2#32
  let v2203 : BitVec 1 := Scalar.cmpi .eq v20 c2_i32_2222
  let v2204 : BitVec 32 := Scalar.extui v2203
  let c0_i32_2223 : BitVec 32 := 0#32
  let v2205 : BitVec 1 := Scalar.cmpi .ne v2204 c0_i32_2223
  v2205

def k0_off11 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c512_i32_5042 : BitVec 32 := 512#32
  let v4682 : BitVec 32 := Scalar.muli v3 c512_i32_5042
  let c256_i32_5043 : BitVec 32 := 256#32
  let v4683 : BitVec 32 := Scalar.addi v4682 c256_i32_5043
  let c0_i32_5044 : BitVec 32 := 0#32
  let v4684 : BitVec 32 := Scalar.addi v4683 c0_i32_5044
  let c0_i32_5051 : BitVec 32 := 0#32
  ![v4684.toNat, 0]
def k0_dev68 (d0 : Dev nD) : Nat :=
  let c0_i32_5050 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c3_i32 : BitVec 32 := 3#32
  let v25 : BitVec 32 := Scalar.addi v3 c3_i32
  let c4_i32_8 : BitVec 32 := 4#32
  let v26 : BitVec 32 := Scalar.remsi v25 c4_i32_8
  let v27 : BitVec 32 := Scalar.addi v21 v26
  let c1_i32_5049 : BitVec 32 := 1#32
  let v4685 : BitVec 32 := Scalar.muli v27 c1_i32_5049
  let v4686 : BitVec 32 := Scalar.addi c0_i32_5050 v4685
  v4686.toNat
def k0_cond3 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c0_i32_2224 : BitVec 32 := 0#32
  let v2206 : BitVec 1 := Scalar.cmpi .eq v20 c0_i32_2224
  let v2207 : BitVec 32 := Scalar.extui v2206
  let c0_i32_2225 : BitVec 32 := 0#32
  let v2208 : BitVec 1 := Scalar.cmpi .ne v2207 c0_i32_2225
  v2208

def k0_off12 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c512_i32_5042 : BitVec 32 := 512#32
  let v4682 : BitVec 32 := Scalar.muli v3 c512_i32_5042
  let c0_i32_5043 : BitVec 32 := 0#32
  let v4683 : BitVec 32 := Scalar.addi v4682 c0_i32_5043
  let c32_i32_5044 : BitVec 32 := 32#32
  let v4684 : BitVec 32 := Scalar.addi v4683 c32_i32_5044
  let c0_i32_5051 : BitVec 32 := 0#32
  ![v4684.toNat, 0]
def k0_dev69 (d0 : Dev nD) : Nat :=
  let c0_i32_5050 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c1_i32_6 : BitVec 32 := 1#32
  let v22 : BitVec 32 := Scalar.addi v3 c1_i32_6
  let c4_i32_7 : BitVec 32 := 4#32
  let v23 : BitVec 32 := Scalar.remsi v22 c4_i32_7
  let v24 : BitVec 32 := Scalar.addi v21 v23
  let c1_i32_5049 : BitVec 32 := 1#32
  let v4685 : BitVec 32 := Scalar.muli v24 c1_i32_5049
  let v4686 : BitVec 32 := Scalar.addi c0_i32_5050 v4685
  v4686.toNat
def k0_cond4 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c2_i32_2226 : BitVec 32 := 2#32
  let v2209 : BitVec 1 := Scalar.cmpi .eq v20 c2_i32_2226
  let v2210 : BitVec 32 := Scalar.extui v2209
  let c0_i32_2227 : BitVec 32 := 0#32
  let v2211 : BitVec 1 := Scalar.cmpi .ne v2210 c0_i32_2227
  v2211

def k0_off13 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c512_i32_5042 : BitVec 32 := 512#32
  let v4682 : BitVec 32 := Scalar.muli v3 c512_i32_5042
  let c256_i32_5043 : BitVec 32 := 256#32
  let v4683 : BitVec 32 := Scalar.addi v4682 c256_i32_5043
  let c32_i32_5044 : BitVec 32 := 32#32
  let v4684 : BitVec 32 := Scalar.addi v4683 c32_i32_5044
  let c0_i32_5051 : BitVec 32 := 0#32
  ![v4684.toNat, 0]
def k0_dev70 (d0 : Dev nD) : Nat :=
  let c0_i32_5050 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c3_i32 : BitVec 32 := 3#32
  let v25 : BitVec 32 := Scalar.addi v3 c3_i32
  let c4_i32_8 : BitVec 32 := 4#32
  let v26 : BitVec 32 := Scalar.remsi v25 c4_i32_8
  let v27 : BitVec 32 := Scalar.addi v21 v26
  let c1_i32_5049 : BitVec 32 := 1#32
  let v4685 : BitVec 32 := Scalar.muli v27 c1_i32_5049
  let v4686 : BitVec 32 := Scalar.addi c0_i32_5050 v4685
  v4686.toNat
def k0_cond5 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_2228 : BitVec 32 := 1#32
  let v2212 : BitVec 1 := Scalar.cmpi .eq v20 c1_i32_2228
  let v2213 : BitVec 32 := Scalar.extui v2212
  let c0_i32_2229 : BitVec 32 := 0#32
  let v2214 : BitVec 1 := Scalar.cmpi .ne v2213 c0_i32_2229
  v2214

def k0_off14 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c512_i32_5042 : BitVec 32 := 512#32
  let v4682 : BitVec 32 := Scalar.muli v3 c512_i32_5042
  let c0_i32_5043 : BitVec 32 := 0#32
  let v4683 : BitVec 32 := Scalar.addi v4682 c0_i32_5043
  let c128_i32_5044 : BitVec 32 := 128#32
  let v4684 : BitVec 32 := Scalar.addi v4683 c128_i32_5044
  let c0_i32_5051 : BitVec 32 := 0#32
  ![v4684.toNat, 0]
def k0_dev71 (d0 : Dev nD) : Nat :=
  let c0_i32_5050 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c1_i32_6 : BitVec 32 := 1#32
  let v22 : BitVec 32 := Scalar.addi v3 c1_i32_6
  let c4_i32_7 : BitVec 32 := 4#32
  let v23 : BitVec 32 := Scalar.remsi v22 c4_i32_7
  let v24 : BitVec 32 := Scalar.addi v21 v23
  let c1_i32_5049 : BitVec 32 := 1#32
  let v4685 : BitVec 32 := Scalar.muli v24 c1_i32_5049
  let v4686 : BitVec 32 := Scalar.addi c0_i32_5050 v4685
  v4686.toNat
def k0_cond6 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32_2230 : BitVec 32 := 3#32
  let v2215 : BitVec 1 := Scalar.cmpi .eq v20 c3_i32_2230
  let v2216 : BitVec 32 := Scalar.extui v2215
  let c0_i32_2231 : BitVec 32 := 0#32
  let v2217 : BitVec 1 := Scalar.cmpi .ne v2216 c0_i32_2231
  v2217

def k0_off15 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c512_i32_5042 : BitVec 32 := 512#32
  let v4682 : BitVec 32 := Scalar.muli v3 c512_i32_5042
  let c256_i32_5043 : BitVec 32 := 256#32
  let v4683 : BitVec 32 := Scalar.addi v4682 c256_i32_5043
  let c128_i32_5044 : BitVec 32 := 128#32
  let v4684 : BitVec 32 := Scalar.addi v4683 c128_i32_5044
  let c0_i32_5051 : BitVec 32 := 0#32
  ![v4684.toNat, 0]
def k0_dev72 (d0 : Dev nD) : Nat :=
  let c0_i32_5050 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c3_i32 : BitVec 32 := 3#32
  let v25 : BitVec 32 := Scalar.addi v3 c3_i32
  let c4_i32_8 : BitVec 32 := 4#32
  let v26 : BitVec 32 := Scalar.remsi v25 c4_i32_8
  let v27 : BitVec 32 := Scalar.addi v21 v26
  let c1_i32_5049 : BitVec 32 := 1#32
  let v4685 : BitVec 32 := Scalar.muli v27 c1_i32_5049
  let v4686 : BitVec 32 := Scalar.addi c0_i32_5050 v4685
  v4686.toNat
def k0_cond7 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_2232 : BitVec 32 := 1#32
  let v2218 : BitVec 1 := Scalar.cmpi .eq v20 c1_i32_2232
  let v2219 : BitVec 32 := Scalar.extui v2218
  let c0_i32_2233 : BitVec 32 := 0#32
  let v2220 : BitVec 1 := Scalar.cmpi .ne v2219 c0_i32_2233
  v2220

def k0_off16 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c512_i32_5042 : BitVec 32 := 512#32
  let v4682 : BitVec 32 := Scalar.muli v3 c512_i32_5042
  let c0_i32_5043 : BitVec 32 := 0#32
  let v4683 : BitVec 32 := Scalar.addi v4682 c0_i32_5043
  let c160_i32_5044 : BitVec 32 := 160#32
  let v4684 : BitVec 32 := Scalar.addi v4683 c160_i32_5044
  let c0_i32_5051 : BitVec 32 := 0#32
  ![v4684.toNat, 0]
def k0_dev73 (d0 : Dev nD) : Nat :=
  let c0_i32_5050 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c1_i32_6 : BitVec 32 := 1#32
  let v22 : BitVec 32 := Scalar.addi v3 c1_i32_6
  let c4_i32_7 : BitVec 32 := 4#32
  let v23 : BitVec 32 := Scalar.remsi v22 c4_i32_7
  let v24 : BitVec 32 := Scalar.addi v21 v23
  let c1_i32_5049 : BitVec 32 := 1#32
  let v4685 : BitVec 32 := Scalar.muli v24 c1_i32_5049
  let v4686 : BitVec 32 := Scalar.addi c0_i32_5050 v4685
  v4686.toNat
def k0_cond8 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32_2234 : BitVec 32 := 3#32
  let v2221 : BitVec 1 := Scalar.cmpi .eq v20 c3_i32_2234
  let v2222 : BitVec 32 := Scalar.extui v2221
  let c0_i32_2235 : BitVec 32 := 0#32
  let v2223 : BitVec 1 := Scalar.cmpi .ne v2222 c0_i32_2235
  v2223

def k0_off17 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c512_i32_5042 : BitVec 32 := 512#32
  let v4682 : BitVec 32 := Scalar.muli v3 c512_i32_5042
  let c256_i32_5043 : BitVec 32 := 256#32
  let v4683 : BitVec 32 := Scalar.addi v4682 c256_i32_5043
  let c160_i32_5044 : BitVec 32 := 160#32
  let v4684 : BitVec 32 := Scalar.addi v4683 c160_i32_5044
  let c0_i32_5051 : BitVec 32 := 0#32
  ![v4684.toNat, 0]
def k0_dev74 (d0 : Dev nD) : Nat :=
  let c0_i32_5050 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c3_i32 : BitVec 32 := 3#32
  let v25 : BitVec 32 := Scalar.addi v3 c3_i32
  let c4_i32_8 : BitVec 32 := 4#32
  let v26 : BitVec 32 := Scalar.remsi v25 c4_i32_8
  let v27 : BitVec 32 := Scalar.addi v21 v26
  let c1_i32_5049 : BitVec 32 := 1#32
  let v4685 : BitVec 32 := Scalar.muli v27 c1_i32_5049
  let v4686 : BitVec 32 := Scalar.addi c0_i32_5050 v4685
  v4686.toNat
def k0_dev75 (d0 : Dev nD) : Nat :=
  let c0_i32_2256 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_9 : BitVec 32 := 4#32
  let v28 : BitVec 32 := Scalar.addi v2 c4_i32_9
  let c16_i32_10 : BitVec 32 := 16#32
  let v29 : BitVec 32 := Scalar.remsi v28 c16_i32_10
  let c1_i32_2255 : BitVec 32 := 1#32
  let v2243 : BitVec 32 := Scalar.muli v29 c1_i32_2255
  let v2244 : BitVec 32 := Scalar.addi c0_i32_2256 v2243
  v2244.toNat
def k0_dev76 (d0 : Dev nD) : Nat :=
  let c0_i32_2266 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_9 : BitVec 32 := 4#32
  let v28 : BitVec 32 := Scalar.addi v2 c4_i32_9
  let c16_i32_10 : BitVec 32 := 16#32
  let v29 : BitVec 32 := Scalar.remsi v28 c16_i32_10
  let c1_i32_2265 : BitVec 32 := 1#32
  let v2253 : BitVec 32 := Scalar.muli v29 c1_i32_2265
  let v2254 : BitVec 32 := Scalar.addi c0_i32_2266 v2253
  v2254.toNat
def k0_cond9 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c0_i32_2269 : BitVec 32 := 0#32
  let v2261 : BitVec 1 := Scalar.cmpi .eq v20 c0_i32_2269
  let v2262 : BitVec 32 := Scalar.extui v2261
  let c0_i32_2270 : BitVec 32 := 0#32
  let v2263 : BitVec 1 := Scalar.cmpi .ne v2262 c0_i32_2270
  v2263

def k0_off18 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c512_i32_5042 : BitVec 32 := 512#32
  let v4682 : BitVec 32 := Scalar.muli v3 c512_i32_5042
  let c0_i32_5043 : BitVec 32 := 0#32
  let v4683 : BitVec 32 := Scalar.addi v4682 c0_i32_5043
  let c64_i32_5044 : BitVec 32 := 64#32
  let v4684 : BitVec 32 := Scalar.addi v4683 c64_i32_5044
  let c0_i32_5051 : BitVec 32 := 0#32
  ![v4684.toNat, 0]
def k0_dev77 (d0 : Dev nD) : Nat :=
  let c0_i32_5050 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c1_i32_6 : BitVec 32 := 1#32
  let v22 : BitVec 32 := Scalar.addi v3 c1_i32_6
  let c4_i32_7 : BitVec 32 := 4#32
  let v23 : BitVec 32 := Scalar.remsi v22 c4_i32_7
  let v24 : BitVec 32 := Scalar.addi v21 v23
  let c1_i32_5049 : BitVec 32 := 1#32
  let v4685 : BitVec 32 := Scalar.muli v24 c1_i32_5049
  let v4686 : BitVec 32 := Scalar.addi c0_i32_5050 v4685
  v4686.toNat
def k0_cond10 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c2_i32_2271 : BitVec 32 := 2#32
  let v2264 : BitVec 1 := Scalar.cmpi .eq v20 c2_i32_2271
  let v2265 : BitVec 32 := Scalar.extui v2264
  let c0_i32_2272 : BitVec 32 := 0#32
  let v2266 : BitVec 1 := Scalar.cmpi .ne v2265 c0_i32_2272
  v2266

def k0_off19 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c512_i32_5042 : BitVec 32 := 512#32
  let v4682 : BitVec 32 := Scalar.muli v3 c512_i32_5042
  let c256_i32_5043 : BitVec 32 := 256#32
  let v4683 : BitVec 32 := Scalar.addi v4682 c256_i32_5043
  let c64_i32_5044 : BitVec 32 := 64#32
  let v4684 : BitVec 32 := Scalar.addi v4683 c64_i32_5044
  let c0_i32_5051 : BitVec 32 := 0#32
  ![v4684.toNat, 0]
def k0_dev78 (d0 : Dev nD) : Nat :=
  let c0_i32_5050 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c3_i32 : BitVec 32 := 3#32
  let v25 : BitVec 32 := Scalar.addi v3 c3_i32
  let c4_i32_8 : BitVec 32 := 4#32
  let v26 : BitVec 32 := Scalar.remsi v25 c4_i32_8
  let v27 : BitVec 32 := Scalar.addi v21 v26
  let c1_i32_5049 : BitVec 32 := 1#32
  let v4685 : BitVec 32 := Scalar.muli v27 c1_i32_5049
  let v4686 : BitVec 32 := Scalar.addi c0_i32_5050 v4685
  v4686.toNat
def k0_cond11 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c0_i32_2273 : BitVec 32 := 0#32
  let v2267 : BitVec 1 := Scalar.cmpi .eq v20 c0_i32_2273
  let v2268 : BitVec 32 := Scalar.extui v2267
  let c0_i32_2274 : BitVec 32 := 0#32
  let v2269 : BitVec 1 := Scalar.cmpi .ne v2268 c0_i32_2274
  v2269

def k0_off20 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c512_i32_5042 : BitVec 32 := 512#32
  let v4682 : BitVec 32 := Scalar.muli v3 c512_i32_5042
  let c0_i32_5043 : BitVec 32 := 0#32
  let v4683 : BitVec 32 := Scalar.addi v4682 c0_i32_5043
  let c96_i32_5044 : BitVec 32 := 96#32
  let v4684 : BitVec 32 := Scalar.addi v4683 c96_i32_5044
  let c0_i32_5051 : BitVec 32 := 0#32
  ![v4684.toNat, 0]
def k0_dev79 (d0 : Dev nD) : Nat :=
  let c0_i32_5050 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c1_i32_6 : BitVec 32 := 1#32
  let v22 : BitVec 32 := Scalar.addi v3 c1_i32_6
  let c4_i32_7 : BitVec 32 := 4#32
  let v23 : BitVec 32 := Scalar.remsi v22 c4_i32_7
  let v24 : BitVec 32 := Scalar.addi v21 v23
  let c1_i32_5049 : BitVec 32 := 1#32
  let v4685 : BitVec 32 := Scalar.muli v24 c1_i32_5049
  let v4686 : BitVec 32 := Scalar.addi c0_i32_5050 v4685
  v4686.toNat
def k0_cond12 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c2_i32_2275 : BitVec 32 := 2#32
  let v2270 : BitVec 1 := Scalar.cmpi .eq v20 c2_i32_2275
  let v2271 : BitVec 32 := Scalar.extui v2270
  let c0_i32_2276 : BitVec 32 := 0#32
  let v2272 : BitVec 1 := Scalar.cmpi .ne v2271 c0_i32_2276
  v2272

def k0_off21 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c512_i32_5042 : BitVec 32 := 512#32
  let v4682 : BitVec 32 := Scalar.muli v3 c512_i32_5042
  let c256_i32_5043 : BitVec 32 := 256#32
  let v4683 : BitVec 32 := Scalar.addi v4682 c256_i32_5043
  let c96_i32_5044 : BitVec 32 := 96#32
  let v4684 : BitVec 32 := Scalar.addi v4683 c96_i32_5044
  let c0_i32_5051 : BitVec 32 := 0#32
  ![v4684.toNat, 0]
def k0_dev80 (d0 : Dev nD) : Nat :=
  let c0_i32_5050 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c3_i32 : BitVec 32 := 3#32
  let v25 : BitVec 32 := Scalar.addi v3 c3_i32
  let c4_i32_8 : BitVec 32 := 4#32
  let v26 : BitVec 32 := Scalar.remsi v25 c4_i32_8
  let v27 : BitVec 32 := Scalar.addi v21 v26
  let c1_i32_5049 : BitVec 32 := 1#32
  let v4685 : BitVec 32 := Scalar.muli v27 c1_i32_5049
  let v4686 : BitVec 32 := Scalar.addi c0_i32_5050 v4685
  v4686.toNat
def k0_cond13 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_2277 : BitVec 32 := 1#32
  let v2273 : BitVec 1 := Scalar.cmpi .eq v20 c1_i32_2277
  let v2274 : BitVec 32 := Scalar.extui v2273
  let c0_i32_2278 : BitVec 32 := 0#32
  let v2275 : BitVec 1 := Scalar.cmpi .ne v2274 c0_i32_2278
  v2275

def k0_off22 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c512_i32_5042 : BitVec 32 := 512#32
  let v4682 : BitVec 32 := Scalar.muli v3 c512_i32_5042
  let c0_i32_5043 : BitVec 32 := 0#32
  let v4683 : BitVec 32 := Scalar.addi v4682 c0_i32_5043
  let c192_i32_5044 : BitVec 32 := 192#32
  let v4684 : BitVec 32 := Scalar.addi v4683 c192_i32_5044
  let c0_i32_5051 : BitVec 32 := 0#32
  ![v4684.toNat, 0]
def k0_dev81 (d0 : Dev nD) : Nat :=
  let c0_i32_5050 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c1_i32_6 : BitVec 32 := 1#32
  let v22 : BitVec 32 := Scalar.addi v3 c1_i32_6
  let c4_i32_7 : BitVec 32 := 4#32
  let v23 : BitVec 32 := Scalar.remsi v22 c4_i32_7
  let v24 : BitVec 32 := Scalar.addi v21 v23
  let c1_i32_5049 : BitVec 32 := 1#32
  let v4685 : BitVec 32 := Scalar.muli v24 c1_i32_5049
  let v4686 : BitVec 32 := Scalar.addi c0_i32_5050 v4685
  v4686.toNat
def k0_cond14 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32_2279 : BitVec 32 := 3#32
  let v2276 : BitVec 1 := Scalar.cmpi .eq v20 c3_i32_2279
  let v2277 : BitVec 32 := Scalar.extui v2276
  let c0_i32_2280 : BitVec 32 := 0#32
  let v2278 : BitVec 1 := Scalar.cmpi .ne v2277 c0_i32_2280
  v2278

def k0_off23 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c512_i32_5042 : BitVec 32 := 512#32
  let v4682 : BitVec 32 := Scalar.muli v3 c512_i32_5042
  let c256_i32_5043 : BitVec 32 := 256#32
  let v4683 : BitVec 32 := Scalar.addi v4682 c256_i32_5043
  let c192_i32_5044 : BitVec 32 := 192#32
  let v4684 : BitVec 32 := Scalar.addi v4683 c192_i32_5044
  let c0_i32_5051 : BitVec 32 := 0#32
  ![v4684.toNat, 0]
def k0_dev82 (d0 : Dev nD) : Nat :=
  let c0_i32_5050 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c3_i32 : BitVec 32 := 3#32
  let v25 : BitVec 32 := Scalar.addi v3 c3_i32
  let c4_i32_8 : BitVec 32 := 4#32
  let v26 : BitVec 32 := Scalar.remsi v25 c4_i32_8
  let v27 : BitVec 32 := Scalar.addi v21 v26
  let c1_i32_5049 : BitVec 32 := 1#32
  let v4685 : BitVec 32 := Scalar.muli v27 c1_i32_5049
  let v4686 : BitVec 32 := Scalar.addi c0_i32_5050 v4685
  v4686.toNat
def k0_cond15 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_2281 : BitVec 32 := 1#32
  let v2279 : BitVec 1 := Scalar.cmpi .eq v20 c1_i32_2281
  let v2280 : BitVec 32 := Scalar.extui v2279
  let c0_i32_2282 : BitVec 32 := 0#32
  let v2281 : BitVec 1 := Scalar.cmpi .ne v2280 c0_i32_2282
  v2281

def k0_off24 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c512_i32_5042 : BitVec 32 := 512#32
  let v4682 : BitVec 32 := Scalar.muli v3 c512_i32_5042
  let c0_i32_5043 : BitVec 32 := 0#32
  let v4683 : BitVec 32 := Scalar.addi v4682 c0_i32_5043
  let c224_i32_5044 : BitVec 32 := 224#32
  let v4684 : BitVec 32 := Scalar.addi v4683 c224_i32_5044
  let c0_i32_5051 : BitVec 32 := 0#32
  ![v4684.toNat, 0]
def k0_dev83 (d0 : Dev nD) : Nat :=
  let c0_i32_5050 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c1_i32_6 : BitVec 32 := 1#32
  let v22 : BitVec 32 := Scalar.addi v3 c1_i32_6
  let c4_i32_7 : BitVec 32 := 4#32
  let v23 : BitVec 32 := Scalar.remsi v22 c4_i32_7
  let v24 : BitVec 32 := Scalar.addi v21 v23
  let c1_i32_5049 : BitVec 32 := 1#32
  let v4685 : BitVec 32 := Scalar.muli v24 c1_i32_5049
  let v4686 : BitVec 32 := Scalar.addi c0_i32_5050 v4685
  v4686.toNat
def k0_cond16 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32_2283 : BitVec 32 := 3#32
  let v2282 : BitVec 1 := Scalar.cmpi .eq v20 c3_i32_2283
  let v2283 : BitVec 32 := Scalar.extui v2282
  let c0_i32_2284 : BitVec 32 := 0#32
  let v2284 : BitVec 1 := Scalar.cmpi .ne v2283 c0_i32_2284
  v2284

def k0_off25 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c512_i32_5042 : BitVec 32 := 512#32
  let v4682 : BitVec 32 := Scalar.muli v3 c512_i32_5042
  let c256_i32_5043 : BitVec 32 := 256#32
  let v4683 : BitVec 32 := Scalar.addi v4682 c256_i32_5043
  let c224_i32_5044 : BitVec 32 := 224#32
  let v4684 : BitVec 32 := Scalar.addi v4683 c224_i32_5044
  let c0_i32_5051 : BitVec 32 := 0#32
  ![v4684.toNat, 0]
def k0_dev84 (d0 : Dev nD) : Nat :=
  let c0_i32_5050 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c3_i32 : BitVec 32 := 3#32
  let v25 : BitVec 32 := Scalar.addi v3 c3_i32
  let c4_i32_8 : BitVec 32 := 4#32
  let v26 : BitVec 32 := Scalar.remsi v25 c4_i32_8
  let v27 : BitVec 32 := Scalar.addi v21 v26
  let c1_i32_5049 : BitVec 32 := 1#32
  let v4685 : BitVec 32 := Scalar.muli v27 c1_i32_5049
  let v4686 : BitVec 32 := Scalar.addi c0_i32_5050 v4685
  v4686.toNat
def k0_off26 (d0 : Dev nD) (c0_i32_2286 : BitVec 32) (c0_i32_2290 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c8_i32_2285 : BitVec 32 := 8#32
  let v2285 : BitVec 32 := Scalar.addi v20 c8_i32_2285
  let v2286 : BitVec 32 := Scalar.subi v2285 c0_i32_2286
  let c1_i32_2287 : BitVec 32 := 1#32
  let v2287 : BitVec 32 := Scalar.subi v2286 c1_i32_2287
  let c4_i32_2288 : BitVec 32 := 4#32
  let v2288 : BitVec 32 := Scalar.remsi v2287 c4_i32_2288
  let c128_i32_2289 : BitVec 32 := 128#32
  let v2289 : BitVec 32 := Scalar.muli v2288 c128_i32_2289
  let v2290 : BitVec 32 := Scalar.addi v2289 c0_i32_2290
  let c0_i32_2297 : BitVec 32 := 0#32
  ![v2290.toNat, 0]
def k0_dev85 (d0 : Dev nD) : Nat :=
  let c0_i32_2306 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_9 : BitVec 32 := 4#32
  let v28 : BitVec 32 := Scalar.addi v2 c4_i32_9
  let c16_i32_10 : BitVec 32 := 16#32
  let v29 : BitVec 32 := Scalar.remsi v28 c16_i32_10
  let c1_i32_2305 : BitVec 32 := 1#32
  let v2299 : BitVec 32 := Scalar.muli v29 c1_i32_2305
  let v2300 : BitVec 32 := Scalar.addi c0_i32_2306 v2299
  v2300.toNat
def k0_dev86 (d0 : Dev nD) : Nat :=
  let c0_i32_2326 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_9 : BitVec 32 := 4#32
  let v28 : BitVec 32 := Scalar.addi v2 c4_i32_9
  let c16_i32_10 : BitVec 32 := 16#32
  let v29 : BitVec 32 := Scalar.remsi v28 c16_i32_10
  let c1_i32_2325 : BitVec 32 := 1#32
  let v2317 : BitVec 32 := Scalar.muli v29 c1_i32_2325
  let v2318 : BitVec 32 := Scalar.addi c0_i32_2326 v2317
  v2318.toNat
def k0_dev87 (d0 : Dev nD) : Nat :=
  let c0_i32_2346 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_9 : BitVec 32 := 4#32
  let v28 : BitVec 32 := Scalar.addi v2 c4_i32_9
  let c16_i32_10 : BitVec 32 := 16#32
  let v29 : BitVec 32 := Scalar.remsi v28 c16_i32_10
  let c1_i32_2345 : BitVec 32 := 1#32
  let v2335 : BitVec 32 := Scalar.muli v29 c1_i32_2345
  let v2336 : BitVec 32 := Scalar.addi c0_i32_2346 v2335
  v2336.toNat
def k0_dev88 (d0 : Dev nD) : Nat :=
  let c0_i32_2366 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_9 : BitVec 32 := 4#32
  let v28 : BitVec 32 := Scalar.addi v2 c4_i32_9
  let c16_i32_10 : BitVec 32 := 16#32
  let v29 : BitVec 32 := Scalar.remsi v28 c16_i32_10
  let c1_i32_2365 : BitVec 32 := 1#32
  let v2353 : BitVec 32 := Scalar.muli v29 c1_i32_2365
  let v2354 : BitVec 32 := Scalar.addi c0_i32_2366 v2353
  v2354.toNat
def k0_cond17 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c8_i32_2285 : BitVec 32 := 8#32
  let v2285 : BitVec 32 := Scalar.addi v20 c8_i32_2285
  let c0_i32_2286 : BitVec 32 := 0#32
  let v2286 : BitVec 32 := Scalar.subi v2285 c0_i32_2286
  let c1_i32_2287 : BitVec 32 := 1#32
  let v2287 : BitVec 32 := Scalar.subi v2286 c1_i32_2287
  let c4_i32_2288 : BitVec 32 := 4#32
  let v2288 : BitVec 32 := Scalar.remsi v2287 c4_i32_2288
  let c0_i32_2369 : BitVec 32 := 0#32
  let v2361 : BitVec 1 := Scalar.cmpi .eq v2288 c0_i32_2369
  let v2362 : BitVec 32 := Scalar.extui v2361
  let c0_i32_2370 : BitVec 32 := 0#32
  let v2363 : BitVec 1 := Scalar.cmpi .ne v2362 c0_i32_2370
  v2363

def k0_off27 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c512_i32_5042 : BitVec 32 := 512#32
  let v4682 : BitVec 32 := Scalar.muli v3 c512_i32_5042
  let c0_i32_5043 : BitVec 32 := 0#32
  let v4683 : BitVec 32 := Scalar.addi v4682 c0_i32_5043
  let c0_i32_5044 : BitVec 32 := 0#32
  let v4684 : BitVec 32 := Scalar.addi v4683 c0_i32_5044
  let c0_i32_5051 : BitVec 32 := 0#32
  ![v4684.toNat, 0]
def k0_dev89 (d0 : Dev nD) : Nat :=
  let c0_i32_5050 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c1_i32_6 : BitVec 32 := 1#32
  let v22 : BitVec 32 := Scalar.addi v3 c1_i32_6
  let c4_i32_7 : BitVec 32 := 4#32
  let v23 : BitVec 32 := Scalar.remsi v22 c4_i32_7
  let v24 : BitVec 32 := Scalar.addi v21 v23
  let c1_i32_5049 : BitVec 32 := 1#32
  let v4685 : BitVec 32 := Scalar.muli v24 c1_i32_5049
  let v4686 : BitVec 32 := Scalar.addi c0_i32_5050 v4685
  v4686.toNat
def k0_cond18 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c8_i32_2285 : BitVec 32 := 8#32
  let v2285 : BitVec 32 := Scalar.addi v20 c8_i32_2285
  let c0_i32_2286 : BitVec 32 := 0#32
  let v2286 : BitVec 32 := Scalar.subi v2285 c0_i32_2286
  let c1_i32_2287 : BitVec 32 := 1#32
  let v2287 : BitVec 32 := Scalar.subi v2286 c1_i32_2287
  let c4_i32_2288 : BitVec 32 := 4#32
  let v2288 : BitVec 32 := Scalar.remsi v2287 c4_i32_2288
  let c2_i32_2371 : BitVec 32 := 2#32
  let v2364 : BitVec 1 := Scalar.cmpi .eq v2288 c2_i32_2371
  let v2365 : BitVec 32 := Scalar.extui v2364
  let c0_i32_2372 : BitVec 32 := 0#32
  let v2366 : BitVec 1 := Scalar.cmpi .ne v2365 c0_i32_2372
  v2366

def k0_off28 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c512_i32_5042 : BitVec 32 := 512#32
  let v4682 : BitVec 32 := Scalar.muli v3 c512_i32_5042
  let c256_i32_5043 : BitVec 32 := 256#32
  let v4683 : BitVec 32 := Scalar.addi v4682 c256_i32_5043
  let c0_i32_5044 : BitVec 32 := 0#32
  let v4684 : BitVec 32 := Scalar.addi v4683 c0_i32_5044
  let c0_i32_5051 : BitVec 32 := 0#32
  ![v4684.toNat, 0]
def k0_dev90 (d0 : Dev nD) : Nat :=
  let c0_i32_5050 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c3_i32 : BitVec 32 := 3#32
  let v25 : BitVec 32 := Scalar.addi v3 c3_i32
  let c4_i32_8 : BitVec 32 := 4#32
  let v26 : BitVec 32 := Scalar.remsi v25 c4_i32_8
  let v27 : BitVec 32 := Scalar.addi v21 v26
  let c1_i32_5049 : BitVec 32 := 1#32
  let v4685 : BitVec 32 := Scalar.muli v27 c1_i32_5049
  let v4686 : BitVec 32 := Scalar.addi c0_i32_5050 v4685
  v4686.toNat
def k0_cond19 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c8_i32_2285 : BitVec 32 := 8#32
  let v2285 : BitVec 32 := Scalar.addi v20 c8_i32_2285
  let c0_i32_2286 : BitVec 32 := 0#32
  let v2286 : BitVec 32 := Scalar.subi v2285 c0_i32_2286
  let c1_i32_2287 : BitVec 32 := 1#32
  let v2287 : BitVec 32 := Scalar.subi v2286 c1_i32_2287
  let c4_i32_2288 : BitVec 32 := 4#32
  let v2288 : BitVec 32 := Scalar.remsi v2287 c4_i32_2288
  let c0_i32_2373 : BitVec 32 := 0#32
  let v2367 : BitVec 1 := Scalar.cmpi .eq v2288 c0_i32_2373
  let v2368 : BitVec 32 := Scalar.extui v2367
  let c0_i32_2374 : BitVec 32 := 0#32
  let v2369 : BitVec 1 := Scalar.cmpi .ne v2368 c0_i32_2374
  v2369

def k0_off29 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c512_i32_5042 : BitVec 32 := 512#32
  let v4682 : BitVec 32 := Scalar.muli v3 c512_i32_5042
  let c0_i32_5043 : BitVec 32 := 0#32
  let v4683 : BitVec 32 := Scalar.addi v4682 c0_i32_5043
  let c32_i32_5044 : BitVec 32 := 32#32
  let v4684 : BitVec 32 := Scalar.addi v4683 c32_i32_5044
  let c0_i32_5051 : BitVec 32 := 0#32
  ![v4684.toNat, 0]
def k0_dev91 (d0 : Dev nD) : Nat :=
  let c0_i32_5050 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c1_i32_6 : BitVec 32 := 1#32
  let v22 : BitVec 32 := Scalar.addi v3 c1_i32_6
  let c4_i32_7 : BitVec 32 := 4#32
  let v23 : BitVec 32 := Scalar.remsi v22 c4_i32_7
  let v24 : BitVec 32 := Scalar.addi v21 v23
  let c1_i32_5049 : BitVec 32 := 1#32
  let v4685 : BitVec 32 := Scalar.muli v24 c1_i32_5049
  let v4686 : BitVec 32 := Scalar.addi c0_i32_5050 v4685
  v4686.toNat
def k0_cond20 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c8_i32_2285 : BitVec 32 := 8#32
  let v2285 : BitVec 32 := Scalar.addi v20 c8_i32_2285
  let c0_i32_2286 : BitVec 32 := 0#32
  let v2286 : BitVec 32 := Scalar.subi v2285 c0_i32_2286
  let c1_i32_2287 : BitVec 32 := 1#32
  let v2287 : BitVec 32 := Scalar.subi v2286 c1_i32_2287
  let c4_i32_2288 : BitVec 32 := 4#32
  let v2288 : BitVec 32 := Scalar.remsi v2287 c4_i32_2288
  let c2_i32_2375 : BitVec 32 := 2#32
  let v2370 : BitVec 1 := Scalar.cmpi .eq v2288 c2_i32_2375
  let v2371 : BitVec 32 := Scalar.extui v2370
  let c0_i32_2376 : BitVec 32 := 0#32
  let v2372 : BitVec 1 := Scalar.cmpi .ne v2371 c0_i32_2376
  v2372

def k0_off30 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c512_i32_5042 : BitVec 32 := 512#32
  let v4682 : BitVec 32 := Scalar.muli v3 c512_i32_5042
  let c256_i32_5043 : BitVec 32 := 256#32
  let v4683 : BitVec 32 := Scalar.addi v4682 c256_i32_5043
  let c32_i32_5044 : BitVec 32 := 32#32
  let v4684 : BitVec 32 := Scalar.addi v4683 c32_i32_5044
  let c0_i32_5051 : BitVec 32 := 0#32
  ![v4684.toNat, 0]
def k0_dev92 (d0 : Dev nD) : Nat :=
  let c0_i32_5050 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c3_i32 : BitVec 32 := 3#32
  let v25 : BitVec 32 := Scalar.addi v3 c3_i32
  let c4_i32_8 : BitVec 32 := 4#32
  let v26 : BitVec 32 := Scalar.remsi v25 c4_i32_8
  let v27 : BitVec 32 := Scalar.addi v21 v26
  let c1_i32_5049 : BitVec 32 := 1#32
  let v4685 : BitVec 32 := Scalar.muli v27 c1_i32_5049
  let v4686 : BitVec 32 := Scalar.addi c0_i32_5050 v4685
  v4686.toNat
def k0_cond21 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c8_i32_2285 : BitVec 32 := 8#32
  let v2285 : BitVec 32 := Scalar.addi v20 c8_i32_2285
  let c0_i32_2286 : BitVec 32 := 0#32
  let v2286 : BitVec 32 := Scalar.subi v2285 c0_i32_2286
  let c1_i32_2287 : BitVec 32 := 1#32
  let v2287 : BitVec 32 := Scalar.subi v2286 c1_i32_2287
  let c4_i32_2288 : BitVec 32 := 4#32
  let v2288 : BitVec 32 := Scalar.remsi v2287 c4_i32_2288
  let c0_i32_2377 : BitVec 32 := 0#32
  let v2373 : BitVec 1 := Scalar.cmpi .eq v2288 c0_i32_2377
  let v2374 : BitVec 32 := Scalar.extui v2373
  let c0_i32_2378 : BitVec 32 := 0#32
  let v2375 : BitVec 1 := Scalar.cmpi .ne v2374 c0_i32_2378
  v2375

def k0_off31 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c512_i32_5042 : BitVec 32 := 512#32
  let v4682 : BitVec 32 := Scalar.muli v3 c512_i32_5042
  let c0_i32_5043 : BitVec 32 := 0#32
  let v4683 : BitVec 32 := Scalar.addi v4682 c0_i32_5043
  let c64_i32_5044 : BitVec 32 := 64#32
  let v4684 : BitVec 32 := Scalar.addi v4683 c64_i32_5044
  let c0_i32_5051 : BitVec 32 := 0#32
  ![v4684.toNat, 0]
def k0_dev93 (d0 : Dev nD) : Nat :=
  let c0_i32_5050 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c1_i32_6 : BitVec 32 := 1#32
  let v22 : BitVec 32 := Scalar.addi v3 c1_i32_6
  let c4_i32_7 : BitVec 32 := 4#32
  let v23 : BitVec 32 := Scalar.remsi v22 c4_i32_7
  let v24 : BitVec 32 := Scalar.addi v21 v23
  let c1_i32_5049 : BitVec 32 := 1#32
  let v4685 : BitVec 32 := Scalar.muli v24 c1_i32_5049
  let v4686 : BitVec 32 := Scalar.addi c0_i32_5050 v4685
  v4686.toNat
def k0_cond22 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c8_i32_2285 : BitVec 32 := 8#32
  let v2285 : BitVec 32 := Scalar.addi v20 c8_i32_2285
  let c0_i32_2286 : BitVec 32 := 0#32
  let v2286 : BitVec 32 := Scalar.subi v2285 c0_i32_2286
  let c1_i32_2287 : BitVec 32 := 1#32
  let v2287 : BitVec 32 := Scalar.subi v2286 c1_i32_2287
  let c4_i32_2288 : BitVec 32 := 4#32
  let v2288 : BitVec 32 := Scalar.remsi v2287 c4_i32_2288
  let c2_i32_2379 : BitVec 32 := 2#32
  let v2376 : BitVec 1 := Scalar.cmpi .eq v2288 c2_i32_2379
  let v2377 : BitVec 32 := Scalar.extui v2376
  let c0_i32_2380 : BitVec 32 := 0#32
  let v2378 : BitVec 1 := Scalar.cmpi .ne v2377 c0_i32_2380
  v2378

def k0_off32 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c512_i32_5042 : BitVec 32 := 512#32
  let v4682 : BitVec 32 := Scalar.muli v3 c512_i32_5042
  let c256_i32_5043 : BitVec 32 := 256#32
  let v4683 : BitVec 32 := Scalar.addi v4682 c256_i32_5043
  let c64_i32_5044 : BitVec 32 := 64#32
  let v4684 : BitVec 32 := Scalar.addi v4683 c64_i32_5044
  let c0_i32_5051 : BitVec 32 := 0#32
  ![v4684.toNat, 0]
def k0_dev94 (d0 : Dev nD) : Nat :=
  let c0_i32_5050 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c3_i32 : BitVec 32 := 3#32
  let v25 : BitVec 32 := Scalar.addi v3 c3_i32
  let c4_i32_8 : BitVec 32 := 4#32
  let v26 : BitVec 32 := Scalar.remsi v25 c4_i32_8
  let v27 : BitVec 32 := Scalar.addi v21 v26
  let c1_i32_5049 : BitVec 32 := 1#32
  let v4685 : BitVec 32 := Scalar.muli v27 c1_i32_5049
  let v4686 : BitVec 32 := Scalar.addi c0_i32_5050 v4685
  v4686.toNat
def k0_cond23 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c8_i32_2285 : BitVec 32 := 8#32
  let v2285 : BitVec 32 := Scalar.addi v20 c8_i32_2285
  let c0_i32_2286 : BitVec 32 := 0#32
  let v2286 : BitVec 32 := Scalar.subi v2285 c0_i32_2286
  let c1_i32_2287 : BitVec 32 := 1#32
  let v2287 : BitVec 32 := Scalar.subi v2286 c1_i32_2287
  let c4_i32_2288 : BitVec 32 := 4#32
  let v2288 : BitVec 32 := Scalar.remsi v2287 c4_i32_2288
  let c0_i32_2381 : BitVec 32 := 0#32
  let v2379 : BitVec 1 := Scalar.cmpi .eq v2288 c0_i32_2381
  let v2380 : BitVec 32 := Scalar.extui v2379
  let c0_i32_2382 : BitVec 32 := 0#32
  let v2381 : BitVec 1 := Scalar.cmpi .ne v2380 c0_i32_2382
  v2381

def k0_off33 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c512_i32_5042 : BitVec 32 := 512#32
  let v4682 : BitVec 32 := Scalar.muli v3 c512_i32_5042
  let c0_i32_5043 : BitVec 32 := 0#32
  let v4683 : BitVec 32 := Scalar.addi v4682 c0_i32_5043
  let c96_i32_5044 : BitVec 32 := 96#32
  let v4684 : BitVec 32 := Scalar.addi v4683 c96_i32_5044
  let c0_i32_5051 : BitVec 32 := 0#32
  ![v4684.toNat, 0]
def k0_dev95 (d0 : Dev nD) : Nat :=
  let c0_i32_5050 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c1_i32_6 : BitVec 32 := 1#32
  let v22 : BitVec 32 := Scalar.addi v3 c1_i32_6
  let c4_i32_7 : BitVec 32 := 4#32
  let v23 : BitVec 32 := Scalar.remsi v22 c4_i32_7
  let v24 : BitVec 32 := Scalar.addi v21 v23
  let c1_i32_5049 : BitVec 32 := 1#32
  let v4685 : BitVec 32 := Scalar.muli v24 c1_i32_5049
  let v4686 : BitVec 32 := Scalar.addi c0_i32_5050 v4685
  v4686.toNat
def k0_cond24 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c8_i32_2285 : BitVec 32 := 8#32
  let v2285 : BitVec 32 := Scalar.addi v20 c8_i32_2285
  let c0_i32_2286 : BitVec 32 := 0#32
  let v2286 : BitVec 32 := Scalar.subi v2285 c0_i32_2286
  let c1_i32_2287 : BitVec 32 := 1#32
  let v2287 : BitVec 32 := Scalar.subi v2286 c1_i32_2287
  let c4_i32_2288 : BitVec 32 := 4#32
  let v2288 : BitVec 32 := Scalar.remsi v2287 c4_i32_2288
  let c2_i32_2383 : BitVec 32 := 2#32
  let v2382 : BitVec 1 := Scalar.cmpi .eq v2288 c2_i32_2383
  let v2383 : BitVec 32 := Scalar.extui v2382
  let c0_i32_2384 : BitVec 32 := 0#32
  let v2384 : BitVec 1 := Scalar.cmpi .ne v2383 c0_i32_2384
  v2384

def k0_off34 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c512_i32_5042 : BitVec 32 := 512#32
  let v4682 : BitVec 32 := Scalar.muli v3 c512_i32_5042
  let c256_i32_5043 : BitVec 32 := 256#32
  let v4683 : BitVec 32 := Scalar.addi v4682 c256_i32_5043
  let c96_i32_5044 : BitVec 32 := 96#32
  let v4684 : BitVec 32 := Scalar.addi v4683 c96_i32_5044
  let c0_i32_5051 : BitVec 32 := 0#32
  ![v4684.toNat, 0]
def k0_dev96 (d0 : Dev nD) : Nat :=
  let c0_i32_5050 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c3_i32 : BitVec 32 := 3#32
  let v25 : BitVec 32 := Scalar.addi v3 c3_i32
  let c4_i32_8 : BitVec 32 := 4#32
  let v26 : BitVec 32 := Scalar.remsi v25 c4_i32_8
  let v27 : BitVec 32 := Scalar.addi v21 v26
  let c1_i32_5049 : BitVec 32 := 1#32
  let v4685 : BitVec 32 := Scalar.muli v27 c1_i32_5049
  let v4686 : BitVec 32 := Scalar.addi c0_i32_5050 v4685
  v4686.toNat
def k0_cond25 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c8_i32_2285 : BitVec 32 := 8#32
  let v2285 : BitVec 32 := Scalar.addi v20 c8_i32_2285
  let c0_i32_2286 : BitVec 32 := 0#32
  let v2286 : BitVec 32 := Scalar.subi v2285 c0_i32_2286
  let c1_i32_2287 : BitVec 32 := 1#32
  let v2287 : BitVec 32 := Scalar.subi v2286 c1_i32_2287
  let c4_i32_2288 : BitVec 32 := 4#32
  let v2288 : BitVec 32 := Scalar.remsi v2287 c4_i32_2288
  let c1_i32_2385 : BitVec 32 := 1#32
  let v2385 : BitVec 1 := Scalar.cmpi .eq v2288 c1_i32_2385
  let v2386 : BitVec 32 := Scalar.extui v2385
  let c0_i32_2386 : BitVec 32 := 0#32
  let v2387 : BitVec 1 := Scalar.cmpi .ne v2386 c0_i32_2386
  v2387

def k0_off35 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c512_i32_5042 : BitVec 32 := 512#32
  let v4682 : BitVec 32 := Scalar.muli v3 c512_i32_5042
  let c0_i32_5043 : BitVec 32 := 0#32
  let v4683 : BitVec 32 := Scalar.addi v4682 c0_i32_5043
  let c128_i32_5044 : BitVec 32 := 128#32
  let v4684 : BitVec 32 := Scalar.addi v4683 c128_i32_5044
  let c0_i32_5051 : BitVec 32 := 0#32
  ![v4684.toNat, 0]
def k0_dev97 (d0 : Dev nD) : Nat :=
  let c0_i32_5050 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c1_i32_6 : BitVec 32 := 1#32
  let v22 : BitVec 32 := Scalar.addi v3 c1_i32_6
  let c4_i32_7 : BitVec 32 := 4#32
  let v23 : BitVec 32 := Scalar.remsi v22 c4_i32_7
  let v24 : BitVec 32 := Scalar.addi v21 v23
  let c1_i32_5049 : BitVec 32 := 1#32
  let v4685 : BitVec 32 := Scalar.muli v24 c1_i32_5049
  let v4686 : BitVec 32 := Scalar.addi c0_i32_5050 v4685
  v4686.toNat
def k0_cond26 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c8_i32_2285 : BitVec 32 := 8#32
  let v2285 : BitVec 32 := Scalar.addi v20 c8_i32_2285
  let c0_i32_2286 : BitVec 32 := 0#32
  let v2286 : BitVec 32 := Scalar.subi v2285 c0_i32_2286
  let c1_i32_2287 : BitVec 32 := 1#32
  let v2287 : BitVec 32 := Scalar.subi v2286 c1_i32_2287
  let c4_i32_2288 : BitVec 32 := 4#32
  let v2288 : BitVec 32 := Scalar.remsi v2287 c4_i32_2288
  let c3_i32_2387 : BitVec 32 := 3#32
  let v2388 : BitVec 1 := Scalar.cmpi .eq v2288 c3_i32_2387
  let v2389 : BitVec 32 := Scalar.extui v2388
  let c0_i32_2388 : BitVec 32 := 0#32
  let v2390 : BitVec 1 := Scalar.cmpi .ne v2389 c0_i32_2388
  v2390

def k0_off36 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c512_i32_5042 : BitVec 32 := 512#32
  let v4682 : BitVec 32 := Scalar.muli v3 c512_i32_5042
  let c256_i32_5043 : BitVec 32 := 256#32
  let v4683 : BitVec 32 := Scalar.addi v4682 c256_i32_5043
  let c128_i32_5044 : BitVec 32 := 128#32
  let v4684 : BitVec 32 := Scalar.addi v4683 c128_i32_5044
  let c0_i32_5051 : BitVec 32 := 0#32
  ![v4684.toNat, 0]
def k0_dev98 (d0 : Dev nD) : Nat :=
  let c0_i32_5050 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c3_i32 : BitVec 32 := 3#32
  let v25 : BitVec 32 := Scalar.addi v3 c3_i32
  let c4_i32_8 : BitVec 32 := 4#32
  let v26 : BitVec 32 := Scalar.remsi v25 c4_i32_8
  let v27 : BitVec 32 := Scalar.addi v21 v26
  let c1_i32_5049 : BitVec 32 := 1#32
  let v4685 : BitVec 32 := Scalar.muli v27 c1_i32_5049
  let v4686 : BitVec 32 := Scalar.addi c0_i32_5050 v4685
  v4686.toNat
def k0_cond27 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c8_i32_2285 : BitVec 32 := 8#32
  let v2285 : BitVec 32 := Scalar.addi v20 c8_i32_2285
  let c0_i32_2286 : BitVec 32 := 0#32
  let v2286 : BitVec 32 := Scalar.subi v2285 c0_i32_2286
  let c1_i32_2287 : BitVec 32 := 1#32
  let v2287 : BitVec 32 := Scalar.subi v2286 c1_i32_2287
  let c4_i32_2288 : BitVec 32 := 4#32
  let v2288 : BitVec 32 := Scalar.remsi v2287 c4_i32_2288
  let c1_i32_2389 : BitVec 32 := 1#32
  let v2391 : BitVec 1 := Scalar.cmpi .eq v2288 c1_i32_2389
  let v2392 : BitVec 32 := Scalar.extui v2391
  let c0_i32_2390 : BitVec 32 := 0#32
  let v2393 : BitVec 1 := Scalar.cmpi .ne v2392 c0_i32_2390
  v2393

def k0_off37 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c512_i32_5042 : BitVec 32 := 512#32
  let v4682 : BitVec 32 := Scalar.muli v3 c512_i32_5042
  let c0_i32_5043 : BitVec 32 := 0#32
  let v4683 : BitVec 32 := Scalar.addi v4682 c0_i32_5043
  let c160_i32_5044 : BitVec 32 := 160#32
  let v4684 : BitVec 32 := Scalar.addi v4683 c160_i32_5044
  let c0_i32_5051 : BitVec 32 := 0#32
  ![v4684.toNat, 0]
def k0_dev99 (d0 : Dev nD) : Nat :=
  let c0_i32_5050 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c1_i32_6 : BitVec 32 := 1#32
  let v22 : BitVec 32 := Scalar.addi v3 c1_i32_6
  let c4_i32_7 : BitVec 32 := 4#32
  let v23 : BitVec 32 := Scalar.remsi v22 c4_i32_7
  let v24 : BitVec 32 := Scalar.addi v21 v23
  let c1_i32_5049 : BitVec 32 := 1#32
  let v4685 : BitVec 32 := Scalar.muli v24 c1_i32_5049
  let v4686 : BitVec 32 := Scalar.addi c0_i32_5050 v4685
  v4686.toNat
def k0_cond28 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c8_i32_2285 : BitVec 32 := 8#32
  let v2285 : BitVec 32 := Scalar.addi v20 c8_i32_2285
  let c0_i32_2286 : BitVec 32 := 0#32
  let v2286 : BitVec 32 := Scalar.subi v2285 c0_i32_2286
  let c1_i32_2287 : BitVec 32 := 1#32
  let v2287 : BitVec 32 := Scalar.subi v2286 c1_i32_2287
  let c4_i32_2288 : BitVec 32 := 4#32
  let v2288 : BitVec 32 := Scalar.remsi v2287 c4_i32_2288
  let c3_i32_2391 : BitVec 32 := 3#32
  let v2394 : BitVec 1 := Scalar.cmpi .eq v2288 c3_i32_2391
  let v2395 : BitVec 32 := Scalar.extui v2394
  let c0_i32_2392 : BitVec 32 := 0#32
  let v2396 : BitVec 1 := Scalar.cmpi .ne v2395 c0_i32_2392
  v2396

def k0_off38 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c512_i32_5042 : BitVec 32 := 512#32
  let v4682 : BitVec 32 := Scalar.muli v3 c512_i32_5042
  let c256_i32_5043 : BitVec 32 := 256#32
  let v4683 : BitVec 32 := Scalar.addi v4682 c256_i32_5043
  let c160_i32_5044 : BitVec 32 := 160#32
  let v4684 : BitVec 32 := Scalar.addi v4683 c160_i32_5044
  let c0_i32_5051 : BitVec 32 := 0#32
  ![v4684.toNat, 0]
def k0_dev100 (d0 : Dev nD) : Nat :=
  let c0_i32_5050 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c3_i32 : BitVec 32 := 3#32
  let v25 : BitVec 32 := Scalar.addi v3 c3_i32
  let c4_i32_8 : BitVec 32 := 4#32
  let v26 : BitVec 32 := Scalar.remsi v25 c4_i32_8
  let v27 : BitVec 32 := Scalar.addi v21 v26
  let c1_i32_5049 : BitVec 32 := 1#32
  let v4685 : BitVec 32 := Scalar.muli v27 c1_i32_5049
  let v4686 : BitVec 32 := Scalar.addi c0_i32_5050 v4685
  v4686.toNat
def k0_cond29 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c8_i32_2285 : BitVec 32 := 8#32
  let v2285 : BitVec 32 := Scalar.addi v20 c8_i32_2285
  let c0_i32_2286 : BitVec 32 := 0#32
  let v2286 : BitVec 32 := Scalar.subi v2285 c0_i32_2286
  let c1_i32_2287 : BitVec 32 := 1#32
  let v2287 : BitVec 32 := Scalar.subi v2286 c1_i32_2287
  let c4_i32_2288 : BitVec 32 := 4#32
  let v2288 : BitVec 32 := Scalar.remsi v2287 c4_i32_2288
  let c1_i32_2393 : BitVec 32 := 1#32
  let v2397 : BitVec 1 := Scalar.cmpi .eq v2288 c1_i32_2393
  let v2398 : BitVec 32 := Scalar.extui v2397
  let c0_i32_2394 : BitVec 32 := 0#32
  let v2399 : BitVec 1 := Scalar.cmpi .ne v2398 c0_i32_2394
  v2399

def k0_off39 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c512_i32_5042 : BitVec 32 := 512#32
  let v4682 : BitVec 32 := Scalar.muli v3 c512_i32_5042
  let c0_i32_5043 : BitVec 32 := 0#32
  let v4683 : BitVec 32 := Scalar.addi v4682 c0_i32_5043
  let c192_i32_5044 : BitVec 32 := 192#32
  let v4684 : BitVec 32 := Scalar.addi v4683 c192_i32_5044
  let c0_i32_5051 : BitVec 32 := 0#32
  ![v4684.toNat, 0]
def k0_dev101 (d0 : Dev nD) : Nat :=
  let c0_i32_5050 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c1_i32_6 : BitVec 32 := 1#32
  let v22 : BitVec 32 := Scalar.addi v3 c1_i32_6
  let c4_i32_7 : BitVec 32 := 4#32
  let v23 : BitVec 32 := Scalar.remsi v22 c4_i32_7
  let v24 : BitVec 32 := Scalar.addi v21 v23
  let c1_i32_5049 : BitVec 32 := 1#32
  let v4685 : BitVec 32 := Scalar.muli v24 c1_i32_5049
  let v4686 : BitVec 32 := Scalar.addi c0_i32_5050 v4685
  v4686.toNat
def k0_cond30 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c8_i32_2285 : BitVec 32 := 8#32
  let v2285 : BitVec 32 := Scalar.addi v20 c8_i32_2285
  let c0_i32_2286 : BitVec 32 := 0#32
  let v2286 : BitVec 32 := Scalar.subi v2285 c0_i32_2286
  let c1_i32_2287 : BitVec 32 := 1#32
  let v2287 : BitVec 32 := Scalar.subi v2286 c1_i32_2287
  let c4_i32_2288 : BitVec 32 := 4#32
  let v2288 : BitVec 32 := Scalar.remsi v2287 c4_i32_2288
  let c3_i32_2395 : BitVec 32 := 3#32
  let v2400 : BitVec 1 := Scalar.cmpi .eq v2288 c3_i32_2395
  let v2401 : BitVec 32 := Scalar.extui v2400
  let c0_i32_2396 : BitVec 32 := 0#32
  let v2402 : BitVec 1 := Scalar.cmpi .ne v2401 c0_i32_2396
  v2402

def k0_off40 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c512_i32_5042 : BitVec 32 := 512#32
  let v4682 : BitVec 32 := Scalar.muli v3 c512_i32_5042
  let c256_i32_5043 : BitVec 32 := 256#32
  let v4683 : BitVec 32 := Scalar.addi v4682 c256_i32_5043
  let c192_i32_5044 : BitVec 32 := 192#32
  let v4684 : BitVec 32 := Scalar.addi v4683 c192_i32_5044
  let c0_i32_5051 : BitVec 32 := 0#32
  ![v4684.toNat, 0]
def k0_dev102 (d0 : Dev nD) : Nat :=
  let c0_i32_5050 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c3_i32 : BitVec 32 := 3#32
  let v25 : BitVec 32 := Scalar.addi v3 c3_i32
  let c4_i32_8 : BitVec 32 := 4#32
  let v26 : BitVec 32 := Scalar.remsi v25 c4_i32_8
  let v27 : BitVec 32 := Scalar.addi v21 v26
  let c1_i32_5049 : BitVec 32 := 1#32
  let v4685 : BitVec 32 := Scalar.muli v27 c1_i32_5049
  let v4686 : BitVec 32 := Scalar.addi c0_i32_5050 v4685
  v4686.toNat
def k0_cond31 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c8_i32_2285 : BitVec 32 := 8#32
  let v2285 : BitVec 32 := Scalar.addi v20 c8_i32_2285
  let c0_i32_2286 : BitVec 32 := 0#32
  let v2286 : BitVec 32 := Scalar.subi v2285 c0_i32_2286
  let c1_i32_2287 : BitVec 32 := 1#32
  let v2287 : BitVec 32 := Scalar.subi v2286 c1_i32_2287
  let c4_i32_2288 : BitVec 32 := 4#32
  let v2288 : BitVec 32 := Scalar.remsi v2287 c4_i32_2288
  let c1_i32_2397 : BitVec 32 := 1#32
  let v2403 : BitVec 1 := Scalar.cmpi .eq v2288 c1_i32_2397
  let v2404 : BitVec 32 := Scalar.extui v2403
  let c0_i32_2398 : BitVec 32 := 0#32
  let v2405 : BitVec 1 := Scalar.cmpi .ne v2404 c0_i32_2398
  v2405

def k0_off41 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c512_i32_5042 : BitVec 32 := 512#32
  let v4682 : BitVec 32 := Scalar.muli v3 c512_i32_5042
  let c0_i32_5043 : BitVec 32 := 0#32
  let v4683 : BitVec 32 := Scalar.addi v4682 c0_i32_5043
  let c224_i32_5044 : BitVec 32 := 224#32
  let v4684 : BitVec 32 := Scalar.addi v4683 c224_i32_5044
  let c0_i32_5051 : BitVec 32 := 0#32
  ![v4684.toNat, 0]
def k0_dev103 (d0 : Dev nD) : Nat :=
  let c0_i32_5050 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c1_i32_6 : BitVec 32 := 1#32
  let v22 : BitVec 32 := Scalar.addi v3 c1_i32_6
  let c4_i32_7 : BitVec 32 := 4#32
  let v23 : BitVec 32 := Scalar.remsi v22 c4_i32_7
  let v24 : BitVec 32 := Scalar.addi v21 v23
  let c1_i32_5049 : BitVec 32 := 1#32
  let v4685 : BitVec 32 := Scalar.muli v24 c1_i32_5049
  let v4686 : BitVec 32 := Scalar.addi c0_i32_5050 v4685
  v4686.toNat
def k0_cond32 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c8_i32_2285 : BitVec 32 := 8#32
  let v2285 : BitVec 32 := Scalar.addi v20 c8_i32_2285
  let c0_i32_2286 : BitVec 32 := 0#32
  let v2286 : BitVec 32 := Scalar.subi v2285 c0_i32_2286
  let c1_i32_2287 : BitVec 32 := 1#32
  let v2287 : BitVec 32 := Scalar.subi v2286 c1_i32_2287
  let c4_i32_2288 : BitVec 32 := 4#32
  let v2288 : BitVec 32 := Scalar.remsi v2287 c4_i32_2288
  let c3_i32_2399 : BitVec 32 := 3#32
  let v2406 : BitVec 1 := Scalar.cmpi .eq v2288 c3_i32_2399
  let v2407 : BitVec 32 := Scalar.extui v2406
  let c0_i32_2400 : BitVec 32 := 0#32
  let v2408 : BitVec 1 := Scalar.cmpi .ne v2407 c0_i32_2400
  v2408

def k0_off42 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c512_i32_5042 : BitVec 32 := 512#32
  let v4682 : BitVec 32 := Scalar.muli v3 c512_i32_5042
  let c256_i32_5043 : BitVec 32 := 256#32
  let v4683 : BitVec 32 := Scalar.addi v4682 c256_i32_5043
  let c224_i32_5044 : BitVec 32 := 224#32
  let v4684 : BitVec 32 := Scalar.addi v4683 c224_i32_5044
  let c0_i32_5051 : BitVec 32 := 0#32
  ![v4684.toNat, 0]
def k0_dev104 (d0 : Dev nD) : Nat :=
  let c0_i32_5050 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c3_i32 : BitVec 32 := 3#32
  let v25 : BitVec 32 := Scalar.addi v3 c3_i32
  let c4_i32_8 : BitVec 32 := 4#32
  let v26 : BitVec 32 := Scalar.remsi v25 c4_i32_8
  let v27 : BitVec 32 := Scalar.addi v21 v26
  let c1_i32_5049 : BitVec 32 := 1#32
  let v4685 : BitVec 32 := Scalar.muli v27 c1_i32_5049
  let v4686 : BitVec 32 := Scalar.addi c0_i32_5050 v4685
  v4686.toNat
def k0_off43 (d0 : Dev nD) (c0_i32_2286 : BitVec 32) (c0_i32_2403 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c512_i32_2401 : BitVec 32 := 512#32
  let v2409 : BitVec 32 := Scalar.muli v3 c512_i32_2401
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c8_i32_2285 : BitVec 32 := 8#32
  let v2285 : BitVec 32 := Scalar.addi v20 c8_i32_2285
  let v2286 : BitVec 32 := Scalar.subi v2285 c0_i32_2286
  let c1_i32_2287 : BitVec 32 := 1#32
  let v2287 : BitVec 32 := Scalar.subi v2286 c1_i32_2287
  let c4_i32_2288 : BitVec 32 := 4#32
  let v2288 : BitVec 32 := Scalar.remsi v2287 c4_i32_2288
  let c128_i32_2402 : BitVec 32 := 128#32
  let v2410 : BitVec 32 := Scalar.muli v2288 c128_i32_2402
  let v2411 : BitVec 32 := Scalar.addi v2409 v2410
  let v2412 : BitVec 32 := Scalar.addi v2411 c0_i32_2403
  let v2418 : Index := Scalar.indexCast v2412
  let c0_2407 : Index := 0#32
  ![v2418.toNat, 0]
def k0_dev105 (d0 : Dev nD) : Nat :=
  let c0_i32_2450 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_9 : BitVec 32 := 4#32
  let v28 : BitVec 32 := Scalar.addi v2 c4_i32_9
  let c16_i32_10 : BitVec 32 := 16#32
  let v29 : BitVec 32 := Scalar.remsi v28 c16_i32_10
  let c1_i32_2449 : BitVec 32 := 1#32
  let v2467 : BitVec 32 := Scalar.muli v29 c1_i32_2449
  let v2468 : BitVec 32 := Scalar.addi c0_i32_2450 v2467
  v2468.toNat
def k0_dev106 (d0 : Dev nD) : Nat :=
  let c0_i32_2470 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_9 : BitVec 32 := 4#32
  let v28 : BitVec 32 := Scalar.addi v2 c4_i32_9
  let c16_i32_10 : BitVec 32 := 16#32
  let v29 : BitVec 32 := Scalar.remsi v28 c16_i32_10
  let c1_i32_2469 : BitVec 32 := 1#32
  let v2485 : BitVec 32 := Scalar.muli v29 c1_i32_2469
  let v2486 : BitVec 32 := Scalar.addi c0_i32_2470 v2485
  v2486.toNat
def k0_dev107 (d0 : Dev nD) : Nat :=
  let c0_i32_2490 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_9 : BitVec 32 := 4#32
  let v28 : BitVec 32 := Scalar.addi v2 c4_i32_9
  let c16_i32_10 : BitVec 32 := 16#32
  let v29 : BitVec 32 := Scalar.remsi v28 c16_i32_10
  let c1_i32_2489 : BitVec 32 := 1#32
  let v2503 : BitVec 32 := Scalar.muli v29 c1_i32_2489
  let v2504 : BitVec 32 := Scalar.addi c0_i32_2490 v2503
  v2504.toNat
def k0_dev108 (d0 : Dev nD) : Nat :=
  let c0_i32_2510 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_9 : BitVec 32 := 4#32
  let v28 : BitVec 32 := Scalar.addi v2 c4_i32_9
  let c16_i32_10 : BitVec 32 := 16#32
  let v29 : BitVec 32 := Scalar.remsi v28 c16_i32_10
  let c1_i32_2509 : BitVec 32 := 1#32
  let v2521 : BitVec 32 := Scalar.muli v29 c1_i32_2509
  let v2522 : BitVec 32 := Scalar.addi c0_i32_2510 v2521
  v2522.toNat
def k0_cond33 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c8_i32_2429 : BitVec 32 := 8#32
  let v2453 : BitVec 32 := Scalar.addi v20 c8_i32_2429
  let c1_i32_2430 : BitVec 32 := 1#32
  let v2454 : BitVec 32 := Scalar.subi v2453 c1_i32_2430
  let c1_i32_2431 : BitVec 32 := 1#32
  let v2455 : BitVec 32 := Scalar.subi v2454 c1_i32_2431
  let c4_i32_2432 : BitVec 32 := 4#32
  let v2456 : BitVec 32 := Scalar.remsi v2455 c4_i32_2432
  let c0_i32_2513 : BitVec 32 := 0#32
  let v2529 : BitVec 1 := Scalar.cmpi .eq v2456 c0_i32_2513
  let v2530 : BitVec 32 := Scalar.extui v2529
  let c0_i32_2514 : BitVec 32 := 0#32
  let v2531 : BitVec 1 := Scalar.cmpi .ne v2530 c0_i32_2514
  v2531

def k0_off44 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c512_i32_5042 : BitVec 32 := 512#32
  let v4682 : BitVec 32 := Scalar.muli v3 c512_i32_5042
  let c0_i32_5043 : BitVec 32 := 0#32
  let v4683 : BitVec 32 := Scalar.addi v4682 c0_i32_5043
  let c0_i32_5044 : BitVec 32 := 0#32
  let v4684 : BitVec 32 := Scalar.addi v4683 c0_i32_5044
  let c0_i32_5051 : BitVec 32 := 0#32
  ![v4684.toNat, 0]
def k0_dev109 (d0 : Dev nD) : Nat :=
  let c0_i32_5050 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c1_i32_6 : BitVec 32 := 1#32
  let v22 : BitVec 32 := Scalar.addi v3 c1_i32_6
  let c4_i32_7 : BitVec 32 := 4#32
  let v23 : BitVec 32 := Scalar.remsi v22 c4_i32_7
  let v24 : BitVec 32 := Scalar.addi v21 v23
  let c1_i32_5049 : BitVec 32 := 1#32
  let v4685 : BitVec 32 := Scalar.muli v24 c1_i32_5049
  let v4686 : BitVec 32 := Scalar.addi c0_i32_5050 v4685
  v4686.toNat
def k0_cond34 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c8_i32_2429 : BitVec 32 := 8#32
  let v2453 : BitVec 32 := Scalar.addi v20 c8_i32_2429
  let c1_i32_2430 : BitVec 32 := 1#32
  let v2454 : BitVec 32 := Scalar.subi v2453 c1_i32_2430
  let c1_i32_2431 : BitVec 32 := 1#32
  let v2455 : BitVec 32 := Scalar.subi v2454 c1_i32_2431
  let c4_i32_2432 : BitVec 32 := 4#32
  let v2456 : BitVec 32 := Scalar.remsi v2455 c4_i32_2432
  let c2_i32_2515 : BitVec 32 := 2#32
  let v2532 : BitVec 1 := Scalar.cmpi .eq v2456 c2_i32_2515
  let v2533 : BitVec 32 := Scalar.extui v2532
  let c0_i32_2516 : BitVec 32 := 0#32
  let v2534 : BitVec 1 := Scalar.cmpi .ne v2533 c0_i32_2516
  v2534

def k0_off45 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c512_i32_5042 : BitVec 32 := 512#32
  let v4682 : BitVec 32 := Scalar.muli v3 c512_i32_5042
  let c256_i32_5043 : BitVec 32 := 256#32
  let v4683 : BitVec 32 := Scalar.addi v4682 c256_i32_5043
  let c0_i32_5044 : BitVec 32 := 0#32
  let v4684 : BitVec 32 := Scalar.addi v4683 c0_i32_5044
  let c0_i32_5051 : BitVec 32 := 0#32
  ![v4684.toNat, 0]
def k0_dev110 (d0 : Dev nD) : Nat :=
  let c0_i32_5050 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c3_i32 : BitVec 32 := 3#32
  let v25 : BitVec 32 := Scalar.addi v3 c3_i32
  let c4_i32_8 : BitVec 32 := 4#32
  let v26 : BitVec 32 := Scalar.remsi v25 c4_i32_8
  let v27 : BitVec 32 := Scalar.addi v21 v26
  let c1_i32_5049 : BitVec 32 := 1#32
  let v4685 : BitVec 32 := Scalar.muli v27 c1_i32_5049
  let v4686 : BitVec 32 := Scalar.addi c0_i32_5050 v4685
  v4686.toNat
def k0_cond35 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c8_i32_2429 : BitVec 32 := 8#32
  let v2453 : BitVec 32 := Scalar.addi v20 c8_i32_2429
  let c1_i32_2430 : BitVec 32 := 1#32
  let v2454 : BitVec 32 := Scalar.subi v2453 c1_i32_2430
  let c1_i32_2431 : BitVec 32 := 1#32
  let v2455 : BitVec 32 := Scalar.subi v2454 c1_i32_2431
  let c4_i32_2432 : BitVec 32 := 4#32
  let v2456 : BitVec 32 := Scalar.remsi v2455 c4_i32_2432
  let c0_i32_2517 : BitVec 32 := 0#32
  let v2535 : BitVec 1 := Scalar.cmpi .eq v2456 c0_i32_2517
  let v2536 : BitVec 32 := Scalar.extui v2535
  let c0_i32_2518 : BitVec 32 := 0#32
  let v2537 : BitVec 1 := Scalar.cmpi .ne v2536 c0_i32_2518
  v2537

def k0_off46 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c512_i32_5042 : BitVec 32 := 512#32
  let v4682 : BitVec 32 := Scalar.muli v3 c512_i32_5042
  let c0_i32_5043 : BitVec 32 := 0#32
  let v4683 : BitVec 32 := Scalar.addi v4682 c0_i32_5043
  let c32_i32_5044 : BitVec 32 := 32#32
  let v4684 : BitVec 32 := Scalar.addi v4683 c32_i32_5044
  let c0_i32_5051 : BitVec 32 := 0#32
  ![v4684.toNat, 0]
def k0_dev111 (d0 : Dev nD) : Nat :=
  let c0_i32_5050 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c1_i32_6 : BitVec 32 := 1#32
  let v22 : BitVec 32 := Scalar.addi v3 c1_i32_6
  let c4_i32_7 : BitVec 32 := 4#32
  let v23 : BitVec 32 := Scalar.remsi v22 c4_i32_7
  let v24 : BitVec 32 := Scalar.addi v21 v23
  let c1_i32_5049 : BitVec 32 := 1#32
  let v4685 : BitVec 32 := Scalar.muli v24 c1_i32_5049
  let v4686 : BitVec 32 := Scalar.addi c0_i32_5050 v4685
  v4686.toNat
def k0_cond36 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c8_i32_2429 : BitVec 32 := 8#32
  let v2453 : BitVec 32 := Scalar.addi v20 c8_i32_2429
  let c1_i32_2430 : BitVec 32 := 1#32
  let v2454 : BitVec 32 := Scalar.subi v2453 c1_i32_2430
  let c1_i32_2431 : BitVec 32 := 1#32
  let v2455 : BitVec 32 := Scalar.subi v2454 c1_i32_2431
  let c4_i32_2432 : BitVec 32 := 4#32
  let v2456 : BitVec 32 := Scalar.remsi v2455 c4_i32_2432
  let c2_i32_2519 : BitVec 32 := 2#32
  let v2538 : BitVec 1 := Scalar.cmpi .eq v2456 c2_i32_2519
  let v2539 : BitVec 32 := Scalar.extui v2538
  let c0_i32_2520 : BitVec 32 := 0#32
  let v2540 : BitVec 1 := Scalar.cmpi .ne v2539 c0_i32_2520
  v2540

def k0_off47 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c512_i32_5042 : BitVec 32 := 512#32
  let v4682 : BitVec 32 := Scalar.muli v3 c512_i32_5042
  let c256_i32_5043 : BitVec 32 := 256#32
  let v4683 : BitVec 32 := Scalar.addi v4682 c256_i32_5043
  let c32_i32_5044 : BitVec 32 := 32#32
  let v4684 : BitVec 32 := Scalar.addi v4683 c32_i32_5044
  let c0_i32_5051 : BitVec 32 := 0#32
  ![v4684.toNat, 0]
def k0_dev112 (d0 : Dev nD) : Nat :=
  let c0_i32_5050 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c3_i32 : BitVec 32 := 3#32
  let v25 : BitVec 32 := Scalar.addi v3 c3_i32
  let c4_i32_8 : BitVec 32 := 4#32
  let v26 : BitVec 32 := Scalar.remsi v25 c4_i32_8
  let v27 : BitVec 32 := Scalar.addi v21 v26
  let c1_i32_5049 : BitVec 32 := 1#32
  let v4685 : BitVec 32 := Scalar.muli v27 c1_i32_5049
  let v4686 : BitVec 32 := Scalar.addi c0_i32_5050 v4685
  v4686.toNat
def k0_cond37 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c8_i32_2429 : BitVec 32 := 8#32
  let v2453 : BitVec 32 := Scalar.addi v20 c8_i32_2429
  let c1_i32_2430 : BitVec 32 := 1#32
  let v2454 : BitVec 32 := Scalar.subi v2453 c1_i32_2430
  let c1_i32_2431 : BitVec 32 := 1#32
  let v2455 : BitVec 32 := Scalar.subi v2454 c1_i32_2431
  let c4_i32_2432 : BitVec 32 := 4#32
  let v2456 : BitVec 32 := Scalar.remsi v2455 c4_i32_2432
  let c0_i32_2521 : BitVec 32 := 0#32
  let v2541 : BitVec 1 := Scalar.cmpi .eq v2456 c0_i32_2521
  let v2542 : BitVec 32 := Scalar.extui v2541
  let c0_i32_2522 : BitVec 32 := 0#32
  let v2543 : BitVec 1 := Scalar.cmpi .ne v2542 c0_i32_2522
  v2543

def k0_off48 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c512_i32_5042 : BitVec 32 := 512#32
  let v4682 : BitVec 32 := Scalar.muli v3 c512_i32_5042
  let c0_i32_5043 : BitVec 32 := 0#32
  let v4683 : BitVec 32 := Scalar.addi v4682 c0_i32_5043
  let c64_i32_5044 : BitVec 32 := 64#32
  let v4684 : BitVec 32 := Scalar.addi v4683 c64_i32_5044
  let c0_i32_5051 : BitVec 32 := 0#32
  ![v4684.toNat, 0]
def k0_dev113 (d0 : Dev nD) : Nat :=
  let c0_i32_5050 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c1_i32_6 : BitVec 32 := 1#32
  let v22 : BitVec 32 := Scalar.addi v3 c1_i32_6
  let c4_i32_7 : BitVec 32 := 4#32
  let v23 : BitVec 32 := Scalar.remsi v22 c4_i32_7
  let v24 : BitVec 32 := Scalar.addi v21 v23
  let c1_i32_5049 : BitVec 32 := 1#32
  let v4685 : BitVec 32 := Scalar.muli v24 c1_i32_5049
  let v4686 : BitVec 32 := Scalar.addi c0_i32_5050 v4685
  v4686.toNat
def k0_cond38 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c8_i32_2429 : BitVec 32 := 8#32
  let v2453 : BitVec 32 := Scalar.addi v20 c8_i32_2429
  let c1_i32_2430 : BitVec 32 := 1#32
  let v2454 : BitVec 32 := Scalar.subi v2453 c1_i32_2430
  let c1_i32_2431 : BitVec 32 := 1#32
  let v2455 : BitVec 32 := Scalar.subi v2454 c1_i32_2431
  let c4_i32_2432 : BitVec 32 := 4#32
  let v2456 : BitVec 32 := Scalar.remsi v2455 c4_i32_2432
  let c2_i32_2523 : BitVec 32 := 2#32
  let v2544 : BitVec 1 := Scalar.cmpi .eq v2456 c2_i32_2523
  let v2545 : BitVec 32 := Scalar.extui v2544
  let c0_i32_2524 : BitVec 32 := 0#32
  let v2546 : BitVec 1 := Scalar.cmpi .ne v2545 c0_i32_2524
  v2546

def k0_off49 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c512_i32_5042 : BitVec 32 := 512#32
  let v4682 : BitVec 32 := Scalar.muli v3 c512_i32_5042
  let c256_i32_5043 : BitVec 32 := 256#32
  let v4683 : BitVec 32 := Scalar.addi v4682 c256_i32_5043
  let c64_i32_5044 : BitVec 32 := 64#32
  let v4684 : BitVec 32 := Scalar.addi v4683 c64_i32_5044
  let c0_i32_5051 : BitVec 32 := 0#32
  ![v4684.toNat, 0]
def k0_dev114 (d0 : Dev nD) : Nat :=
  let c0_i32_5050 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c3_i32 : BitVec 32 := 3#32
  let v25 : BitVec 32 := Scalar.addi v3 c3_i32
  let c4_i32_8 : BitVec 32 := 4#32
  let v26 : BitVec 32 := Scalar.remsi v25 c4_i32_8
  let v27 : BitVec 32 := Scalar.addi v21 v26
  let c1_i32_5049 : BitVec 32 := 1#32
  let v4685 : BitVec 32 := Scalar.muli v27 c1_i32_5049
  let v4686 : BitVec 32 := Scalar.addi c0_i32_5050 v4685
  v4686.toNat
def k0_cond39 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c8_i32_2429 : BitVec 32 := 8#32
  let v2453 : BitVec 32 := Scalar.addi v20 c8_i32_2429
  let c1_i32_2430 : BitVec 32 := 1#32
  let v2454 : BitVec 32 := Scalar.subi v2453 c1_i32_2430
  let c1_i32_2431 : BitVec 32 := 1#32
  let v2455 : BitVec 32 := Scalar.subi v2454 c1_i32_2431
  let c4_i32_2432 : BitVec 32 := 4#32
  let v2456 : BitVec 32 := Scalar.remsi v2455 c4_i32_2432
  let c0_i32_2525 : BitVec 32 := 0#32
  let v2547 : BitVec 1 := Scalar.cmpi .eq v2456 c0_i32_2525
  let v2548 : BitVec 32 := Scalar.extui v2547
  let c0_i32_2526 : BitVec 32 := 0#32
  let v2549 : BitVec 1 := Scalar.cmpi .ne v2548 c0_i32_2526
  v2549

def k0_off50 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c512_i32_5042 : BitVec 32 := 512#32
  let v4682 : BitVec 32 := Scalar.muli v3 c512_i32_5042
  let c0_i32_5043 : BitVec 32 := 0#32
  let v4683 : BitVec 32 := Scalar.addi v4682 c0_i32_5043
  let c96_i32_5044 : BitVec 32 := 96#32
  let v4684 : BitVec 32 := Scalar.addi v4683 c96_i32_5044
  let c0_i32_5051 : BitVec 32 := 0#32
  ![v4684.toNat, 0]
def k0_dev115 (d0 : Dev nD) : Nat :=
  let c0_i32_5050 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c1_i32_6 : BitVec 32 := 1#32
  let v22 : BitVec 32 := Scalar.addi v3 c1_i32_6
  let c4_i32_7 : BitVec 32 := 4#32
  let v23 : BitVec 32 := Scalar.remsi v22 c4_i32_7
  let v24 : BitVec 32 := Scalar.addi v21 v23
  let c1_i32_5049 : BitVec 32 := 1#32
  let v4685 : BitVec 32 := Scalar.muli v24 c1_i32_5049
  let v4686 : BitVec 32 := Scalar.addi c0_i32_5050 v4685
  v4686.toNat
def k0_cond40 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c8_i32_2429 : BitVec 32 := 8#32
  let v2453 : BitVec 32 := Scalar.addi v20 c8_i32_2429
  let c1_i32_2430 : BitVec 32 := 1#32
  let v2454 : BitVec 32 := Scalar.subi v2453 c1_i32_2430
  let c1_i32_2431 : BitVec 32 := 1#32
  let v2455 : BitVec 32 := Scalar.subi v2454 c1_i32_2431
  let c4_i32_2432 : BitVec 32 := 4#32
  let v2456 : BitVec 32 := Scalar.remsi v2455 c4_i32_2432
  let c2_i32_2527 : BitVec 32 := 2#32
  let v2550 : BitVec 1 := Scalar.cmpi .eq v2456 c2_i32_2527
  let v2551 : BitVec 32 := Scalar.extui v2550
  let c0_i32_2528 : BitVec 32 := 0#32
  let v2552 : BitVec 1 := Scalar.cmpi .ne v2551 c0_i32_2528
  v2552

def k0_off51 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c512_i32_5042 : BitVec 32 := 512#32
  let v4682 : BitVec 32 := Scalar.muli v3 c512_i32_5042
  let c256_i32_5043 : BitVec 32 := 256#32
  let v4683 : BitVec 32 := Scalar.addi v4682 c256_i32_5043
  let c96_i32_5044 : BitVec 32 := 96#32
  let v4684 : BitVec 32 := Scalar.addi v4683 c96_i32_5044
  let c0_i32_5051 : BitVec 32 := 0#32
  ![v4684.toNat, 0]
def k0_dev116 (d0 : Dev nD) : Nat :=
  let c0_i32_5050 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c3_i32 : BitVec 32 := 3#32
  let v25 : BitVec 32 := Scalar.addi v3 c3_i32
  let c4_i32_8 : BitVec 32 := 4#32
  let v26 : BitVec 32 := Scalar.remsi v25 c4_i32_8
  let v27 : BitVec 32 := Scalar.addi v21 v26
  let c1_i32_5049 : BitVec 32 := 1#32
  let v4685 : BitVec 32 := Scalar.muli v27 c1_i32_5049
  let v4686 : BitVec 32 := Scalar.addi c0_i32_5050 v4685
  v4686.toNat
def k0_cond41 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c8_i32_2429 : BitVec 32 := 8#32
  let v2453 : BitVec 32 := Scalar.addi v20 c8_i32_2429
  let c1_i32_2430 : BitVec 32 := 1#32
  let v2454 : BitVec 32 := Scalar.subi v2453 c1_i32_2430
  let c1_i32_2431 : BitVec 32 := 1#32
  let v2455 : BitVec 32 := Scalar.subi v2454 c1_i32_2431
  let c4_i32_2432 : BitVec 32 := 4#32
  let v2456 : BitVec 32 := Scalar.remsi v2455 c4_i32_2432
  let c1_i32_2529 : BitVec 32 := 1#32
  let v2553 : BitVec 1 := Scalar.cmpi .eq v2456 c1_i32_2529
  let v2554 : BitVec 32 := Scalar.extui v2553
  let c0_i32_2530 : BitVec 32 := 0#32
  let v2555 : BitVec 1 := Scalar.cmpi .ne v2554 c0_i32_2530
  v2555

def k0_off52 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c512_i32_5042 : BitVec 32 := 512#32
  let v4682 : BitVec 32 := Scalar.muli v3 c512_i32_5042
  let c0_i32_5043 : BitVec 32 := 0#32
  let v4683 : BitVec 32 := Scalar.addi v4682 c0_i32_5043
  let c128_i32_5044 : BitVec 32 := 128#32
  let v4684 : BitVec 32 := Scalar.addi v4683 c128_i32_5044
  let c0_i32_5051 : BitVec 32 := 0#32
  ![v4684.toNat, 0]
def k0_dev117 (d0 : Dev nD) : Nat :=
  let c0_i32_5050 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c1_i32_6 : BitVec 32 := 1#32
  let v22 : BitVec 32 := Scalar.addi v3 c1_i32_6
  let c4_i32_7 : BitVec 32 := 4#32
  let v23 : BitVec 32 := Scalar.remsi v22 c4_i32_7
  let v24 : BitVec 32 := Scalar.addi v21 v23
  let c1_i32_5049 : BitVec 32 := 1#32
  let v4685 : BitVec 32 := Scalar.muli v24 c1_i32_5049
  let v4686 : BitVec 32 := Scalar.addi c0_i32_5050 v4685
  v4686.toNat
def k0_cond42 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c8_i32_2429 : BitVec 32 := 8#32
  let v2453 : BitVec 32 := Scalar.addi v20 c8_i32_2429
  let c1_i32_2430 : BitVec 32 := 1#32
  let v2454 : BitVec 32 := Scalar.subi v2453 c1_i32_2430
  let c1_i32_2431 : BitVec 32 := 1#32
  let v2455 : BitVec 32 := Scalar.subi v2454 c1_i32_2431
  let c4_i32_2432 : BitVec 32 := 4#32
  let v2456 : BitVec 32 := Scalar.remsi v2455 c4_i32_2432
  let c3_i32_2531 : BitVec 32 := 3#32
  let v2556 : BitVec 1 := Scalar.cmpi .eq v2456 c3_i32_2531
  let v2557 : BitVec 32 := Scalar.extui v2556
  let c0_i32_2532 : BitVec 32 := 0#32
  let v2558 : BitVec 1 := Scalar.cmpi .ne v2557 c0_i32_2532
  v2558

def k0_off53 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c512_i32_5042 : BitVec 32 := 512#32
  let v4682 : BitVec 32 := Scalar.muli v3 c512_i32_5042
  let c256_i32_5043 : BitVec 32 := 256#32
  let v4683 : BitVec 32 := Scalar.addi v4682 c256_i32_5043
  let c128_i32_5044 : BitVec 32 := 128#32
  let v4684 : BitVec 32 := Scalar.addi v4683 c128_i32_5044
  let c0_i32_5051 : BitVec 32 := 0#32
  ![v4684.toNat, 0]
def k0_dev118 (d0 : Dev nD) : Nat :=
  let c0_i32_5050 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c3_i32 : BitVec 32 := 3#32
  let v25 : BitVec 32 := Scalar.addi v3 c3_i32
  let c4_i32_8 : BitVec 32 := 4#32
  let v26 : BitVec 32 := Scalar.remsi v25 c4_i32_8
  let v27 : BitVec 32 := Scalar.addi v21 v26
  let c1_i32_5049 : BitVec 32 := 1#32
  let v4685 : BitVec 32 := Scalar.muli v27 c1_i32_5049
  let v4686 : BitVec 32 := Scalar.addi c0_i32_5050 v4685
  v4686.toNat
def k0_cond43 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c8_i32_2429 : BitVec 32 := 8#32
  let v2453 : BitVec 32 := Scalar.addi v20 c8_i32_2429
  let c1_i32_2430 : BitVec 32 := 1#32
  let v2454 : BitVec 32 := Scalar.subi v2453 c1_i32_2430
  let c1_i32_2431 : BitVec 32 := 1#32
  let v2455 : BitVec 32 := Scalar.subi v2454 c1_i32_2431
  let c4_i32_2432 : BitVec 32 := 4#32
  let v2456 : BitVec 32 := Scalar.remsi v2455 c4_i32_2432
  let c1_i32_2533 : BitVec 32 := 1#32
  let v2559 : BitVec 1 := Scalar.cmpi .eq v2456 c1_i32_2533
  let v2560 : BitVec 32 := Scalar.extui v2559
  let c0_i32_2534 : BitVec 32 := 0#32
  let v2561 : BitVec 1 := Scalar.cmpi .ne v2560 c0_i32_2534
  v2561

def k0_off54 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c512_i32_5042 : BitVec 32 := 512#32
  let v4682 : BitVec 32 := Scalar.muli v3 c512_i32_5042
  let c0_i32_5043 : BitVec 32 := 0#32
  let v4683 : BitVec 32 := Scalar.addi v4682 c0_i32_5043
  let c160_i32_5044 : BitVec 32 := 160#32
  let v4684 : BitVec 32 := Scalar.addi v4683 c160_i32_5044
  let c0_i32_5051 : BitVec 32 := 0#32
  ![v4684.toNat, 0]
def k0_dev119 (d0 : Dev nD) : Nat :=
  let c0_i32_5050 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c1_i32_6 : BitVec 32 := 1#32
  let v22 : BitVec 32 := Scalar.addi v3 c1_i32_6
  let c4_i32_7 : BitVec 32 := 4#32
  let v23 : BitVec 32 := Scalar.remsi v22 c4_i32_7
  let v24 : BitVec 32 := Scalar.addi v21 v23
  let c1_i32_5049 : BitVec 32 := 1#32
  let v4685 : BitVec 32 := Scalar.muli v24 c1_i32_5049
  let v4686 : BitVec 32 := Scalar.addi c0_i32_5050 v4685
  v4686.toNat
def k0_cond44 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c8_i32_2429 : BitVec 32 := 8#32
  let v2453 : BitVec 32 := Scalar.addi v20 c8_i32_2429
  let c1_i32_2430 : BitVec 32 := 1#32
  let v2454 : BitVec 32 := Scalar.subi v2453 c1_i32_2430
  let c1_i32_2431 : BitVec 32 := 1#32
  let v2455 : BitVec 32 := Scalar.subi v2454 c1_i32_2431
  let c4_i32_2432 : BitVec 32 := 4#32
  let v2456 : BitVec 32 := Scalar.remsi v2455 c4_i32_2432
  let c3_i32_2535 : BitVec 32 := 3#32
  let v2562 : BitVec 1 := Scalar.cmpi .eq v2456 c3_i32_2535
  let v2563 : BitVec 32 := Scalar.extui v2562
  let c0_i32_2536 : BitVec 32 := 0#32
  let v2564 : BitVec 1 := Scalar.cmpi .ne v2563 c0_i32_2536
  v2564

def k0_off55 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c512_i32_5042 : BitVec 32 := 512#32
  let v4682 : BitVec 32 := Scalar.muli v3 c512_i32_5042
  let c256_i32_5043 : BitVec 32 := 256#32
  let v4683 : BitVec 32 := Scalar.addi v4682 c256_i32_5043
  let c160_i32_5044 : BitVec 32 := 160#32
  let v4684 : BitVec 32 := Scalar.addi v4683 c160_i32_5044
  let c0_i32_5051 : BitVec 32 := 0#32
  ![v4684.toNat, 0]
def k0_dev120 (d0 : Dev nD) : Nat :=
  let c0_i32_5050 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c3_i32 : BitVec 32 := 3#32
  let v25 : BitVec 32 := Scalar.addi v3 c3_i32
  let c4_i32_8 : BitVec 32 := 4#32
  let v26 : BitVec 32 := Scalar.remsi v25 c4_i32_8
  let v27 : BitVec 32 := Scalar.addi v21 v26
  let c1_i32_5049 : BitVec 32 := 1#32
  let v4685 : BitVec 32 := Scalar.muli v27 c1_i32_5049
  let v4686 : BitVec 32 := Scalar.addi c0_i32_5050 v4685
  v4686.toNat
def k0_cond45 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c8_i32_2429 : BitVec 32 := 8#32
  let v2453 : BitVec 32 := Scalar.addi v20 c8_i32_2429
  let c1_i32_2430 : BitVec 32 := 1#32
  let v2454 : BitVec 32 := Scalar.subi v2453 c1_i32_2430
  let c1_i32_2431 : BitVec 32 := 1#32
  let v2455 : BitVec 32 := Scalar.subi v2454 c1_i32_2431
  let c4_i32_2432 : BitVec 32 := 4#32
  let v2456 : BitVec 32 := Scalar.remsi v2455 c4_i32_2432
  let c1_i32_2537 : BitVec 32 := 1#32
  let v2565 : BitVec 1 := Scalar.cmpi .eq v2456 c1_i32_2537
  let v2566 : BitVec 32 := Scalar.extui v2565
  let c0_i32_2538 : BitVec 32 := 0#32
  let v2567 : BitVec 1 := Scalar.cmpi .ne v2566 c0_i32_2538
  v2567

def k0_off56 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c512_i32_5042 : BitVec 32 := 512#32
  let v4682 : BitVec 32 := Scalar.muli v3 c512_i32_5042
  let c0_i32_5043 : BitVec 32 := 0#32
  let v4683 : BitVec 32 := Scalar.addi v4682 c0_i32_5043
  let c192_i32_5044 : BitVec 32 := 192#32
  let v4684 : BitVec 32 := Scalar.addi v4683 c192_i32_5044
  let c0_i32_5051 : BitVec 32 := 0#32
  ![v4684.toNat, 0]
def k0_dev121 (d0 : Dev nD) : Nat :=
  let c0_i32_5050 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c1_i32_6 : BitVec 32 := 1#32
  let v22 : BitVec 32 := Scalar.addi v3 c1_i32_6
  let c4_i32_7 : BitVec 32 := 4#32
  let v23 : BitVec 32 := Scalar.remsi v22 c4_i32_7
  let v24 : BitVec 32 := Scalar.addi v21 v23
  let c1_i32_5049 : BitVec 32 := 1#32
  let v4685 : BitVec 32 := Scalar.muli v24 c1_i32_5049
  let v4686 : BitVec 32 := Scalar.addi c0_i32_5050 v4685
  v4686.toNat
def k0_cond46 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c8_i32_2429 : BitVec 32 := 8#32
  let v2453 : BitVec 32 := Scalar.addi v20 c8_i32_2429
  let c1_i32_2430 : BitVec 32 := 1#32
  let v2454 : BitVec 32 := Scalar.subi v2453 c1_i32_2430
  let c1_i32_2431 : BitVec 32 := 1#32
  let v2455 : BitVec 32 := Scalar.subi v2454 c1_i32_2431
  let c4_i32_2432 : BitVec 32 := 4#32
  let v2456 : BitVec 32 := Scalar.remsi v2455 c4_i32_2432
  let c3_i32_2539 : BitVec 32 := 3#32
  let v2568 : BitVec 1 := Scalar.cmpi .eq v2456 c3_i32_2539
  let v2569 : BitVec 32 := Scalar.extui v2568
  let c0_i32_2540 : BitVec 32 := 0#32
  let v2570 : BitVec 1 := Scalar.cmpi .ne v2569 c0_i32_2540
  v2570

def k0_off57 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c512_i32_5042 : BitVec 32 := 512#32
  let v4682 : BitVec 32 := Scalar.muli v3 c512_i32_5042
  let c256_i32_5043 : BitVec 32 := 256#32
  let v4683 : BitVec 32 := Scalar.addi v4682 c256_i32_5043
  let c192_i32_5044 : BitVec 32 := 192#32
  let v4684 : BitVec 32 := Scalar.addi v4683 c192_i32_5044
  let c0_i32_5051 : BitVec 32 := 0#32
  ![v4684.toNat, 0]
def k0_dev122 (d0 : Dev nD) : Nat :=
  let c0_i32_5050 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c3_i32 : BitVec 32 := 3#32
  let v25 : BitVec 32 := Scalar.addi v3 c3_i32
  let c4_i32_8 : BitVec 32 := 4#32
  let v26 : BitVec 32 := Scalar.remsi v25 c4_i32_8
  let v27 : BitVec 32 := Scalar.addi v21 v26
  let c1_i32_5049 : BitVec 32 := 1#32
  let v4685 : BitVec 32 := Scalar.muli v27 c1_i32_5049
  let v4686 : BitVec 32 := Scalar.addi c0_i32_5050 v4685
  v4686.toNat
def k0_cond47 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c8_i32_2429 : BitVec 32 := 8#32
  let v2453 : BitVec 32 := Scalar.addi v20 c8_i32_2429
  let c1_i32_2430 : BitVec 32 := 1#32
  let v2454 : BitVec 32 := Scalar.subi v2453 c1_i32_2430
  let c1_i32_2431 : BitVec 32 := 1#32
  let v2455 : BitVec 32 := Scalar.subi v2454 c1_i32_2431
  let c4_i32_2432 : BitVec 32 := 4#32
  let v2456 : BitVec 32 := Scalar.remsi v2455 c4_i32_2432
  let c1_i32_2541 : BitVec 32 := 1#32
  let v2571 : BitVec 1 := Scalar.cmpi .eq v2456 c1_i32_2541
  let v2572 : BitVec 32 := Scalar.extui v2571
  let c0_i32_2542 : BitVec 32 := 0#32
  let v2573 : BitVec 1 := Scalar.cmpi .ne v2572 c0_i32_2542
  v2573

def k0_off58 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c512_i32_5042 : BitVec 32 := 512#32
  let v4682 : BitVec 32 := Scalar.muli v3 c512_i32_5042
  let c0_i32_5043 : BitVec 32 := 0#32
  let v4683 : BitVec 32 := Scalar.addi v4682 c0_i32_5043
  let c224_i32_5044 : BitVec 32 := 224#32
  let v4684 : BitVec 32 := Scalar.addi v4683 c224_i32_5044
  let c0_i32_5051 : BitVec 32 := 0#32
  ![v4684.toNat, 0]
def k0_dev123 (d0 : Dev nD) : Nat :=
  let c0_i32_5050 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c1_i32_6 : BitVec 32 := 1#32
  let v22 : BitVec 32 := Scalar.addi v3 c1_i32_6
  let c4_i32_7 : BitVec 32 := 4#32
  let v23 : BitVec 32 := Scalar.remsi v22 c4_i32_7
  let v24 : BitVec 32 := Scalar.addi v21 v23
  let c1_i32_5049 : BitVec 32 := 1#32
  let v4685 : BitVec 32 := Scalar.muli v24 c1_i32_5049
  let v4686 : BitVec 32 := Scalar.addi c0_i32_5050 v4685
  v4686.toNat
def k0_cond48 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c8_i32_2429 : BitVec 32 := 8#32
  let v2453 : BitVec 32 := Scalar.addi v20 c8_i32_2429
  let c1_i32_2430 : BitVec 32 := 1#32
  let v2454 : BitVec 32 := Scalar.subi v2453 c1_i32_2430
  let c1_i32_2431 : BitVec 32 := 1#32
  let v2455 : BitVec 32 := Scalar.subi v2454 c1_i32_2431
  let c4_i32_2432 : BitVec 32 := 4#32
  let v2456 : BitVec 32 := Scalar.remsi v2455 c4_i32_2432
  let c3_i32_2543 : BitVec 32 := 3#32
  let v2574 : BitVec 1 := Scalar.cmpi .eq v2456 c3_i32_2543
  let v2575 : BitVec 32 := Scalar.extui v2574
  let c0_i32_2544 : BitVec 32 := 0#32
  let v2576 : BitVec 1 := Scalar.cmpi .ne v2575 c0_i32_2544
  v2576

def k0_off59 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c512_i32_5042 : BitVec 32 := 512#32
  let v4682 : BitVec 32 := Scalar.muli v3 c512_i32_5042
  let c256_i32_5043 : BitVec 32 := 256#32
  let v4683 : BitVec 32 := Scalar.addi v4682 c256_i32_5043
  let c224_i32_5044 : BitVec 32 := 224#32
  let v4684 : BitVec 32 := Scalar.addi v4683 c224_i32_5044
  let c0_i32_5051 : BitVec 32 := 0#32
  ![v4684.toNat, 0]
def k0_dev124 (d0 : Dev nD) : Nat :=
  let c0_i32_5050 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c3_i32 : BitVec 32 := 3#32
  let v25 : BitVec 32 := Scalar.addi v3 c3_i32
  let c4_i32_8 : BitVec 32 := 4#32
  let v26 : BitVec 32 := Scalar.remsi v25 c4_i32_8
  let v27 : BitVec 32 := Scalar.addi v21 v26
  let c1_i32_5049 : BitVec 32 := 1#32
  let v4685 : BitVec 32 := Scalar.muli v27 c1_i32_5049
  let v4686 : BitVec 32 := Scalar.addi c0_i32_5050 v4685
  v4686.toNat
def k0_cond49 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c8_i32_2573 : BitVec 32 := 8#32
  let v2621 : BitVec 32 := Scalar.addi v20 c8_i32_2573
  let c2_i32_2574 : BitVec 32 := 2#32
  let v2622 : BitVec 32 := Scalar.subi v2621 c2_i32_2574
  let c1_i32_2575 : BitVec 32 := 1#32
  let v2623 : BitVec 32 := Scalar.subi v2622 c1_i32_2575
  let c4_i32_2576 : BitVec 32 := 4#32
  let v2624 : BitVec 32 := Scalar.remsi v2623 c4_i32_2576
  let c0_i32_2617 : BitVec 32 := 0#32
  let v2657 : BitVec 1 := Scalar.cmpi .eq v2624 c0_i32_2617
  let v2658 : BitVec 32 := Scalar.extui v2657
  let c0_i32_2618 : BitVec 32 := 0#32
  let v2659 : BitVec 1 := Scalar.cmpi .ne v2658 c0_i32_2618
  v2659

def k0_off60 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c512_i32_5042 : BitVec 32 := 512#32
  let v4682 : BitVec 32 := Scalar.muli v3 c512_i32_5042
  let c0_i32_5043 : BitVec 32 := 0#32
  let v4683 : BitVec 32 := Scalar.addi v4682 c0_i32_5043
  let c0_i32_5044 : BitVec 32 := 0#32
  let v4684 : BitVec 32 := Scalar.addi v4683 c0_i32_5044
  let c0_i32_5051 : BitVec 32 := 0#32
  ![v4684.toNat, 0]
def k0_dev125 (d0 : Dev nD) : Nat :=
  let c0_i32_5050 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c1_i32_6 : BitVec 32 := 1#32
  let v22 : BitVec 32 := Scalar.addi v3 c1_i32_6
  let c4_i32_7 : BitVec 32 := 4#32
  let v23 : BitVec 32 := Scalar.remsi v22 c4_i32_7
  let v24 : BitVec 32 := Scalar.addi v21 v23
  let c1_i32_5049 : BitVec 32 := 1#32
  let v4685 : BitVec 32 := Scalar.muli v24 c1_i32_5049
  let v4686 : BitVec 32 := Scalar.addi c0_i32_5050 v4685
  v4686.toNat
def k0_cond50 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c8_i32_2573 : BitVec 32 := 8#32
  let v2621 : BitVec 32 := Scalar.addi v20 c8_i32_2573
  let c2_i32_2574 : BitVec 32 := 2#32
  let v2622 : BitVec 32 := Scalar.subi v2621 c2_i32_2574
  let c1_i32_2575 : BitVec 32 := 1#32
  let v2623 : BitVec 32 := Scalar.subi v2622 c1_i32_2575
  let c4_i32_2576 : BitVec 32 := 4#32
  let v2624 : BitVec 32 := Scalar.remsi v2623 c4_i32_2576
  let c2_i32_2619 : BitVec 32 := 2#32
  let v2660 : BitVec 1 := Scalar.cmpi .eq v2624 c2_i32_2619
  let v2661 : BitVec 32 := Scalar.extui v2660
  let c0_i32_2620 : BitVec 32 := 0#32
  let v2662 : BitVec 1 := Scalar.cmpi .ne v2661 c0_i32_2620
  v2662

def k0_off61 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c512_i32_5042 : BitVec 32 := 512#32
  let v4682 : BitVec 32 := Scalar.muli v3 c512_i32_5042
  let c256_i32_5043 : BitVec 32 := 256#32
  let v4683 : BitVec 32 := Scalar.addi v4682 c256_i32_5043
  let c0_i32_5044 : BitVec 32 := 0#32
  let v4684 : BitVec 32 := Scalar.addi v4683 c0_i32_5044
  let c0_i32_5051 : BitVec 32 := 0#32
  ![v4684.toNat, 0]
def k0_dev126 (d0 : Dev nD) : Nat :=
  let c0_i32_5050 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c3_i32 : BitVec 32 := 3#32
  let v25 : BitVec 32 := Scalar.addi v3 c3_i32
  let c4_i32_8 : BitVec 32 := 4#32
  let v26 : BitVec 32 := Scalar.remsi v25 c4_i32_8
  let v27 : BitVec 32 := Scalar.addi v21 v26
  let c1_i32_5049 : BitVec 32 := 1#32
  let v4685 : BitVec 32 := Scalar.muli v27 c1_i32_5049
  let v4686 : BitVec 32 := Scalar.addi c0_i32_5050 v4685
  v4686.toNat
def k0_cond51 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c8_i32_2573 : BitVec 32 := 8#32
  let v2621 : BitVec 32 := Scalar.addi v20 c8_i32_2573
  let c2_i32_2574 : BitVec 32 := 2#32
  let v2622 : BitVec 32 := Scalar.subi v2621 c2_i32_2574
  let c1_i32_2575 : BitVec 32 := 1#32
  let v2623 : BitVec 32 := Scalar.subi v2622 c1_i32_2575
  let c4_i32_2576 : BitVec 32 := 4#32
  let v2624 : BitVec 32 := Scalar.remsi v2623 c4_i32_2576
  let c0_i32_2621 : BitVec 32 := 0#32
  let v2663 : BitVec 1 := Scalar.cmpi .eq v2624 c0_i32_2621
  let v2664 : BitVec 32 := Scalar.extui v2663
  let c0_i32_2622 : BitVec 32 := 0#32
  let v2665 : BitVec 1 := Scalar.cmpi .ne v2664 c0_i32_2622
  v2665

def k0_off62 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c512_i32_5042 : BitVec 32 := 512#32
  let v4682 : BitVec 32 := Scalar.muli v3 c512_i32_5042
  let c0_i32_5043 : BitVec 32 := 0#32
  let v4683 : BitVec 32 := Scalar.addi v4682 c0_i32_5043
  let c32_i32_5044 : BitVec 32 := 32#32
  let v4684 : BitVec 32 := Scalar.addi v4683 c32_i32_5044
  let c0_i32_5051 : BitVec 32 := 0#32
  ![v4684.toNat, 0]
def k0_dev127 (d0 : Dev nD) : Nat :=
  let c0_i32_5050 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c1_i32_6 : BitVec 32 := 1#32
  let v22 : BitVec 32 := Scalar.addi v3 c1_i32_6
  let c4_i32_7 : BitVec 32 := 4#32
  let v23 : BitVec 32 := Scalar.remsi v22 c4_i32_7
  let v24 : BitVec 32 := Scalar.addi v21 v23
  let c1_i32_5049 : BitVec 32 := 1#32
  let v4685 : BitVec 32 := Scalar.muli v24 c1_i32_5049
  let v4686 : BitVec 32 := Scalar.addi c0_i32_5050 v4685
  v4686.toNat
def k0_cond52 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c8_i32_2573 : BitVec 32 := 8#32
  let v2621 : BitVec 32 := Scalar.addi v20 c8_i32_2573
  let c2_i32_2574 : BitVec 32 := 2#32
  let v2622 : BitVec 32 := Scalar.subi v2621 c2_i32_2574
  let c1_i32_2575 : BitVec 32 := 1#32
  let v2623 : BitVec 32 := Scalar.subi v2622 c1_i32_2575
  let c4_i32_2576 : BitVec 32 := 4#32
  let v2624 : BitVec 32 := Scalar.remsi v2623 c4_i32_2576
  let c2_i32_2623 : BitVec 32 := 2#32
  let v2666 : BitVec 1 := Scalar.cmpi .eq v2624 c2_i32_2623
  let v2667 : BitVec 32 := Scalar.extui v2666
  let c0_i32_2624 : BitVec 32 := 0#32
  let v2668 : BitVec 1 := Scalar.cmpi .ne v2667 c0_i32_2624
  v2668

def k0_off63 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c512_i32_5042 : BitVec 32 := 512#32
  let v4682 : BitVec 32 := Scalar.muli v3 c512_i32_5042
  let c256_i32_5043 : BitVec 32 := 256#32
  let v4683 : BitVec 32 := Scalar.addi v4682 c256_i32_5043
  let c32_i32_5044 : BitVec 32 := 32#32
  let v4684 : BitVec 32 := Scalar.addi v4683 c32_i32_5044
  let c0_i32_5051 : BitVec 32 := 0#32
  ![v4684.toNat, 0]
def k0_dev128 (d0 : Dev nD) : Nat :=
  let c0_i32_5050 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c3_i32 : BitVec 32 := 3#32
  let v25 : BitVec 32 := Scalar.addi v3 c3_i32
  let c4_i32_8 : BitVec 32 := 4#32
  let v26 : BitVec 32 := Scalar.remsi v25 c4_i32_8
  let v27 : BitVec 32 := Scalar.addi v21 v26
  let c1_i32_5049 : BitVec 32 := 1#32
  let v4685 : BitVec 32 := Scalar.muli v27 c1_i32_5049
  let v4686 : BitVec 32 := Scalar.addi c0_i32_5050 v4685
  v4686.toNat
def k0_cond53 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c8_i32_2573 : BitVec 32 := 8#32
  let v2621 : BitVec 32 := Scalar.addi v20 c8_i32_2573
  let c2_i32_2574 : BitVec 32 := 2#32
  let v2622 : BitVec 32 := Scalar.subi v2621 c2_i32_2574
  let c1_i32_2575 : BitVec 32 := 1#32
  let v2623 : BitVec 32 := Scalar.subi v2622 c1_i32_2575
  let c4_i32_2576 : BitVec 32 := 4#32
  let v2624 : BitVec 32 := Scalar.remsi v2623 c4_i32_2576
  let c0_i32_2625 : BitVec 32 := 0#32
  let v2669 : BitVec 1 := Scalar.cmpi .eq v2624 c0_i32_2625
  let v2670 : BitVec 32 := Scalar.extui v2669
  let c0_i32_2626 : BitVec 32 := 0#32
  let v2671 : BitVec 1 := Scalar.cmpi .ne v2670 c0_i32_2626
  v2671

def k0_off64 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c512_i32_5042 : BitVec 32 := 512#32
  let v4682 : BitVec 32 := Scalar.muli v3 c512_i32_5042
  let c0_i32_5043 : BitVec 32 := 0#32
  let v4683 : BitVec 32 := Scalar.addi v4682 c0_i32_5043
  let c64_i32_5044 : BitVec 32 := 64#32
  let v4684 : BitVec 32 := Scalar.addi v4683 c64_i32_5044
  let c0_i32_5051 : BitVec 32 := 0#32
  ![v4684.toNat, 0]
def k0_dev129 (d0 : Dev nD) : Nat :=
  let c0_i32_5050 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c1_i32_6 : BitVec 32 := 1#32
  let v22 : BitVec 32 := Scalar.addi v3 c1_i32_6
  let c4_i32_7 : BitVec 32 := 4#32
  let v23 : BitVec 32 := Scalar.remsi v22 c4_i32_7
  let v24 : BitVec 32 := Scalar.addi v21 v23
  let c1_i32_5049 : BitVec 32 := 1#32
  let v4685 : BitVec 32 := Scalar.muli v24 c1_i32_5049
  let v4686 : BitVec 32 := Scalar.addi c0_i32_5050 v4685
  v4686.toNat
def k0_cond54 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c8_i32_2573 : BitVec 32 := 8#32
  let v2621 : BitVec 32 := Scalar.addi v20 c8_i32_2573
  let c2_i32_2574 : BitVec 32 := 2#32
  let v2622 : BitVec 32 := Scalar.subi v2621 c2_i32_2574
  let c1_i32_2575 : BitVec 32 := 1#32
  let v2623 : BitVec 32 := Scalar.subi v2622 c1_i32_2575
  let c4_i32_2576 : BitVec 32 := 4#32
  let v2624 : BitVec 32 := Scalar.remsi v2623 c4_i32_2576
  let c2_i32_2627 : BitVec 32 := 2#32
  let v2672 : BitVec 1 := Scalar.cmpi .eq v2624 c2_i32_2627
  let v2673 : BitVec 32 := Scalar.extui v2672
  let c0_i32_2628 : BitVec 32 := 0#32
  let v2674 : BitVec 1 := Scalar.cmpi .ne v2673 c0_i32_2628
  v2674

def k0_off65 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c512_i32_5042 : BitVec 32 := 512#32
  let v4682 : BitVec 32 := Scalar.muli v3 c512_i32_5042
  let c256_i32_5043 : BitVec 32 := 256#32
  let v4683 : BitVec 32 := Scalar.addi v4682 c256_i32_5043
  let c64_i32_5044 : BitVec 32 := 64#32
  let v4684 : BitVec 32 := Scalar.addi v4683 c64_i32_5044
  let c0_i32_5051 : BitVec 32 := 0#32
  ![v4684.toNat, 0]
def k0_dev130 (d0 : Dev nD) : Nat :=
  let c0_i32_5050 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c3_i32 : BitVec 32 := 3#32
  let v25 : BitVec 32 := Scalar.addi v3 c3_i32
  let c4_i32_8 : BitVec 32 := 4#32
  let v26 : BitVec 32 := Scalar.remsi v25 c4_i32_8
  let v27 : BitVec 32 := Scalar.addi v21 v26
  let c1_i32_5049 : BitVec 32 := 1#32
  let v4685 : BitVec 32 := Scalar.muli v27 c1_i32_5049
  let v4686 : BitVec 32 := Scalar.addi c0_i32_5050 v4685
  v4686.toNat
def k0_cond55 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c8_i32_2573 : BitVec 32 := 8#32
  let v2621 : BitVec 32 := Scalar.addi v20 c8_i32_2573
  let c2_i32_2574 : BitVec 32 := 2#32
  let v2622 : BitVec 32 := Scalar.subi v2621 c2_i32_2574
  let c1_i32_2575 : BitVec 32 := 1#32
  let v2623 : BitVec 32 := Scalar.subi v2622 c1_i32_2575
  let c4_i32_2576 : BitVec 32 := 4#32
  let v2624 : BitVec 32 := Scalar.remsi v2623 c4_i32_2576
  let c0_i32_2629 : BitVec 32 := 0#32
  let v2675 : BitVec 1 := Scalar.cmpi .eq v2624 c0_i32_2629
  let v2676 : BitVec 32 := Scalar.extui v2675
  let c0_i32_2630 : BitVec 32 := 0#32
  let v2677 : BitVec 1 := Scalar.cmpi .ne v2676 c0_i32_2630
  v2677

def k0_off66 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c512_i32_5042 : BitVec 32 := 512#32
  let v4682 : BitVec 32 := Scalar.muli v3 c512_i32_5042
  let c0_i32_5043 : BitVec 32 := 0#32
  let v4683 : BitVec 32 := Scalar.addi v4682 c0_i32_5043
  let c96_i32_5044 : BitVec 32 := 96#32
  let v4684 : BitVec 32 := Scalar.addi v4683 c96_i32_5044
  let c0_i32_5051 : BitVec 32 := 0#32
  ![v4684.toNat, 0]
def k0_dev131 (d0 : Dev nD) : Nat :=
  let c0_i32_5050 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c1_i32_6 : BitVec 32 := 1#32
  let v22 : BitVec 32 := Scalar.addi v3 c1_i32_6
  let c4_i32_7 : BitVec 32 := 4#32
  let v23 : BitVec 32 := Scalar.remsi v22 c4_i32_7
  let v24 : BitVec 32 := Scalar.addi v21 v23
  let c1_i32_5049 : BitVec 32 := 1#32
  let v4685 : BitVec 32 := Scalar.muli v24 c1_i32_5049
  let v4686 : BitVec 32 := Scalar.addi c0_i32_5050 v4685
  v4686.toNat
def k0_cond56 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c8_i32_2573 : BitVec 32 := 8#32
  let v2621 : BitVec 32 := Scalar.addi v20 c8_i32_2573
  let c2_i32_2574 : BitVec 32 := 2#32
  let v2622 : BitVec 32 := Scalar.subi v2621 c2_i32_2574
  let c1_i32_2575 : BitVec 32 := 1#32
  let v2623 : BitVec 32 := Scalar.subi v2622 c1_i32_2575
  let c4_i32_2576 : BitVec 32 := 4#32
  let v2624 : BitVec 32 := Scalar.remsi v2623 c4_i32_2576
  let c2_i32_2631 : BitVec 32 := 2#32
  let v2678 : BitVec 1 := Scalar.cmpi .eq v2624 c2_i32_2631
  let v2679 : BitVec 32 := Scalar.extui v2678
  let c0_i32_2632 : BitVec 32 := 0#32
  let v2680 : BitVec 1 := Scalar.cmpi .ne v2679 c0_i32_2632
  v2680

def k0_off67 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c512_i32_5042 : BitVec 32 := 512#32
  let v4682 : BitVec 32 := Scalar.muli v3 c512_i32_5042
  let c256_i32_5043 : BitVec 32 := 256#32
  let v4683 : BitVec 32 := Scalar.addi v4682 c256_i32_5043
  let c96_i32_5044 : BitVec 32 := 96#32
  let v4684 : BitVec 32 := Scalar.addi v4683 c96_i32_5044
  let c0_i32_5051 : BitVec 32 := 0#32
  ![v4684.toNat, 0]
def k0_dev132 (d0 : Dev nD) : Nat :=
  let c0_i32_5050 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c3_i32 : BitVec 32 := 3#32
  let v25 : BitVec 32 := Scalar.addi v3 c3_i32
  let c4_i32_8 : BitVec 32 := 4#32
  let v26 : BitVec 32 := Scalar.remsi v25 c4_i32_8
  let v27 : BitVec 32 := Scalar.addi v21 v26
  let c1_i32_5049 : BitVec 32 := 1#32
  let v4685 : BitVec 32 := Scalar.muli v27 c1_i32_5049
  let v4686 : BitVec 32 := Scalar.addi c0_i32_5050 v4685
  v4686.toNat
def k0_cond57 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c8_i32_2573 : BitVec 32 := 8#32
  let v2621 : BitVec 32 := Scalar.addi v20 c8_i32_2573
  let c2_i32_2574 : BitVec 32 := 2#32
  let v2622 : BitVec 32 := Scalar.subi v2621 c2_i32_2574
  let c1_i32_2575 : BitVec 32 := 1#32
  let v2623 : BitVec 32 := Scalar.subi v2622 c1_i32_2575
  let c4_i32_2576 : BitVec 32 := 4#32
  let v2624 : BitVec 32 := Scalar.remsi v2623 c4_i32_2576
  let c1_i32_2633 : BitVec 32 := 1#32
  let v2681 : BitVec 1 := Scalar.cmpi .eq v2624 c1_i32_2633
  let v2682 : BitVec 32 := Scalar.extui v2681
  let c0_i32_2634 : BitVec 32 := 0#32
  let v2683 : BitVec 1 := Scalar.cmpi .ne v2682 c0_i32_2634
  v2683

def k0_off68 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c512_i32_5042 : BitVec 32 := 512#32
  let v4682 : BitVec 32 := Scalar.muli v3 c512_i32_5042
  let c0_i32_5043 : BitVec 32 := 0#32
  let v4683 : BitVec 32 := Scalar.addi v4682 c0_i32_5043
  let c128_i32_5044 : BitVec 32 := 128#32
  let v4684 : BitVec 32 := Scalar.addi v4683 c128_i32_5044
  let c0_i32_5051 : BitVec 32 := 0#32
  ![v4684.toNat, 0]
def k0_dev133 (d0 : Dev nD) : Nat :=
  let c0_i32_5050 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c1_i32_6 : BitVec 32 := 1#32
  let v22 : BitVec 32 := Scalar.addi v3 c1_i32_6
  let c4_i32_7 : BitVec 32 := 4#32
  let v23 : BitVec 32 := Scalar.remsi v22 c4_i32_7
  let v24 : BitVec 32 := Scalar.addi v21 v23
  let c1_i32_5049 : BitVec 32 := 1#32
  let v4685 : BitVec 32 := Scalar.muli v24 c1_i32_5049
  let v4686 : BitVec 32 := Scalar.addi c0_i32_5050 v4685
  v4686.toNat
def k0_cond58 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c8_i32_2573 : BitVec 32 := 8#32
  let v2621 : BitVec 32 := Scalar.addi v20 c8_i32_2573
  let c2_i32_2574 : BitVec 32 := 2#32
  let v2622 : BitVec 32 := Scalar.subi v2621 c2_i32_2574
  let c1_i32_2575 : BitVec 32 := 1#32
  let v2623 : BitVec 32 := Scalar.subi v2622 c1_i32_2575
  let c4_i32_2576 : BitVec 32 := 4#32
  let v2624 : BitVec 32 := Scalar.remsi v2623 c4_i32_2576
  let c3_i32_2635 : BitVec 32 := 3#32
  let v2684 : BitVec 1 := Scalar.cmpi .eq v2624 c3_i32_2635
  let v2685 : BitVec 32 := Scalar.extui v2684
  let c0_i32_2636 : BitVec 32 := 0#32
  let v2686 : BitVec 1 := Scalar.cmpi .ne v2685 c0_i32_2636
  v2686

def k0_off69 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c512_i32_5042 : BitVec 32 := 512#32
  let v4682 : BitVec 32 := Scalar.muli v3 c512_i32_5042
  let c256_i32_5043 : BitVec 32 := 256#32
  let v4683 : BitVec 32 := Scalar.addi v4682 c256_i32_5043
  let c128_i32_5044 : BitVec 32 := 128#32
  let v4684 : BitVec 32 := Scalar.addi v4683 c128_i32_5044
  let c0_i32_5051 : BitVec 32 := 0#32
  ![v4684.toNat, 0]
def k0_dev134 (d0 : Dev nD) : Nat :=
  let c0_i32_5050 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c3_i32 : BitVec 32 := 3#32
  let v25 : BitVec 32 := Scalar.addi v3 c3_i32
  let c4_i32_8 : BitVec 32 := 4#32
  let v26 : BitVec 32 := Scalar.remsi v25 c4_i32_8
  let v27 : BitVec 32 := Scalar.addi v21 v26
  let c1_i32_5049 : BitVec 32 := 1#32
  let v4685 : BitVec 32 := Scalar.muli v27 c1_i32_5049
  let v4686 : BitVec 32 := Scalar.addi c0_i32_5050 v4685
  v4686.toNat
def k0_cond59 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c8_i32_2573 : BitVec 32 := 8#32
  let v2621 : BitVec 32 := Scalar.addi v20 c8_i32_2573
  let c2_i32_2574 : BitVec 32 := 2#32
  let v2622 : BitVec 32 := Scalar.subi v2621 c2_i32_2574
  let c1_i32_2575 : BitVec 32 := 1#32
  let v2623 : BitVec 32 := Scalar.subi v2622 c1_i32_2575
  let c4_i32_2576 : BitVec 32 := 4#32
  let v2624 : BitVec 32 := Scalar.remsi v2623 c4_i32_2576
  let c1_i32_2637 : BitVec 32 := 1#32
  let v2687 : BitVec 1 := Scalar.cmpi .eq v2624 c1_i32_2637
  let v2688 : BitVec 32 := Scalar.extui v2687
  let c0_i32_2638 : BitVec 32 := 0#32
  let v2689 : BitVec 1 := Scalar.cmpi .ne v2688 c0_i32_2638
  v2689

def k0_off70 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c512_i32_5042 : BitVec 32 := 512#32
  let v4682 : BitVec 32 := Scalar.muli v3 c512_i32_5042
  let c0_i32_5043 : BitVec 32 := 0#32
  let v4683 : BitVec 32 := Scalar.addi v4682 c0_i32_5043
  let c160_i32_5044 : BitVec 32 := 160#32
  let v4684 : BitVec 32 := Scalar.addi v4683 c160_i32_5044
  let c0_i32_5051 : BitVec 32 := 0#32
  ![v4684.toNat, 0]
def k0_dev135 (d0 : Dev nD) : Nat :=
  let c0_i32_5050 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c1_i32_6 : BitVec 32 := 1#32
  let v22 : BitVec 32 := Scalar.addi v3 c1_i32_6
  let c4_i32_7 : BitVec 32 := 4#32
  let v23 : BitVec 32 := Scalar.remsi v22 c4_i32_7
  let v24 : BitVec 32 := Scalar.addi v21 v23
  let c1_i32_5049 : BitVec 32 := 1#32
  let v4685 : BitVec 32 := Scalar.muli v24 c1_i32_5049
  let v4686 : BitVec 32 := Scalar.addi c0_i32_5050 v4685
  v4686.toNat
def k0_cond60 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c8_i32_2573 : BitVec 32 := 8#32
  let v2621 : BitVec 32 := Scalar.addi v20 c8_i32_2573
  let c2_i32_2574 : BitVec 32 := 2#32
  let v2622 : BitVec 32 := Scalar.subi v2621 c2_i32_2574
  let c1_i32_2575 : BitVec 32 := 1#32
  let v2623 : BitVec 32 := Scalar.subi v2622 c1_i32_2575
  let c4_i32_2576 : BitVec 32 := 4#32
  let v2624 : BitVec 32 := Scalar.remsi v2623 c4_i32_2576
  let c3_i32_2639 : BitVec 32 := 3#32
  let v2690 : BitVec 1 := Scalar.cmpi .eq v2624 c3_i32_2639
  let v2691 : BitVec 32 := Scalar.extui v2690
  let c0_i32_2640 : BitVec 32 := 0#32
  let v2692 : BitVec 1 := Scalar.cmpi .ne v2691 c0_i32_2640
  v2692

def k0_off71 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c512_i32_5042 : BitVec 32 := 512#32
  let v4682 : BitVec 32 := Scalar.muli v3 c512_i32_5042
  let c256_i32_5043 : BitVec 32 := 256#32
  let v4683 : BitVec 32 := Scalar.addi v4682 c256_i32_5043
  let c160_i32_5044 : BitVec 32 := 160#32
  let v4684 : BitVec 32 := Scalar.addi v4683 c160_i32_5044
  let c0_i32_5051 : BitVec 32 := 0#32
  ![v4684.toNat, 0]
def k0_dev136 (d0 : Dev nD) : Nat :=
  let c0_i32_5050 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c3_i32 : BitVec 32 := 3#32
  let v25 : BitVec 32 := Scalar.addi v3 c3_i32
  let c4_i32_8 : BitVec 32 := 4#32
  let v26 : BitVec 32 := Scalar.remsi v25 c4_i32_8
  let v27 : BitVec 32 := Scalar.addi v21 v26
  let c1_i32_5049 : BitVec 32 := 1#32
  let v4685 : BitVec 32 := Scalar.muli v27 c1_i32_5049
  let v4686 : BitVec 32 := Scalar.addi c0_i32_5050 v4685
  v4686.toNat
def k0_cond61 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c8_i32_2573 : BitVec 32 := 8#32
  let v2621 : BitVec 32 := Scalar.addi v20 c8_i32_2573
  let c2_i32_2574 : BitVec 32 := 2#32
  let v2622 : BitVec 32 := Scalar.subi v2621 c2_i32_2574
  let c1_i32_2575 : BitVec 32 := 1#32
  let v2623 : BitVec 32 := Scalar.subi v2622 c1_i32_2575
  let c4_i32_2576 : BitVec 32 := 4#32
  let v2624 : BitVec 32 := Scalar.remsi v2623 c4_i32_2576
  let c1_i32_2641 : BitVec 32 := 1#32
  let v2693 : BitVec 1 := Scalar.cmpi .eq v2624 c1_i32_2641
  let v2694 : BitVec 32 := Scalar.extui v2693
  let c0_i32_2642 : BitVec 32 := 0#32
  let v2695 : BitVec 1 := Scalar.cmpi .ne v2694 c0_i32_2642
  v2695

def k0_off72 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c512_i32_5042 : BitVec 32 := 512#32
  let v4682 : BitVec 32 := Scalar.muli v3 c512_i32_5042
  let c0_i32_5043 : BitVec 32 := 0#32
  let v4683 : BitVec 32 := Scalar.addi v4682 c0_i32_5043
  let c192_i32_5044 : BitVec 32 := 192#32
  let v4684 : BitVec 32 := Scalar.addi v4683 c192_i32_5044
  let c0_i32_5051 : BitVec 32 := 0#32
  ![v4684.toNat, 0]
def k0_dev137 (d0 : Dev nD) : Nat :=
  let c0_i32_5050 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c1_i32_6 : BitVec 32 := 1#32
  let v22 : BitVec 32 := Scalar.addi v3 c1_i32_6
  let c4_i32_7 : BitVec 32 := 4#32
  let v23 : BitVec 32 := Scalar.remsi v22 c4_i32_7
  let v24 : BitVec 32 := Scalar.addi v21 v23
  let c1_i32_5049 : BitVec 32 := 1#32
  let v4685 : BitVec 32 := Scalar.muli v24 c1_i32_5049
  let v4686 : BitVec 32 := Scalar.addi c0_i32_5050 v4685
  v4686.toNat
def k0_cond62 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c8_i32_2573 : BitVec 32 := 8#32
  let v2621 : BitVec 32 := Scalar.addi v20 c8_i32_2573
  let c2_i32_2574 : BitVec 32 := 2#32
  let v2622 : BitVec 32 := Scalar.subi v2621 c2_i32_2574
  let c1_i32_2575 : BitVec 32 := 1#32
  let v2623 : BitVec 32 := Scalar.subi v2622 c1_i32_2575
  let c4_i32_2576 : BitVec 32 := 4#32
  let v2624 : BitVec 32 := Scalar.remsi v2623 c4_i32_2576
  let c3_i32_2643 : BitVec 32 := 3#32
  let v2696 : BitVec 1 := Scalar.cmpi .eq v2624 c3_i32_2643
  let v2697 : BitVec 32 := Scalar.extui v2696
  let c0_i32_2644 : BitVec 32 := 0#32
  let v2698 : BitVec 1 := Scalar.cmpi .ne v2697 c0_i32_2644
  v2698

def k0_off73 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c512_i32_5042 : BitVec 32 := 512#32
  let v4682 : BitVec 32 := Scalar.muli v3 c512_i32_5042
  let c256_i32_5043 : BitVec 32 := 256#32
  let v4683 : BitVec 32 := Scalar.addi v4682 c256_i32_5043
  let c192_i32_5044 : BitVec 32 := 192#32
  let v4684 : BitVec 32 := Scalar.addi v4683 c192_i32_5044
  let c0_i32_5051 : BitVec 32 := 0#32
  ![v4684.toNat, 0]
def k0_dev138 (d0 : Dev nD) : Nat :=
  let c0_i32_5050 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c3_i32 : BitVec 32 := 3#32
  let v25 : BitVec 32 := Scalar.addi v3 c3_i32
  let c4_i32_8 : BitVec 32 := 4#32
  let v26 : BitVec 32 := Scalar.remsi v25 c4_i32_8
  let v27 : BitVec 32 := Scalar.addi v21 v26
  let c1_i32_5049 : BitVec 32 := 1#32
  let v4685 : BitVec 32 := Scalar.muli v27 c1_i32_5049
  let v4686 : BitVec 32 := Scalar.addi c0_i32_5050 v4685
  v4686.toNat
def k0_cond63 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c8_i32_2573 : BitVec 32 := 8#32
  let v2621 : BitVec 32 := Scalar.addi v20 c8_i32_2573
  let c2_i32_2574 : BitVec 32 := 2#32
  let v2622 : BitVec 32 := Scalar.subi v2621 c2_i32_2574
  let c1_i32_2575 : BitVec 32 := 1#32
  let v2623 : BitVec 32 := Scalar.subi v2622 c1_i32_2575
  let c4_i32_2576 : BitVec 32 := 4#32
  let v2624 : BitVec 32 := Scalar.remsi v2623 c4_i32_2576
  let c1_i32_2645 : BitVec 32 := 1#32
  let v2699 : BitVec 1 := Scalar.cmpi .eq v2624 c1_i32_2645
  let v2700 : BitVec 32 := Scalar.extui v2699
  let c0_i32_2646 : BitVec 32 := 0#32
  let v2701 : BitVec 1 := Scalar.cmpi .ne v2700 c0_i32_2646
  v2701

def k0_off74 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c512_i32_5042 : BitVec 32 := 512#32
  let v4682 : BitVec 32 := Scalar.muli v3 c512_i32_5042
  let c0_i32_5043 : BitVec 32 := 0#32
  let v4683 : BitVec 32 := Scalar.addi v4682 c0_i32_5043
  let c224_i32_5044 : BitVec 32 := 224#32
  let v4684 : BitVec 32 := Scalar.addi v4683 c224_i32_5044
  let c0_i32_5051 : BitVec 32 := 0#32
  ![v4684.toNat, 0]
def k0_dev139 (d0 : Dev nD) : Nat :=
  let c0_i32_5050 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c1_i32_6 : BitVec 32 := 1#32
  let v22 : BitVec 32 := Scalar.addi v3 c1_i32_6
  let c4_i32_7 : BitVec 32 := 4#32
  let v23 : BitVec 32 := Scalar.remsi v22 c4_i32_7
  let v24 : BitVec 32 := Scalar.addi v21 v23
  let c1_i32_5049 : BitVec 32 := 1#32
  let v4685 : BitVec 32 := Scalar.muli v24 c1_i32_5049
  let v4686 : BitVec 32 := Scalar.addi c0_i32_5050 v4685
  v4686.toNat
def k0_cond64 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c8_i32_2573 : BitVec 32 := 8#32
  let v2621 : BitVec 32 := Scalar.addi v20 c8_i32_2573
  let c2_i32_2574 : BitVec 32 := 2#32
  let v2622 : BitVec 32 := Scalar.subi v2621 c2_i32_2574
  let c1_i32_2575 : BitVec 32 := 1#32
  let v2623 : BitVec 32 := Scalar.subi v2622 c1_i32_2575
  let c4_i32_2576 : BitVec 32 := 4#32
  let v2624 : BitVec 32 := Scalar.remsi v2623 c4_i32_2576
  let c3_i32_2647 : BitVec 32 := 3#32
  let v2702 : BitVec 1 := Scalar.cmpi .eq v2624 c3_i32_2647
  let v2703 : BitVec 32 := Scalar.extui v2702
  let c0_i32_2648 : BitVec 32 := 0#32
  let v2704 : BitVec 1 := Scalar.cmpi .ne v2703 c0_i32_2648
  v2704

def k0_off75 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c512_i32_5042 : BitVec 32 := 512#32
  let v4682 : BitVec 32 := Scalar.muli v3 c512_i32_5042
  let c256_i32_5043 : BitVec 32 := 256#32
  let v4683 : BitVec 32 := Scalar.addi v4682 c256_i32_5043
  let c224_i32_5044 : BitVec 32 := 224#32
  let v4684 : BitVec 32 := Scalar.addi v4683 c224_i32_5044
  let c0_i32_5051 : BitVec 32 := 0#32
  ![v4684.toNat, 0]
def k0_dev140 (d0 : Dev nD) : Nat :=
  let c0_i32_5050 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c3_i32 : BitVec 32 := 3#32
  let v25 : BitVec 32 := Scalar.addi v3 c3_i32
  let c4_i32_8 : BitVec 32 := 4#32
  let v26 : BitVec 32 := Scalar.remsi v25 c4_i32_8
  let v27 : BitVec 32 := Scalar.addi v21 v26
  let c1_i32_5049 : BitVec 32 := 1#32
  let v4685 : BitVec 32 := Scalar.muli v27 c1_i32_5049
  let v4686 : BitVec 32 := Scalar.addi c0_i32_5050 v4685
  v4686.toNat
def k0_off76 (d0 : Dev nD) (c0_i32_2678 : BitVec 32) (c0_i32_2686 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c8_i32_2677 : BitVec 32 := 8#32
  let v2749 : BitVec 32 := Scalar.addi v3 c8_i32_2677
  let v2750 : BitVec 32 := Scalar.subi v2749 c0_i32_2678
  let c1_i32_2679 : BitVec 32 := 1#32
  let v2751 : BitVec 32 := Scalar.subi v2750 c1_i32_2679
  let c4_i32_2680 : BitVec 32 := 4#32
  let v2752 : BitVec 32 := Scalar.remsi v2751 c4_i32_2680
  let c512_i32_2684 : BitVec 32 := 512#32
  let v2756 : BitVec 32 := Scalar.muli v2752 c512_i32_2684
  let c0_i32_2685 : BitVec 32 := 0#32
  let v2757 : BitVec 32 := Scalar.addi v2756 c0_i32_2685
  let v2758 : BitVec 32 := Scalar.addi v2757 c0_i32_2686
  let c0_i32_2693 : BitVec 32 := 0#32
  ![v2758.toNat, 0]
def k0_dev141 (d0 : Dev nD) : Nat :=
  let c0_i32_2703 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c1_i32_6 : BitVec 32 := 1#32
  let v22 : BitVec 32 := Scalar.addi v3 c1_i32_6
  let c4_i32_7 : BitVec 32 := 4#32
  let v23 : BitVec 32 := Scalar.remsi v22 c4_i32_7
  let v24 : BitVec 32 := Scalar.addi v21 v23
  let c1_i32_2702 : BitVec 32 := 1#32
  let v2768 : BitVec 32 := Scalar.muli v24 c1_i32_2702
  let v2769 : BitVec 32 := Scalar.addi c0_i32_2703 v2768
  v2769.toNat
def k0_off77 (d0 : Dev nD) (c0_i32_2681 : BitVec 32) (c0_i32_2712 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v2753 : BitVec 32 := Scalar.addi v3 c0_i32_2681
  let c1_i32_2682 : BitVec 32 := 1#32
  let v2754 : BitVec 32 := Scalar.addi v2753 c1_i32_2682
  let c4_i32_2683 : BitVec 32 := 4#32
  let v2755 : BitVec 32 := Scalar.remsi v2754 c4_i32_2683
  let c512_i32_2710 : BitVec 32 := 512#32
  let v2783 : BitVec 32 := Scalar.muli v2755 c512_i32_2710
  let c256_i32_2711 : BitVec 32 := 256#32
  let v2784 : BitVec 32 := Scalar.addi v2783 c256_i32_2711
  let v2785 : BitVec 32 := Scalar.addi v2784 c0_i32_2712
  let c0_i32_2719 : BitVec 32 := 0#32
  ![v2785.toNat, 0]
def k0_dev142 (d0 : Dev nD) : Nat :=
  let c0_i32_2729 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c3_i32 : BitVec 32 := 3#32
  let v25 : BitVec 32 := Scalar.addi v3 c3_i32
  let c4_i32_8 : BitVec 32 := 4#32
  let v26 : BitVec 32 := Scalar.remsi v25 c4_i32_8
  let v27 : BitVec 32 := Scalar.addi v21 v26
  let c1_i32_2728 : BitVec 32 := 1#32
  let v2795 : BitVec 32 := Scalar.muli v27 c1_i32_2728
  let v2796 : BitVec 32 := Scalar.addi c0_i32_2729 v2795
  v2796.toNat
def k0_dev143 (d0 : Dev nD) : Nat :=
  let c0_i32_2756 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c1_i32_6 : BitVec 32 := 1#32
  let v22 : BitVec 32 := Scalar.addi v3 c1_i32_6
  let c4_i32_7 : BitVec 32 := 4#32
  let v23 : BitVec 32 := Scalar.remsi v22 c4_i32_7
  let v24 : BitVec 32 := Scalar.addi v21 v23
  let c1_i32_2755 : BitVec 32 := 1#32
  let v2823 : BitVec 32 := Scalar.muli v24 c1_i32_2755
  let v2824 : BitVec 32 := Scalar.addi c0_i32_2756 v2823
  v2824.toNat
def k0_dev144 (d0 : Dev nD) : Nat :=
  let c0_i32_2782 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c3_i32 : BitVec 32 := 3#32
  let v25 : BitVec 32 := Scalar.addi v3 c3_i32
  let c4_i32_8 : BitVec 32 := 4#32
  let v26 : BitVec 32 := Scalar.remsi v25 c4_i32_8
  let v27 : BitVec 32 := Scalar.addi v21 v26
  let c1_i32_2781 : BitVec 32 := 1#32
  let v2850 : BitVec 32 := Scalar.muli v27 c1_i32_2781
  let v2851 : BitVec 32 := Scalar.addi c0_i32_2782 v2850
  v2851.toNat
def k0_dev145 (d0 : Dev nD) : Nat :=
  let c0_i32_2809 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c1_i32_6 : BitVec 32 := 1#32
  let v22 : BitVec 32 := Scalar.addi v3 c1_i32_6
  let c4_i32_7 : BitVec 32 := 4#32
  let v23 : BitVec 32 := Scalar.remsi v22 c4_i32_7
  let v24 : BitVec 32 := Scalar.addi v21 v23
  let c1_i32_2808 : BitVec 32 := 1#32
  let v2878 : BitVec 32 := Scalar.muli v24 c1_i32_2808
  let v2879 : BitVec 32 := Scalar.addi c0_i32_2809 v2878
  v2879.toNat
def k0_dev146 (d0 : Dev nD) : Nat :=
  let c0_i32_2835 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c3_i32 : BitVec 32 := 3#32
  let v25 : BitVec 32 := Scalar.addi v3 c3_i32
  let c4_i32_8 : BitVec 32 := 4#32
  let v26 : BitVec 32 := Scalar.remsi v25 c4_i32_8
  let v27 : BitVec 32 := Scalar.addi v21 v26
  let c1_i32_2834 : BitVec 32 := 1#32
  let v2905 : BitVec 32 := Scalar.muli v27 c1_i32_2834
  let v2906 : BitVec 32 := Scalar.addi c0_i32_2835 v2905
  v2906.toNat
def k0_dev147 (d0 : Dev nD) : Nat :=
  let c0_i32_2862 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c1_i32_6 : BitVec 32 := 1#32
  let v22 : BitVec 32 := Scalar.addi v3 c1_i32_6
  let c4_i32_7 : BitVec 32 := 4#32
  let v23 : BitVec 32 := Scalar.remsi v22 c4_i32_7
  let v24 : BitVec 32 := Scalar.addi v21 v23
  let c1_i32_2861 : BitVec 32 := 1#32
  let v2933 : BitVec 32 := Scalar.muli v24 c1_i32_2861
  let v2934 : BitVec 32 := Scalar.addi c0_i32_2862 v2933
  v2934.toNat
def k0_dev148 (d0 : Dev nD) : Nat :=
  let c0_i32_2888 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c3_i32 : BitVec 32 := 3#32
  let v25 : BitVec 32 := Scalar.addi v3 c3_i32
  let c4_i32_8 : BitVec 32 := 4#32
  let v26 : BitVec 32 := Scalar.remsi v25 c4_i32_8
  let v27 : BitVec 32 := Scalar.addi v21 v26
  let c1_i32_2887 : BitVec 32 := 1#32
  let v2960 : BitVec 32 := Scalar.muli v27 c1_i32_2887
  let v2961 : BitVec 32 := Scalar.addi c0_i32_2888 v2960
  v2961.toNat
def k0_dev149 (d0 : Dev nD) : Nat :=
  let c0_i32_2915 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c1_i32_6 : BitVec 32 := 1#32
  let v22 : BitVec 32 := Scalar.addi v3 c1_i32_6
  let c4_i32_7 : BitVec 32 := 4#32
  let v23 : BitVec 32 := Scalar.remsi v22 c4_i32_7
  let v24 : BitVec 32 := Scalar.addi v21 v23
  let c1_i32_2914 : BitVec 32 := 1#32
  let v2988 : BitVec 32 := Scalar.muli v24 c1_i32_2914
  let v2989 : BitVec 32 := Scalar.addi c0_i32_2915 v2988
  v2989.toNat
def k0_dev150 (d0 : Dev nD) : Nat :=
  let c0_i32_2941 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c3_i32 : BitVec 32 := 3#32
  let v25 : BitVec 32 := Scalar.addi v3 c3_i32
  let c4_i32_8 : BitVec 32 := 4#32
  let v26 : BitVec 32 := Scalar.remsi v25 c4_i32_8
  let v27 : BitVec 32 := Scalar.addi v21 v26
  let c1_i32_2940 : BitVec 32 := 1#32
  let v3015 : BitVec 32 := Scalar.muli v27 c1_i32_2940
  let v3016 : BitVec 32 := Scalar.addi c0_i32_2941 v3015
  v3016.toNat
def k0_dev151 (d0 : Dev nD) : Nat :=
  let c0_i32_2968 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c1_i32_6 : BitVec 32 := 1#32
  let v22 : BitVec 32 := Scalar.addi v3 c1_i32_6
  let c4_i32_7 : BitVec 32 := 4#32
  let v23 : BitVec 32 := Scalar.remsi v22 c4_i32_7
  let v24 : BitVec 32 := Scalar.addi v21 v23
  let c1_i32_2967 : BitVec 32 := 1#32
  let v3043 : BitVec 32 := Scalar.muli v24 c1_i32_2967
  let v3044 : BitVec 32 := Scalar.addi c0_i32_2968 v3043
  v3044.toNat
def k0_dev152 (d0 : Dev nD) : Nat :=
  let c0_i32_2994 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c3_i32 : BitVec 32 := 3#32
  let v25 : BitVec 32 := Scalar.addi v3 c3_i32
  let c4_i32_8 : BitVec 32 := 4#32
  let v26 : BitVec 32 := Scalar.remsi v25 c4_i32_8
  let v27 : BitVec 32 := Scalar.addi v21 v26
  let c1_i32_2993 : BitVec 32 := 1#32
  let v3070 : BitVec 32 := Scalar.muli v27 c1_i32_2993
  let v3071 : BitVec 32 := Scalar.addi c0_i32_2994 v3070
  v3071.toNat
def k0_dev153 (d0 : Dev nD) : Nat :=
  let c0_i32_3021 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c1_i32_6 : BitVec 32 := 1#32
  let v22 : BitVec 32 := Scalar.addi v3 c1_i32_6
  let c4_i32_7 : BitVec 32 := 4#32
  let v23 : BitVec 32 := Scalar.remsi v22 c4_i32_7
  let v24 : BitVec 32 := Scalar.addi v21 v23
  let c1_i32_3020 : BitVec 32 := 1#32
  let v3098 : BitVec 32 := Scalar.muli v24 c1_i32_3020
  let v3099 : BitVec 32 := Scalar.addi c0_i32_3021 v3098
  v3099.toNat
def k0_dev154 (d0 : Dev nD) : Nat :=
  let c0_i32_3047 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c3_i32 : BitVec 32 := 3#32
  let v25 : BitVec 32 := Scalar.addi v3 c3_i32
  let c4_i32_8 : BitVec 32 := 4#32
  let v26 : BitVec 32 := Scalar.remsi v25 c4_i32_8
  let v27 : BitVec 32 := Scalar.addi v21 v26
  let c1_i32_3046 : BitVec 32 := 1#32
  let v3125 : BitVec 32 := Scalar.muli v27 c1_i32_3046
  let v3126 : BitVec 32 := Scalar.addi c0_i32_3047 v3125
  v3126.toNat
def k0_dev155 (d0 : Dev nD) : Nat :=
  let c0_i32_3074 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c1_i32_6 : BitVec 32 := 1#32
  let v22 : BitVec 32 := Scalar.addi v3 c1_i32_6
  let c4_i32_7 : BitVec 32 := 4#32
  let v23 : BitVec 32 := Scalar.remsi v22 c4_i32_7
  let v24 : BitVec 32 := Scalar.addi v21 v23
  let c1_i32_3073 : BitVec 32 := 1#32
  let v3153 : BitVec 32 := Scalar.muli v24 c1_i32_3073
  let v3154 : BitVec 32 := Scalar.addi c0_i32_3074 v3153
  v3154.toNat
def k0_dev156 (d0 : Dev nD) : Nat :=
  let c0_i32_3100 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c3_i32 : BitVec 32 := 3#32
  let v25 : BitVec 32 := Scalar.addi v3 c3_i32
  let c4_i32_8 : BitVec 32 := 4#32
  let v26 : BitVec 32 := Scalar.remsi v25 c4_i32_8
  let v27 : BitVec 32 := Scalar.addi v21 v26
  let c1_i32_3099 : BitVec 32 := 1#32
  let v3180 : BitVec 32 := Scalar.muli v27 c1_i32_3099
  let v3181 : BitVec 32 := Scalar.addi c0_i32_3100 v3180
  v3181.toNat
def k0_dev157 (d0 : Dev nD) : Nat :=
  let c0_i32_3134 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c1_i32_6 : BitVec 32 := 1#32
  let v22 : BitVec 32 := Scalar.addi v3 c1_i32_6
  let c4_i32_7 : BitVec 32 := 4#32
  let v23 : BitVec 32 := Scalar.remsi v22 c4_i32_7
  let v24 : BitVec 32 := Scalar.addi v21 v23
  let c1_i32_3133 : BitVec 32 := 1#32
  let v3215 : BitVec 32 := Scalar.muli v24 c1_i32_3133
  let v3216 : BitVec 32 := Scalar.addi c0_i32_3134 v3215
  v3216.toNat
def k0_dev158 (d0 : Dev nD) : Nat :=
  let c0_i32_3160 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c3_i32 : BitVec 32 := 3#32
  let v25 : BitVec 32 := Scalar.addi v3 c3_i32
  let c4_i32_8 : BitVec 32 := 4#32
  let v26 : BitVec 32 := Scalar.remsi v25 c4_i32_8
  let v27 : BitVec 32 := Scalar.addi v21 v26
  let c1_i32_3159 : BitVec 32 := 1#32
  let v3242 : BitVec 32 := Scalar.muli v27 c1_i32_3159
  let v3243 : BitVec 32 := Scalar.addi c0_i32_3160 v3242
  v3243.toNat
def k0_dev159 (d0 : Dev nD) : Nat :=
  let c0_i32_3187 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c1_i32_6 : BitVec 32 := 1#32
  let v22 : BitVec 32 := Scalar.addi v3 c1_i32_6
  let c4_i32_7 : BitVec 32 := 4#32
  let v23 : BitVec 32 := Scalar.remsi v22 c4_i32_7
  let v24 : BitVec 32 := Scalar.addi v21 v23
  let c1_i32_3186 : BitVec 32 := 1#32
  let v3270 : BitVec 32 := Scalar.muli v24 c1_i32_3186
  let v3271 : BitVec 32 := Scalar.addi c0_i32_3187 v3270
  v3271.toNat
def k0_dev160 (d0 : Dev nD) : Nat :=
  let c0_i32_3213 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c3_i32 : BitVec 32 := 3#32
  let v25 : BitVec 32 := Scalar.addi v3 c3_i32
  let c4_i32_8 : BitVec 32 := 4#32
  let v26 : BitVec 32 := Scalar.remsi v25 c4_i32_8
  let v27 : BitVec 32 := Scalar.addi v21 v26
  let c1_i32_3212 : BitVec 32 := 1#32
  let v3297 : BitVec 32 := Scalar.muli v27 c1_i32_3212
  let v3298 : BitVec 32 := Scalar.addi c0_i32_3213 v3297
  v3298.toNat
def k0_dev161 (d0 : Dev nD) : Nat :=
  let c0_i32_3240 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c1_i32_6 : BitVec 32 := 1#32
  let v22 : BitVec 32 := Scalar.addi v3 c1_i32_6
  let c4_i32_7 : BitVec 32 := 4#32
  let v23 : BitVec 32 := Scalar.remsi v22 c4_i32_7
  let v24 : BitVec 32 := Scalar.addi v21 v23
  let c1_i32_3239 : BitVec 32 := 1#32
  let v3325 : BitVec 32 := Scalar.muli v24 c1_i32_3239
  let v3326 : BitVec 32 := Scalar.addi c0_i32_3240 v3325
  v3326.toNat
def k0_dev162 (d0 : Dev nD) : Nat :=
  let c0_i32_3266 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c3_i32 : BitVec 32 := 3#32
  let v25 : BitVec 32 := Scalar.addi v3 c3_i32
  let c4_i32_8 : BitVec 32 := 4#32
  let v26 : BitVec 32 := Scalar.remsi v25 c4_i32_8
  let v27 : BitVec 32 := Scalar.addi v21 v26
  let c1_i32_3265 : BitVec 32 := 1#32
  let v3352 : BitVec 32 := Scalar.muli v27 c1_i32_3265
  let v3353 : BitVec 32 := Scalar.addi c0_i32_3266 v3352
  v3353.toNat
def k0_dev163 (d0 : Dev nD) : Nat :=
  let c0_i32_3293 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c1_i32_6 : BitVec 32 := 1#32
  let v22 : BitVec 32 := Scalar.addi v3 c1_i32_6
  let c4_i32_7 : BitVec 32 := 4#32
  let v23 : BitVec 32 := Scalar.remsi v22 c4_i32_7
  let v24 : BitVec 32 := Scalar.addi v21 v23
  let c1_i32_3292 : BitVec 32 := 1#32
  let v3380 : BitVec 32 := Scalar.muli v24 c1_i32_3292
  let v3381 : BitVec 32 := Scalar.addi c0_i32_3293 v3380
  v3381.toNat
def k0_dev164 (d0 : Dev nD) : Nat :=
  let c0_i32_3319 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c3_i32 : BitVec 32 := 3#32
  let v25 : BitVec 32 := Scalar.addi v3 c3_i32
  let c4_i32_8 : BitVec 32 := 4#32
  let v26 : BitVec 32 := Scalar.remsi v25 c4_i32_8
  let v27 : BitVec 32 := Scalar.addi v21 v26
  let c1_i32_3318 : BitVec 32 := 1#32
  let v3407 : BitVec 32 := Scalar.muli v27 c1_i32_3318
  let v3408 : BitVec 32 := Scalar.addi c0_i32_3319 v3407
  v3408.toNat
def k0_dev165 (d0 : Dev nD) : Nat :=
  let c0_i32_3346 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c1_i32_6 : BitVec 32 := 1#32
  let v22 : BitVec 32 := Scalar.addi v3 c1_i32_6
  let c4_i32_7 : BitVec 32 := 4#32
  let v23 : BitVec 32 := Scalar.remsi v22 c4_i32_7
  let v24 : BitVec 32 := Scalar.addi v21 v23
  let c1_i32_3345 : BitVec 32 := 1#32
  let v3435 : BitVec 32 := Scalar.muli v24 c1_i32_3345
  let v3436 : BitVec 32 := Scalar.addi c0_i32_3346 v3435
  v3436.toNat
def k0_dev166 (d0 : Dev nD) : Nat :=
  let c0_i32_3372 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c3_i32 : BitVec 32 := 3#32
  let v25 : BitVec 32 := Scalar.addi v3 c3_i32
  let c4_i32_8 : BitVec 32 := 4#32
  let v26 : BitVec 32 := Scalar.remsi v25 c4_i32_8
  let v27 : BitVec 32 := Scalar.addi v21 v26
  let c1_i32_3371 : BitVec 32 := 1#32
  let v3462 : BitVec 32 := Scalar.muli v27 c1_i32_3371
  let v3463 : BitVec 32 := Scalar.addi c0_i32_3372 v3462
  v3463.toNat
def k0_dev167 (d0 : Dev nD) : Nat :=
  let c0_i32_3399 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c1_i32_6 : BitVec 32 := 1#32
  let v22 : BitVec 32 := Scalar.addi v3 c1_i32_6
  let c4_i32_7 : BitVec 32 := 4#32
  let v23 : BitVec 32 := Scalar.remsi v22 c4_i32_7
  let v24 : BitVec 32 := Scalar.addi v21 v23
  let c1_i32_3398 : BitVec 32 := 1#32
  let v3490 : BitVec 32 := Scalar.muli v24 c1_i32_3398
  let v3491 : BitVec 32 := Scalar.addi c0_i32_3399 v3490
  v3491.toNat
def k0_dev168 (d0 : Dev nD) : Nat :=
  let c0_i32_3425 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c3_i32 : BitVec 32 := 3#32
  let v25 : BitVec 32 := Scalar.addi v3 c3_i32
  let c4_i32_8 : BitVec 32 := 4#32
  let v26 : BitVec 32 := Scalar.remsi v25 c4_i32_8
  let v27 : BitVec 32 := Scalar.addi v21 v26
  let c1_i32_3424 : BitVec 32 := 1#32
  let v3517 : BitVec 32 := Scalar.muli v27 c1_i32_3424
  let v3518 : BitVec 32 := Scalar.addi c0_i32_3425 v3517
  v3518.toNat
def k0_dev169 (d0 : Dev nD) : Nat :=
  let c0_i32_3452 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c1_i32_6 : BitVec 32 := 1#32
  let v22 : BitVec 32 := Scalar.addi v3 c1_i32_6
  let c4_i32_7 : BitVec 32 := 4#32
  let v23 : BitVec 32 := Scalar.remsi v22 c4_i32_7
  let v24 : BitVec 32 := Scalar.addi v21 v23
  let c1_i32_3451 : BitVec 32 := 1#32
  let v3545 : BitVec 32 := Scalar.muli v24 c1_i32_3451
  let v3546 : BitVec 32 := Scalar.addi c0_i32_3452 v3545
  v3546.toNat
def k0_dev170 (d0 : Dev nD) : Nat :=
  let c0_i32_3478 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c3_i32 : BitVec 32 := 3#32
  let v25 : BitVec 32 := Scalar.addi v3 c3_i32
  let c4_i32_8 : BitVec 32 := 4#32
  let v26 : BitVec 32 := Scalar.remsi v25 c4_i32_8
  let v27 : BitVec 32 := Scalar.addi v21 v26
  let c1_i32_3477 : BitVec 32 := 1#32
  let v3572 : BitVec 32 := Scalar.muli v27 c1_i32_3477
  let v3573 : BitVec 32 := Scalar.addi c0_i32_3478 v3572
  v3573.toNat
def k0_dev171 (d0 : Dev nD) : Nat :=
  let c0_i32_3505 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c1_i32_6 : BitVec 32 := 1#32
  let v22 : BitVec 32 := Scalar.addi v3 c1_i32_6
  let c4_i32_7 : BitVec 32 := 4#32
  let v23 : BitVec 32 := Scalar.remsi v22 c4_i32_7
  let v24 : BitVec 32 := Scalar.addi v21 v23
  let c1_i32_3504 : BitVec 32 := 1#32
  let v3600 : BitVec 32 := Scalar.muli v24 c1_i32_3504
  let v3601 : BitVec 32 := Scalar.addi c0_i32_3505 v3600
  v3601.toNat
def k0_dev172 (d0 : Dev nD) : Nat :=
  let c0_i32_3531 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c3_i32 : BitVec 32 := 3#32
  let v25 : BitVec 32 := Scalar.addi v3 c3_i32
  let c4_i32_8 : BitVec 32 := 4#32
  let v26 : BitVec 32 := Scalar.remsi v25 c4_i32_8
  let v27 : BitVec 32 := Scalar.addi v21 v26
  let c1_i32_3530 : BitVec 32 := 1#32
  let v3627 : BitVec 32 := Scalar.muli v27 c1_i32_3530
  let v3628 : BitVec 32 := Scalar.addi c0_i32_3531 v3627
  v3628.toNat
def k0_off78 (d0 : Dev nD) (c0_i32_4051 : BitVec 32) (c0_i32_4052 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c512_i32_4050 : BitVec 32 := 512#32
  let v4058 : BitVec 32 := Scalar.muli v3 c512_i32_4050
  let v4059 : BitVec 32 := Scalar.addi v4058 c0_i32_4051
  let v4060 : BitVec 32 := Scalar.addi v4059 c0_i32_4052
  let c0_i32_4058 : BitVec 32 := 0#32
  ![v4060.toNat, 0]
abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S32768x1024 : Shape := ⟨2, ![32768, 1024]⟩
abbrev S1024x1024 : Shape := ⟨2, ![1024, 1024]⟩
abbrev S16x2048x1024 : Shape := ⟨3, ![16, 2048, 1024]⟩
abbrev S_ : Shape := ⟨0, ![]⟩
abbrev S2048x1024 : Shape := ⟨2, ![2048, 1024]⟩

abbrev nBuf : Space → Nat
  | .hbm => 6
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024x1024, .f32⟩
  | .hbm, ⟨2, _⟩ => ⟨S16x2048x1024, .f32⟩
  | .hbm, ⟨3, _⟩ => ⟨S_, .f32⟩
  | .hbm, ⟨4, _⟩ => ⟨S2048x1024, .f32⟩
  | .hbm, ⟨5, _⟩ => ⟨S2048x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Proof.Plan.lean ====
/-
The kernel's plan, in numbers: its 120 transfers, the 292 windows of memory they and the stores work on, and the order in
which one device stores, sends and waits.

Transfers ("keys"), numbered 0 … 119, `s` the sub-block of 32 rows, `h`, `g` the hop:
  `8h+s`     rightward partial sums     (`a_r`)       `60+4g+s`  finished chunks up the column (`qo`)
  `24+8h+s`  leftward partial sums      (`a_l`)       `72+8g+s`  finished quarters rightward   (`po`, first halves)
  `48+4h+s`  partial sums up the column (`b_comm`)    `96+8g+s`  finished quarters leftward    (`po`, second halves)

Windows, numbered 0 … 291: 0–31 `a_r` (slot, sub-block), 32–63 `a_l`, 64–79 `b_comm`, 80–81 the halves of the device's
own chunk of `qo` before they are shared out, 82–129 `qo` (chunk counted backwards from the device's own, sub-block, one of three shares),
130–225 `po` (hop, direction, sub-block, one of two shares), 226 the device's own quarter of `po` (never used), 227–228
`q_buf`'s halves, 229 the cast weights, 230–291 the result (own half chunks, chunks by hop, quarter halves by hop and direction).

A window's state is 0 (not here), 1 (here, holding anything), 2 (here, holding what the device stores or finishes there),
3 (here, holding what has been received there).
-/
module

public import Idealize.ShloMosaic.Lib.Tactic

@[expose] public section

set_option maxRecDepth 16384

namespace Cert.Plan

/-- One thing a device does: store over `n` windows from `lo` (their state before given by `v`, see `fits`), load from
such windows, share out a finished half chunk, send, receive, take a sent window back. -/
inductive Ev where
  | st (lo n v : ℕ)
  | ld (lo n v : ℕ)
  | sq (hf : ℕ)
  | send (k : ℕ)
  | recv (k : ℕ)
  | sw (k : ℕ)
  | nop
  deriving DecidableEq

/-- `w` is one of the `n` numbers from `lo`. -/
def within (lo n w : ℕ) : Bool := Nat.ble lo w && Nat.blt w (lo + n)
theorem within_iff (lo n w : ℕ) : within lo n w = true ↔ lo ≤ w ∧ w < lo + n := by
  unfold within; rw [Bool.and_eq_true, Nat.ble_eq, Nat.blt_eq]

/-- The window transfer `k` reads, on a device in plane `z`. -/
def src (z k : ℕ) : ℕ :=
  bif Nat.blt k 24 then 8 * ((k / 8 + 3) % 4) + k % 8
  else bif Nat.blt k 48 then 32 + 8 * (((k - 24) / 8 + 3) % 4) + k % 8
  else bif Nat.blt k 60 then 64 + 4 * (((k - 48) / 4 + 3) % 4) + k % 4
  else bif Nat.blt k 72 then 82 + 3 * (k - 60)
  else bif Nat.blt k 80 then 82 + (4 * ((z + 4 - (k - 72) / 4) % 4) + k % 4) * 3 + 1
  else bif Nat.blt k 96 then 130 + (16 * ((k - 72) / 8 - 1) + k % 8) * 2
  else bif Nat.blt k 104 then 82 + (4 * ((z + 4 - (2 + (k - 96) / 4)) % 4) + k % 4) * 3 + 1
  else 130 + (16 * ((k - 96) / 8 - 1) + 8 + k % 8) * 2

/-- The first window transfer `k` fills on its receiver, and how many (the shares of one block). -/
def dlo (k : ℕ) : ℕ :=
  bif Nat.blt k 24 then k else bif Nat.blt k 48 then k + 8 else bif Nat.blt k 60 then k + 16
  else bif Nat.blt k 72 then 82 + (k - 60 + 4) * 3
  else bif Nat.blt k 96 then 130 + (16 * ((k - 72) / 8) + k % 8) * 2
  else 130 + (16 * ((k - 96) / 8) + 8 + k % 8) * 2
def dn (k : ℕ) : ℕ := bif Nat.blt k 60 then 1 else bif Nat.blt k 72 then 3 else 2
/-- The state a received window is in: partial sums are worked on before they are passed on, finished blocks are not. -/
def rst (k : ℕ) : ℕ := bif Nat.blt k 60 then 3 else 2

/-- What an event makes of window `w`'s state `o`. -/
def upd (z : ℕ) (e : Ev) (w o : ℕ) : ℕ := match e with
  | .st lo n _ => bif within lo n w then 2 else o
  | .ld _ _ _ => o
  | .sq hf => bif Nat.beq w (80 + hf) then 0 else bif within (82 + 6 * hf) 6 w then 2 else o
  | .send k => bif Nat.beq w (src z k) then 0 else o
  | .recv k => bif within (dlo k) (dn k) w then rst k else o
  | .sw k => bif Nat.beq w (src z k) then 2 else o
  | .nop => o

/-- State `o` is the one asked for: any present one at `v = 1`, `v` itself otherwise. -/
def fits (v o : ℕ) : Bool := bif Nat.beq v 1 then Nat.blt 0 o else Nat.beq o v

/-- What an event asks of window `w`'s state `o`. -/
def ask (z : ℕ) (e : Ev) (w o : ℕ) : Bool := match e with
  | .st lo n v => bif within lo n w then fits v o else true
  | .ld lo n v => bif within lo n w then fits v o else true
  | .sq hf => bif Nat.beq w (80 + hf) then Nat.beq o 1 else bif within (82 + 6 * hf) 6 w then Nat.beq o 0 else true
  | .send k => bif Nat.beq w (src z k) then Nat.beq o 2 else true
  | .recv k => bif within (dlo k) (dn k) w then Nat.beq o 0 else true
  | .sw k => bif Nat.beq w (src z k) then Nat.beq o 0 else true
  | .nop => true

/-- The states the windows start in: the landing slots are handed to the neighbours before the first event. -/
def init (w : ℕ) : ℕ :=
  bif Nat.blt w 24 then 0 else bif Nat.blt w 32 then 1 else bif Nat.blt w 56 then 0 else bif Nat.blt w 64 then 1
  else bif Nat.blt w 76 then 0 else bif Nat.blt w 82 then 1 else bif Nat.blt w 226 then 0 else 1

/-- Which chunk of the plane's four the first quarter-hop's transfer `k` carries. -/
def chunkOf (k : ℕ) : ℕ := bif Nat.blt k 96 then (k - 72) / 4 else 2 + (k - 96) / 4
/-- The send of `k` when the chunk `p` steps back from plane `z`'s own is the one `k` carries; nothing otherwise. -/
def wh (z p k : ℕ) : Ev := bif Nat.beq ((z + 4 - p) % 4) (chunkOf k) then .send k else .nop

/-- The send of `k` in the hops before the last, nothing in the last. -/
def sends (h k : ℕ) : Ev := bif Nat.blt h 2 then .send k else .nop

/-- One member of a short list of events. -/
def pick (l : List Ev) (n : ℕ) : Ev := l.getD n .nop

/-- First sums sent both ways: four events a sub-block. -/
def evA₀ (n : ℕ) : Ev := pick [.st (24 + n / 4) 1 1, .send (n / 4), .st (56 + n / 4) 1 1, .send (24 + n / 4)] (n % 4)
/-- A hop's sub-block in both directions: six events. -/
def evA (h s r : ℕ) : Ev :=
  pick [.recv (8 * h + s), .st (8 * h + s) 1 3, sends h (8 * (h + 1) + s),
    .recv (24 + 8 * h + s), .st (32 + 8 * h + s) 1 3, sends h (24 + 8 * (h + 1) + s)] r
def evQ (r : ℕ) : Ev := pick [.ld 16 8 2, .st 227 1 1, .ld 48 8 2, .st 228 1 1] r
def evB₀ (s r : ℕ) : Ev := pick [.ld 227 2 2, .st (76 + s) 1 1, .send (48 + s)] r
def evB (h s r : ℕ) : Ev := pick [.recv (48 + 4 * h + s), .ld 227 2 2, .st (64 + 4 * h + s) 1 3, sends h (48 + 4 * (h + 1) + s)] r
/-- A half of the device's own chunk: multiplied, stored, shared out and sent up the column and into its quarter. -/
def evC (z hf r : ℕ) : Ev :=
  bif Nat.blt r 6 then pick [.ld (72 + 2 * hf) 2 2, .ld 229 1 2, .st (230 + hf) 1 1, .sq hf, .send (60 + 2 * hf), .send (61 + 2 * hf)] r
  else wh z 0 (72 + 24 * (r % 2) + (2 * hf + (r - 6) / 2 % 2 + 4 * ((r - 6) / 4)))
/-- A hop up the column: receive and pass on, send into the quarter, store into the result. -/
def evD (z g r : ℕ) : Ev :=
  bif Nat.blt r 8 then pick [.recv (60 + 4 * g + r / 2), sends g (60 + 4 * (g + 1) + r / 2)] (r % 2)
  else bif Nat.blt r 24 then wh z (g + 1) (72 + 24 * (r % 2) + (r - 8) / 2)
  else pick [.ld (82 + (4 * (g + 1) + (r - 24) / 2) * 3 + 2) 1 2, .st (232 + 4 * g + (r - 24) / 2) 1 1] (r % 2)
/-- A hop around the ring: eight events a sub-block. -/
def evE (g s r : ℕ) : Ev :=
  pick [.recv (72 + 8 * g + s), sends g (72 + 8 * (g + 1) + s), .ld (130 + (16 * g + s) * 2 + 1) 1 2, .st (244 + 16 * g + 2 * s) 1 1,
    .recv (96 + 8 * g + s), sends g (96 + 8 * (g + 1) + s), .ld (130 + (16 * g + 8 + s) * 2 + 1) 1 2, .st (245 + 16 * g + 2 * s) 1 1] r
/-- The sends taken back at the end, hop by hop. -/
def evW (h r : ℕ) : Ev :=
  bif Nat.blt r 16 then .sw (24 * (r % 2) + 8 * h + r / 2)
  else bif Nat.blt r 24 then .sw (48 + 12 * (r % 2) + 4 * h + (r - 16) / 2)
  else .sw (72 + 24 * (r % 2) + 8 * h + (r - 24) / 2)

/-- Event `n` of a device in plane `z`. -/
def ev (z n : ℕ) : Ev :=
  bif Nat.blt n 32 then evA₀ n
  else bif Nat.blt n 33 then .st 229 1 1
  else bif Nat.blt n 177 then evA ((n - 33) / 48) ((n - 33) % 48 / 6) ((n - 33) % 6)
  else bif Nat.blt n 181 then evQ (n - 177)
  else bif Nat.blt n 193 then evB₀ ((n - 181) / 3) ((n - 181) % 3)
  else bif Nat.blt n 241 then evB ((n - 193) / 16) ((n - 193) % 16 / 4) ((n - 193) % 4)
  else bif Nat.blt n 269 then evC z ((n - 241) / 14) ((n - 241) % 14)
  else bif Nat.blt n 365 then evD z ((n - 269) / 32) ((n - 269) % 32)
  else bif Nat.blt n 557 then evE ((n - 365) / 64) ((n - 365) % 64 / 8) ((n - 365) % 8)
  else bif Nat.blt n 677 then evW ((n - 557) / 40) ((n - 557) % 40)
  else .nop

/-- Window `w`'s state before event `n`. -/
def look (z : ℕ) : ℕ → ℕ → ℕ
  | 0, w => init w
  | n + 1, w => upd z (ev z n) w (look z n w)

def isSend (k : ℕ) (e : Ev) : Bool := match e with | .send k' => Nat.beq k' k | _ => false
def isRecv (k : ℕ) (e : Ev) : Bool := match e with | .recv k' => Nat.beq k' k | _ => false
def isSw (k : ℕ) (e : Ev) : Bool := match e with | .sw k' => Nat.beq k' k | _ => false
/-- Whether an event before `n` sends, receives, takes back transfer `k`. -/
def sent (z : ℕ) : ℕ → ℕ → Bool
  | 0, _ => false
  | n + 1, k => sent z n k || isSend k (ev z n)
def rcvd (z : ℕ) : ℕ → ℕ → Bool
  | 0, _ => false
  | n + 1, k => rcvd z n k || isRecv k (ev z n)
def back (z : ℕ) : ℕ → ℕ → Bool
  | 0, _ => false
  | n + 1, k => back z n k || isSw k (ev z n)

/-- The level of transfer `k`'s receive cell: hops in the order they complete. -/
def lev (k : ℕ) : ℕ :=
  bif Nat.blt k 24 then 2 + k / 8 else bif Nat.blt k 48 then 2 + (k - 24) / 8 else bif Nat.blt k 60 then 5 + (k - 48) / 4
  else bif Nat.blt k 72 then 8 + (k - 60) / 4 else bif Nat.blt k 96 then 11 + (k - 72) / 8 else 11 + (k - 96) / 8

/-- What an event asks of transfer `k`'s standing: sent, received, taken back. A wait asks that whatever is still to be
sent is at a higher level. -/
def askK (e : Ev) (k : ℕ) (o : Bool × Bool × Bool) : Bool := match e with
  | .send k' => bif Nat.beq k' k then !o.1 && !o.2.2 else true
  | .recv k' => (bif Nat.beq k' k then !o.2.1 else true) && (o.1 || Nat.blt (lev k') (lev k))
  | .sw k' => bif Nat.beq k' k then o.1 && !o.2.2 else true
  | _ => true
def updK (e : Ev) (k : ℕ) (o : Bool × Bool × Bool) : Bool × Bool × Bool := (o.1 || isSend k e, o.2.1 || isRecv k e, o.2.2 || isSw k e)

/-! ## Step by step -/

theorem look_succ (z n w : ℕ) : look z (n + 1) w = upd z (ev z n) w (look z n w) := rfl
theorem sent_succ (z n k : ℕ) : sent z (n + 1) k = (sent z n k || isSend k (ev z n)) := rfl
theorem rcvd_succ (z n k : ℕ) : rcvd z (n + 1) k = (rcvd z n k || isRecv k (ev z n)) := rfl
theorem back_succ (z n k : ℕ) : back z (n + 1) k = (back z n k || isSw k (ev z n)) := rfl

/-- `m` events from event `i` on run from a state, every event's demand met. -/
def run {σ : Type} (z : ℕ) (f : Ev → σ → σ) (q : Ev → σ → Bool) : ℕ → ℕ → σ → Bool
  | 0, _, _ => true
  | m + 1, i, o => q (ev z i) o && run z f q m (i + 1) (f (ev z i) o)

theorem run_at {σ : Type} (z : ℕ) (f : Ev → σ → σ) (q : Ev → σ → Bool) (lk : ℕ → σ) (hs : ∀ n, lk (n + 1) = f (ev z n) (lk n)) :
    ∀ (m i : ℕ), run z f q m i (lk i) = true → ∀ n, i ≤ n → n < i + m → q (ev z n) (lk n) = true
  | 0, i, _, n, h1, h2 => by omega
  | m + 1, i, h, n, h1, h2 => by
      unfold run at h; rw [Bool.and_eq_true] at h
      by_cases hn : n = i
      · rw [hn]; exact h.1
      · exact run_at z f q lk hs m (i + 1) (by rw [hs]; exact h.2) n (by omega) (by omega)

theorem ev_nop (z n : ℕ) (hn : ¬ n < 677) : ev z n = .nop := by
  unfold ev
  simp only [Bool.cond_eq_ite, Nat.blt_eq]
  repeat rw [if_neg (by omega)]

theorem init_look (z w : ℕ) : look z 0 w = init w := rfl

end Cert.Plan
-- ==== Proof.Geom.lean ====
/-
Where the windows of the plan lie, and what they hold: buffers, regions of rows, contents by coordinates.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.ValueLayout
public import proofs.«01_k».proof.Proof.Plan

@[expose] public section

set_option maxRecDepth 16384

noncomputable section

namespace Cert.Ring

open Cert.KernelIdeal Cert.KernelIdeal.Gen Cert.Plan
open Idealize.ShloMosaic
open Idealize.ShloMosaic.TcCoe
open Idealize.ShloMosaic.ValueIdx

/-! ## Devices: column `q` of four in plane `z` -/

def qq (c : Dev nD) : ℕ := c.val % 4
def zz (c : Dev nD) : ℕ := c.val / 4
def dv (q z : ℕ) : Dev nD := ⟨(4 * z + q) % 16, Nat.mod_lt _ (by decide)⟩
def right (c : Dev nD) : Dev nD := dv ((qq c + 1) % 4) (zz c)
def left (c : Dev nD) : Dev nD := dv ((qq c + 3) % 4) (zz c)
def zup (c : Dev nD) : Dev nD := dv (qq c) ((zz c + 1) % 4)
def zdn (c : Dev nD) : Dev nD := dv (qq c) ((zz c + 3) % 4)

theorem zz_lt (c : Dev nD) : zz c < 4 := by revert c; decide
theorem qq_lt (c : Dev nD) : qq c < 4 := by revert c; decide
theorem left_right (c : Dev nD) : left (right c) = c := by revert c; decide
theorem right_left (c : Dev nD) : right (left c) = c := by revert c; decide
theorem zdn_zup (c : Dev nD) : zdn (zup c) = c := by revert c; decide
theorem zup_zdn (c : Dev nD) : zup (zdn c) = c := by revert c; decide

theorem qq_right (c : Dev nD) : qq (right c) = (qq c + 1) % 4 := by revert c; decide
theorem qq_left (c : Dev nD) : qq (left c) = (qq c + 3) % 4 := by revert c; decide
theorem qq_zup (c : Dev nD) : qq (zup c) = qq c := by revert c; decide
theorem zz_zup (c : Dev nD) : zz (zup c) = (zz c + 1) % 4 := by revert c; decide

/-- Whom transfer `k` goes to, and from whom it comes. -/
def peer (c : Dev nD) (k : ℕ) : Dev nD :=
  bif Nat.blt k 24 then right c else bif Nat.blt k 48 then left c else bif Nat.blt k 72 then zup c else bif Nat.blt k 96 then right c else left c
def giver (c : Dev nD) (k : ℕ) : Dev nD :=
  bif Nat.blt k 24 then left c else bif Nat.blt k 48 then right c else bif Nat.blt k 72 then zdn c else bif Nat.blt k 96 then left c else right c
theorem peer_giver (c : Dev nD) (k : ℕ) : peer (giver c k) k = c := by
  unfold peer giver
  cases Nat.blt k 24 <;> cases Nat.blt k 48 <;> cases Nat.blt k 72 <;> cases Nat.blt k 96 <;>
    simp only [cond_true, cond_false, right_left, left_right, zup_zdn]
theorem giver_peer (c : Dev nD) (k : ℕ) : giver (peer c k) k = c := by
  unfold peer giver
  cases Nat.blt k 24 <;> cases Nat.blt k 48 <;> cases Nat.blt k 72 <;> cases Nat.blt k 96 <;>
    simp only [cond_true, cond_false, right_left, left_right, zdn_zup]

/-! ## Buffers and regions -/

inductive Bf where
  | ar | al | bc | qo | po | qb | wb | ou
  deriving DecidableEq

abbrev ref : Bf → Ref sig .tc
  | .ar => cc0_scratch0 | .al => cc0_scratch1 | .qb => cc0_scratch2 | .bc => cc0_scratch3 | .qo => cc0_scratch4
  | .po => cc0_scratch5 | .wb => cc0_scratch6 | .ou => cc0_stg2_0

abbrev Ix (b : Bf) : Type := (ref b).ty.shape.Idx

/-- An element's slot, row and column. -/
def cS : (b : Bf) → Ix b → ℕ
  | .ar, i => (show S4x256x1024.Idx from i) 0 | .al, i => (show S4x256x1024.Idx from i) 0 | .bc, i => (show S4x128x1024.Idx from i) 0
  | .qo, _ => 0 | .po, _ => 0 | .qb, _ => 0 | .wb, _ => 0 | .ou, _ => 0
def cR : (b : Bf) → Ix b → ℕ
  | .ar, i => (show S4x256x1024.Idx from i) 1 | .al, i => (show S4x256x1024.Idx from i) 1 | .bc, i => (show S4x128x1024.Idx from i) 1
  | .qo, i => (show S512x1024.Idx from i) 0 | .po, i => (show S2048x1024.Idx from i) 0 | .qb, i => (show S512x1024.Idx from i) 0
  | .wb, i => (show S1024x1024.Idx from i) 0 | .ou, i => (show S2048x1024.Idx from i) 0
def cJ : (b : Bf) → Ix b → ℕ
  | .ar, i => (show S4x256x1024.Idx from i) 2 | .al, i => (show S4x256x1024.Idx from i) 2 | .bc, i => (show S4x128x1024.Idx from i) 2
  | .qo, i => (show S512x1024.Idx from i) 1 | .po, i => (show S2048x1024.Idx from i) 1 | .qb, i => (show S512x1024.Idx from i) 1
  | .wb, i => (show S1024x1024.Idx from i) 1 | .ou, i => (show S2048x1024.Idx from i) 1

/-- Rows `lo … lo + len - 1` of slot `sl`. -/
def rg (b : Bf) (sl lo len : ℕ) : Finset (Ix b) := Finset.univ.filter fun i => cS b i = sl ∧ lo ≤ cR b i ∧ cR b i < lo + len
theorem mem_rg (b : Bf) (sl lo len : ℕ) (i : Ix b) : i ∈ rg b sl lo len ↔ cS b i = sl ∧ lo ≤ cR b i ∧ cR b i < lo + len := by
  unfold rg; rw [Finset.mem_filter]; exact and_iff_right (Finset.mem_univ _)

/-- The buffer has slots: its rows are the second axis. -/
def slotted : Bf → Bool
  | .ar => true | .al => true | .bc => true | _ => false

abbrev Off (b : Bf) : Type := Fin (ref b).ty.shape.rank → ℕ
def oS : (b : Bf) → Off b → ℕ
  | .ar, o => (show Fin 3 → ℕ from o) 0 | .al, o => (show Fin 3 → ℕ from o) 0 | .bc, o => (show Fin 3 → ℕ from o) 0
  | .qo, _ => 0 | .po, _ => 0 | .qb, _ => 0 | .wb, _ => 0 | .ou, _ => 0
def oR : (b : Bf) → Off b → ℕ
  | .ar, o => (show Fin 3 → ℕ from o) 1 | .al, o => (show Fin 3 → ℕ from o) 1 | .bc, o => (show Fin 3 → ℕ from o) 1
  | .qo, o => (show Fin 2 → ℕ from o) 0 | .po, o => (show Fin 2 → ℕ from o) 0 | .qb, o => (show Fin 2 → ℕ from o) 0
  | .wb, o => (show Fin 2 → ℕ from o) 0 | .ou, o => (show Fin 2 → ℕ from o) 0
def oJ : (b : Bf) → Off b → ℕ
  | .ar, o => (show Fin 3 → ℕ from o) 2 | .al, o => (show Fin 3 → ℕ from o) 2 | .bc, o => (show Fin 3 → ℕ from o) 2
  | .qo, o => (show Fin 2 → ℕ from o) 1 | .po, o => (show Fin 2 → ℕ from o) 1 | .qb, o => (show Fin 2 → ℕ from o) 1
  | .wb, o => (show Fin 2 → ℕ from o) 1 | .ou, o => (show Fin 2 → ℕ from o) 1

/-- A rectangle of `size` at `off` is rows `lo … lo + len - 1` of slot `sl`. -/
def isRg (b : Bf) (off size : Off b) (sl lo len : ℕ) : Bool :=
  (bif slotted b then Nat.beq (oS b size) 1 && Nat.beq (oS b off) sl else Nat.beq 0 sl) && Nat.beq (oR b off) lo && Nat.beq (oR b size) len
    && Nat.beq (oJ b off) 0 && Nat.beq (oJ b size) 1024
/-- It is among them. -/
def inRg (b : Bf) (off size : Off b) (sl lo len : ℕ) : Bool :=
  (bif slotted b then Nat.beq (oS b size) 1 && Nat.beq (oS b off) sl else Nat.beq 0 sl) && Nat.ble lo (oR b off)
    && Nat.ble (oR b off + oR b size) (lo + len)

theorem mem_unit (b : Bf) (off size : Off b) (inb) (i : Ix b) : i ∈ (Rect.unit (s := (ref b).ty.shape) off size inb).set ↔
    (oS b off ≤ cS b i ∧ (slotted b = true → cS b i < oS b off + oS b size)) ∧ (oR b off ≤ cR b i ∧ cR b i < oR b off + oR b size)
      ∧ (oJ b off ≤ cJ b i ∧ cJ b i < oJ b off + oJ b size) := by
  rw [Rect.mem_set_unit]
  cases b <;> dsimp only [oS, cS, oR, cR, oJ, cJ, slotted]
  all_goals
    constructor
    · intro h
      first
        | exact ⟨⟨(h (0 : Fin 3)).1, fun _ => (h (0 : Fin 3)).2⟩, h (1 : Fin 3), h (2 : Fin 3)⟩
        | exact ⟨⟨Nat.le_refl _, fun h => by cases h⟩, h (0 : Fin 2), h (1 : Fin 2)⟩
    · intro h
      first
        | exact fun a => match a with | ⟨0, _⟩ => ⟨h.1.1, h.1.2 rfl⟩ | ⟨1, _⟩ => h.2.1 | ⟨2, _⟩ => h.2.2
        | exact fun a => match a with | ⟨0, _⟩ => h.2.1 | ⟨1, _⟩ => h.2.2

theorem cJ_lt (b : Bf) (i : Ix b) : cJ b i < 1024 := by
  cases b <;> dsimp only [cJ]
  all_goals first
    | exact (show S4x256x1024.Idx from i 2).isLt
    | exact Fin.isLt _
theorem cS_zero (b : Bf) (h : slotted b = false) (i : Ix b) : cS b i = 0 := by cases b <;> first | rfl | cases h
theorem oS_zero (b : Bf) (h : slotted b = false) (o : Off b) : oS b o = 0 := by cases b <;> first | rfl | cases h

theorem set_sub (b : Bf) (off size : Off b) (inb) (sl lo len : ℕ) (h : inRg b off size sl lo len = true) :
    (Rect.unit (s := (ref b).ty.shape) off size inb).set ⊆ rg b sl lo len := by
  intro i hi
  rw [mem_unit] at hi; rw [mem_rg]
  unfold inRg at h
  simp only [Bool.and_eq_true, Nat.beq_eq, Nat.ble_eq] at h
  cases hb : slotted b
  · rw [hb] at h; simp only [cond_false, Nat.beq_eq] at h; rw [cS_zero b hb]; omega
  · rw [hb] at h hi; simp only [cond_true, Bool.and_eq_true, Nat.beq_eq] at h
    have := hi.1.2 rfl; omega
theorem set_eq (b : Bf) (off size : Off b) (inb) (sl lo len : ℕ) (h : isRg b off size sl lo len = true) :
    (Rect.unit (s := (ref b).ty.shape) off size inb).set = rg b sl lo len := by
  ext i
  rw [mem_unit, mem_rg]
  unfold isRg at h
  simp only [Bool.and_eq_true, Nat.beq_eq] at h
  have hj := cJ_lt b i
  cases hb : slotted b
  · rw [hb] at h; simp only [cond_false, Nat.beq_eq] at h; rw [cS_zero b hb, oS_zero b hb]
    constructor
    · intro hi; omega
    · intro hi; refine ⟨⟨by omega, fun h => by cases h⟩, by omega, by omega⟩
  · rw [hb] at h; simp only [cond_true, Bool.and_eq_true, Nat.beq_eq] at h
    constructor
    · intro hi; have := hi.1.2 rfl; omega
    · intro hi; refine ⟨⟨by omega, fun _ => by omega⟩, by omega, by omega⟩

/-! ## The windows' geometry -/

def wbf (w : ℕ) : Bf :=
  bif Nat.blt w 32 then .ar else bif Nat.blt w 64 then .al else bif Nat.blt w 80 then .bc else bif Nat.blt w 130 then .qo
  else bif Nat.blt w 227 then .po else bif Nat.blt w 229 then .qb else bif Nat.blt w 230 then .wb else .ou
def wsl (w : ℕ) : ℕ := bif Nat.blt w 32 then w / 8 else bif Nat.blt w 64 then (w - 32) / 8 else bif Nat.blt w 80 then (w - 64) / 4 else 0
def wlen (w : ℕ) : ℕ :=
  bif Nat.blt w 80 then 32 else bif Nat.blt w 82 then 64 else bif Nat.blt w 226 then 32 else bif Nat.blt w 227 then 512
  else bif Nat.blt w 229 then 256 else bif Nat.blt w 230 then 1024 else bif Nat.blt w 232 then 64 else 32
/-- The first row of a chunk `n` back from the device's own, of the quarter `g` hops away. -/
def chk (z n : ℕ) : ℕ := 128 * ((z + 4 - n) % 4)
def qrt (q g d : ℕ) : ℕ := 512 * (bif Nat.beq d 0 then (q + 3 - g) % 4 else (q + 1 + g) % 4) + 256 * d
def wlo (q z w : ℕ) : ℕ :=
  bif Nat.blt w 64 then 32 * (w % 8)
  else bif Nat.blt w 80 then 32 * (w % 4)
  else bif Nat.blt w 82 then 128 * z + 64 * (w - 80)
  else bif Nat.blt w 130 then chk z ((w - 82) / 12) + 32 * ((w - 82) / 3 % 4)
  else bif Nat.blt w 226 then qrt q ((w - 130) / 32) ((w - 130) / 16 % 2) + 32 * ((w - 130) / 2 % 8)
  else bif Nat.blt w 227 then 512 * q
  else bif Nat.blt w 229 then 256 * (w - 227)
  else bif Nat.blt w 230 then 0
  else bif Nat.blt w 232 then 512 * q + 128 * z + 64 * (w - 230)
  else bif Nat.blt w 244 then 512 * q + chk z ((w - 232) / 4 + 1) + 32 * ((w - 232) % 4)
  else qrt q ((w - 244) / 16) ((w - 244) % 2) + 32 * ((w - 244) % 16 / 2)
/-- Which share: 0 the whole, 1 and 2 its halves, 3 and 4 the halves of 2. -/
def wsh (w : ℕ) : ℕ :=
  bif Nat.blt w 82 then 0 else bif Nat.blt w 130 then (bif Nat.beq ((w - 82) % 3) 0 then 1 else 2 + (w - 82) % 3)
  else bif Nat.blt w 226 then 1 + w % 2 else 0

/-! ## Contents -/

section Contents
variable {F : FTy → Type} [FloatOps F]
variable (m : (ℓ : Loc nD τ sig) → Buf (Elt F) ℓ) (ρ : Dev nD → PrngReg)

def s₀ : MemSt nD τ sig (Elt F) := ⟨m, fun _ => 0, ρ⟩

/-- Device `c`'s blocks of the two inputs. -/
def xstg (c : Dev nD) : (cc0_stg0_0 : Ref sig .tc).ty.Contents (Elt F) :=
  (win0_0.blk (0 : Fin 1)).view.read (Elt F) ((s₀ m ρ).mem ((c : Thread nD τ).loc main_arg0))
def wstg (c : Dev nD) : (cc0_stg1_0 : Ref sig .tc).ty.Contents (Elt F) :=
  (win0_1.blk (0 : Fin 1)).view.read (Elt F) ((s₀ m ρ).mem ((c : Thread nD τ).loc main_arg1))

abbrev tr (x : F .f32) : F .bf16 := FloatOps.truncf .bf16 bitsLt_bf16_f32 x
abbrev ex (x : F .bf16) : F .f32 := FloatOps.extf .f32 bitsLt_bf16_f32 x

def ixT (r j : ℕ) : S2048x1024.Idx := ix2 ⟨r % 2048, Nat.mod_lt _ (by decide)⟩ ⟨j % 1024, Nat.mod_lt _ (by decide)⟩
def ixM (r j : ℕ) : S64x1024.Idx := ix2 ⟨r % 64, Nat.mod_lt _ (by decide)⟩ ⟨j % 1024, Nat.mod_lt _ (by decide)⟩
def ixW (r j : ℕ) : S1024x1024.Idx := ix2 ⟨r % 1024, Nat.mod_lt _ (by decide)⟩ ⟨j % 1024, Nat.mod_lt _ (by decide)⟩

def tN (c : Dev nD) (r j : ℕ) : F .f32 := (show S2048x1024.Idx → F .f32 from xstg m ρ c) (ixT r j)

/-- The rightward partial sum of a quarter's first half after `n` hops, as device `c` holds it. -/
def arN : ℕ → Dev nD → ℕ → ℕ → F .bf16
  | 0, c, r, j => tr (tN m ρ c (512 * ((qq c + 3) % 4) + r) j)
  | n + 1, c, r, j => tr (FloatOps.addf (ex (arN n (left c) r j)) (tN m ρ c (512 * ((qq c + 6 - n) % 4) + r) j))
/-- The leftward partial sum of a quarter's second half. -/
def alN : ℕ → Dev nD → ℕ → ℕ → F .bf16
  | 0, c, r, j => tr (tN m ρ c (512 * ((qq c + 1) % 4) + 256 + r) j)
  | n + 1, c, r, j => tr (FloatOps.addf (ex (alN n (right c) r j)) (tN m ρ c (512 * ((qq c + n + 2) % 4) + 256 + r) j))
/-- The plane's sum of the device's own quarter. -/
def qbN (c : Dev nD) (r j : ℕ) : F .bf16 := if r < 256 then arN m ρ 3 c r j else alN m ρ 3 c (r - 256) j
/-- The partial sum of a chunk up the column after `n` hops. -/
def bcN : ℕ → Dev nD → ℕ → ℕ → F .bf16
  | 0, c, r, j => qbN m ρ c (128 * ((zz c + 3) % 4) + r) j
  | n + 1, c, r, j => tr (FloatOps.addf (ex (bcN n (zdn c) r j)) (ex (qbN m ρ c (128 * ((zz c + 6 - n) % 4) + r) j)))
def wbV (c : Dev nD) : S1024x1024.Idx → F .bf16 := k0_pay22 (wstg m ρ c)
/-- The product of a half of the device's own chunk, -/
def resV (c : Dev nD) (half : ℕ) : S64x1024.Idx → F .f32 :=
  k0_pay110 (fun i : S1x64x1024.Idx => bcN m ρ 3 c (64 * half + (i 1).val) (i 2).val) (wbV m ρ c)
/-- of the chunk. -/
def resN (c : Dev nD) (r j : ℕ) : F .f32 := resV m ρ c (r / 64) (ixM r j)
def qoN (c : Dev nD) (r j : ℕ) : F .bf16 := tr (resN m ρ (dv (qq c) (r / 128 % 4)) (r % 128) j)
def poN (r j : ℕ) : F .bf16 := tr (resN m ρ (dv (r / 512 % 4) (r % 512 / 128)) (r % 128) j)
def outN (c : Dev nD) (r j : ℕ) : F .f32 :=
  if r / 512 = qq c ∧ r % 512 / 128 = zz c then resN m ρ c (r % 128) j else ex (poN m ρ r j)

/-- What a device stores or finishes in a bf16 buffer, -/
def stN (c : Dev nD) : Bf → ℕ → ℕ → ℕ → F .bf16
  | .ar, s, r, j => arN m ρ ((s + 1) % 4) c r j
  | .al, s, r, j => alN m ρ ((s + 1) % 4) c r j
  | .bc, s, r, j => bcN m ρ ((s + 1) % 4) c r j
  | .qo, _, r, j => qoN m ρ c r j
  | .po, _, r, j => poN m ρ r j
  | .qb, _, r, j => qbN m ρ c r j
  | .wb, _, r, j => wbV m ρ c (ixW r j)
  | .ou, _, r, j => poN m ρ r j
/-- what it receives there. -/
def rcN (c : Dev nD) : Bf → ℕ → ℕ → ℕ → F .bf16
  | .ar, s, r, j => arN m ρ s (left c) r j
  | .al, s, r, j => alN m ρ s (right c) r j
  | .bc, s, r, j => bcN m ρ s (zdn c) r j
  | b, s, r, j => stN m ρ c b s r j

/-- Values by coordinates as a buffer's contents; the result's own values are f32. -/
def fill (g : Bf → ℕ → ℕ → ℕ → F .bf16) (o : ℕ → ℕ → F .f32) : (b : Bf) → (ref b).ty.Contents (Elt F)
  | .ar => fun i => g .ar (cS .ar i) (cR .ar i) (cJ .ar i)
  | .al => fun i => g .al (cS .al i) (cR .al i) (cJ .al i)
  | .bc => fun i => g .bc (cS .bc i) (cR .bc i) (cJ .bc i)
  | .qo => fun i => g .qo (cS .qo i) (cR .qo i) (cJ .qo i)
  | .po => fun i => g .po (cS .po i) (cR .po i) (cJ .po i)
  | .qb => fun i => g .qb (cS .qb i) (cR .qb i) (cJ .qb i)
  | .wb => fun i => g .wb (cS .wb i) (cR .wb i) (cJ .wb i)
  | .ou => fun i => o (cR .ou i) (cJ .ou i)

def stC (c : Dev nD) (b : Bf) : (ref b).ty.Contents (Elt F) := fill (stN m ρ c) (outN m ρ c) b
def rcC (c : Dev nD) (b : Bf) : (ref b).ty.Contents (Elt F) := fill (rcN m ρ c) (outN m ρ c) b

theorem qoN_poN (c : Dev nD) (R j : ℕ) (hR : R < 512) : qoN m ρ c R j = poN m ρ (512 * qq c + R) j := by
  have := qq_lt c
  unfold qoN poN
  rw [show (512 * qq c + R) / 512 % 4 = qq c by omega, show (512 * qq c + R) % 512 / 128 = R / 128 % 4 by omega,
    show (512 * qq c + R) % 128 = R % 128 by omega]

set_option maxHeartbeats 2000000 in
/-- What transfer `k` carries is what its receiver is to find: the stored value on one side, the received one on the other. -/
theorem sent_val (c : Dev nD) (k : ℕ) (hk : k < 120) (r j : ℕ) (hr : r < 32) :
    stN m ρ c (wbf (src (zz c) k)) (wsl (src (zz c) k)) (wlo (qq c) (zz c) (src (zz c) k) + r) j
      = rcN m ρ (peer c k) (wbf (dlo k)) (wsl (dlo k)) (wlo (qq (peer c k)) (zz (peer c k)) (dlo k) + r) j := by
  have hz := zz_lt c
  have hq := qq_lt c
  have hR := qq_right c; have hL := qq_left c; have hU := zz_zup c; have hV := qq_zup c
  by_cases h1 : k < 24
  · rw [show src (zz c) k = 8 * ((k / 8 + 3) % 4) + k % 8 by
        simp only [src, Bool.cond_eq_ite, Nat.blt_eq]; repeat (first | rw [if_pos (by omega)] | rw [if_neg (by omega)])]
    rw [show dlo k = k by
        simp only [dlo, Bool.cond_eq_ite, Nat.blt_eq]; repeat (first | rw [if_pos (by omega)] | rw [if_neg (by omega)])]
    rw [show peer c k = right c by
        simp only [peer, Bool.cond_eq_ite, Nat.blt_eq]; repeat (first | rw [if_pos (by omega)] | rw [if_neg (by omega)])]
    simp only [wbf, wsl, wlo, Bool.cond_eq_ite, Nat.blt_eq]
    repeat (first | rw [if_pos (by omega)] | rw [if_neg (by omega)])
    simp only [stN, rcN, left_right]
    rw [show ((8 * ((k / 8 + 3) % 4) + k % 8) / 8 + 1) % 4 = k / 8 by omega, show (8 * ((k / 8 + 3) % 4) + k % 8) % 8 = k % 8 by omega]
  by_cases h2 : k < 48
  · rw [show src (zz c) k = 32 + 8 * (((k - 24) / 8 + 3) % 4) + k % 8 by
        simp only [src, Bool.cond_eq_ite, Nat.blt_eq]; repeat (first | rw [if_pos (by omega)] | rw [if_neg (by omega)])]
    rw [show dlo k = k + 8 by
        simp only [dlo, Bool.cond_eq_ite, Nat.blt_eq]; repeat (first | rw [if_pos (by omega)] | rw [if_neg (by omega)])]
    rw [show peer c k = left c by
        simp only [peer, Bool.cond_eq_ite, Nat.blt_eq]; repeat (first | rw [if_pos (by omega)] | rw [if_neg (by omega)])]
    simp only [wbf, wsl, wlo, Bool.cond_eq_ite, Nat.blt_eq]
    repeat (first | rw [if_pos (by omega)] | rw [if_neg (by omega)])
    simp only [stN, rcN, right_left]
    rw [show ((32 + 8 * (((k - 24) / 8 + 3) % 4) + k % 8 - 32) / 8 + 1) % 4 = (k + 8 - 32) / 8 by omega,
      show (32 + 8 * (((k - 24) / 8 + 3) % 4) + k % 8) % 8 = (k + 8) % 8 by omega]
  by_cases h3 : k < 60
  · rw [show src (zz c) k = 64 + 4 * (((k - 48) / 4 + 3) % 4) + k % 4 by
        simp only [src, Bool.cond_eq_ite, Nat.blt_eq]; repeat (first | rw [if_pos (by omega)] | rw [if_neg (by omega)])]
    rw [show dlo k = k + 16 by
        simp only [dlo, Bool.cond_eq_ite, Nat.blt_eq]; repeat (first | rw [if_pos (by omega)] | rw [if_neg (by omega)])]
    rw [show peer c k = zup c by
        simp only [peer, Bool.cond_eq_ite, Nat.blt_eq]; repeat (first | rw [if_pos (by omega)] | rw [if_neg (by omega)])]
    simp only [wbf, wsl, wlo, Bool.cond_eq_ite, Nat.blt_eq]
    repeat (first | rw [if_pos (by omega)] | rw [if_neg (by omega)])
    simp only [stN, rcN, zdn_zup]
    rw [show ((64 + 4 * (((k - 48) / 4 + 3) % 4) + k % 4 - 64) / 4 + 1) % 4 = (k + 16 - 64) / 4 by omega,
      show (64 + 4 * (((k - 48) / 4 + 3) % 4) + k % 4) % 4 = (k + 16) % 4 by omega]
  by_cases h4 : k < 72
  · rw [show src (zz c) k = 82 + 3 * (k - 60) by
        simp only [src, Bool.cond_eq_ite, Nat.blt_eq]; repeat (first | rw [if_pos (by omega)] | rw [if_neg (by omega)])]
    rw [show dlo k = 82 + (k - 60 + 4) * 3 by
        simp only [dlo, Bool.cond_eq_ite, Nat.blt_eq]; repeat (first | rw [if_pos (by omega)] | rw [if_neg (by omega)])]
    rw [show peer c k = zup c by
        simp only [peer, Bool.cond_eq_ite, Nat.blt_eq]; repeat (first | rw [if_pos (by omega)] | rw [if_neg (by omega)])]
    simp only [wbf, wsl, wlo, Bool.cond_eq_ite, Nat.blt_eq]
    repeat (first | rw [if_pos (by omega)] | rw [if_neg (by omega)])
    simp only [stN, rcN]
    unfold qoN chk
    rw [hV, hU]
    have : 128 * ((zz c + 4 - (82 + 3 * (k - 60) - 82) / 12) % 4) + 32 * ((82 + 3 * (k - 60) - 82) / 3 % 4)
      = 128 * (((zz c + 1) % 4 + 4 - (82 + (k - 60 + 4) * 3 - 82) / 12) % 4) + 32 * ((82 + (k - 60 + 4) * 3 - 82) / 3 % 4) := by omega
    rw [this]
  by_cases h5 : k < 80
  · rw [show src (zz c) k = 82 + (4 * ((zz c + 4 - (k - 72) / 4) % 4) + k % 4) * 3 + 1 by
        simp only [src, Bool.cond_eq_ite, Nat.blt_eq]; repeat (first | rw [if_pos (by omega)] | rw [if_neg (by omega)])]
    rw [show dlo k = 130 + (16 * ((k - 72) / 8) + k % 8) * 2 by
        simp only [dlo, Bool.cond_eq_ite, Nat.blt_eq]; repeat (first | rw [if_pos (by omega)] | rw [if_neg (by omega)])]
    rw [show peer c k = right c by
        simp only [peer, Bool.cond_eq_ite, Nat.blt_eq]; repeat (first | rw [if_pos (by omega)] | rw [if_neg (by omega)])]
    simp only [wbf, wsl, wlo, Bool.cond_eq_ite, Nat.blt_eq]
    repeat (first | rw [if_pos (by omega)] | rw [if_neg (by omega)])
    simp only [stN, rcN]
    unfold qrt chk
    rw [qoN_poN m ρ c _ j (by omega)]
    simp only [Bool.cond_eq_ite, Nat.beq_eq]
    rw [hR, if_pos (by omega)]
    congr 1; omega
  by_cases h6 : k < 96
  · rw [show src (zz c) k = 130 + (16 * ((k - 72) / 8 - 1) + k % 8) * 2 by
        simp only [src, Bool.cond_eq_ite, Nat.blt_eq]; repeat (first | rw [if_pos (by omega)] | rw [if_neg (by omega)])]
    rw [show dlo k = 130 + (16 * ((k - 72) / 8) + k % 8) * 2 by
        simp only [dlo, Bool.cond_eq_ite, Nat.blt_eq]; repeat (first | rw [if_pos (by omega)] | rw [if_neg (by omega)])]
    rw [show peer c k = right c by
        simp only [peer, Bool.cond_eq_ite, Nat.blt_eq]; repeat (first | rw [if_pos (by omega)] | rw [if_neg (by omega)])]
    simp only [wbf, wsl, wlo, Bool.cond_eq_ite, Nat.blt_eq]
    repeat (first | rw [if_pos (by omega)] | rw [if_neg (by omega)])
    simp only [stN, rcN]
    unfold qrt
    simp only [Bool.cond_eq_ite, Nat.beq_eq]
    rw [hR, if_pos (by omega), if_pos (by omega)]
    congr 1; omega
  by_cases h7 : k < 104
  · rw [show src (zz c) k = 82 + (4 * ((zz c + 4 - (2 + (k - 96) / 4)) % 4) + k % 4) * 3 + 1 by
        simp only [src, Bool.cond_eq_ite, Nat.blt_eq]; repeat (first | rw [if_pos (by omega)] | rw [if_neg (by omega)])]
    rw [show dlo k = 130 + (16 * ((k - 96) / 8) + 8 + k % 8) * 2 by
        simp only [dlo, Bool.cond_eq_ite, Nat.blt_eq]; repeat (first | rw [if_pos (by omega)] | rw [if_neg (by omega)])]
    rw [show peer c k = left c by
        simp only [peer, Bool.cond_eq_ite, Nat.blt_eq]; repeat (first | rw [if_pos (by omega)] | rw [if_neg (by omega)])]
    simp only [wbf, wsl, wlo, Bool.cond_eq_ite, Nat.blt_eq]
    repeat (first | rw [if_pos (by omega)] | rw [if_neg (by omega)])
    simp only [stN, rcN]
    unfold qrt chk
    rw [qoN_poN m ρ c _ j (by omega)]
    simp only [Bool.cond_eq_ite, Nat.beq_eq]
    rw [hL, if_neg (by omega)]
    congr 1; omega
  · rw [show src (zz c) k = 130 + (16 * ((k - 96) / 8 - 1) + 8 + k % 8) * 2 by
        simp only [src, Bool.cond_eq_ite, Nat.blt_eq]; repeat (first | rw [if_pos (by omega)] | rw [if_neg (by omega)])]
    rw [show dlo k = 130 + (16 * ((k - 96) / 8) + 8 + k % 8) * 2 by
        simp only [dlo, Bool.cond_eq_ite, Nat.blt_eq]; repeat (first | rw [if_pos (by omega)] | rw [if_neg (by omega)])]
    rw [show peer c k = left c by
        simp only [peer, Bool.cond_eq_ite, Nat.blt_eq]; repeat (first | rw [if_pos (by omega)] | rw [if_neg (by omega)])]
    simp only [wbf, wsl, wlo, Bool.cond_eq_ite, Nat.blt_eq]
    repeat (first | rw [if_pos (by omega)] | rw [if_neg (by omega)])
    simp only [stN, rcN]
    unfold qrt
    simp only [Bool.cond_eq_ite, Nat.beq_eq]
    rw [hL, if_neg (by omega), if_neg (by omega)]
    congr 1; omega

end Contents

end Cert.Ring
-- ==== Proof.PlanRun.lean ====
/-
The plan holds together: run through in order, every event finds the windows and the transfers in the state it asks for,
and at the end every window is back. Checked by computing the states, window by window and transfer by transfer.
-/
module

public import proofs.«01_k».proof.Proof.Plan

@[expose] public section

set_option maxRecDepth 16384

namespace Cert.Plan

theorem run_windows : ∀ z : Fin 4, ∀ w : Fin 292, run z (fun e o => upd z e w o) (fun e o => ask z e w o) 677 0 (init w) = true := by
  decide +kernel
theorem run_keys : ∀ z : Fin 4, ∀ k : Fin 120, run z (fun e o => updK e k o) (fun e o => askK e k o) 677 0 (false, false, false) = true := by
  decide +kernel

theorem ask_ev (z n w : ℕ) (hz : z < 4) (hw : w < 292) : ask z (ev z n) w (look z n w) = true := by
  by_cases hn : n < 677
  · exact run_at z (fun e o => upd z e w o) (fun e o => ask z e w o) (fun n => look z n w) (fun _ => rfl) 677 0 (run_windows ⟨z, hz⟩ ⟨w, hw⟩)
      n (Nat.zero_le _) (by omega)
  · rw [ev_nop z n hn]; rfl
theorem askK_ev (z n k : ℕ) (hz : z < 4) (hk : k < 120) : askK (ev z n) k (sent z n k, rcvd z n k, back z n k) = true := by
  by_cases hn : n < 677
  · exact run_at z (fun e o => updK e k o) (fun e o => askK e k o) (fun n => (sent z n k, rcvd z n k, back z n k)) (fun _ => rfl) 677 0
      (run_keys ⟨z, hz⟩ ⟨k, hk⟩) n (Nat.zero_le _) (by omega)
  · rw [ev_nop z n hn]; rfl

theorem end_look : ∀ z : Fin 4, ∀ w : Fin 292, (80 ≤ w.val ∧ w.val < 82) ∨ look z 677 w ≠ 0 := by decide +kernel
theorem end_out : ∀ z : Fin 4, ∀ j : Fin 62, look z 677 (230 + j) = 2 := by decide +kernel
theorem end_keys : ∀ z : Fin 4, ∀ k : Fin 120, (sent z 677 k && rcvd z 677 k && back z 677 k) = true := by decide +kernel

end Cert.Plan
-- ==== Proof.Base.lean ====
/-
The protocol of the kernel: the resource algebra, the cells, the schedule of who pays which cell with what, the levels,
and the state of a device between two events of the plan.
-/
module

public import proofs.«01_k».proof.Proof.Geom
public import proofs.«01_k».proof.Proof.PlanRun

@[expose] public section

set_option maxRecDepth 16384

noncomputable section

namespace Cert.Ring

open Cert.KernelIdeal Cert.KernelIdeal.Gen Cert.Plan
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) (Fin 4)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

abbrev 𝒱₀ : Variants := Variants.none

/-! ## Cells -/

abbrev barS : Sem sig := (SemArray.scalar (sig.barrier 0 rfl) : Sems sig S_).sem

def semS (k : ℕ) : DmaSem sig :=
  ⟨(bif Nat.blt k 24 then 3 + k else bif Nat.blt k 48 then 51 + (k - 24) else bif Nat.blt k 60 then 99 + (k - 48)
    else bif Nat.blt k 72 then 123 + (k - 60) else bif Nat.blt k 96 then 147 + (k - 72) else 195 + (k - 96)) % 243, Nat.mod_lt _ (by decide)⟩
def semR (k : ℕ) : DmaSem sig :=
  ⟨(bif Nat.blt k 24 then 27 + k else bif Nat.blt k 48 then 75 + (k - 24) else bif Nat.blt k 60 then 111 + (k - 48)
    else bif Nat.blt k 72 then 135 + (k - 60) else bif Nat.blt k 96 then 171 + (k - 72) else 219 + (k - 96)) % 243, Nat.mod_lt _ (by decide)⟩

/-- Which transfer a semaphore is of, and whether it is the one the receiver waits on. -/
def decK (s : ℕ) : ℕ :=
  bif Nat.blt s 27 then s - 3 else bif Nat.blt s 51 then s - 27 else bif Nat.blt s 75 then 24 + (s - 51) else bif Nat.blt s 99 then 24 + (s - 75)
  else bif Nat.blt s 111 then 48 + (s - 99) else bif Nat.blt s 123 then 48 + (s - 111) else bif Nat.blt s 135 then 60 + (s - 123)
  else bif Nat.blt s 147 then 60 + (s - 135) else bif Nat.blt s 171 then 72 + (s - 147) else bif Nat.blt s 195 then 72 + (s - 171)
  else bif Nat.blt s 219 then 96 + (s - 195) else 96 + (s - 219)
def decR (s : ℕ) : Bool :=
  bif Nat.blt s 27 then false else bif Nat.blt s 51 then true else bif Nat.blt s 75 then false else bif Nat.blt s 99 then true
  else bif Nat.blt s 111 then false else bif Nat.blt s 123 then true else bif Nat.blt s 135 then false
  else bif Nat.blt s 147 then true else bif Nat.blt s 171 then false else bif Nat.blt s 195 then true
  else bif Nat.blt s 219 then false else true

theorem dec_S : ∀ k : Fin 120, decK (semS k).val = k ∧ decR (semS k).val = false ∧ 3 ≤ (semS k).val := by decide +kernel
theorem dec_R : ∀ k : Fin 120, decK (semR k).val = k ∧ decR (semR k).val = true ∧ 3 ≤ (semR k).val := by decide +kernel

abbrev barCell (c : Dev nD) : GSem nD τ sig := ((c : Thread nD τ), .reg barS)
abbrev sCell (c : Dev nD) (k : ℕ) : GSem nD τ sig := ((c : Thread nD τ), .dma (semS k))
abbrev rCell (c : Dev nD) (k : ℕ) : GSem nD τ sig := ((c : Thread nD τ), .dma (semR k))

/-- The kernel's own semaphores, as the launch indexes them; with the barrier first, all the cells of the protocol. -/
def osem (j : Fin 240) : SemLoc sig := .dma ⟨j.val + 3, Nat.add_lt_add_right j.isLt 3⟩
def csem (j : Fin 241) : SemLoc sig := if j.val = 0 then .reg barS else .dma ⟨(j.val + 2) % 243, Nat.mod_lt _ (by decide)⟩
abbrev kcell (ck : Dev nD × Fin 241) : GSem nD τ sig := ((ck.1 : Thread nD τ), csem ck.2)

def jS (k : ℕ) : Fin 241 := ⟨((semS k).val - 2) % 241, Nat.mod_lt _ (by decide)⟩
def jR (k : ℕ) : Fin 241 := ⟨((semR k).val - 2) % 241, Nat.mod_lt _ (by decide)⟩
theorem csem_jS : ∀ k : Fin 120, csem (jS k) = .dma (semS k) := by decide +kernel
theorem csem_jR : ∀ k : Fin 120, csem (jR k) = .dma (semR k) := by decide +kernel
theorem csem_0 : csem 0 = .reg barS := rfl

/-- The credit of a transfer: 32 rows of 1024 bf16 values. -/
abbrev N : ℕ := ((Memref.whole cc0_scratch4).slice (Rect.unit (s := S512x1024) ![0, 0] S32x1024.size (by decide)) (fun _ => rfl) : Memref sig .tc .vmem S32x1024 .bf16).view.dmaCredit
theorem N_pos : 0 < N := View.dmaCredit_pos _ (by decide)

/-! ## Assertions -/

/-- Rows `lo … lo + len - 1` of slot `sl` of device `c`'s buffer `b`, a share `q` of them, holding `f` there. -/
def P (c : Dev nD) (b : Bf) (sl lo len : ℕ) (q : PosShare TreeShare) (f : Buf (Elt F) ((c : Thread nD τ).loc (ref b))) : sProp 𝕄 :=
  ((c : Thread nD τ).loc (ref b)) ↦[rg b sl lo len]{q} f

def shr : ℕ → PosShare TreeShare
  | 0 => fullShare
  | 1 => fullShare.left
  | 2 => fullShare.right
  | 3 => fullShare.right.left
  | _ => fullShare.right.right

/-- Window `w` of device `c` with contents `f`; in state `o`. -/
def PW (c : Dev nD) (w : ℕ) (f : Buf (Elt F) ((c : Thread nD τ).loc (ref (wbf w)))) : sProp 𝕄 :=
  P c (wbf w) (wsl w) (wlo (qq c) (zz c) w) (wlen w) (shr (wsh w)) f
def X (c : Dev nD) (w : ℕ) : ℕ → sProp 𝕄
  | 0 => iprop(emp)
  | 1 => iprop(∃ f, PW c w f)
  | 2 => PW c w (stC m ρ c (wbf w))
  | _ => PW c w (rcC m ρ c (wbf w))

/-- The landing rows of transfer `k` on device `p`. -/
def land (p : Dev nD) (k : ℕ) (f : Buf (Elt F) ((p : Thread nD τ).loc (ref (wbf (dlo k))))) : sProp 𝕄 :=
  P p (wbf (dlo k)) (wsl (dlo k)) (wlo (qq p) (zz p) (dlo k)) 32 fullShare f

def sendPay (c : Dev nD) (k : ℕ) : sProp 𝕄 := X m ρ c (src (zz c) k) 2
def recvPay (c : Dev nD) (k : ℕ) : sProp 𝕄 := land c k (rcC m ρ c (wbf (dlo k)))
/-- The transfers whose landing rows come with each of the four signals at the start. -/
def inKeys (d : Fin 4) (k : ℕ) : Bool := match d with
  | 0 => Nat.blt k 24 || (Nat.ble 72 k && Nat.blt k 96)
  | 1 => (Nat.ble 24 k && Nat.blt k 48) || Nat.ble 96 k
  | 2 => false
  | 3 => Nat.ble 48 k && Nat.blt k 72
def keysOf (d : Fin 4) : Finset ℕ := (Finset.range 120).filter fun k => inKeys d k = true
def barPay (c : Dev nD) (d : Fin 4) : sProp 𝕄 := bigSep (keysOf d) fun k => iprop(∃ f, land (F := F) (peer c k) k f)

omit [FloatOps F] in
instance P_storable (c : Dev nD) (b : Bf) (sl lo len : ℕ) (q) (f) : BI.Storable (upEmb : UEmb _ 𝕄) (P (F := F) c b sl lo len q f) := by
  unfold P; infer_instance
instance sendPay_storable (c : Dev nD) (k : ℕ) : BI.Storable (upEmb : UEmb _ 𝕄) (sendPay (F := F) m ρ c k) := by
  show BI.Storable (upEmb : UEmb _ 𝕄) (PW c (src (zz c) k) (stC m ρ c (wbf (src (zz c) k))))
  unfold PW; infer_instance
instance recvPay_storable (c : Dev nD) (k : ℕ) : BI.Storable (upEmb : UEmb _ 𝕄) (recvPay (F := F) m ρ c k) := by
  unfold recvPay land; infer_instance
omit [FloatOps F] in
instance barPay_storable (c : Dev nD) (d : Fin 4) : BI.Storable (upEmb : UEmb _ 𝕄) (barPay (F := F) c d) := by
  unfold barPay land; infer_instance

/-! ## The schedule -/

abbrev IsBar (g : GSem nD τ sig) : Prop := g.1.2 = .tc ∧ g.2 = .reg barS
def isX : SemLoc sig → Bool | .reg _ => false | .dma s => decide (3 ≤ s.val)
abbrev IsXfer (g : GSem nD τ sig) : Prop := g.1.2 = .tc ∧ isX g.2 = true

def Rd : Rounds.Schedule (GSem nD τ sig) (Fin 4) 𝕄 where
  duties g r := if r = 0 ∧ IsBar g then Finset.univ else if r = 0 ∧ IsXfer g then {0} else ∅
  unitless _ := False
  amount g _ _ := if g.2 = .reg barS then 1 else N
  payload g _ d := match g.2 with
    | .reg _ => barPay g.1.1 d
    | .dma s => if decR s.val = true then recvPay m ρ g.1.1 (decK s.val) else sendPay m ρ g.1.1 (decK s.val)
  amount_pos g _ _ _ := by
    by_cases h : g.2 = .reg barS
    · rw [if_pos h]; exact Nat.one_pos
    · rw [if_neg h]; exact N_pos

instance Rd_payload_storable (g : GSem nD τ sig) (r : ℕ) (d : Fin 4) :
    BI.Storable (upEmb : UEmb _ 𝕄) ((Rd (F := F) m ρ).payload g r d) := by
  obtain ⟨⟨c, p⟩, s⟩ := g
  cases s with
  | reg s => show BI.Storable upEmb (barPay c d); infer_instance
  | dma s =>
    show BI.Storable upEmb (if decR s.val = true then recvPay m ρ c (decK s.val) else sendPay m ρ c (decK s.val))
    split <;> infer_instance

section Sched
variable (c : Dev nD) (k : ℕ) (hk : k < 120)
include hk
theorem isX_S : isX (.dma (semS k)) = true := decide_eq_true (dec_S ⟨k, hk⟩).2.2
theorem isX_R : isX (.dma (semR k)) = true := decide_eq_true (dec_R ⟨k, hk⟩).2.2
omit hk in
theorem not_bar_dma (s : DmaSem sig) : ¬ IsBar ((c : Thread nD τ), .dma s) := fun h => by cases h.2
omit hk in
theorem duties_bar : (Rd (F := F) m ρ).duties (barCell c) 0 = Finset.univ := by dsimp only [Rd]; exact if_pos ⟨rfl, rfl, rfl⟩
theorem duties_S : (Rd (F := F) m ρ).duties (sCell c k) 0 = {0} := by
  dsimp only [Rd]; rw [if_neg (fun h => not_bar_dma c _ h.2)]; exact if_pos ⟨rfl, rfl, isX_S k hk⟩
theorem duties_R : (Rd (F := F) m ρ).duties (rCell c k) 0 = {0} := by
  dsimp only [Rd]; rw [if_neg (fun h => not_bar_dma c _ h.2)]; exact if_pos ⟨rfl, rfl, isX_R k hk⟩
omit hk in
theorem duties_later (g : GSem nD τ sig) : ∀ r, 1 ≤ r → (Rd (F := F) m ρ).duties g r = ∅ :=
  fun r hr => by dsimp only [Rd]; rw [if_neg fun h => by omega, if_neg fun h => by omega]
omit hk in
theorem amount_bar (d : Fin 4) : (Rd (F := F) m ρ).amount (barCell c) 0 d = 1 := by dsimp only [Rd]; exact if_pos rfl
omit hk in
theorem amount_S (d : Fin 4) : (Rd (F := F) m ρ).amount (sCell c k) 0 d = N := by dsimp only [Rd]; exact if_neg (fun h => by cases h)
omit hk in
theorem amount_R (d : Fin 4) : (Rd (F := F) m ρ).amount (rCell c k) 0 d = N := by dsimp only [Rd]; exact if_neg (fun h => by cases h)
omit hk in
theorem expect_bar : (Rd (F := F) m ρ).expect (barCell c) 0 = 4 := by
  unfold Schedule.expect Schedule.amountOf
  rw [duties_bar, Finset.sum_congr rfl fun d _ => amount_bar m ρ c d, Finset.sum_const, Finset.card_univ, Fintype.card_fin, smul_eq_mul]
theorem expect_S : (Rd (F := F) m ρ).expect (sCell c k) 0 = N := by
  unfold Schedule.expect Schedule.amountOf; rw [duties_S m ρ c k hk, Finset.sum_singleton, amount_S]
theorem expect_R : (Rd (F := F) m ρ).expect (rCell c k) 0 = N := by
  unfold Schedule.expect Schedule.amountOf; rw [duties_R m ρ c k hk, Finset.sum_singleton, amount_R]
omit hk in
theorem payload_bar (d : Fin 4) : (Rd (F := F) m ρ).payload (barCell c) 0 d = barPay c d := rfl
theorem payload_S (d : Fin 4) : (Rd (F := F) m ρ).payload (sCell c k) 0 d = sendPay m ρ c k := by
  have h := dec_S ⟨k, hk⟩
  show (if decR (semS k).val = true then recvPay m ρ c (decK (semS k).val) else sendPay m ρ c (decK (semS k).val)) = _
  rw [h.2.1, h.1]; exact if_neg (by decide)
theorem payload_R (d : Fin 4) : (Rd (F := F) m ρ).payload (rCell c k) 0 d = recvPay m ρ c k := by
  have h := dec_R ⟨k, hk⟩
  show (if decR (semR k).val = true then recvPay m ρ c (decK (semR k).val) else sendPay m ρ c (decK (semR k).val)) = _
  rw [h.2.1, h.1]; exact if_pos rfl
omit hk in
theorem rest_bar : bigSep ((Rd (F := F) m ρ).duties (barCell c) 0 \ ∅) (fun d => (Rd (F := F) m ρ).payload (barCell c) 0 d)
    = iprop(barPay c 0 ∗ barPay c 1 ∗ barPay c 2 ∗ barPay c 3) := by
  rw [Finset.sdiff_empty, duties_bar, bigSep_univ_eq_bigSepL [0, 1, 2, 3] (by decide) (by decide), bigSepL_cons_cons, bigSepL_cons_cons,
    bigSepL_cons_cons, bigSepL_singleton]
  rfl
theorem rest_S : bigSep ((Rd (F := F) m ρ).duties (sCell c k) 0 \ ∅) (fun d => (Rd (F := F) m ρ).payload (sCell c k) 0 d) = sendPay m ρ c k := by
  rw [Finset.sdiff_empty, duties_S m ρ c k hk, bigSep_singleton, payload_S m ρ c k hk]
theorem rest_R : bigSep ((Rd (F := F) m ρ).duties (rCell c k) 0 \ ∅) (fun d => (Rd (F := F) m ρ).payload (rCell c k) 0 d) = recvPay m ρ c k := by
  rw [Finset.sdiff_empty, duties_R m ρ c k hk, bigSep_singleton, payload_R m ρ c k hk]
end Sched

/-! ## Levels -/

def L (g : GSem nD τ sig) : Finset Unit := if g.1.2 = .tc then {()} else ∅
/-- Barrier cells at 1, receive cells at their transfer's level, everything else at 0. -/
def lv (g : GSem nD τ sig) (_ : Unit) : ℕ := match g.2 with
  | .reg _ => 1
  | .dma s => if decR s.val = true then lev (decK s.val) else 0
theorem L_of_ne (g : GSem nD τ sig) (h : g.1.2 ≠ .tc) : L g = ∅ := if_neg h
theorem L_tc (c : Dev nD) (sm : SemLoc sig) : L ((c : Thread nD τ), sm) = {()} := if_pos rfl
theorem lv_R (c : Dev nD) (k : ℕ) (hk : k < 120) : lv (rCell c k) () = lev k := by
  have h := dec_R ⟨k, hk⟩
  show (if decR (semR k).val = true then lev (decK (semR k).val) else 0) = _
  rw [h.2.1, h.1]; exact if_pos rfl
theorem lv_S (c : Dev nD) (k : ℕ) (hk : k < 120) : lv (sCell c k) () = 0 := by
  have h := dec_S ⟨k, hk⟩
  show (if decR (semS k).val = true then lev (decK (semS k).val) else 0) = _
  rw [h.2.1]; exact if_neg (by decide)
theorem lev_ge : ∀ k : Fin 120, 2 ≤ lev k := by decide +kernel

/-! ## A device between two events -/

/-- What a device still owes: the credit of every transfer it has not sent. -/
def Ow (c : Dev nD) (n : ℕ) : CellTallies nD τ sig Unit :=
  (Finset.range 120).sum fun k => if sent (zz c) n k = true then 0 else tallyAt (rCell (peer c k) k) () N

theorem Ow_pos {c : Dev nD} {n : ℕ} {g : GSem nD τ sig} {u : Unit} (h : 0 < Ow c n g u) :
    ∃ k, k < 120 ∧ sent (zz c) n k = false ∧ g = rCell (peer c k) k := by
  unfold Ow at h
  rw [Finset.sum_apply, Finsupp.finsetSum_apply] at h
  obtain ⟨k, hk, hp⟩ := Finset.exists_ne_zero_of_sum_ne_zero (Nat.pos_iff_ne_zero.mp h)
  refine ⟨k, Finset.mem_range.mp hk, ?_⟩
  by_cases hs : sent (zz c) n k = true
  · rw [if_pos hs] at hp; exact absurd rfl hp
  · rw [if_neg hs, tallyAt_apply] at hp
    refine ⟨by simpa using hs, ?_⟩
    by_contra hg
    rw [if_neg (fun h => hg h.1)] at hp; exact hp rfl

theorem Ow_send (c : Dev nD) (n k : ℕ) (hk : k < 120) (hs : sent (zz c) n k = false) (he : ev (zz c) n = .send k) :
    Ow c n = Ow c (n + 1) + tallyAt (rCell (peer c k) k) () N := by
  unfold Ow
  rw [← Finset.sum_erase_add _ _ (Finset.mem_range.mpr hk), ← Finset.sum_erase_add (a := k) (Finset.range 120) _ (Finset.mem_range.mpr hk)]
  rw [if_neg (by rw [hs]; decide), sent_succ, he, hs, if_pos (by unfold isSend; simp), add_zero]
  congr 1
  refine Finset.sum_congr rfl fun k' hk' => ?_
  have hne := (Finset.mem_erase.mp hk').1
  rw [sent_succ, he]
  have : isSend k' (.send k) = false := by
    exact Bool.eq_false_iff.mpr fun h => hne (Nat.eq_of_beq_eq_true h).symm
  rw [this, Bool.or_false]

theorem Ow_same (c : Dev nD) (n : ℕ) (he : ∀ k, isSend k (ev (zz c) n) = false) : Ow c (n + 1) = Ow c n := by
  unfold Ow
  refine Finset.sum_congr rfl fun k _ => ?_
  rw [sent_succ, he k, Bool.or_false]

/-- What a device holds of transfer `k` before event `n`, as its sender, -/
def KS (c : Dev nD) (k : ℕ) (st bk : Bool) : sProp 𝕄 :=
  if bk = true then semVal (sCell c k) 0
  else iprop(atPos ER (sCell c k) 0 ∅ 0 ∗
    if st = true then cred (tallyAt (sCell c k) () N)
    else iprop(dutyTok ER (sCell c k) 0 0 ∗ dutyTok ER (rCell (peer c k) k) 0 0 ∗ ∃ f, land (F := F) (peer c k) k f))
/-- and as its receiver. -/
def KR (c : Dev nD) (k : ℕ) (rc : Bool) : sProp 𝕄 :=
  if rc = true then semVal (rCell c k) 0 else iprop(cred (tallyAt (rCell c k) () N) ∗ atPos ER (rCell c k) 0 ∅ 0)
def KA (c : Dev nD) (n k : ℕ) : sProp 𝕄 :=
  iprop(KS c k (sent (zz c) n k) (back (zz c) n k) ∗ KR c k (rcvd (zz c) n k))

variable (K : Dev nD × Fin 241 → ℕ)

/-- The shared records: every cell's invariant and its first round reached, and the levels. -/
def recs : sProp 𝕄 :=
  iprop((bigSep Finset.univ fun ck : Dev nD × Fin 241 => iprop(cellInv ER (Rd m ρ) (K ck) (kcell ck) ∗ reached ER (kcell ck) 0)) ∗ levAts L lv)
instance recs_persistent : BI.Persistent (recs m ρ K) := by unfold recs; infer_instance

theorem recs_at (ck : Dev nD × Fin 241) : recs m ρ K ⊢ iprop(cellInv ER (Rd m ρ) (K ck) (kcell ck) ∗ reached ER (kcell ck) 0) := by
  unfold recs
  iintro ⟨H, -⟩
  ihave H := (Rounds.bigSep_pick (Finset.mem_univ ck)) $$ H
  icases H with ⟨H, -⟩
  iexact H
theorem recs_S (c : Dev nD) (k : ℕ) (hk : k < 120) : recs m ρ K ⊢ iprop(cellInv ER (Rd m ρ) (K (c, jS k)) (sCell c k) ∗ reached ER (sCell c k) 0) := by
  have h := recs_at m ρ K (c, jS k)
  rwa [show kcell (c, jS k) = sCell c k from congrArg (Prod.mk (c : Thread nD τ)) (csem_jS ⟨k, hk⟩)] at h
theorem recs_R (c : Dev nD) (k : ℕ) (hk : k < 120) : recs m ρ K ⊢ iprop(cellInv ER (Rd m ρ) (K (c, jR k)) (rCell c k) ∗ reached ER (rCell c k) 0) := by
  have h := recs_at m ρ K (c, jR k)
  rwa [show kcell (c, jR k) = rCell c k from congrArg (Prod.mk (c : Thread nD τ)) (csem_jR ⟨k, hk⟩)] at h
theorem recs_bar (c : Dev nD) : recs m ρ K ⊢ iprop(cellInv ER (Rd m ρ) (K (c, 0)) (barCell c) ∗ reached ER (barCell c) 0) :=
  recs_at m ρ K (c, 0)
theorem recs_lev : recs m ρ K ⊢ levAts L lv := by unfold recs; iintro ⟨-, H⟩; iexact H

/-- The two staged inputs. -/
def ins (c : Dev nD) : sProp 𝕄 :=
  iprop((((c : Thread nD τ).loc cc0_stg0_0) ↦{fullShare} xstg m ρ c) ∗ (((c : Thread nD τ).loc cc0_stg1_0) ↦{fullShare} wstg m ρ c))

def Wd (c : Dev nD) (n : ℕ) : sProp 𝕄 := bigSep (Finset.range 292) fun w => X m ρ c w (look (zz c) n w)
def Ks (c : Dev nD) (n : ℕ) : sProp 𝕄 := bigSep (Finset.range 120) fun k => KA (F := F) c n k
def Os (c : Dev nD) (n : ℕ) : sProp 𝕄 := iprop(∃ W, owes (c : Thread nD τ) (Ow c n) W)

/-- Device `c` before event `n`. -/
def St (c : Dev nD) (n : ℕ) : sProp 𝕄 := iprop(recs m ρ K ∗ Os c n ∗ Ks c n ∗ Wd m ρ c n ∗ ins m ρ c)

end Cert.Ring
-- ==== Proof.Access.lean ====
/-
Loads and stores on the plan's windows: taking windows out of a device's state and putting them back, joining neighbouring
windows, and the rules for one load and one store on a region of rows.
-/
module

public import proofs.«01_k».proof.Proof.Base

@[expose] public section

set_option maxRecDepth 16384

noncomputable section

namespace Cert.Ring

open Cert.KernelIdeal Cert.KernelIdeal.Gen Cert.Plan
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × Fin 241 → ℕ)

abbrev WP {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-! ## Windows and transfers set apart -/

omit [FloatOps F] in
theorem big_split {I : Type} [DecidableEq I] {s t : Finset I} (h : t ⊆ s) (Φ : I → sProp 𝕄) :
    bigSep s Φ = iprop(bigSep t Φ ∗ bigSep (s \ t) Φ) := bigSep_sdiff_split h
omit [FloatOps F] in
theorem big_erase {I : Type} [DecidableEq I] {s : Finset I} {i : I} (h : i ∈ s) (Φ : I → sProp 𝕄) :
    bigSep s Φ = iprop(Φ i ∗ bigSep (s.erase i) Φ) := bigSep_erase h
omit [FloatOps F] in
theorem big_insert {I : Type} [DecidableEq I] {s : Finset I} {i : I} (h : i ∉ s) (Φ : I → sProp 𝕄) :
    bigSep (insert i s) Φ = iprop(Φ i ∗ bigSep s Φ) := bigSep_insert h

theorem wd_take (c : Dev nD) (n n' : ℕ) (J : Finset ℕ) (hJ : J ⊆ Finset.range 292)
    (h : ∀ w, w ∉ J → look (zz c) n' w = look (zz c) n w) :
    Wd m ρ c n ⊢ iprop((bigSep J fun w => X m ρ c w (look (zz c) n w)) ∗ ((bigSep J fun w => X m ρ c w (look (zz c) n' w)) -∗ Wd m ρ c n')) := by
  have e : bigSep (Finset.range 292 \ J) (fun w => X m ρ c w (look (zz c) n' w)) = bigSep (Finset.range 292 \ J) fun w => X m ρ c w (look (zz c) n w) :=
    bigSep_congr fun w hw => by rw [h w (Finset.mem_sdiff.mp hw).2]
  unfold Wd
  rw [big_split hJ (fun w => X m ρ c w (look (zz c) n w)), big_split hJ (fun w => X m ρ c w (look (zz c) n' w)), e]
  iintro ⟨A, B⟩
  isplitl [A]; · iexact A
  iintro C
  isplitl [C]; · iexact C
  iexact B

theorem ks_take (c : Dev nD) (n n' k : ℕ) (hk : k < 120)
    (h : ∀ k', k' ≠ k → sent (zz c) n' k' = sent (zz c) n k' ∧ rcvd (zz c) n' k' = rcvd (zz c) n k' ∧ back (zz c) n' k' = back (zz c) n k') :
    Ks (F := F) c n ⊢ iprop(KA c n k ∗ (KA c n' k -∗ Ks c n')) := by
  have e : bigSep ((Finset.range 120).erase k) (fun k => KA (F := F) c n' k) = bigSep ((Finset.range 120).erase k) fun k => KA (F := F) c n k :=
    bigSep_congr fun k' hk' => by
      obtain ⟨h1, h2, h3⟩ := h k' (Finset.mem_erase.mp hk').1
      unfold KA; rw [h1, h2, h3]
  unfold Ks
  rw [big_erase (Finset.mem_range.mpr hk) (fun k => KA (F := F) c n k), big_erase (Finset.mem_range.mpr hk) (fun k => KA (F := F) c n' k), e]
  iintro ⟨A, B⟩
  isplitl [A]; · iexact A
  iintro C
  isplitl [C]; · iexact C
  iexact B

/-- An event that neither sends, receives nor takes back. -/
def quiet : Ev → Bool
  | .send _ => false | .recv _ => false | .sw _ => false | _ => true

theorem quiet_not {e : Ev} (h : quiet e = true) (k : ℕ) : isSend k e = false ∧ isRecv k e = false ∧ isSw k e = false := by
  cases e <;> first | exact ⟨rfl, rfl, rfl⟩ | cases h

theorem Os_quiet (c : Dev nD) (n : ℕ) (h : quiet (ev (zz c) n) = true) : Os (F := F) c (n + 1) = Os c n := by
  unfold Os; rw [Ow_same c n fun k => (quiet_not h k).1]
theorem Ks_quiet (c : Dev nD) (n : ℕ) (h : quiet (ev (zz c) n) = true) : Ks (F := F) c (n + 1) = Ks c n := by
  unfold Ks
  refine bigSep_congr fun k _ => ?_
  obtain ⟨h1, h2, h3⟩ := quiet_not h k
  unfold KA; rw [sent_succ, rcvd_succ, back_succ, h1, h2, h3, Bool.or_false, Bool.or_false, Bool.or_false]

/-- Nothing happens. -/
theorem st_nop (c : Dev nD) (n : ℕ) (h : ev (zz c) n = .nop) : St m ρ K c n ⊢ St m ρ K c (n + 1) := by
  unfold St
  rw [Os_quiet c n (by rw [h]; rfl), Ks_quiet c n (by rw [h]; rfl)]
  have : Wd m ρ c (n + 1) = Wd m ρ c n := by
    unfold Wd; exact bigSep_congr fun w _ => by rw [look_succ, h]; rfl
  rw [this]

/-! ## Neighbouring windows joined -/

def win (lo cnt : ℕ) : Finset ℕ := Finset.Ico lo (lo + cnt)
theorem win_one (lo : ℕ) : win lo 1 = {lo} := by ext x; simp only [win, Finset.mem_Ico, Finset.mem_singleton]; omega
theorem mem_win (lo cnt w : ℕ) : w ∈ win lo cnt ↔ within lo cnt w = true := by rw [within_iff, win, Finset.mem_Ico]

omit [FloatOps F] in
theorem P_join (c : Dev nD) (b : Bf) (sl lo len : ℕ) (q : PosShare TreeShare) (f : Buf (Elt F) ((c : Thread nD τ).loc (ref b))) (l cnt : ℕ) :
    bigSep (win l (cnt + 1)) (fun w => P c b sl (lo + len * (w - l)) len q f) = P c b sl lo (len * (cnt + 1)) q f := by
  induction cnt with
  | zero => rw [win_one, bigSep_singleton, Nat.sub_self, Nat.mul_zero, Nat.mul_one, Nat.add_zero]
  | succ cnt ih =>
    have : win l (cnt + 1 + 1) = insert (l + (cnt + 1)) (win l (cnt + 1)) := by
      ext x; simp only [win, Finset.mem_Ico, Finset.mem_insert]; omega
    rw [this, bigSep_insert (by simp only [win, Finset.mem_Ico]; omega), ih]
    have hd : Disjoint (rg b sl (lo + len * (cnt + 1)) len) (rg b sl lo (len * (cnt + 1))) := by
      rw [Finset.disjoint_left]; intro i h1 h2; rw [mem_rg] at h1 h2; omega
    have hu : rg b sl (lo + len * (cnt + 1)) len ∪ rg b sl lo (len * (cnt + 1)) = rg b sl lo (len * (cnt + 1 + 1)) := by
      ext i; rw [Finset.mem_union, mem_rg, mem_rg, mem_rg]
      have : len * (cnt + 1 + 1) = len * (cnt + 1) + len := Nat.mul_succ _ _
      omega
    have h := (pointsTo_union hd : (((c : Thread nD τ).loc (ref b)) ↦[rg b sl (lo + len * (cnt + 1)) len ∪ rg b sl lo (len * (cnt + 1))]{q} f : sProp 𝕄) ⊣⊢ _)
    rw [show l + (cnt + 1) - l = cnt + 1 by omega]
    unfold P
    rw [← hu]
    exact (Entails.antisymm h.1 h.2).symm

/-! ## One load, one store -/

def wm : (b : Bf) → Memref sig .tc .vmem (ref b).ty.shape (ref b).ty.elt
  | .ar => Memref.whole cc0_scratch0 | .al => Memref.whole cc0_scratch1 | .qb => Memref.whole cc0_scratch2 | .bc => Memref.whole cc0_scratch3
  | .qo => Memref.whole cc0_scratch4 | .po => Memref.whole cc0_scratch5 | .wb => Memref.whole cc0_scratch6 | .ou => Memref.whole cc0_stg2_0

abbrev InB (b : Bf) (off size : Off b) : Prop := ∀ a, off a + size a ≤ (ref b).ty.shape.size a
abbrev rct (b : Bf) (off size : Off b) (inb : InB b off size) : Rect (ref b).ty.shape := Rect.unit (s := (ref b).ty.shape) off size inb

/-- What a load of a rectangle reads. -/
def rd (b : Bf) (off size : Off b) (inb : InB b off size) (f : (ref b).ty.Contents (Elt F)) : (rct b off size inb).toLoadRect.shape.Idx → Elt F (ref b).ty.elt :=
  fun x => f ((rct b off size inb).toLoadRect.idx x)

theorem setOn_whole' (r : Ref sig .tc) (M : Finset r.ty.shape.Idx) : (View.whole r).setOn M = M := by
  ext i
  rw [View.setOn, Finset.mem_map]
  exact ⟨fun ⟨x, hx, e⟩ => e ▸ hx, fun hx => ⟨i, hx, rfl⟩⟩
theorem mem_rct (r : Ref sig .tc) (rc : Rect r.ty.shape) (i : r.ty.shape.Idx) (h : i ∈ rc.set) : ∃ x, rc.emb x = i := by
  rw [← View.set_slice_whole r rc, View.set, Finset.mem_map] at h
  obtain ⟨x, -, hx⟩ := h
  exact ⟨x, hx⟩

theorem load_b {α : Type} (c : Dev nD) (b : Bf) (off size : Off b) (inb : InB b off size) (sl lo len : ℕ) (q : PosShare TreeShare)
    (f : (ref b).ty.Contents (Elt F)) (hR : inRg b off size sl lo len = true) {hl : (wm b).view.LoadsAt (rct b off size inb).toLoadRect}
    {k : ((rct b off size inb).toLoadRect.shape.Idx → Elt F (ref b).ty.elt) → Prog (TpuEff nD τ sig (Elt F) Λ₀ .tc) α} {Q : α → sProp 𝕄} :
    P c b sl lo len q f ⊢ iprop((P c b sl lo len q f -∗ WP c (k (rd b off size inb f)) Q)
      -∗ WP c (.op (.load (wm b) (rct b off size inb).toLoadRect hl) k) Q) := by
  have hs := (Finset.subset_of_eq (setOn_whole' (ref b) _)).trans (set_sub b off size inb sl lo len hR)
  unfold P
  cases b
  · exact wp_load 𝒱₀ (c : Thread nD τ) none Set.univ (m := Memref.whole cc0_scratch0) (r := (rct .ar off size inb).toLoadRect)
      (S := rg .ar sl lo len) (q := q) (f := f) hs
  · exact wp_load 𝒱₀ (c : Thread nD τ) none Set.univ (m := Memref.whole cc0_scratch1) (r := (rct .al off size inb).toLoadRect)
      (S := rg .al sl lo len) (q := q) (f := f) hs
  · exact wp_load 𝒱₀ (c : Thread nD τ) none Set.univ (m := Memref.whole cc0_scratch3) (r := (rct .bc off size inb).toLoadRect)
      (S := rg .bc sl lo len) (q := q) (f := f) hs
  · exact wp_load 𝒱₀ (c : Thread nD τ) none Set.univ (m := Memref.whole cc0_scratch4) (r := (rct .qo off size inb).toLoadRect)
      (S := rg .qo sl lo len) (q := q) (f := f) hs
  · exact wp_load 𝒱₀ (c : Thread nD τ) none Set.univ (m := Memref.whole cc0_scratch5) (r := (rct .po off size inb).toLoadRect)
      (S := rg .po sl lo len) (q := q) (f := f) hs
  · exact wp_load 𝒱₀ (c : Thread nD τ) none Set.univ (m := Memref.whole cc0_scratch2) (r := (rct .qb off size inb).toLoadRect)
      (S := rg .qb sl lo len) (q := q) (f := f) hs
  · exact wp_load 𝒱₀ (c : Thread nD τ) none Set.univ (m := Memref.whole cc0_scratch6) (r := (rct .wb off size inb).toLoadRect)
      (S := rg .wb sl lo len) (q := q) (f := f) hs
  · exact wp_load 𝒱₀ (c : Thread nD τ) none Set.univ (m := Memref.whole cc0_stg2_0) (r := (rct .ou off size inb).toLoadRect)
      (S := rg .ou sl lo len) (q := q) (f := f) hs

set_option maxHeartbeats 400000 in
theorem store_b {α : Type} (c : Dev nD) (b : Bf) (off size : Off b) (inb : InB b off size) (sl lo len : ℕ)
    (f g : (ref b).ty.Contents (Elt F)) (w : (rct b off size inb).shape.Idx → Elt F (ref b).ty.elt) (hR : isRg b off size sl lo len = true)
    (hw : ∀ x, w x = g ((rct b off size inb).emb x)) {hx : ((wm b).access (rct b off size inb)).Stores Finset.univ} {hm}
    {k : PUnit → Prog (TpuEff nD τ sig (Elt F) Λ₀ .tc) α} {Q : α → sProp 𝕄} :
    P c b sl lo len fullShare f ⊢ iprop((P c b sl lo len fullShare g -∗ WP c (k ⟨⟩) Q)
      -∗ WP c (.op (.store (wm b) (rct b off size inb) w Finset.univ hx hm) k) Q) := by
  have hs := set_eq b off size inb sl lo len hR
  have hs' := (Finset.subset_of_eq (View.set_slice_whole (ref b) (rct b off size inb))).trans (Finset.subset_of_eq hs)
  have key : ((c : Thread nD τ).loc (ref b) ↦[rg b sl lo len]{fullShare} ((View.whole (ref b)).slice (rct b off size inb)).write (Elt F) f w Finset.univ : sProp 𝕄)
      = ((c : Thread nD τ).loc (ref b) ↦[rg b sl lo len]{fullShare} g) := by
    refine pointsTo_congr fun i hi => ?_
    rw [← hs] at hi
    obtain ⟨x, rfl⟩ := mem_rct (ref b) _ i hi
    rw [← hw]
    exact View.write_emb_of_mem (v := (View.whole (ref b)).slice (rct b off size inb)) f w (Finset.mem_univ x)
  unfold P
  cases b
  · exact (wp_store 𝒱₀ (c : Thread nD τ) none Set.univ (m := Memref.whole cc0_scratch0) (r := rct .ar off size inb) (Mk := Finset.univ)
      (S := rg .ar sl lo len) (f := f) hs').trans (wand_mono_left (wand_mono_left (Entails.of_eq key)))
  · exact (wp_store 𝒱₀ (c : Thread nD τ) none Set.univ (m := Memref.whole cc0_scratch1) (r := rct .al off size inb) (Mk := Finset.univ)
      (S := rg .al sl lo len) (f := f) hs').trans (wand_mono_left (wand_mono_left (Entails.of_eq key)))
  · exact (wp_store 𝒱₀ (c : Thread nD τ) none Set.univ (m := Memref.whole cc0_scratch3) (r := rct .bc off size inb) (Mk := Finset.univ)
      (S := rg .bc sl lo len) (f := f) hs').trans (wand_mono_left (wand_mono_left (Entails.of_eq key)))
  · exact (wp_store 𝒱₀ (c : Thread nD τ) none Set.univ (m := Memref.whole cc0_scratch4) (r := rct .qo off size inb) (Mk := Finset.univ)
      (S := rg .qo sl lo len) (f := f) hs').trans (wand_mono_left (wand_mono_left (Entails.of_eq key)))
  · exact (wp_store 𝒱₀ (c : Thread nD τ) none Set.univ (m := Memref.whole cc0_scratch5) (r := rct .po off size inb) (Mk := Finset.univ)
      (S := rg .po sl lo len) (f := f) hs').trans (wand_mono_left (wand_mono_left (Entails.of_eq key)))
  · exact (wp_store 𝒱₀ (c : Thread nD τ) none Set.univ (m := Memref.whole cc0_scratch2) (r := rct .qb off size inb) (Mk := Finset.univ)
      (S := rg .qb sl lo len) (f := f) hs').trans (wand_mono_left (wand_mono_left (Entails.of_eq key)))
  · exact (wp_store 𝒱₀ (c : Thread nD τ) none Set.univ (m := Memref.whole cc0_scratch6) (r := rct .wb off size inb) (Mk := Finset.univ)
      (S := rg .wb sl lo len) (f := f) hs').trans (wand_mono_left (wand_mono_left (Entails.of_eq key)))
  · exact (wp_store 𝒱₀ (c : Thread nD τ) none Set.univ (m := Memref.whole cc0_stg2_0) (r := rct .ou off size inb) (Mk := Finset.univ)
      (S := rg .ou sl lo len) (f := f) hs').trans (wand_mono_left (wand_mono_left (Entails.of_eq key)))

end Cert.Ring
-- ==== Proof.Steps.lean ====
/-
The plan's loads and stores as rules: each takes a device from before an event of the plan to after it.
-/
module

public import proofs.«01_k».proof.Proof.Access

@[expose] public section

set_option maxRecDepth 16384

noncomputable section

namespace Cert.Ring

open Cert.KernelIdeal Cert.KernelIdeal.Gen Cert.Plan
open Idealize.ShloMosaic
open Idealize.ShloMosaic.TcCoe
open Idealize.SL Idealize.SL.RA Idealize.SL.BI
open scoped Idealize.SL.BI Idealize.SL.RA
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × Fin 241 → ℕ)

/-! ## Windows as regions -/

/-- `cnt` windows from `lo` are neighbouring parts of buffer `b`, alike in everything but where they begin. -/
def grp (c : Dev nD) (b : Bf) (lo cnt : ℕ) : Bool :=
  (List.range cnt).all fun i => decide (wbf (lo + i) = b) && Nat.beq (wsl (lo + i)) (wsl lo)
    && Nat.beq (wlo (qq c) (zz c) (lo + i)) (wlo (qq c) (zz c) lo + wlen lo * i) && Nat.beq (wlen (lo + i)) (wlen lo) && Nat.beq (wsh (lo + i)) (wsh lo)
    && Nat.blt (lo + i) 292

theorem grp_at {c : Dev nD} {b : Bf} {lo cnt : ℕ} (h : grp c b lo cnt = true) (w : ℕ) (hw : w ∈ win lo cnt) :
    wbf w = b ∧ wsl w = wsl lo ∧ wlo (qq c) (zz c) w = wlo (qq c) (zz c) lo + wlen lo * (w - lo) ∧ wlen w = wlen lo ∧ wsh w = wsh lo ∧ w < 292 := by
  unfold grp at h
  rw [List.all_eq_true] at h
  rw [win, Finset.mem_Ico] at hw
  have := h (w - lo) (List.mem_range.mpr (by omega))
  rw [show lo + (w - lo) = w by omega] at this
  simp only [Bool.and_eq_true, Nat.beq_eq, decide_eq_true_eq, Nat.blt_eq] at this
  obtain ⟨⟨⟨⟨⟨h1, h2⟩, h3⟩, h4⟩, h5⟩, h6⟩ := this
  exact ⟨h1, h2, h3, h4, h5, h6⟩
theorem grp_sub {c : Dev nD} {b : Bf} {lo cnt : ℕ} (h : grp c b lo cnt = true) : win lo cnt ⊆ Finset.range 292 :=
  fun w hw => Finset.mem_range.mpr (grp_at h w hw).2.2.2.2.2

/-- A window of buffer `b` in states 2, 3, and in any present state. -/
theorem X0_eq (c : Dev nD) (w : ℕ) : X m ρ c w 0 = iprop(emp) := rfl
theorem X2_eq (c : Dev nD) (w : ℕ) (b : Bf) (h : wbf w = b) :
    X m ρ c w 2 = P c b (wsl w) (wlo (qq c) (zz c) w) (wlen w) (shr (wsh w)) (stC m ρ c b) := by subst h; rfl
theorem X3_eq (c : Dev nD) (w : ℕ) (b : Bf) (h : wbf w = b) :
    X m ρ c w 3 = P c b (wsl w) (wlo (qq c) (zz c) w) (wlen w) (shr (wsh w)) (rcC m ρ c b) := by subst h; rfl
theorem X1_eq (c : Dev nD) (w : ℕ) (b : Bf) (h : wbf w = b) :
    X m ρ c w 1 = iprop(∃ f, P c b (wsl w) (wlo (qq c) (zz c) w) (wlen w) (shr (wsh w)) f) := by subst h; rfl
theorem X_any (c : Dev nD) (w o : ℕ) (b : Bf) (h : wbf w = b) (ho : 0 < o) :
    X m ρ c w o ⊢ iprop(∃ f, P c b (wsl w) (wlo (qq c) (zz c) w) (wlen w) (shr (wsh w)) f) := by
  match o, ho with
  | 1, _ => rw [X1_eq m ρ c w b h]
  | 2, _ => rw [X2_eq m ρ c w b h]; iintro H; iexists _; iexact H
  | o + 3, _ =>
    show X m ρ c w 3 ⊢ _
    rw [X3_eq m ρ c w b h]; iintro H; iexists _; iexact H

theorem X2_join (c : Dev nD) (b : Bf) (lo cnt : ℕ) (h : grp c b lo (cnt + 1) = true) :
    bigSep (win lo (cnt + 1)) (fun w => X m ρ c w 2)
      = P c b (wsl lo) (wlo (qq c) (zz c) lo) (wlen lo * (cnt + 1)) (shr (wsh lo)) (stC m ρ c b) := by
  rw [← P_join]
  refine bigSep_congr fun w hw => ?_
  obtain ⟨h1, h2, h3, h4, h5, -⟩ := grp_at h w hw
  rw [X2_eq m ρ c w b h1, h2, h3, h4, h5]

theorem grp_one {c : Dev nD} {b : Bf} {lo : ℕ} (h : grp c b lo 1 = true) : wbf lo = b ∧ lo < 292 := by
  have := grp_at h lo (by rw [win_one]; exact Finset.mem_singleton_self _); exact ⟨this.1, this.2.2.2.2.2⟩

/-! ## What the plan asks for is there -/

theorem shr_0 : shr 0 = fullShare := rfl
theorem look_ld {c : Dev nD} {n lo cnt : ℕ} (hev : ev (zz c) n = .ld lo cnt 2) (w : ℕ) (hw : w ∈ win lo cnt) (h2 : w < 292) : look (zz c) n w = 2 := by
  have := ask_ev (zz c) n w (zz_lt c) h2
  rw [hev] at this; dsimp only [ask] at this
  rw [mem_win] at hw; simp only [hw, cond_true] at this
  unfold fits at this
  exact Nat.eq_of_beq_eq_true this
theorem look_st {c : Dev nD} {n lo v : ℕ} (hev : ev (zz c) n = .st lo 1 v) (h2 : lo < 292) : fits v (look (zz c) n lo) = true := by
  have := ask_ev (zz c) n lo (zz_lt c) h2
  rw [hev] at this; dsimp only [ask] at this
  have hw : within lo 1 lo = true := (within_iff _ _ _).mpr (by omega)
  simp only [hw, cond_true] at this
  exact this
theorem look_st1 {c : Dev nD} {n lo : ℕ} (hev : ev (zz c) n = .st lo 1 1) (h2 : lo < 292) : 0 < look (zz c) n lo := by
  have := look_st hev h2; unfold fits at this; exact (Nat.blt_eq).mp this
theorem look_st3 {c : Dev nD} {n lo : ℕ} (hev : ev (zz c) n = .st lo 1 3) (h2 : lo < 292) : look (zz c) n lo = 3 := by
  have := look_st hev h2; unfold fits at this; exact Nat.eq_of_beq_eq_true this
theorem look_st_pos {c : Dev nD} {n lo v : ℕ} (hev : ev (zz c) n = .st lo 1 v) (hv : 0 < v) (h2 : lo < 292) : 0 < look (zz c) n lo := by
  have := look_st hev h2; unfold fits at this
  by_cases h : v = 1
  · subst h; exact (Nat.blt_eq).mp this
  · have hb : Nat.beq v 1 = false := Bool.eq_false_iff.mpr fun hh => h (Nat.eq_of_beq_eq_true hh)
    rw [hb, cond_false] at this
    rw [Nat.eq_of_beq_eq_true this]; exact hv

/-! ## Loads -/

theorem St_take0 (c : Dev nD) (n : ℕ) (J : Finset ℕ) (hJ : J ⊆ Finset.range 292) :
    St m ρ K c n ⊢ iprop((bigSep J fun w => X m ρ c w (look (zz c) n w)) ∗ ((bigSep J fun w => X m ρ c w (look (zz c) n w)) -∗ St m ρ K c n)) := by
  unfold St
  iintro ⟨R, O, S, W, I⟩
  ihave W := (wd_take m ρ c n n J hJ fun _ _ => rfl) $$ W
  icases W with ⟨W, V⟩
  isplitl [W]; · iexact W
  iintro W
  ihave W := V $$ W
  isplitl [R]; · iexact R
  isplitl [O]; · iexact O
  isplitl [S]; · iexact S
  isplitl [W]; · iexact W
  iexact I

theorem St_take1 (c : Dev nD) (n : ℕ) (J : Finset ℕ) (hJ : J ⊆ Finset.range 292) (hq : quiet (ev (zz c) n) = true)
    (h : ∀ w, w ∉ J → look (zz c) (n + 1) w = look (zz c) n w) :
    St m ρ K c n ⊢ iprop((bigSep J fun w => X m ρ c w (look (zz c) n w)) ∗ ((bigSep J fun w => X m ρ c w (look (zz c) (n + 1) w)) -∗ St m ρ K c (n + 1))) := by
  unfold St
  rw [Os_quiet c n hq, Ks_quiet c n hq]
  iintro ⟨R, O, S, W, I⟩
  ihave W := (wd_take m ρ c n (n + 1) J hJ h) $$ W
  icases W with ⟨W, V⟩
  isplitl [W]; · iexact W
  iintro W
  ihave W := V $$ W
  isplitl [R]; · iexact R
  isplitl [O]; · iexact O
  isplitl [S]; · iexact S
  isplitl [W]; · iexact W
  iexact I

omit [FloatOps F] in
theorem win_add (l a b : ℕ) (Φ : ℕ → sProp 𝕄) : bigSep (win l (a + b)) Φ = iprop(bigSep (win l a) Φ ∗ bigSep (win (l + a) b) Φ) := by
  have h : win l a ⊆ win l (a + b) := fun x hx => by rw [win, Finset.mem_Ico] at hx ⊢; omega
  rw [big_split h]
  have : win l (a + b) \ win l a = win (l + a) b := by ext x; simp only [win, Finset.mem_Ico, Finset.mem_sdiff]; omega
  rw [this]
omit [FloatOps F] in
theorem win_1 (l : ℕ) (Φ : ℕ → sProp 𝕄) : bigSep (win l 1) Φ = Φ l := by rw [win_one, bigSep_singleton]
omit [FloatOps F] in
theorem win_2 (l : ℕ) (Φ : ℕ → sProp 𝕄) : bigSep (win l 2) Φ = iprop(Φ l ∗ Φ (l + 1)) := by rw [win_add l 1 1, win_1, win_1]
omit [FloatOps F] in
theorem win_3 (l : ℕ) (Φ : ℕ → sProp 𝕄) : bigSep (win l 3) Φ = iprop(Φ l ∗ Φ (l + 1) ∗ Φ (l + 2)) := by rw [win_add l 1 2, win_1, win_2]

omit [FloatOps F] in
theorem P_halves (c : Dev nD) (b : Bf) (sl lo len : ℕ) (q q₁ q₂ : PosShare TreeShare) (hq : q ∈ PCS.op q₁ q₂) (f : Buf (Elt F) ((c : Thread nD τ).loc (ref b))) :
    P c b sl lo len q f = iprop(P c b sl lo len q₁ f ∗ P c b sl lo len q₂ f) := by
  have h := (pointsTo_share hq : (((c : Thread nD τ).loc (ref b)) ↦[rg b sl lo len]{q} f : sProp 𝕄) ⊣⊢ _)
  exact Entails.antisymm h.1 h.2
omit [FloatOps F] in
theorem P_two (c : Dev nD) (b : Bf) (sl lo len : ℕ) (f : Buf (Elt F) ((c : Thread nD τ).loc (ref b))) :
    P c b sl lo len (shr 0) f = iprop(P c b sl lo len (shr 1) f ∗ P c b sl lo len (shr 2) f) :=
  P_halves c b sl lo len fullShare _ _ (PosShare.mem_left_op_right _) f
omit [FloatOps F] in
theorem P_three (c : Dev nD) (b : Bf) (sl lo len : ℕ) (f : Buf (Elt F) ((c : Thread nD τ).loc (ref b))) :
    P c b sl lo len (shr 0) f = iprop(P c b sl lo len (shr 1) f ∗ P c b sl lo len (shr 3) f ∗ P c b sl lo len (shr 4) f) := by
  rw [P_two]
  exact congrArg (fun R : sProp 𝕄 => iprop(P c b sl lo len (shr 1) f ∗ R)) (P_halves c b sl lo len fullShare.right _ _ (PosShare.mem_left_op_right _) f)

section
variable {m ρ K}
variable {c : Dev nD} {n : ℕ}

/-- Nothing happens. -/
theorem st_skip {α : Type} {Q : α → sProp 𝕄} {p : Prog (TpuEff nD τ sig (Elt F) Λ₀ .tc) α} (hev : ev (zz c) n = .nop) (next : St m ρ K c (n + 1) ⊢ WP c p Q) : St m ρ K c n ⊢ WP c p Q :=
  BIBase.Entails.trans (st_nop m ρ K c n hev) next

def ldOK (c : Dev nD) (b : Bf) (lo cnt : ℕ) (off size : Off b) : Bool :=
  grp c b lo cnt && inRg b off size (wsl lo) (wlo (qq c) (zz c) lo) (wlen lo * cnt)

/-- A load of finished windows. -/
theorem st_ld {α : Type} {Q : α → sProp 𝕄} (b : Bf) {lo cnt : ℕ} (hev : ev (zz c) n = .ld lo (cnt + 1) 2) {off size : Off b} {inb : InB b off size}
    (hok : ldOK c b lo (cnt + 1) off size = true) {hl : (wm b).view.LoadsAt (rct b off size inb).toLoadRect}
    {k : ((rct b off size inb).toLoadRect.shape.Idx → Elt F (ref b).ty.elt) → Prog (TpuEff nD τ sig (Elt F) Λ₀ .tc) α}
    (next : St m ρ K c (n + 1) ⊢ WP c (k (rd b off size inb (stC m ρ c b))) Q) :
    St m ρ K c n ⊢ WP c (.op (.load (wm b) (rct b off size inb).toLoadRect hl) k) Q := by
  unfold ldOK at hok; rw [Bool.and_eq_true] at hok
  have e2 : ∀ w, w ∉ win lo (cnt + 1) → look (zz c) (n + 1) w = look (zz c) n w := fun w _ => by rw [look_succ, hev]; rfl
  have e3 : ∀ w, look (zz c) (n + 1) w = look (zz c) n w := fun w => by rw [look_succ, hev]; rfl
  have T := St_take1 m ρ K c n _ (grp_sub hok.1) (by rw [hev]; rfl) e2
  have e : bigSep (win lo (cnt + 1)) (fun w => X m ρ c w (look (zz c) n w)) = bigSep (win lo (cnt + 1)) fun w => X m ρ c w 2 :=
    bigSep_congr fun w hw => by rw [look_ld hev w hw (Finset.mem_range.mp (grp_sub hok.1 hw))]
  have e' : bigSep (win lo (cnt + 1)) (fun w => X m ρ c w (look (zz c) (n + 1) w)) = bigSep (win lo (cnt + 1)) fun w => X m ρ c w 2 :=
    bigSep_congr fun w hw => by rw [e3, look_ld hev w hw (Finset.mem_range.mp (grp_sub hok.1 hw))]
  rw [e, e', X2_join m ρ c b lo cnt hok.1] at T
  refine BIBase.Entails.trans T ?_
  iintro ⟨A, B⟩
  iapply (load_b c b off size inb _ _ _ _ _ hok.2) $$ A
  iintro A
  ihave B := B $$ A
  iapply next; iexact B

def oneOK (c : Dev nD) (b : Bf) (lo : ℕ) (off size : Off b) : Bool :=
  grp c b lo 1 && inRg b off size (wsl lo) (wlo (qq c) (zz c) lo) (wlen lo)

theorem St_one (c : Dev nD) (n lo : ℕ) (hlo : lo < 292) :
    St m ρ K c n ⊢ iprop(X m ρ c lo (look (zz c) n lo) ∗ (X m ρ c lo (look (zz c) n lo) -∗ St m ρ K c n)) := by
  have T := St_take0 m ρ K c n {lo} (Finset.singleton_subset_iff.mpr (Finset.mem_range.mpr hlo))
  rw [bigSep_singleton] at T; exact T
theorem St_one1 (c : Dev nD) (n lo : ℕ) (hlo : lo < 292) (hq : quiet (ev (zz c) n) = true)
    (h : ∀ w, w ≠ lo → look (zz c) (n + 1) w = look (zz c) n w) :
    St m ρ K c n ⊢ iprop(X m ρ c lo (look (zz c) n lo) ∗ (X m ρ c lo (look (zz c) (n + 1) lo) -∗ St m ρ K c (n + 1))) := by
  have T := St_take1 m ρ K c n {lo} (Finset.singleton_subset_iff.mpr (Finset.mem_range.mpr hlo)) hq (fun w hw => h w fun e => hw (Finset.mem_singleton.mpr e))
  rw [bigSep_singleton, bigSep_singleton] at T; exact T

/-- A load of the window a partial sum has landed in, before it is added to. -/
theorem st_ldS {α : Type} {Q : α → sProp 𝕄} (b : Bf) {lo : ℕ} (hev : ev (zz c) n = .st lo 1 3) {off size : Off b} {inb : InB b off size}
    (hok : oneOK c b lo off size = true) {hl : (wm b).view.LoadsAt (rct b off size inb).toLoadRect}
    {k : ((rct b off size inb).toLoadRect.shape.Idx → Elt F (ref b).ty.elt) → Prog (TpuEff nD τ sig (Elt F) Λ₀ .tc) α}
    (next : St m ρ K c n ⊢ WP c (k (rd b off size inb (rcC m ρ c b))) Q) :
    St m ρ K c n ⊢ WP c (.op (.load (wm b) (rct b off size inb).toLoadRect hl) k) Q := by
  unfold oneOK at hok; rw [Bool.and_eq_true] at hok
  obtain ⟨hb, hlo⟩ := grp_one hok.1
  have T := St_one (m := m) (ρ := ρ) (K := K) c n lo hlo
  rw [look_st3 hev hlo, X3_eq m ρ c lo b hb] at T
  refine BIBase.Entails.trans T ?_
  iintro ⟨A, B⟩
  iapply (load_b c b off size inb _ _ _ _ _ hok.2) $$ A
  iintro A
  ihave B := B $$ A
  iapply next; iexact B

/-- A load whose values are not used, of the window about to be stored. -/
theorem st_ldD {α : Type} {Q : α → sProp 𝕄} (b : Bf) {lo v : ℕ} (hev : ev (zz c) n = .st lo 1 (v + 1)) {off size : Off b} {inb : InB b off size}
    (hok : oneOK c b lo off size = true) {hl : (wm b).view.LoadsAt (rct b off size inb).toLoadRect}
    {k : ((rct b off size inb).toLoadRect.shape.Idx → Elt F (ref b).ty.elt) → Prog (TpuEff nD τ sig (Elt F) Λ₀ .tc) α}
    (next : ∀ v, St m ρ K c n ⊢ WP c (k v) Q) :
    St m ρ K c n ⊢ WP c (.op (.load (wm b) (rct b off size inb).toLoadRect hl) k) Q := by
  unfold oneOK at hok; rw [Bool.and_eq_true] at hok
  obtain ⟨hb, hlo⟩ := grp_one hok.1
  have hp := look_st_pos hev (Nat.succ_pos _) hlo
  have T := St_one (m := m) (ρ := ρ) (K := K) c n lo hlo
  have key : ∀ o, 0 < o → iprop(X m ρ c lo o ∗ (X m ρ c lo o -∗ St m ρ K c n)) ⊢ WP c (.op (.load (wm b) (rct b off size inb).toLoadRect hl) k) Q := by
    intro o ho
    have go : ∀ f, iprop(P c b (wsl lo) (wlo (qq c) (zz c) lo) (wlen lo) (shr (wsh lo)) f ∗ (P c b (wsl lo) (wlo (qq c) (zz c) lo) (wlen lo) (shr (wsh lo)) f -∗ St m ρ K c n))
        ⊢ WP c (.op (.load (wm b) (rct b off size inb).toLoadRect hl) k) Q := by
      intro f
      iintro ⟨A, B⟩
      iapply (load_b c b off size inb _ _ _ _ _ hok.2) $$ A
      iintro A
      ihave B := B $$ A
      iapply (next _)
      iexact B
    match o, ho with
    | 1, _ =>
      rw [X1_eq m ρ c lo b hb]
      iintro ⟨⟨%f, A⟩, B⟩
      iapply (go f)
      isplitl [A]; · iexact A
      iintro A
      iapply B
      iexists _; iexact A
    | 2, _ => rw [X2_eq m ρ c lo b hb]; exact go _
    | o + 3, _ => show iprop(X m ρ c lo 3 ∗ (X m ρ c lo 3 -∗ St m ρ K c n)) ⊢ _; rw [X3_eq m ρ c lo b hb]; exact go _
  exact BIBase.Entails.trans T (key _ hp)

/-! ## Stores -/

def stOK (c : Dev nD) (b : Bf) (lo : ℕ) (off size : Off b) : Bool :=
  grp c b lo 1 && Nat.beq (wsh lo) 0 && isRg b off size (wsl lo) (wlo (qq c) (zz c) lo) (wlen lo)

/-- A store of one whole window. -/
theorem st_st {α : Type} {Q : α → sProp 𝕄} (b : Bf) {lo v : ℕ} (hev : ev (zz c) n = .st lo 1 (v + 1)) {off size : Off b} {inb : InB b off size}
    (hok : stOK c b lo off size = true) {w : (rct b off size inb).shape.Idx → Elt F (ref b).ty.elt}
    (hw : ∀ x, w x = stC m ρ c b ((rct b off size inb).emb x)) {hx : ((wm b).access (rct b off size inb)).Stores Finset.univ} {hm}
    {k : PUnit → Prog (TpuEff nD τ sig (Elt F) Λ₀ .tc) α}
    (next : St m ρ K c (n + 1) ⊢ WP c (k ⟨⟩) Q) :
    St m ρ K c n ⊢ WP c (.op (.store (wm b) (rct b off size inb) w Finset.univ hx hm) k) Q := by
  unfold stOK at hok; rw [Bool.and_eq_true, Bool.and_eq_true, Nat.beq_eq] at hok
  obtain ⟨⟨h1, hsh⟩, hR⟩ := hok
  obtain ⟨hb, hlo⟩ := grp_one h1
  have hp := look_st_pos hev (Nat.succ_pos _) hlo
  have hn : look (zz c) (n + 1) lo = 2 := by
    rw [look_succ, hev]; dsimp only [upd]; rw [(within_iff lo 1 lo).mpr (by omega)]; rfl
  have T := St_one1 (m := m) (ρ := ρ) (K := K) c n lo hlo (by rw [hev]; rfl) (fun w hw => by
    rw [look_succ, hev]; dsimp only [upd]
    rw [show within lo 1 w = false from Bool.eq_false_iff.mpr fun h => hw (by have := (within_iff _ _ _).mp h; omega)]; rfl)
  rw [hn, X2_eq m ρ c lo b hb, hsh, shr_0] at T
  refine BIBase.Entails.trans T ?_
  iintro ⟨A, B⟩
  ihave A := (X_any m ρ c lo _ b hb hp) $$ A
  icases A with ⟨%f, A⟩
  rw [hsh, shr_0]
  iapply (store_b c b off size inb _ _ _ _ (stC m ρ c b) _ hR hw) $$ A
  iintro A
  ihave B := B $$ A
  iapply next; iexact B

/-! ## The two products of a device's own quarter: stored whole, then counted in parts -/

def sqOK (c : Dev nD) (hf : ℕ) : Bool :=
  (List.range 6).all fun i => decide (wbf (82 + 6 * hf + i) = .qo) && Nat.beq (wsl (82 + 6 * hf + i)) 0
    && Nat.beq (wlo (qq c) (zz c) (82 + 6 * hf + i)) (wlo (qq c) (zz c) (80 + hf) + 32 * (i / 3)) && Nat.beq (wlen (82 + 6 * hf + i)) 32
    && Nat.beq (wsh (82 + 6 * hf + i)) (match i % 3 with | 0 => 1 | 1 => 3 | _ => 4)
theorem sqOK_all : ∀ (c : Dev nD) (hf : Fin 2), sqOK c hf = true := by decide +kernel
theorem own_all : ∀ (c : Dev nD) (hf : Fin 2), (decide (wbf (80 + hf) = .qo) && Nat.beq (wsl (80 + hf)) 0 && Nat.beq (wlen (80 + hf)) 64 && Nat.beq (wsh (80 + hf)) 0) = true := by
  decide +kernel

theorem sq_part (c : Dev nD) (hf : Fin 2) (i : ℕ) (hi : i < 6) :
    X m ρ c (82 + 6 * hf + i) 2 = P c .qo 0 (wlo (qq c) (zz c) (80 + hf) + 32 * (i / 3)) 32 (shr (match i % 3 with | 0 => 1 | 1 => 3 | _ => 4)) (stC m ρ c .qo) := by
  have h := sqOK_all c hf
  unfold sqOK at h; rw [List.all_eq_true] at h
  have h := h i (List.mem_range.mpr hi)
  simp only [Bool.and_eq_true, Nat.beq_eq, decide_eq_true_eq] at h
  obtain ⟨⟨⟨⟨h1, h2⟩, h3⟩, h4⟩, h5⟩ := h
  rw [X2_eq m ρ c _ .qo h1, h2, h3, h4, h5]

theorem sq_parts (c : Dev nD) (hf : Fin 2) :
    bigSep (win (82 + 6 * hf) 6) (fun w => X m ρ c w 2) = P c .qo 0 (wlo (qq c) (zz c) (80 + hf)) 64 (shr 0) (stC m ρ c .qo) := by
  rw [win_add _ 3 3, win_3, win_3]
  rw [show 82 + 6 * hf.val = 82 + 6 * hf.val + 0 from rfl, sq_part c hf 0 (by omega), Nat.add_zero, sq_part c hf 1 (by omega), sq_part c hf 2 (by omega),
    sq_part c hf 3 (by omega), show 82 + 6 * hf.val + 3 + 1 = 82 + 6 * hf.val + 4 from rfl, show 82 + 6 * hf.val + 3 + 2 = 82 + 6 * hf.val + 5 from rfl,
    sq_part c hf 4 (by omega), sq_part c hf 5 (by omega)]
  have e := P_join c .qo 0 (wlo (qq c) (zz c) (80 + hf)) 32 (shr 0) (stC m ρ c .qo) 0 1
  rw [win_2] at e
  refine Eq.trans ?_ e
  rw [P_three, P_three]
  rfl

/-- A load whose values are not used, of a half about to be stored. -/
theorem st_ldQ {α : Type} {Q : α → sProp 𝕄} (hf : Fin 2) (hev : ev (zz c) n = .sq hf) {off size : Off .qo} {inb : InB .qo off size}
    (hok : inRg .qo off size 0 (wlo (qq c) (zz c) (80 + hf)) 64 = true) {hl : (wm .qo).view.LoadsAt (rct .qo off size inb).toLoadRect}
    {k : ((rct .qo off size inb).toLoadRect.shape.Idx → Elt F (ref .qo).ty.elt) → Prog (TpuEff nD τ sig (Elt F) Λ₀ .tc) α}
    (next : ∀ v, St m ρ K c n ⊢ WP c (k v) Q) :
    St m ρ K c n ⊢ WP c (.op (.load (wm .qo) (rct .qo off size inb).toLoadRect hl) k) Q := by
  have h := own_all c hf
  simp only [Bool.and_eq_true, Nat.beq_eq, decide_eq_true_eq] at h
  obtain ⟨⟨⟨h1, h2⟩, h3⟩, h4⟩ := h
  have hlo : 80 + hf.val < 292 := by have := hf.isLt; omega
  have hl1 : look (zz c) n (80 + hf) = 1 := by
    have := ask_ev (zz c) n (80 + hf) (zz_lt c) hlo
    rw [hev] at this; dsimp only [ask] at this
    rw [Nat.beq_refl, cond_true] at this
    exact Nat.eq_of_beq_eq_true this
  have T := St_one (m := m) (ρ := ρ) (K := K) c n (80 + hf) hlo
  rw [hl1, X1_eq m ρ c _ .qo h1, h2, h3, h4] at T
  refine BIBase.Entails.trans T ?_
  iintro ⟨⟨%f, A⟩, B⟩
  iapply (load_b c .qo off size inb _ _ _ _ _ hok) $$ A
  iintro A
  iapply (next _)
  iapply B
  iexists _; iexact A

theorem st_sq {α : Type} {Q : α → sProp 𝕄} (hf : Fin 2) (hev : ev (zz c) n = .sq hf) {off size : Off .qo} {inb : InB .qo off size}
    (hok : isRg .qo off size 0 (wlo (qq c) (zz c) (80 + hf)) 64 = true) {w : (rct .qo off size inb).shape.Idx → Elt F (ref .qo).ty.elt}
    (hw : ∀ x, w x = stC m ρ c .qo ((rct .qo off size inb).emb x)) {hx : ((wm .qo).access (rct .qo off size inb)).Stores Finset.univ} {hm}
    {k : PUnit → Prog (TpuEff nD τ sig (Elt F) Λ₀ .tc) α}
    (next : St m ρ K c (n + 1) ⊢ WP c (k ⟨⟩) Q) :
    St m ρ K c n ⊢ WP c (.op (.store (wm .qo) (rct .qo off size inb) w Finset.univ hx hm) k) Q := by
  have h := own_all c hf
  simp only [Bool.and_eq_true, Nat.beq_eq, decide_eq_true_eq] at h
  obtain ⟨⟨⟨h1, h2⟩, h3⟩, h4⟩ := h
  have hf2 := hf.isLt
  have hni : (80 + hf.val) ∉ win (82 + 6 * hf) 6 := by rw [win, Finset.mem_Ico]; omega
  have T := St_take1 m ρ K c n (insert (80 + hf.val) (win (82 + 6 * hf) 6)) (fun w hw => by
      rw [Finset.mem_insert, win, Finset.mem_Ico] at hw; rw [Finset.mem_range]; omega) (by rw [hev]; rfl) (fun w hw => by
      rw [Finset.mem_insert, not_or, mem_win] at hw
      rw [look_succ, hev]; dsimp only [upd]
      rw [Bool.eq_false_iff.mpr hw.2, show Nat.beq w (80 + hf.val) = false from Bool.eq_false_iff.mpr fun e => hw.1 (Nat.eq_of_beq_eq_true e)]; rfl)
  have eA : ∀ w ∈ win (82 + 6 * hf) 6, look (zz c) n w = 0 ∧ look (zz c) (n + 1) w = 2 := by
    intro w hw
    have hne : Nat.beq w (80 + hf.val) = false := Bool.eq_false_iff.mpr fun e => hni (Nat.eq_of_beq_eq_true e ▸ hw)
    have hlt : w < 292 := by rw [win, Finset.mem_Ico] at hw; omega
    rw [mem_win] at hw
    constructor
    · have := ask_ev (zz c) n w (zz_lt c) hlt
      rw [hev] at this; dsimp only [ask] at this
      rw [hne, hw, cond_false, cond_true] at this
      exact Nat.eq_of_beq_eq_true this
    · rw [look_succ, hev]; dsimp only [upd]; rw [hne, hw]; rfl
  have hl1 : look (zz c) n (80 + hf) = 1 := by
    have := ask_ev (zz c) n (80 + hf) (zz_lt c) (by omega)
    rw [hev] at this; dsimp only [ask] at this
    rw [Nat.beq_refl, cond_true] at this
    exact Nat.eq_of_beq_eq_true this
  have hl2 : look (zz c) (n + 1) (80 + hf) = 0 := by
    rw [look_succ, hev]; dsimp only [upd]; rw [Nat.beq_refl]; rfl
  have e2 : bigSep (win (82 + 6 * hf) 6) (fun w => X m ρ c w (look (zz c) (n + 1) w)) = bigSep (win (82 + 6 * hf) 6) fun w => X m ρ c w 2 :=
    bigSep_congr fun w hw => by rw [(eA w hw).2]
  rw [big_insert hni, big_insert hni, hl1, hl2, X1_eq m ρ c _ .qo h1, X0_eq, h2, h3, h4, e2, sq_parts, shr_0] at T
  refine BIBase.Entails.trans T ?_
  iintro ⟨⟨⟨%f, A⟩, -⟩, B⟩
  iapply (store_b c .qo off size inb _ _ _ _ (stC m ρ c .qo) _ hok hw) $$ A
  iintro A
  iapply next
  iapply B
  isplitr
  · iempintro
  iexact A
end

end Cert.Ring
-- ==== Proof.Moves.lean ====
/-
Sends, receives and the waits that take a sent block back, as rules over the plan.
-/
module

public import proofs.«01_k».proof.Proof.Steps

@[expose] public section

set_option maxRecDepth 16384

noncomputable section

namespace Cert.Ring

open Cert.KernelIdeal Cert.KernelIdeal.Gen Cert.Plan
open Idealize.ShloMosaic
open Idealize.ShloMosaic.TcCoe
open Idealize.SL Idealize.SL.RA Idealize.SL.BI
open scoped Idealize.SL.BI Idealize.SL.RA
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × Fin 241 → ℕ)

/-! ## Blocks sent and received -/

/-- The buffers blocks travel between. -/
inductive Cb where
  | ar | al | bc | qo | po

def Cb.bf : Cb → Bf
  | .ar => .ar | .al => .al | .bc => .bc | .qo => .qo | .po => .po

/-- A block's size in each: 32 rows. -/
def bz : (b : Cb) → Off b.bf
  | .ar => S1x32x1024.size | .al => S1x32x1024.size | .bc => S1x32x1024.size | .qo => S32x1024.size | .po => S32x1024.size

/-- The block at an offset. -/
def blk : (b : Cb) → (off : Off b.bf) → InB b.bf off (bz b) → Memref sig .tc .vmem S32x1024 .bf16
  | .ar, off, inb => ((Memref.whole cc0_scratch0).slice (Rect.unit (s := S4x256x1024) off S1x32x1024.size inb) (fun _ => rfl)).squeeze S32x1024 squeezes_S1x32x1024_S32x1024
  | .al, off, inb => ((Memref.whole cc0_scratch1).slice (Rect.unit (s := S4x256x1024) off S1x32x1024.size inb) (fun _ => rfl)).squeeze S32x1024 squeezes_S1x32x1024_S32x1024
  | .bc, off, inb => ((Memref.whole cc0_scratch3).slice (Rect.unit (s := S4x128x1024) off S1x32x1024.size inb) (fun _ => rfl)).squeeze S32x1024 squeezes_S1x32x1024_S32x1024
  | .qo, off, inb => (Memref.whole cc0_scratch4).slice (Rect.unit (s := S512x1024) off S32x1024.size inb) (fun _ => rfl)
  | .po, off, inb => (Memref.whole cc0_scratch5).slice (Rect.unit (s := S2048x1024) off S32x1024.size inb) (fun _ => rfl)

theorem blk_credit (b : Cb) (off : Off b.bf) (inb : InB b.bf off (bz b)) : (blk b off inb).view.dmaCredit = N := by cases b <;> rfl

/-- Where a block's values lie: its rows and columns, in its slot. -/
def at3 (i : Fin 3 → ℕ) (sl lo : ℕ) (x : S32x1024.Idx) : Prop := i 0 = sl ∧ i 1 = lo + (x 0).val ∧ i 2 = (x 1).val
def at2 (i : Fin 2 → ℕ) (sl lo : ℕ) (x : S32x1024.Idx) : Prop := 0 = sl ∧ i 0 = lo + (x 0).val ∧ i 1 = (x 1).val

theorem emb3 (d1 : ℕ) (off : Fin 3 → ℕ) (inb : ∀ a, off a + S1x32x1024.size a ≤ (⟨3, ![4, d1, 1024]⟩ : Shape).size a) (sl lo : ℕ)
    (h0 : off 0 = sl) (h1 : off 1 = lo) (h2 : off 2 = 0) (h : S32x1024.numel = S1x32x1024.numel) (x : S32x1024.Idx) :
    at3 (fun a => ((Rect.unit (s := (⟨3, ![4, d1, 1024]⟩ : Shape)) off S1x32x1024.size inb).emb (Shape.reshapeEquiv h x) a).val) sl lo x := by
  have e : Shape.reshapeEquiv h x = ValueIdx.ix3 (⟨0, Nat.one_pos⟩ : Fin 1) (x 0) (x 1) :=
    (congrArg (Shape.reshapeEquiv h) (ValueIdx.eq_ix2 (n0 := 32) (n1 := 1024) x)).trans (ValueIdx.reshapeEquiv_ix2_1ab h (x 0) (x 1))
  have e0 : ((Shape.reshapeEquiv h x) 0).val = 0 := congrArg (fun i : S1x32x1024.Idx => (i 0).val) e
  have e1 : ((Shape.reshapeEquiv h x) 1).val = (x 0).val := congrArg (fun i : S1x32x1024.Idx => (i 1).val) e
  have e2 : ((Shape.reshapeEquiv h x) 2).val = (x 1).val := congrArg (fun i : S1x32x1024.Idx => (i 2).val) e
  refine ⟨?_, ?_, ?_⟩
  · show off 0 + 1 * ((Shape.reshapeEquiv h x) 0).val = sl; omega
  · show off 1 + 1 * ((Shape.reshapeEquiv h x) 1).val = lo + (x 0).val; omega
  · show off 2 + 1 * ((Shape.reshapeEquiv h x) 2).val = (x 1).val; omega

theorem emb2 (d0 : ℕ) (off : Fin 2 → ℕ) (inb : ∀ a, off a + S32x1024.size a ≤ (⟨2, ![d0, 1024]⟩ : Shape).size a) (sl lo : ℕ)
    (h0 : 0 = sl) (h1 : off 0 = lo) (h2 : off 1 = 0) (x : S32x1024.Idx) :
    at2 (fun a => ((Rect.unit (s := (⟨2, ![d0, 1024]⟩ : Shape)) off S32x1024.size inb).emb x a).val) sl lo x := by
  refine ⟨h0, ?_, ?_⟩
  · show off 0 + 1 * (x 0).val = lo + (x 0).val; omega
  · show off 1 + 1 * (x 1).val = (x 1).val; omega

theorem rg_off (b : Bf) (off size : Off b) (sl lo len : ℕ) (h : isRg b off size sl lo len = true) :
    (slotted b = true → oS b off = sl) ∧ (slotted b = false → 0 = sl) ∧ oR b off = lo ∧ oJ b off = 0 := by
  unfold isRg at h
  simp only [Bool.and_eq_true, Nat.beq_eq] at h
  obtain ⟨⟨⟨⟨h1, h2⟩, h3⟩, h4⟩, h5⟩ := h
  refine ⟨fun hb => ?_, fun hb => ?_, h2, h4⟩
  · rw [hb] at h1; simp only [cond_true, Bool.and_eq_true, Nat.beq_eq] at h1; exact h1.2
  · rw [hb] at h1; simp only [cond_false, Nat.beq_eq] at h1; exact h1

theorem blk_set (b : Cb) (off : Off b.bf) (inb : InB b.bf off (bz b)) (sl lo : ℕ) (h : isRg b.bf off (bz b) sl lo 32 = true) :
    ∃ e : S32x1024.Idx → Ix b.bf, (∀ x, cS b.bf (e x) = sl ∧ cR b.bf (e x) = lo + (x 0).val ∧ cJ b.bf (e x) = (x 1).val)
      ∧ (∀ i ∈ rg b.bf sl lo 32, ∃ x, e x = i)
      ∧ (∀ (c : Dev nD) (q : PosShare TreeShare) (f : (ref b.bf).ty.Contents (Elt F)),
          ∃ fs : Buf (Elt F) ((blk b off inb).view.loc (c : Thread nD τ)),
            (P c b.bf sl lo 32 q f = (((blk b off inb).view.loc (c : Thread nD τ)) ↦[(blk b off inb).view.set]{q} fs : sProp 𝕄))
            ∧ ((g : Bf → ℕ → ℕ → ℕ → F .bf16) → (o : ℕ → ℕ → F .f32) → f = fill g o b.bf → ∀ x, (blk b off inb).view.read (Elt F) fs x = g b.bf sl (lo + (x 0).val) (x 1).val)
            ∧ ∀ (v : S32x1024.Idx → F .bf16) (g : Bf → ℕ → ℕ → ℕ → F .bf16) (o : ℕ → ℕ → F .f32), (∀ x, v x = g b.bf sl (lo + (x 0).val) (x 1).val) →
                ((((blk b off inb).view.loc (c : Thread nD τ)) ↦[(blk b off inb).view.set]{q} (blk b off inb).view.write (Elt F) fs v Finset.univ : sProp 𝕄)
                  = P c b.bf sl lo 32 q (fill g o b.bf))) := by
  have ho := rg_off b.bf off _ sl lo 32 h
  cases b
  · have hs : (blk .ar off inb).view.set = rg .ar sl lo 32 := (View.set_reshape _ _).trans ((View.set_slice_whole _ _).trans (set_eq .ar off _ inb sl lo 32 h))
    have he : ∀ x, cS .ar ((blk .ar off inb).view.emb x) = sl ∧ cR .ar ((blk .ar off inb).view.emb x) = lo + (x 0).val ∧ cJ .ar ((blk .ar off inb).view.emb x) = (x 1).val := emb3 256 off inb sl lo (ho.1 rfl) ho.2.2.1 ho.2.2.2 squeezes_S1x32x1024_S32x1024.numel_eq
    have hm : ∀ i ∈ rg .ar sl lo 32, ∃ x, (blk .ar off inb).view.emb x = i := fun i hi => by
      have := Finset.mem_map.mp ((Finset.ext_iff.mp hs i).mpr hi); obtain ⟨x, -, hx⟩ := this; exact ⟨x, hx⟩
    refine ⟨fun x => (blk .ar off inb).view.emb x, he, hm, fun c q f => ⟨f, ?_, ?_, ?_⟩⟩
    · exact congrArg (fun S => (((c : Thread nD τ).loc (ref .ar)) ↦[S]{q} f : sProp 𝕄)) hs.symm
    · intro g o hf x
      rw [hf]
      show g .ar (cS .ar ((blk .ar off inb).view.emb x)) (cR .ar ((blk .ar off inb).view.emb x)) (cJ .ar ((blk .ar off inb).view.emb x)) = _
      rw [(he x).1, (he x).2.1, (he x).2.2]; rfl
    · intro v g o hv
      refine (congrArg (fun S => (((c : Thread nD τ).loc (ref .ar)) ↦[S]{q} (blk .ar off inb).view.write (Elt F) f v Finset.univ : sProp 𝕄)) hs).trans ?_
      refine pointsTo_congr fun i hi => ?_
      obtain ⟨x, rfl⟩ := hm i hi
      refine (View.write_emb_of_mem (v := (blk .ar off inb).view) f v (Finset.mem_univ x)).trans ?_
      show v x = g .ar (cS .ar ((blk .ar off inb).view.emb x)) (cR .ar ((blk .ar off inb).view.emb x)) (cJ .ar ((blk .ar off inb).view.emb x))
      rw [(he x).1, (he x).2.1, (he x).2.2]; exact hv x
  · have hs : (blk .al off inb).view.set = rg .al sl lo 32 := (View.set_reshape _ _).trans ((View.set_slice_whole _ _).trans (set_eq .al off _ inb sl lo 32 h))
    have he : ∀ x, cS .al ((blk .al off inb).view.emb x) = sl ∧ cR .al ((blk .al off inb).view.emb x) = lo + (x 0).val ∧ cJ .al ((blk .al off inb).view.emb x) = (x 1).val := emb3 256 off inb sl lo (ho.1 rfl) ho.2.2.1 ho.2.2.2 squeezes_S1x32x1024_S32x1024.numel_eq
    have hm : ∀ i ∈ rg .al sl lo 32, ∃ x, (blk .al off inb).view.emb x = i := fun i hi => by
      have := Finset.mem_map.mp ((Finset.ext_iff.mp hs i).mpr hi); obtain ⟨x, -, hx⟩ := this; exact ⟨x, hx⟩
    refine ⟨fun x => (blk .al off inb).view.emb x, he, hm, fun c q f => ⟨f, ?_, ?_, ?_⟩⟩
    · exact congrArg (fun S => (((c : Thread nD τ).loc (ref .al)) ↦[S]{q} f : sProp 𝕄)) hs.symm
    · intro g o hf x
      rw [hf]
      show g .al (cS .al ((blk .al off inb).view.emb x)) (cR .al ((blk .al off inb).view.emb x)) (cJ .al ((blk .al off inb).view.emb x)) = _
      rw [(he x).1, (he x).2.1, (he x).2.2]; rfl
    · intro v g o hv
      refine (congrArg (fun S => (((c : Thread nD τ).loc (ref .al)) ↦[S]{q} (blk .al off inb).view.write (Elt F) f v Finset.univ : sProp 𝕄)) hs).trans ?_
      refine pointsTo_congr fun i hi => ?_
      obtain ⟨x, rfl⟩ := hm i hi
      refine (View.write_emb_of_mem (v := (blk .al off inb).view) f v (Finset.mem_univ x)).trans ?_
      show v x = g .al (cS .al ((blk .al off inb).view.emb x)) (cR .al ((blk .al off inb).view.emb x)) (cJ .al ((blk .al off inb).view.emb x))
      rw [(he x).1, (he x).2.1, (he x).2.2]; exact hv x
  · have hs : (blk .bc off inb).view.set = rg .bc sl lo 32 := (View.set_reshape _ _).trans ((View.set_slice_whole _ _).trans (set_eq .bc off _ inb sl lo 32 h))
    have he : ∀ x, cS .bc ((blk .bc off inb).view.emb x) = sl ∧ cR .bc ((blk .bc off inb).view.emb x) = lo + (x 0).val ∧ cJ .bc ((blk .bc off inb).view.emb x) = (x 1).val := emb3 128 off inb sl lo (ho.1 rfl) ho.2.2.1 ho.2.2.2 squeezes_S1x32x1024_S32x1024.numel_eq
    have hm : ∀ i ∈ rg .bc sl lo 32, ∃ x, (blk .bc off inb).view.emb x = i := fun i hi => by
      have := Finset.mem_map.mp ((Finset.ext_iff.mp hs i).mpr hi); obtain ⟨x, -, hx⟩ := this; exact ⟨x, hx⟩
    refine ⟨fun x => (blk .bc off inb).view.emb x, he, hm, fun c q f => ⟨f, ?_, ?_, ?_⟩⟩
    · exact congrArg (fun S => (((c : Thread nD τ).loc (ref .bc)) ↦[S]{q} f : sProp 𝕄)) hs.symm
    · intro g o hf x
      rw [hf]
      show g .bc (cS .bc ((blk .bc off inb).view.emb x)) (cR .bc ((blk .bc off inb).view.emb x)) (cJ .bc ((blk .bc off inb).view.emb x)) = _
      rw [(he x).1, (he x).2.1, (he x).2.2]; rfl
    · intro v g o hv
      refine (congrArg (fun S => (((c : Thread nD τ).loc (ref .bc)) ↦[S]{q} (blk .bc off inb).view.write (Elt F) f v Finset.univ : sProp 𝕄)) hs).trans ?_
      refine pointsTo_congr fun i hi => ?_
      obtain ⟨x, rfl⟩ := hm i hi
      refine (View.write_emb_of_mem (v := (blk .bc off inb).view) f v (Finset.mem_univ x)).trans ?_
      show v x = g .bc (cS .bc ((blk .bc off inb).view.emb x)) (cR .bc ((blk .bc off inb).view.emb x)) (cJ .bc ((blk .bc off inb).view.emb x))
      rw [(he x).1, (he x).2.1, (he x).2.2]; exact hv x
  · have hs : (blk .qo off inb).view.set = rg .qo sl lo 32 := (View.set_slice_whole _ _).trans (set_eq .qo off _ inb sl lo 32 h)
    have he : ∀ x, cS .qo ((blk .qo off inb).view.emb x) = sl ∧ cR .qo ((blk .qo off inb).view.emb x) = lo + (x 0).val ∧ cJ .qo ((blk .qo off inb).view.emb x) = (x 1).val := emb2 512 off inb sl lo (ho.2.1 rfl) ho.2.2.1 ho.2.2.2
    have hm : ∀ i ∈ rg .qo sl lo 32, ∃ x, (blk .qo off inb).view.emb x = i := fun i hi => by
      have := Finset.mem_map.mp ((Finset.ext_iff.mp hs i).mpr hi); obtain ⟨x, -, hx⟩ := this; exact ⟨x, hx⟩
    refine ⟨fun x => (blk .qo off inb).view.emb x, he, hm, fun c q f => ⟨f, ?_, ?_, ?_⟩⟩
    · exact congrArg (fun S => (((c : Thread nD τ).loc (ref .qo)) ↦[S]{q} f : sProp 𝕄)) hs.symm
    · intro g o hf x
      rw [hf]
      show g .qo (cS .qo ((blk .qo off inb).view.emb x)) (cR .qo ((blk .qo off inb).view.emb x)) (cJ .qo ((blk .qo off inb).view.emb x)) = _
      rw [(he x).1, (he x).2.1, (he x).2.2]; rfl
    · intro v g o hv
      refine (congrArg (fun S => (((c : Thread nD τ).loc (ref .qo)) ↦[S]{q} (blk .qo off inb).view.write (Elt F) f v Finset.univ : sProp 𝕄)) hs).trans ?_
      refine pointsTo_congr fun i hi => ?_
      obtain ⟨x, rfl⟩ := hm i hi
      refine (View.write_emb_of_mem (v := (blk .qo off inb).view) f v (Finset.mem_univ x)).trans ?_
      show v x = g .qo (cS .qo ((blk .qo off inb).view.emb x)) (cR .qo ((blk .qo off inb).view.emb x)) (cJ .qo ((blk .qo off inb).view.emb x))
      rw [(he x).1, (he x).2.1, (he x).2.2]; exact hv x
  · have hs : (blk .po off inb).view.set = rg .po sl lo 32 := (View.set_slice_whole _ _).trans (set_eq .po off _ inb sl lo 32 h)
    have he : ∀ x, cS .po ((blk .po off inb).view.emb x) = sl ∧ cR .po ((blk .po off inb).view.emb x) = lo + (x 0).val ∧ cJ .po ((blk .po off inb).view.emb x) = (x 1).val := emb2 2048 off inb sl lo (ho.2.1 rfl) ho.2.2.1 ho.2.2.2
    have hm : ∀ i ∈ rg .po sl lo 32, ∃ x, (blk .po off inb).view.emb x = i := fun i hi => by
      have := Finset.mem_map.mp ((Finset.ext_iff.mp hs i).mpr hi); obtain ⟨x, -, hx⟩ := this; exact ⟨x, hx⟩
    refine ⟨fun x => (blk .po off inb).view.emb x, he, hm, fun c q f => ⟨f, ?_, ?_, ?_⟩⟩
    · exact congrArg (fun S => (((c : Thread nD τ).loc (ref .po)) ↦[S]{q} f : sProp 𝕄)) hs.symm
    · intro g o hf x
      rw [hf]
      show g .po (cS .po ((blk .po off inb).view.emb x)) (cR .po ((blk .po off inb).view.emb x)) (cJ .po ((blk .po off inb).view.emb x)) = _
      rw [(he x).1, (he x).2.1, (he x).2.2]; rfl
    · intro v g o hv
      refine (congrArg (fun S => (((c : Thread nD τ).loc (ref .po)) ↦[S]{q} (blk .po off inb).view.write (Elt F) f v Finset.univ : sProp 𝕄)) hs).trans ?_
      refine pointsTo_congr fun i hi => ?_
      obtain ⟨x, rfl⟩ := hm i hi
      refine (View.write_emb_of_mem (v := (blk .po off inb).view) f v (Finset.mem_univ x)).trans ?_
      show v x = g .po (cS .po ((blk .po off inb).view.emb x)) (cR .po ((blk .po off inb).view.emb x)) (cJ .po ((blk .po off inb).view.emb x))
      rw [(he x).1, (he x).2.1, (he x).2.2]; exact hv x

/-! ## One transfer's share of a device's state -/

theorem St_open (c : Dev nD) (n k : ℕ) (J : Finset ℕ) (hk : k < 120) (hJ : J ⊆ Finset.range 292)
    (hK : ∀ k', k' ≠ k → isSend k' (ev (zz c) n) = false ∧ isRecv k' (ev (zz c) n) = false ∧ isSw k' (ev (zz c) n) = false)
    (hW : ∀ w, w ∉ J → look (zz c) (n + 1) w = look (zz c) n w) :
    St m ρ K c n ⊢ iprop(recs m ρ K ∗ Os c n ∗ KA c n k ∗ (bigSep J fun w => X m ρ c w (look (zz c) n w))
      ∗ ((Os c (n + 1) ∗ KA c (n + 1) k ∗ bigSep J fun w => X m ρ c w (look (zz c) (n + 1) w)) -∗ St m ρ K c (n + 1))) := by
  unfold St
  iintro ⟨#R, O, S, W, I⟩
  ihave S := (ks_take c n (n + 1) k hk fun k' hk' => by
    rw [sent_succ, rcvd_succ, back_succ, (hK k' hk').1, (hK k' hk').2.1, (hK k' hk').2.2, Bool.or_false, Bool.or_false, Bool.or_false]
    exact ⟨rfl, rfl, rfl⟩) $$ S
  icases S with ⟨S, S'⟩
  ihave W := (wd_take m ρ c n (n + 1) J hJ hW) $$ W
  icases W with ⟨W, W'⟩
  isplitr; · iexact R
  isplitl [O]; · iexact O
  isplitl [S]; · iexact S
  isplitl [W]; · iexact W
  iintro ⟨O, S, W⟩
  isplitr; · iexact R
  isplitl [O]; · iexact O
  isplitl [S S']; · iapply S'; iexact S
  isplitl [W W']; · iapply W'; iexact W
  iexact I

theorem mayWait (c : Dev nD) (n b : ℕ) (sm : SemLoc sig) (hb : lv ((c : Thread nD τ), sm) () ≤ b)
    (h : ∀ k, k < 120 → sent (zz c) n k = false → b < lev k) :
    (levAts L lv : sProp 𝕄) ⊢ MayWait (c : Thread nD τ) sm () (Ow c n) :=
  MayOwe.of_cut (L := L) (lev := lv) b (fun p hp => by rw [Finset.mem_singleton.mp hp, L_tc]; exact Finset.mem_singleton_self _)
    (fun g u hg => by obtain ⟨k, hk, hs, rfl⟩ := Ow_pos hg; rw [L_tc]; exact Finset.mem_singleton_self _)
    (fun p hp => by rw [Finset.mem_singleton.mp hp]; exact hb)
    (fun g u hg => by obtain ⟨k, hk, hs, rfl⟩ := Ow_pos hg; rw [show u = () from rfl, lv_R _ k hk]; exact h k hk hs)

section
variable {m ρ K}
variable {c : Dev nD} {n : ℕ}

def sendOK (c : Dev nD) (n k : ℕ) (b b' : Cb) (off : Off b.bf) (off' : Off b'.bf) (dev : ℕ) : Bool :=
  (match ev (zz c) n with | .send k' => Nat.beq k' k | _ => false)
    && decide (wbf (src (zz c) k) = b.bf) && isRg b.bf off (bz b) (wsl (src (zz c) k)) (wlo (qq c) (zz c) (src (zz c) k)) 32
    && Nat.beq (wlen (src (zz c) k)) 32
    && decide (wbf (dlo k) = b'.bf) && isRg b'.bf off' (bz b') (wsl (dlo k)) (wlo (qq (peer c k)) (zz (peer c k)) (dlo k)) 32
    && Nat.beq dev (peer c k).val && Nat.blt k 120 && Nat.blt (src (zz c) k) 292

theorem sendOK_at {c : Dev nD} {n k : ℕ} {b b' : Cb} {off : Off b.bf} {off' : Off b'.bf} {dev : ℕ} (h : sendOK c n k b b' off off' dev = true) :
    ev (zz c) n = .send k ∧ wbf (src (zz c) k) = b.bf ∧ isRg b.bf off (bz b) (wsl (src (zz c) k)) (wlo (qq c) (zz c) (src (zz c) k)) 32 = true
      ∧ wlen (src (zz c) k) = 32 ∧ wbf (dlo k) = b'.bf ∧ isRg b'.bf off' (bz b') (wsl (dlo k)) (wlo (qq (peer c k)) (zz (peer c k)) (dlo k)) 32 = true
      ∧ dev = (peer c k).val ∧ k < 120 ∧ src (zz c) k < 292 := by
  unfold sendOK at h
  simp only [Bool.and_eq_true, Nat.beq_eq, decide_eq_true_eq, Nat.blt_eq] at h
  obtain ⟨⟨⟨⟨⟨⟨⟨⟨h1, h2⟩, h3⟩, h4⟩, h5⟩, h6⟩, h7⟩, h8⟩, h9⟩ := h
  refine ⟨?_, h2, h3, h4, h5, h6, h7, h8, h9⟩
  cases he : ev (zz c) n with
  | send k' => rw [he] at h1; rw [Nat.eq_of_beq_eq_true h1]
  | _ => rw [he] at h1; cases h1

theorem land_eq (p : Dev nD) (k : ℕ) (b : Bf) (h : wbf (dlo k) = b) :
    (iprop(∃ f, land (F := F) p k f) = iprop(∃ f, P p b (wsl (dlo k)) (wlo (qq p) (zz p) (dlo k)) 32 fullShare f))
      ∧ recvPay m ρ p k = P p b (wsl (dlo k)) (wlo (qq p) (zz p) (dlo k)) 32 fullShare (rcC m ρ p b) := by subst h; exact ⟨rfl, rfl⟩

/-- Transfer `k` leaves: its source block goes with it, and its send cell's credit is left. -/
theorem st_send {α : Type} {Q : α → sProp 𝕄} (b b' : Cb) (k : ℕ) {off : Off b.bf} {off' : Off b'.bf} {inb : InB b.bf off (bz b)} {inb' : InB b'.bf off' (bz b')}
    {p : Dev nD} {sS sR : DmaSem sig} (hok : sendOK c n k b b' off off' p.val = true) (hS : sS = semS k) (hR : sR = semR k)
    {hsc : (blk b' off' inb' : Memref sig (Dev.tc p : Thread nD τ).2.kind .vmem S32x1024 .bf16).view.ref.isScScratch = false}
    {hsrc : (blk b off inb).view.WordExact} {hdst : (blk b' off' inb').view.WordExact}
    {hty : DmaTarget.Typed .vmem (.dma sR) (.remote (Dev.tc p : Thread nD τ) (blk b' off' inb' : Memref sig .tc .vmem S32x1024 .bf16) (.dma sS) hsc)}
    {kk : PUnit → Prog (TpuEff nD τ sig (Elt F) Λ₀ .tc) α}
    (next : St m ρ K c (n + 1) ⊢ WP c (kk ⟨⟩) Q) :
    St m ρ K c n ⊢ WP c (.op (.enqueueDma (blk b off inb) (.remote (Dev.tc p : Thread nD τ) (blk b' off' inb') (.dma sS) hsc) (.dma sR) hsrc hdst hty) kk) Q := by
  obtain ⟨hev, hb, hrg, hlen, hb', hrg', hp, hk, hsr⟩ := sendOK_at hok
  obtain rfl : p = peer c k := Fin.ext hp
  subst hS hR
  have hst := askK_ev (zz c) n k (zz_lt c) hk
  rw [hev] at hst; dsimp only [askK] at hst
  rw [Nat.beq_refl, cond_true, Bool.and_eq_true, Bool.not_eq_true', Bool.not_eq_true'] at hst
  obtain ⟨hs0, hk0⟩ := hst
  have hs1 : sent (zz c) (n + 1) k = true := by rw [sent_succ, hev]; dsimp only [isSend]; rw [Nat.beq_refl, Bool.or_true]
  have hk1 : back (zz c) (n + 1) k = false := by rw [back_succ, hev, hk0]; rfl
  have hr1 : rcvd (zz c) (n + 1) k = rcvd (zz c) n k := by rw [rcvd_succ, hev]; exact Bool.or_false _
  have hl0 : look (zz c) n (src (zz c) k) = 2 := by
    have := ask_ev (zz c) n (src (zz c) k) (zz_lt c) hsr
    rw [hev] at this; dsimp only [ask] at this
    rw [Nat.beq_refl, cond_true] at this
    exact Nat.eq_of_beq_eq_true this
  have hl1 : look (zz c) (n + 1) (src (zz c) k) = 0 := by rw [look_succ, hev]; dsimp only [upd]; rw [Nat.beq_refl]; rfl
  have T := St_open m ρ K c n k {src (zz c) k} hk (Finset.singleton_subset_iff.mpr (Finset.mem_range.mpr hsr))
    (fun k' hk' => by
      rw [hev]; refine ⟨?_, rfl, rfl⟩; dsimp only [isSend]; exact Bool.eq_false_iff.mpr fun e => hk' (Nat.eq_of_beq_eq_true e).symm)
    (fun w hw => by
      rw [look_succ, hev]; dsimp only [upd]
      rw [show Nat.beq w (src (zz c) k) = false from Bool.eq_false_iff.mpr fun e => hw (Finset.mem_singleton.mpr (Nat.eq_of_beq_eq_true e))]; rfl)
  rw [bigSep_singleton, bigSep_singleton, hl0, hl1, X0_eq] at T
  have hpay : X m ρ c (src (zz c) k) 2 = P c b.bf (wsl (src (zz c) k)) (wlo (qq c) (zz c) (src (zz c) k)) 32 (shr (wsh (src (zz c) k))) (stC m ρ c b.bf) := by
    rw [X2_eq m ρ c _ _ hb, hlen]
  obtain ⟨-, -, -, hsP⟩ := blk_set (F := F) b off inb _ _ hrg
  obtain ⟨fs, hfs, hread, -⟩ := hsP c (shr (wsh (src (zz c) k))) (stC m ρ c b.bf)
  have hread := hread (stN m ρ c) (outN m ρ c) rfl
  obtain ⟨-, -, -, hdP⟩ := blk_set (F := F) b' off' inb' _ _ hrg'
  refine BIBase.Entails.trans T ?_
  unfold KA KS Os
  rw [hs0, hk0, hs1, hk1, hr1, if_neg (by decide), if_neg (by decide), if_pos rfl, if_neg (by decide), (land_eq (m := m) (ρ := ρ) (peer c k) k _ hb').1, hpay, hfs]
  iintro ⟨#R, ⟨%W, O⟩, ⟨⟨Hat, Ht, Ht', %f, Hl⟩, HR⟩, Hx, Hn⟩
  obtain ⟨fd, hfd, -, hwr⟩ := hdP (peer c k) fullShare f
  ihave Hl := (Entails.of_eq hfd) $$ Hl
  ihave I1 := (recs_S m ρ K c k hk) $$ R
  icases I1 with ⟨#I1, #r1⟩
  ihave I2 := (recs_R m ρ K (peer c k) k hk) $$ R
  icases I2 with ⟨#I2, #r2⟩
  iapply (Rounds.wp_send_pointsTo 𝒱₀ ER (Rd m ρ) (c : Thread nD τ) none (κ₁ := K (c, jS k)) (κ₂ := K (peer c k, jR k))
    (r₁ := 0) (r₂ := 0) (d₁ := 0) (d₂ := 0) (fd := fd)
    (by rw [duties_S m ρ c k hk]; exact Finset.mem_singleton_self _) (by rw [duties_R m ρ (peer c k) k hk]; exact Finset.mem_singleton_self _)
    () () N (by cases b' <;> rfl) (amount_S m ρ c k 0) (amount_R m ρ (peer c k) k 0) (Ow c (n + 1)) (Ow_send c n k hk hs0 hev) (W := W)
    (by rw [payload_S m ρ c k hk]; unfold sendPay; rw [hpay, hfs])
    (by
      rw [payload_R m ρ (peer c k) k hk, (land_eq (peer c k) k _ hb').2]
      refine Entails.of_eq (hwr _ (rcN m ρ (peer c k)) (outN m ρ (peer c k)) fun x => ?_)
      rw [hread x, ← hb, ← hb']
      exact sent_val m ρ c k hk (x 0).val (x 1).val (x 0).isLt)) $$ [Hx Hl O Ht Ht']
  · isplitr; · iexact I1
    isplitr; · iexact I2
    isplitl [Hx]; · iexact Hx
    isplitl [Hl]; · iexact Hl
    isplitl [O]; · iexact O
    isplitl [Ht]; · iexact Ht
    isplitr; · iexact r1
    isplitl [Ht']; · iexact Ht'
    iexact r2
  iintro ⟨Hc, O⟩
  iapply next
  iapply Hn
  isplitl [O]; · iexists W; iexact O
  isplitl
  · isplitl [Hat Hc]
    · isplitl [Hat]; · iexact Hat
      iexact Hc
    iexact HR
  iempintro
end

/-! ## Landed blocks, and sent ones taken back -/

def landOK (c : Dev nD) (k : ℕ) : Bool :=
  ((List.range (dn k)).all fun i => decide (wbf (dlo k + i) = wbf (dlo k)) && Nat.beq (wsl (dlo k + i)) (wsl (dlo k))
    && Nat.beq (wlo (qq c) (zz c) (dlo k + i)) (wlo (qq c) (zz c) (dlo k)) && Nat.beq (wlen (dlo k + i)) 32 && Nat.blt (dlo k + i) 292
    && Nat.beq (wsh (dlo k + i)) (bif Nat.beq (dn k) 1 then 0 else bif Nat.beq (dn k) 2 then 1 + i else bif Nat.beq i 0 then 1 else 2 + i))
  && (bif Nat.beq (dn k) 1 then Nat.beq (rst k) 3
      else (Nat.beq (dn k) 2 && Nat.beq (rst k) 2 && decide (wbf (dlo k) = .po)) || (Nat.beq (dn k) 3 && Nat.beq (rst k) 2 && decide (wbf (dlo k) = .qo)))
theorem src_lt : ∀ (c : Dev nD) (k : Fin 120), src (zz c) k < 292 := by decide +kernel
theorem landOK_all : ∀ (c : Dev nD) (k : Fin 120), landOK c k = true := by decide +kernel

theorem land_at {c : Dev nD} {k : ℕ} (hk : k < 120) {i : ℕ} (hi : i < dn k) :
    wbf (dlo k + i) = wbf (dlo k) ∧ wsl (dlo k + i) = wsl (dlo k) ∧ wlo (qq c) (zz c) (dlo k + i) = wlo (qq c) (zz c) (dlo k) ∧ wlen (dlo k + i) = 32
      ∧ dlo k + i < 292 ∧ wsh (dlo k + i) = (bif Nat.beq (dn k) 1 then 0 else bif Nat.beq (dn k) 2 then 1 + i else bif Nat.beq i 0 then 1 else 2 + i) := by
  have h := landOK_all c ⟨k, hk⟩
  unfold landOK at h; rw [Bool.and_eq_true, List.all_eq_true] at h
  have h := h.1 i (List.mem_range.mpr hi)
  simp only [Bool.and_eq_true, Nat.beq_eq, decide_eq_true_eq, Nat.blt_eq] at h
  obtain ⟨⟨⟨⟨⟨h1, h2⟩, h3⟩, h4⟩, h5⟩, h6⟩ := h
  exact ⟨h1, h2, h3, h4, h5, h6⟩

theorem land_open (c : Dev nD) (k : ℕ) (hk : k < 120) : recvPay m ρ c k = bigSep (win (dlo k) (dn k)) fun w => X m ρ c w (rst k) := by
  have h := landOK_all c ⟨k, hk⟩
  unfold landOK at h; rw [Bool.and_eq_true] at h
  have h := h.2
  have h0 := land_at (c := c) hk (i := 0)
  have h1 := land_at (c := c) hk (i := 1)
  have h2 := land_at (c := c) hk (i := 2)
  rw [Nat.add_zero] at h0
  cases hd1 : Nat.beq (dn k) 1
  · rw [hd1, cond_false, Bool.or_eq_true, Bool.and_eq_true, Bool.and_eq_true, Bool.and_eq_true, Bool.and_eq_true, Nat.beq_eq, Nat.beq_eq, Nat.beq_eq,
      decide_eq_true_eq, decide_eq_true_eq] at h
    rcases h with ⟨⟨hd, hr⟩, hb⟩ | ⟨⟨hd, hr⟩, hb⟩
    · rw [hd] at h0 h1
      obtain ⟨a1, a2, a3, a4, a5, a6⟩ := h0 (by omega)
      obtain ⟨b1, b2, b3, b4, b5, b6⟩ := h1 (by omega)
      rw [hd, hr, win_2, X2_eq m ρ c _ _ (a1.trans hb), X2_eq m ρ c _ _ (b1.trans hb), b2, b3, b4, b6, a4, a6, (land_eq (m := m) (ρ := ρ) c k _ hb).2, ← shr_0, P_two]
      rfl
    · rw [hd] at h0 h1 h2
      obtain ⟨a1, a2, a3, a4, a5, a6⟩ := h0 (by omega)
      obtain ⟨b1, b2, b3, b4, b5, b6⟩ := h1 (by omega)
      obtain ⟨e1, e2, e3, e4, e5, e6⟩ := h2 (by omega)
      rw [hd, hr, win_3, X2_eq m ρ c _ _ (a1.trans hb), X2_eq m ρ c _ _ (b1.trans hb), X2_eq m ρ c _ _ (e1.trans hb), b2, b3, b4, b6, e2, e3, e4, e6, a4, a6,
        (land_eq (m := m) (ρ := ρ) c k _ hb).2, ← shr_0, P_three]
      rfl
  · rw [hd1, cond_true, Nat.beq_eq] at h
    have hd := Nat.eq_of_beq_eq_true hd1
    rw [hd] at h0
    obtain ⟨a1, a2, a3, a4, a5, a6⟩ := h0 (by omega)
    rw [hd, h, win_1, X3_eq m ρ c _ _ rfl, a4, a6]
    rfl

section
variable {m ρ K}
variable {c : Dev nD} {n : ℕ}

/-- Transfer `k` has landed: its windows are here, and its receive cell is closed. -/
theorem st_recv {α : Type} {Q : α → sProp 𝕄} {k : ℕ} (hev : ev (zz c) n = .recv k) (hk : k < 120) {sR : DmaSem sig} (hR : sR = semR k)
    {M M' : Memref sig .tc .vmem S32x1024 .bf16} (hN : M'.view.dmaCredit = N) {hs : M.view.WordExact} {hd : M'.view.WordExact}
    {kk : PUnit → Prog (TpuEff nD τ sig (Elt F) Λ₀ .tc) α} (next : St m ρ K c (n + 1) ⊢ WP c (kk ⟨⟩) Q) :
    St m ρ K c n ⊢ WP c (.op (.waitDma2 sR M M' hs hd) kk) Q := by
  subst hR
  have hst := askK_ev (zz c) n k (zz_lt c) hk
  rw [hev] at hst; dsimp only [askK] at hst
  rw [Nat.beq_refl, cond_true, Bool.and_eq_true, Bool.not_eq_true'] at hst
  have hr0 := hst.1
  have hs1 : sent (zz c) (n + 1) k = sent (zz c) n k := by rw [sent_succ, hev]; exact Bool.or_false _
  have hk1 : back (zz c) (n + 1) k = back (zz c) n k := by rw [back_succ, hev]; exact Bool.or_false _
  have hr1 : rcvd (zz c) (n + 1) k = true := by rw [rcvd_succ, hev]; dsimp only [isRecv]; rw [Nat.beq_refl, Bool.or_true]
  have hlev : ∀ k', k' < 120 → sent (zz c) n k' = false → lev k < lev k' := by
    intro k' hk' hs'
    have hst := askK_ev (zz c) n k' (zz_lt c) hk'
    rw [hev] at hst; dsimp only [askK] at hst
    rw [Bool.and_eq_true, Bool.or_eq_true, hs'] at hst
    rcases hst.2 with h | h
    · cases h
    · exact Nat.blt_eq.mp h
  have hsub : win (dlo k) (dn k) ⊆ Finset.range 292 := fun w hw => by
    rw [win, Finset.mem_Ico] at hw
    have := (land_at (c := c) hk (i := w - dlo k) (by omega)).2.2.2.2.1
    rw [Finset.mem_range]; omega
  have T := St_open m ρ K c n k (win (dlo k) (dn k)) hk hsub
    (fun k' hk' => by
      rw [hev]; refine ⟨rfl, ?_, rfl⟩; dsimp only [isRecv]; exact Bool.eq_false_iff.mpr fun e => hk' (Nat.eq_of_beq_eq_true e).symm)
    (fun w hw => by
      rw [look_succ, hev]; dsimp only [upd]; rw [mem_win] at hw
      rw [Bool.eq_false_iff.mpr hw]; rfl)
  have e1 : bigSep (win (dlo k) (dn k)) (fun w => X m ρ c w (look (zz c) (n + 1) w)) = recvPay m ρ c k := by
    rw [land_open m ρ c k hk]
    exact bigSep_congr fun w hw => by rw [look_succ, hev]; dsimp only [upd]; rw [mem_win] at hw; rw [hw]; rfl
  rw [e1] at T
  refine BIBase.Entails.trans T ?_
  unfold KA KR Os
  rw [hr0, hs1, hk1, hr1, if_neg (by decide), if_pos rfl, Ow_same c n (fun k' => by rw [hev]; rfl)]
  iintro ⟨#R, ⟨%W, O⟩, ⟨HS, Hc, Hat⟩, -, Hn⟩
  ihave I1 := (recs_R m ρ K c k hk) $$ R
  icases I1 with ⟨#I1, #r1⟩
  iapply (Rounds.wp_wait_rest_token 𝒱₀ ER (Rd m ρ) (c : Thread nD τ) none (κ := K (c, jR k))
      (wpE_waitDma2_eq 𝒱₀ (c : Thread nD τ) none Set.univ) (Set.mem_univ _) () (O := Ow c n) (W := W) (R := 0) (m := 0) (T := ∅)
      (by rw [Nat.zero_add, expect_R m ρ c k hk]; exact hN)) $$ [Hc O Hat]
  · isplitr; · iexact I1
    isplitl [Hc]; · rw [hN]; iexact Hc
    isplitl [O]; · iexact O
    isplitr
    · iapply (mayWait (F := F) c n (lev k) (.dma (semR k)) (le_of_eq (lv_R c k hk)) hlev)
      iapply (recs_lev m ρ K); iexact R
    iexact Hat
  iintro ⟨O, Hat, -, Hp⟩
  ihave Hp := (Entails.of_eq (rest_R m ρ c k hk)) $$ Hp
  imod (Rounds.cell_close ER (Rd m ρ) (Set.mem_univ (K (c, jR k))) (fun h => h) (R := 0 + 1) (duties_later m ρ (rCell c k))) $$ [Hat] with Hz
  · isplitr; · iexact I1
    iexact Hat
  iapply next
  iapply Hn
  isplitl [O]; · iexists _; iexact O
  isplitl [HS Hz]
  · isplitl [HS]; · iexact HS
    iexact Hz
  iexact Hp

/-- Sent block `k` is back, and its send cell is closed. -/
theorem st_sw {α : Type} {Q : α → sProp 𝕄} {k : ℕ} (hev : ev (zz c) n = .sw k) (hk : k < 120) {sS : DmaSem sig} (hS : sS = semS k)
    {M M' : Memref sig .tc .vmem S32x1024 .bf16} (hN : M'.view.dmaCredit = N) {hs : M.view.WordExact} {hd : M'.view.WordExact}
    {kk : PUnit → Prog (TpuEff nD τ sig (Elt F) Λ₀ .tc) α} (next : St m ρ K c (n + 1) ⊢ WP c (kk ⟨⟩) Q) :
    St m ρ K c n ⊢ WP c (.op (.waitDma2 sS M M' hs hd) kk) Q := by
  subst hS
  have hst := askK_ev (zz c) n k (zz_lt c) hk
  rw [hev] at hst; dsimp only [askK] at hst
  rw [Nat.beq_refl, cond_true, Bool.and_eq_true, Bool.not_eq_true'] at hst
  obtain ⟨hs0, hk0⟩ := hst
  have hs1 : sent (zz c) (n + 1) k = true := by rw [sent_succ, hs0]; rfl
  have hk1 : back (zz c) (n + 1) k = true := by rw [back_succ, hev]; dsimp only [isSw]; rw [Nat.beq_refl, Bool.or_true]
  have hr1 : rcvd (zz c) (n + 1) k = rcvd (zz c) n k := by rw [rcvd_succ, hev]; exact Bool.or_false _
  have hsr : src (zz c) k < 292 := src_lt c ⟨k, hk⟩
  have hl1 : look (zz c) (n + 1) (src (zz c) k) = 2 := by rw [look_succ, hev]; dsimp only [upd]; rw [Nat.beq_refl]; rfl
  have T := St_open m ρ K c n k {src (zz c) k} hk (Finset.singleton_subset_iff.mpr (Finset.mem_range.mpr hsr))
    (fun k' hk' => by
      rw [hev]; refine ⟨rfl, rfl, ?_⟩; dsimp only [isSw]; exact Bool.eq_false_iff.mpr fun e => hk' (Nat.eq_of_beq_eq_true e).symm)
    (fun w hw => by
      rw [look_succ, hev]; dsimp only [upd]
      rw [show Nat.beq w (src (zz c) k) = false from Bool.eq_false_iff.mpr fun e => hw (Finset.mem_singleton.mpr (Nat.eq_of_beq_eq_true e))]; rfl)
  rw [bigSep_singleton, bigSep_singleton, hl1] at T
  refine BIBase.Entails.trans T ?_
  unfold KA KS Os
  rw [hs0, hk0, hs1, hk1, hr1, if_neg (by decide), if_pos rfl, if_pos rfl, Ow_same c n (fun k' => by rw [hev]; rfl)]
  iintro ⟨#R, ⟨%W, O⟩, ⟨⟨Hat, Hc⟩, HR⟩, -, Hn⟩
  ihave I1 := (recs_S m ρ K c k hk) $$ R
  icases I1 with ⟨#I1, #r1⟩
  iapply (Rounds.wp_wait_rest_token 𝒱₀ ER (Rd m ρ) (c : Thread nD τ) none (κ := K (c, jS k))
      (wpE_waitDma2_eq 𝒱₀ (c : Thread nD τ) none Set.univ) (Set.mem_univ _) () (O := Ow c n) (W := W) (R := 0) (m := 0) (T := ∅)
      (by rw [Nat.zero_add, expect_S m ρ c k hk]; exact hN)) $$ [Hc O Hat]
  · isplitr; · iexact I1
    isplitl [Hc]; · rw [hN]; iexact Hc
    isplitl [O]; · iexact O
    isplitr
    · iapply (mayWait (F := F) c n 0 (.dma (semS k)) (le_of_eq (lv_S c k hk)) fun k' hk' _ => Nat.lt_of_lt_of_le (by decide) (lev_ge ⟨k', hk'⟩))
      iapply (recs_lev m ρ K); iexact R
    iexact Hat
  iintro ⟨O, Hat, -, Hp⟩
  ihave Hp := (Entails.of_eq (rest_S m ρ c k hk)) $$ Hp
  unfold sendPay
  imod (Rounds.cell_close ER (Rd m ρ) (Set.mem_univ (K (c, jS k))) (fun h => h) (R := 0 + 1) (duties_later m ρ (sCell c k))) $$ [Hat] with Hz
  · isplitr; · iexact I1
    iexact Hat
  iapply next
  iapply Hn
  isplitl [O]; · iexists _; iexact O
  isplitl [HR Hz]
  · isplitl [Hz]; · iexact Hz
    iexact HR
  iexact Hp

/-! ## The staged inputs -/

theorem st_ldT {α : Type} {Q : α → sProp 𝕄} {r : Rect S2048x1024} {hl : (Memref.whole cc0_stg0_0 : Memref sig .tc .vmem S2048x1024 .f32).view.LoadsAt r.toLoadRect}
    {k : (r.toLoadRect.shape.Idx → Elt F .f32) → Prog (TpuEff nD τ sig (Elt F) Λ₀ .tc) α}
    (next : St m ρ K c n ⊢ WP c (k (fun x => (show S2048x1024.Idx → F .f32 from xstg m ρ c) (r.toLoadRect.idx x))) Q) :
    St m ρ K c n ⊢ WP c (.op (.load (Memref.whole cc0_stg0_0 : Memref sig .tc .vmem S2048x1024 .f32) r.toLoadRect hl) k) Q := by
  have T : St m ρ K c n ⊢ iprop((((c : Thread nD τ).loc cc0_stg0_0) ↦{fullShare} xstg m ρ c) ∗ ((((c : Thread nD τ).loc cc0_stg0_0) ↦{fullShare} xstg m ρ c) -∗ St m ρ K c n)) := by
    unfold St ins
    iintro ⟨R, O, S, W, A, B⟩
    isplitl [A]; · iexact A
    iintro A
    isplitl [R]; · iexact R
    isplitl [O]; · iexact O
    isplitl [S]; · iexact S
    isplitl [W]; · iexact W
    isplitl [A]; · iexact A
    iexact B
  refine BIBase.Entails.trans T ?_
  iintro ⟨A, B⟩
  iapply (wp_load 𝒱₀ (c : Thread nD τ) none Set.univ (m := Memref.whole cc0_stg0_0) (r := r.toLoadRect) (S := Finset.univ) (q := fullShare)
    (f := xstg m ρ c) (Finset.subset_univ _)) $$ A
  iintro A
  ihave B := B $$ A
  iapply next; iexact B

theorem st_ldW {α : Type} {Q : α → sProp 𝕄} {r : Rect S1024x1024} {hl : (Memref.whole cc0_stg1_0 : Memref sig .tc .vmem S1024x1024 .f32).view.LoadsAt r.toLoadRect}
    {k : (r.toLoadRect.shape.Idx → Elt F .f32) → Prog (TpuEff nD τ sig (Elt F) Λ₀ .tc) α}
    (next : St m ρ K c n ⊢ WP c (k (fun x => (show S1024x1024.Idx → F .f32 from wstg m ρ c) (r.toLoadRect.idx x))) Q) :
    St m ρ K c n ⊢ WP c (.op (.load (Memref.whole cc0_stg1_0 : Memref sig .tc .vmem S1024x1024 .f32) r.toLoadRect hl) k) Q := by
  have T : St m ρ K c n ⊢ iprop((((c : Thread nD τ).loc cc0_stg1_0) ↦{fullShare} wstg m ρ c) ∗ ((((c : Thread nD τ).loc cc0_stg1_0) ↦{fullShare} wstg m ρ c) -∗ St m ρ K c n)) := by
    unfold St ins
    iintro ⟨R, O, S, W, A, B⟩
    isplitl [B]; · iexact B
    iintro B
    isplitl [R]; · iexact R
    isplitl [O]; · iexact O
    isplitl [S]; · iexact S
    isplitl [W]; · iexact W
    isplitl [A]; · iexact A
    iexact B
  refine BIBase.Entails.trans T ?_
  iintro ⟨A, B⟩
  iapply (wp_load 𝒱₀ (c : Thread nD τ) none Set.univ (m := Memref.whole cc0_stg1_0) (r := r.toLoadRect) (S := Finset.univ) (q := fullShare)
    (f := wstg m ρ c) (Finset.subset_univ _)) $$ A
  iintro A
  ihave B := B $$ A
  iapply next; iexact B

/-! ## Parts run one after another -/

theorem bindK {α β : Type} {Q : β → sProp 𝕄} {A B : sProp 𝕄} {p : Prog (TpuEff nD τ sig (Elt F) Λ₀ .tc) α} {k : α → Prog (TpuEff nD τ sig (Elt F) Λ₀ .tc) β} (r₀ : α)
    (h1 : A ⊢ WP c p fun r => iprop(⌜r = r₀⌝ ∗ B)) (h2 : B ⊢ WP c (k r₀) Q) : A ⊢ WP c (p >>= k) Q := by
  unfold WP
  rw [wp_bind]
  refine BIBase.Entails.trans h1 (wp_mono _ _ _ fun r => ?_)
  iintro ⟨%h, H⟩
  subst h
  iapply h2; iexact H
theorem retK {α : Type} {A : sProp 𝕄} (r₀ : α) : A ⊢ WP c (.ret r₀ : Prog (TpuEff nD τ sig (Elt F) Λ₀ .tc) α) fun r => iprop(⌜r = r₀⌝ ∗ A) := by
  unfold WP
  rw [wp_ret]
  iintro H
  imodintro
  isplitr; · ipureintro; rfl
  iexact H
end

end Cert.Ring
-- ==== Proof.Vals.lean ====
/-
What each store of the kernel writes, coordinate by coordinate.
-/
module

public import proofs.«01_k».proof.Proof.Moves

@[expose] public section

set_option maxRecDepth 16384

noncomputable section

namespace Cert.Ring

open Cert.KernelIdeal Cert.KernelIdeal.Gen Cert.Plan
open Idealize.ShloMosaic
open Idealize.ShloMosaic.TcCoe
open Idealize.SL Idealize.SL.RA Idealize.SL.BI
open scoped Idealize.SL.BI Idealize.SL.RA
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × Fin 241 → ℕ)

/-! ## Re-laying values out -/

theorem sc1 {α : Type} {a : ℕ} (v : (⟨2, ![a, 1024]⟩ : Shape).Idx → α) (h : (⟨2, ![a, 1024]⟩ : Shape).ShapeCasts ⟨3, ![1, a, 1024]⟩) (x : (⟨3, ![1, a, 1024]⟩ : Shape).Idx) :
    shapeCast ⟨3, ![1, a, 1024]⟩ v h x = v (ValueIdx.ix2 (x 1) (x 2)) :=
  (congrArg (shapeCast ⟨3, ![1, a, 1024]⟩ v h) (ValueIdx.eq_ix3 (n0 := 1) (n1 := a) (n2 := 1024) x)).trans (ValueIdx.shapeCast_ab_1ab_apply v h (x 0) (x 1) (x 2))
theorem sc2 {α : Type} {a : ℕ} (v : (⟨3, ![1, a, 1024]⟩ : Shape).Idx → α) (h : (⟨3, ![1, a, 1024]⟩ : Shape).ShapeCasts ⟨2, ![a, 1024]⟩) (x : (⟨2, ![a, 1024]⟩ : Shape).Idx) :
    shapeCast ⟨2, ![a, 1024]⟩ v h x = v (ValueIdx.ix3 (0 : Fin 1) (x 0) (x 1)) :=
  (congrArg (shapeCast ⟨2, ![a, 1024]⟩ v h) (ValueIdx.eq_ix2 (n0 := a) (n1 := 1024) x)).trans (ValueIdx.shapeCast_1ab_ab_apply v h (x 0) (x 1))

theorem pv_init (v : S32x1024.Idx → F .f32) (x : S1x32x1024.Idx) : k0_pay1 v x = tr (v (ValueIdx.ix2 (x 1) (x 2))) := by
  unfold k0_pay1
  refine (sc1 _ _ x).trans ?_
  rw [shapeCast_self]; rfl
theorem pv_accA (v : S1x32x1024.Idx → F .bf16) (w : S32x1024.Idx → F .f32) (x : S1x32x1024.Idx) :
    k0_pay23 v w x = tr (FloatOps.addf (ex (v (ValueIdx.ix3 (0 : Fin 1) (x 1) (x 2)))) (w (ValueIdx.ix2 (x 1) (x 2)))) := by
  unfold k0_pay23
  refine (sc1 _ _ x).trans ?_
  rw [shapeCast_self w]
  show tr (FloatOps.addf (ex (shapeCast S32x1024 v _ (ValueIdx.ix2 (x 1) (x 2)))) (w (ValueIdx.ix2 (x 1) (x 2)))) = _
  rw [show shapeCast S32x1024 v shapeCasts_S1x32x1024_S32x1024 (ValueIdx.ix2 (x 1) (x 2)) = _ from sc2 v _ _]
theorem pv_accB (v : S1x32x1024.Idx → F .bf16) (w : S32x1024.Idx → F .bf16) (x : S1x32x1024.Idx) :
    k0_pay98 v w x = tr (FloatOps.addf (ex (v (ValueIdx.ix3 (0 : Fin 1) (x 1) (x 2)))) (ex (w (ValueIdx.ix2 (x 1) (x 2))))) := by
  unfold k0_pay98
  refine (sc1 _ _ x).trans ?_
  show tr (FloatOps.addf (ex (shapeCast S32x1024 v _ (ValueIdx.ix2 (x 1) (x 2)))) (ex (w (ValueIdx.ix2 (x 1) (x 2))))) = _
  rw [show shapeCast S32x1024 v shapeCasts_S1x32x1024_S32x1024 (ValueIdx.ix2 (x 1) (x 2)) = _ from sc2 v _ _]
theorem pv_copyB (v : S32x1024.Idx → F .bf16) (x : S1x32x1024.Idx) : k0_pay90 v x = v (ValueIdx.ix2 (x 1) (x 2)) := by
  unfold k0_pay90; exact sc1 _ _ x
theorem pv_copyQ (v : S1x256x1024.Idx → F .bf16) (x : S256x1024.Idx) : k0_pay88 v x = v (ValueIdx.ix3 (0 : Fin 1) (x 0) (x 1)) := by
  unfold k0_pay88; exact (congrFun (shapeCast_self _ _) x).trans (sc2 _ _ x)

/-! ## Values loaded -/

theorem ixT_of (i : S2048x1024.Idx) : ixT (i 0).val (i 1).val = i := by
  funext a
  refine Fin.cases ?_ (fun a => Fin.cases ?_ (fun a => a.elim0) a) a
  · exact Fin.ext (Nat.mod_eq_of_lt (i 0).isLt)
  · exact Fin.ext (Nat.mod_eq_of_lt (i 1).isLt)

theorem ldT_val (c : Dev nD) (off : Fin 2 → ℕ) (inb) (R : ℕ) (h0 : off 0 = R) (h1 : off 1 = 0) (y : S32x1024.Idx) :
    (show S2048x1024.Idx → F .f32 from xstg m ρ c) ((Rect.unit (s := S2048x1024) off S32x1024.size inb).toLoadRect.idx y) = tN m ρ c (R + (y 0).val) (y 1).val := by
  have e := ixT_of ((Rect.unit (s := S2048x1024) off S32x1024.size inb).toLoadRect.idx y)
  unfold tN
  rw [← e]
  have e0 : ((Rect.unit (s := S2048x1024) off S32x1024.size inb).toLoadRect.idx y 0).val = R + (y 0).val := by
    show off 0 + 1 * (y 0).val = _; omega
  have e1 : ((Rect.unit (s := S2048x1024) off S32x1024.size inb).toLoadRect.idx y 1).val = (y 1).val := by
    show off 1 + 1 * (y 1).val = _; omega
  rw [e0, e1]

def rowA (up : Bool) (c : Dev nD) (st : ℕ) : ℕ := bif up then 512 * ((qq c + 7 - st) % 4) else 512 * ((qq c + st + 1) % 4) + 256
def okA0 (up : Bool) (c : Dev nD) (off : Fin 3 → ℕ) (offT : Fin 2 → ℕ) : Bool :=
  Nat.beq (off 0) 3 && Nat.beq (off 2) 0 && Nat.beq (offT 1) 0 && Nat.beq (offT 0) (rowA up c 0 + off 1)
def okA (up : Bool) (c : Dev nD) (off : Fin 3 → ℕ) (offT : Fin 2 → ℕ) : Bool :=
  Nat.blt (off 0) 3 && Nat.beq (off 2) 0 && Nat.beq (offT 1) 0 && Nat.beq (offT 0) (rowA up c (off 0 + 1) + off 1)
def rowB (c : Dev nD) (st : ℕ) : ℕ := 128 * ((zz c + 7 - st) % 4)
def okB0 (c : Dev nD) (off : Fin 3 → ℕ) (offQ : Fin 2 → ℕ) : Bool :=
  Nat.beq (off 0) 3 && Nat.beq (off 2) 0 && Nat.beq (offQ 1) 0 && Nat.beq (offQ 0) (rowB c 0 + off 1)
def okB (c : Dev nD) (off : Fin 3 → ℕ) (offQ : Fin 2 → ℕ) : Bool :=
  Nat.blt (off 0) 3 && Nat.beq (off 2) 0 && Nat.beq (offQ 1) 0 && Nat.beq (offQ 0) (rowB c (off 0 + 1) + off 1)

theorem arN_slot (c : Dev nD) (off : Fin 3 → ℕ) (inb) (x : S1x32x1024.Idx) (h2 : off 2 = 0) :
    stC m ρ c .ar ((rct .ar off S1x32x1024.size inb).emb x) = arN m ρ ((off 0 + 1) % 4) c (off 1 + (x 1).val) (x 2).val := by
  have hx : (x 0).val = 0 := by have := (x 0).isLt; change (x 0).val < 1 at this; omega
  show arN m ρ ((off 0 + 1 * (x 0).val + 1) % 4) c (off 1 + 1 * (x 1).val) (off 2 + 1 * (x 2).val) = _
  rw [hx, h2, Nat.mul_zero, Nat.add_zero, Nat.one_mul, Nat.one_mul, Nat.zero_add]
theorem arN_rd (c : Dev nD) (off : Fin 3 → ℕ) (inb) (i : Fin 32) (j : Fin 1024) (h2 : off 2 = 0) :
    rd .ar off S1x32x1024.size inb (rcC m ρ c .ar) (ValueIdx.ix3 (0 : Fin 1) i j) = arN m ρ (off 0) (left c) (off 1 + i.val) j.val := by
  show arN m ρ (off 0 + 1 * 0) (left c) (off 1 + 1 * i.val) (off 2 + 1 * j.val) = _
  rw [h2, Nat.mul_zero, Nat.add_zero, Nat.one_mul, Nat.one_mul, Nat.zero_add]
/-- The first partial sum of a block: the device's own rows. -/
theorem w_ar0 (c : Dev nD) (off : Fin 3 → ℕ) (inb) (offT : Fin 2 → ℕ) (inbT) (h : okA0 true c off offT = true) (x : S1x32x1024.Idx) :
    k0_pay1 (fun y => (show S2048x1024.Idx → F .f32 from xstg m ρ c) ((Rect.unit (s := S2048x1024) offT S32x1024.size inbT).toLoadRect.idx y)) x
      = stC m ρ c .ar ((rct .ar off S1x32x1024.size inb).emb x) := by
  unfold okA0 at h; simp only [Bool.and_eq_true, Nat.beq_eq] at h
  obtain ⟨⟨⟨h0, h2⟩, h3⟩, h4⟩ := h
  rw [arN_slot m ρ c off inb x h2, h0, pv_init]
  refine (congrArg (tr (F := F)) (ldT_val m ρ c offT inbT _ h4 h3 _)).trans ?_
  show tr (tN m ρ c (rowA true c 0 + off 1 + (x 1).val) (x 2).val) = _
  unfold rowA
  simp only [cond_true, cond_false, Nat.sub_zero, Nat.add_zero]
  rw [show (3 + 1) % 4 = 0 from rfl]; unfold arN
  rw [show (qq c + 7) % 4 = (qq c + 3) % 4 by omega, Nat.add_assoc]
/-- A received partial sum and the device's own rows. -/
theorem w_ar (c : Dev nD) (off : Fin 3 → ℕ) (inb inb') (offT : Fin 2 → ℕ) (inbT) (h : okA true c off offT = true) (x : S1x32x1024.Idx) :
    k0_pay23 (rd .ar off S1x32x1024.size inb' (rcC m ρ c .ar))
        (fun y => (show S2048x1024.Idx → F .f32 from xstg m ρ c) ((Rect.unit (s := S2048x1024) offT S32x1024.size inbT).toLoadRect.idx y)) x
      = stC m ρ c .ar ((rct .ar off S1x32x1024.size inb).emb x) := by
  unfold okA at h; simp only [Bool.and_eq_true, Nat.beq_eq, Nat.blt_eq] at h
  obtain ⟨⟨⟨h0, h2⟩, h3⟩, h4⟩ := h
  rw [arN_slot m ρ c off inb x h2, Nat.mod_eq_of_lt (by omega), pv_accA]
  refine (congrArg₂ (fun a b => tr (F := F) (FloatOps.addf (ex a) b)) (arN_rd m ρ c off inb' (x 1) (x 2) h2) (ldT_val m ρ c offT inbT _ h4 h3 _)).trans ?_
  show tr (FloatOps.addf (ex (arN m ρ (off 0) (left c) (off 1 + (x 1).val) (x 2).val)) (tN m ρ c (rowA true c (off 0 + 1) + off 1 + (x 1).val) (x 2).val)) = _
  unfold rowA
  simp only [cond_true, cond_false]
  rw [arN, show qq c + 7 - (off 0 + 1) = qq c + 6 - off 0 by omega, Nat.add_assoc (512 * _)]

theorem alN_slot (c : Dev nD) (off : Fin 3 → ℕ) (inb) (x : S1x32x1024.Idx) (h2 : off 2 = 0) :
    stC m ρ c .al ((rct .al off S1x32x1024.size inb).emb x) = alN m ρ ((off 0 + 1) % 4) c (off 1 + (x 1).val) (x 2).val := by
  have hx : (x 0).val = 0 := by have := (x 0).isLt; change (x 0).val < 1 at this; omega
  show alN m ρ ((off 0 + 1 * (x 0).val + 1) % 4) c (off 1 + 1 * (x 1).val) (off 2 + 1 * (x 2).val) = _
  rw [hx, h2, Nat.mul_zero, Nat.add_zero, Nat.one_mul, Nat.one_mul, Nat.zero_add]
theorem alN_rd (c : Dev nD) (off : Fin 3 → ℕ) (inb) (i : Fin 32) (j : Fin 1024) (h2 : off 2 = 0) :
    rd .al off S1x32x1024.size inb (rcC m ρ c .al) (ValueIdx.ix3 (0 : Fin 1) i j) = alN m ρ (off 0) (right c) (off 1 + i.val) j.val := by
  show alN m ρ (off 0 + 1 * 0) (right c) (off 1 + 1 * i.val) (off 2 + 1 * j.val) = _
  rw [h2, Nat.mul_zero, Nat.add_zero, Nat.one_mul, Nat.one_mul, Nat.zero_add]
/-- The first partial sum of a block: the device's own rows. -/
theorem w_al0 (c : Dev nD) (off : Fin 3 → ℕ) (inb) (offT : Fin 2 → ℕ) (inbT) (h : okA0 false c off offT = true) (x : S1x32x1024.Idx) :
    k0_pay1 (fun y => (show S2048x1024.Idx → F .f32 from xstg m ρ c) ((Rect.unit (s := S2048x1024) offT S32x1024.size inbT).toLoadRect.idx y)) x
      = stC m ρ c .al ((rct .al off S1x32x1024.size inb).emb x) := by
  unfold okA0 at h; simp only [Bool.and_eq_true, Nat.beq_eq] at h
  obtain ⟨⟨⟨h0, h2⟩, h3⟩, h4⟩ := h
  rw [alN_slot m ρ c off inb x h2, h0, pv_init]
  refine (congrArg (tr (F := F)) (ldT_val m ρ c offT inbT _ h4 h3 _)).trans ?_
  show tr (tN m ρ c (rowA false c 0 + off 1 + (x 1).val) (x 2).val) = _
  unfold rowA
  simp only [cond_true, cond_false, Nat.sub_zero, Nat.add_zero]
  rw [show (3 + 1) % 4 = 0 from rfl]; unfold alN
  rw [Nat.add_assoc (512 * ((qq c + 1) % 4) + 256)]
/-- A received partial sum and the device's own rows. -/
theorem w_al (c : Dev nD) (off : Fin 3 → ℕ) (inb inb') (offT : Fin 2 → ℕ) (inbT) (h : okA false c off offT = true) (x : S1x32x1024.Idx) :
    k0_pay23 (rd .al off S1x32x1024.size inb' (rcC m ρ c .al))
        (fun y => (show S2048x1024.Idx → F .f32 from xstg m ρ c) ((Rect.unit (s := S2048x1024) offT S32x1024.size inbT).toLoadRect.idx y)) x
      = stC m ρ c .al ((rct .al off S1x32x1024.size inb).emb x) := by
  unfold okA at h; simp only [Bool.and_eq_true, Nat.beq_eq, Nat.blt_eq] at h
  obtain ⟨⟨⟨h0, h2⟩, h3⟩, h4⟩ := h
  rw [alN_slot m ρ c off inb x h2, Nat.mod_eq_of_lt (by omega), pv_accA]
  refine (congrArg₂ (fun a b => tr (F := F) (FloatOps.addf (ex a) b)) (alN_rd m ρ c off inb' (x 1) (x 2) h2) (ldT_val m ρ c offT inbT _ h4 h3 _)).trans ?_
  show tr (FloatOps.addf (ex (alN m ρ (off 0) (right c) (off 1 + (x 1).val) (x 2).val)) (tN m ρ c (rowA false c (off 0 + 1) + off 1 + (x 1).val) (x 2).val)) = _
  unfold rowA
  simp only [cond_true, cond_false]
  rw [alN, show qq c + (off 0 + 1) + 1 = qq c + off 0 + 2 by omega, Nat.add_assoc (512 * ((qq c + off 0 + 2) % 4) + 256)]

/-- The weights in bf16. -/
theorem w_wb (c : Dev nD) (inb inbT) (x : S1024x1024.Idx) :
    k0_pay22 (fun y => (show S1024x1024.Idx → F .f32 from wstg m ρ c) ((Rect.unit (s := S1024x1024) ![0, 0] S1024x1024.size inbT).toLoadRect.idx y)) x
      = stC m ρ c .wb ((rct .wb ![0, 0] S1024x1024.size inb).emb x) := by
  have e : ∀ y : S1024x1024.Idx, (Rect.unit (s := S1024x1024) ![0, 0] S1024x1024.size inbT).toLoadRect.idx y = y := fun y => by
    funext a
    refine Fin.cases ?_ (fun a => Fin.cases ?_ (fun a => a.elim0) a) a
    · exact Fin.ext (by show 0 + 1 * (y 0).val = (y 0).val; omega)
    · exact Fin.ext (by show 0 + 1 * (y 1).val = (y 1).val; omega)
  have e2 : ixW (0 + 1 * (x 0).val) (0 + 1 * (x 1).val) = x := by
    rw [Nat.one_mul, Nat.one_mul, Nat.zero_add, Nat.zero_add]
    funext a
    refine Fin.cases ?_ (fun a => Fin.cases ?_ (fun a => a.elim0) a) a
    · exact Fin.ext (Nat.mod_eq_of_lt (x 0).isLt)
    · exact Fin.ext (Nat.mod_eq_of_lt (x 1).isLt)
  show _ = wbV m ρ c (ixW (0 + 1 * (x 0).val) (0 + 1 * (x 1).val))
  rw [e2]
  unfold wbV
  refine congrFun (congrArg k0_pay22 (funext fun y => ?_)) x
  exact congrArg (show S1024x1024.Idx → F .f32 from wstg m ρ c) (e y)

/-- The plane's sum of the own quarter, one half. -/
theorem w_qar (c : Dev nD) (inb) (inb') (x : S256x1024.Idx) :
    k0_pay88 (rd .ar ![2, 0, 0] S1x256x1024.size inb' (stC m ρ c .ar)) x = stC m ρ c .qb ((rct .qb ![0, 0] S256x1024.size inb).emb x) := by
  rw [pv_copyQ]
  have h0 : (x 0).val < 256 := (x 0).isLt
  show arN m ρ ((2 + 1 * 0 + 1) % 4) c (0 + 1 * (x 0).val) (0 + 1 * (x 1).val) = qbN m ρ c (0 + 1 * (x 0).val) (0 + 1 * (x 1).val)
  unfold qbN
  rw [if_pos (by omega)]

/-- The plane's sum of the own quarter, one half. -/
theorem w_qal (c : Dev nD) (inb) (inb') (x : S256x1024.Idx) :
    k0_pay88 (rd .al ![2, 0, 0] S1x256x1024.size inb' (stC m ρ c .al)) x = stC m ρ c .qb ((rct .qb ![256, 0] S256x1024.size inb).emb x) := by
  rw [pv_copyQ]
  have h0 : (x 0).val < 256 := (x 0).isLt
  show alN m ρ ((2 + 1 * 0 + 1) % 4) c (0 + 1 * (x 0).val) (0 + 1 * (x 1).val) = qbN m ρ c (256 + 1 * (x 0).val) (0 + 1 * (x 1).val)
  unfold qbN
  rw [if_neg (by omega), show 256 + 1 * (x 0).val - 256 = 0 + 1 * (x 0).val by omega]

theorem bcN_slot (c : Dev nD) (off : Fin 3 → ℕ) (inb) (x : S1x32x1024.Idx) (h2 : off 2 = 0) :
    stC m ρ c .bc ((rct .bc off S1x32x1024.size inb).emb x) = bcN m ρ ((off 0 + 1) % 4) c (off 1 + (x 1).val) (x 2).val := by
  have hx : (x 0).val = 0 := by have := (x 0).isLt; change (x 0).val < 1 at this; omega
  show bcN m ρ ((off 0 + 1 * (x 0).val + 1) % 4) c (off 1 + 1 * (x 1).val) (off 2 + 1 * (x 2).val) = _
  rw [hx, h2, Nat.mul_zero, Nat.add_zero, Nat.one_mul, Nat.one_mul, Nat.zero_add]
theorem bcN_rd (c : Dev nD) (off : Fin 3 → ℕ) (inb) (i : Fin 32) (j : Fin 1024) (h2 : off 2 = 0) :
    rd .bc off S1x32x1024.size inb (rcC m ρ c .bc) (ValueIdx.ix3 (0 : Fin 1) i j) = bcN m ρ (off 0) (zdn c) (off 1 + i.val) j.val := by
  show bcN m ρ (off 0 + 1 * 0) (zdn c) (off 1 + 1 * i.val) (off 2 + 1 * j.val) = _
  rw [h2, Nat.mul_zero, Nat.add_zero, Nat.one_mul, Nat.one_mul, Nat.zero_add]
theorem qbN_rd (c : Dev nD) (off : Fin 2 → ℕ) (inb) (i : Fin 32) (j : Fin 1024) (h2 : off 1 = 0) :
    rd .qb off S32x1024.size inb (stC m ρ c .qb) (ValueIdx.ix2 i j) = qbN m ρ c (off 0 + i.val) j.val := by
  show qbN m ρ c (off 0 + 1 * i.val) (off 1 + 1 * j.val) = _
  rw [h2, Nat.one_mul, Nat.one_mul, Nat.zero_add]
theorem w_bc0 (c : Dev nD) (off : Fin 3 → ℕ) (inb) (offQ : Fin 2 → ℕ) (inbQ) (h : okB0 c off offQ = true) (x : S1x32x1024.Idx) :
    k0_pay90 (rd .qb offQ S32x1024.size inbQ (stC m ρ c .qb)) x = stC m ρ c .bc ((rct .bc off S1x32x1024.size inb).emb x) := by
  unfold okB0 at h; simp only [Bool.and_eq_true, Nat.beq_eq] at h
  obtain ⟨⟨⟨h0, h2⟩, h3⟩, h4⟩ := h
  rw [bcN_slot m ρ c off inb x h2, h0, pv_copyB]
  refine (qbN_rd m ρ c offQ inbQ (x 1) (x 2) h3).trans ?_
  rw [h4, show (3 + 1) % 4 = 0 from rfl]; unfold bcN rowB
  rw [show (zz c + 7 - 0) % 4 = (zz c + 3) % 4 by omega, Nat.add_assoc]
theorem w_bc (c : Dev nD) (off : Fin 3 → ℕ) (inb inb') (offQ : Fin 2 → ℕ) (inbQ) (h : okB c off offQ = true) (x : S1x32x1024.Idx) :
    k0_pay98 (rd .bc off S1x32x1024.size inb' (rcC m ρ c .bc)) (rd .qb offQ S32x1024.size inbQ (stC m ρ c .qb)) x
      = stC m ρ c .bc ((rct .bc off S1x32x1024.size inb).emb x) := by
  unfold okB at h; simp only [Bool.and_eq_true, Nat.beq_eq, Nat.blt_eq] at h
  obtain ⟨⟨⟨h0, h2⟩, h3⟩, h4⟩ := h
  rw [bcN_slot m ρ c off inb x h2, Nat.mod_eq_of_lt (by omega), pv_accB]
  refine (congrArg₂ (fun a b => tr (F := F) (FloatOps.addf (ex a) (ex b))) (bcN_rd m ρ c off inb' (x 1) (x 2) h2) (qbN_rd m ρ c offQ inbQ (x 1) (x 2) h3)).trans ?_
  rw [h4, bcN, rowB, show zz c + 7 - (off 0 + 1) = zz c + 6 - off 0 by omega, Nat.add_assoc (128 * _)]

/-! ## The product -/

theorem prod_eq (c : Dev nD) (hf : Fin 2) (offB : Fin 3 → ℕ) (inbB) (offW : Fin 2 → ℕ) (inbW) (hB0 : offB 0 = 2) (hB1 : offB 1 = 64 * hf) (hB2 : offB 2 = 0) (hW0 : offW 0 = 0) (hW1 : offW 1 = 0) :
    k0_pay110 (rd .bc offB S1x64x1024.size inbB (stC m ρ c .bc)) (rd .wb offW S1024x1024.size inbW (stC m ρ c .wb)) = resV m ρ c hf := by
  unfold resV
  have e1 : rd .bc offB S1x64x1024.size inbB (stC m ρ c .bc) = fun i : S1x64x1024.Idx => bcN m ρ 3 c (64 * hf + (i 1).val) (i 2).val := by
    funext i
    have hx : (i 0).val = 0 := by have := (i 0).isLt; change (i 0).val < 1 at this; omega
    show bcN m ρ ((offB 0 + 1 * (i 0).val + 1) % 4) c (offB 1 + 1 * (i 1).val) (offB 2 + 1 * (i 2).val) = _
    rw [hx, hB0, hB1, hB2, Nat.one_mul, Nat.one_mul, Nat.one_mul, Nat.zero_add]
  have e2 : rd .wb offW S1024x1024.size inbW (stC m ρ c .wb) = wbV m ρ c := by
    funext x
    show wbV m ρ c (ixW (offW 0 + 1 * (x 0).val) (offW 1 + 1 * (x 1).val)) = _
    rw [hW0, hW1, Nat.one_mul, Nat.one_mul, Nat.zero_add, Nat.zero_add]
    refine congrArg _ ?_
    funext a
    refine Fin.cases ?_ (fun a => Fin.cases ?_ (fun a => a.elim0) a) a
    · exact Fin.ext (Nat.mod_eq_of_lt (x 0).isLt)
    · exact Fin.ext (Nat.mod_eq_of_lt (x 1).isLt)
  exact congrArg₂ k0_pay110 e1 e2

theorem ixM_of (x : S64x1024.Idx) (r j : ℕ) (hr : r % 64 = (x 0).val) (hj : j = (x 1).val) : ixM r j = x := by
  funext a
  refine Fin.cases ?_ (fun a => Fin.cases ?_ (fun a => a.elim0) a) a
  · exact Fin.ext hr
  · exact Fin.ext ((congrArg (· % 1024) hj).trans (Nat.mod_eq_of_lt (x 1).isLt))

def okP (c : Dev nD) (hf : ℕ) (offB : Fin 3 → ℕ) (offW : Fin 2 → ℕ) : Bool :=
  Nat.beq (offB 0) 2 && Nat.beq (offB 1) (64 * hf) && Nat.beq (offB 2) 0 && Nat.beq (offW 0) 0 && Nat.beq (offW 1) 0
def okOwn (c : Dev nD) (hf : ℕ) (off : Fin 2 → ℕ) : Bool := Nat.beq (off 0) (512 * qq c + 128 * zz c + 64 * hf) && Nat.beq (off 1) 0
def okOwnQ (c : Dev nD) (hf : ℕ) (off : Fin 2 → ℕ) : Bool := Nat.beq (off 0) (128 * zz c + 64 * hf) && Nat.beq (off 1) 0

theorem w_own (c : Dev nD) (hf : Fin 2) (off : Fin 2 → ℕ) (inb) (offB : Fin 3 → ℕ) (inbB) (offW : Fin 2 → ℕ) (inbW) (hp : okP c hf offB offW = true) (ho : okOwn c hf off = true) (x : S64x1024.Idx) :
    k0_pay110 (rd .bc offB S1x64x1024.size inbB (stC m ρ c .bc)) (rd .wb offW S1024x1024.size inbW (stC m ρ c .wb)) x
      = stC m ρ c .ou ((rct .ou off S64x1024.size inb).emb x) := by
  unfold okP at hp; unfold okOwn at ho; simp only [Bool.and_eq_true, Nat.beq_eq] at hp ho
  obtain ⟨⟨⟨⟨a, b⟩, d⟩, e⟩, g⟩ := hp
  rw [prod_eq m ρ c hf offB inbB offW inbW a b d e g]
  show _ = outN m ρ c (off 0 + 1 * (x 0).val) (off 1 + 1 * (x 1).val)
  have hq := qq_lt c
  have hz := zz_lt c
  have hf2 := hf.isLt
  have hx : (x 0).val < 64 := (x 0).isLt
  rw [ho.1, ho.2]
  unfold outN resN
  rw [if_pos (by omega)]
  rw [show (512 * qq c + 128 * zz c + 64 * hf.val + 1 * (x 0).val) % 128 / 64 = hf by omega, ixM_of x _ _ (by omega) (by omega)]

theorem dv_self (c : Dev nD) : dv (qq c) (zz c) = c := by revert c; decide +kernel

theorem w_ownQ (c : Dev nD) (hf : Fin 2) (off : Fin 2 → ℕ) (inb) (offB : Fin 3 → ℕ) (inbB) (offW : Fin 2 → ℕ) (inbW) (hp : okP c hf offB offW = true) (ho : okOwnQ c hf off = true) (x : S64x1024.Idx) :
    k0_pay112 (k0_pay111 (rd .bc offB S1x64x1024.size inbB (stC m ρ c .bc)) (rd .wb offW S1024x1024.size inbW (stC m ρ c .wb))) x
      = stC m ρ c .qo ((rct .qo off S64x1024.size inb).emb x) := by
  unfold okP at hp; unfold okOwnQ at ho; simp only [Bool.and_eq_true, Nat.beq_eq] at hp ho
  obtain ⟨⟨⟨⟨a, b⟩, d⟩, e⟩, g⟩ := hp
  unfold k0_pay112
  refine (congrFun (shapeCast_self _ _) x).trans ?_
  show tr (k0_pay110 _ _ x) = qoN m ρ c (off 0 + 1 * (x 0).val) (off 1 + 1 * (x 1).val)
  rw [prod_eq m ρ c hf offB inbB offW inbW a b d e g]
  have hz := zz_lt c
  have hf2 := hf.isLt
  have hx : (x 0).val < 64 := (x 0).isLt
  rw [ho.1, ho.2]
  unfold qoN resN
  rw [show (128 * zz c + 64 * hf.val + 1 * (x 0).val) / 128 % 4 = zz c by omega, dv_self,
    show (128 * zz c + 64 * hf.val + 1 * (x 0).val) % 128 / 64 = hf by omega, ixM_of x _ _ (by omega) (by omega)]

/-! ## The results gathered -/

def okQ (c : Dev nD) (off offQ : Fin 2 → ℕ) : Bool :=
  Nat.beq (off 0) (512 * qq c + offQ 0) && Nat.beq (off 1) (offQ 1) && Nat.ble (offQ 0 + 32) 512 && Nat.beq (offQ 0 % 32) 0 && !Nat.beq (offQ 0 / 128) (zz c)
def okPo (c : Dev nD) (off offP : Fin 2 → ℕ) : Bool :=
  Nat.beq (off 0) (offP 0) && Nat.beq (off 1) (offP 1) && Nat.ble (offP 0 + 32) 2048 && Nat.beq (offP 0 % 32) 0 && !Nat.beq (offP 0 / 512) (qq c)

theorem w_outQ (c : Dev nD) (off : Fin 2 → ℕ) (inb) (offQ : Fin 2 → ℕ) (inbQ) (h : okQ c off offQ = true) (x : S32x1024.Idx) :
    k0_pay116 (rd .qo offQ S32x1024.size inbQ (stC m ρ c .qo)) x = stC m ρ c .ou ((rct .ou off S32x1024.size inb).emb x) := by
  unfold okQ at h; simp only [Bool.and_eq_true, Nat.beq_eq, Nat.ble_eq, Bool.not_eq_true'] at h
  obtain ⟨⟨⟨⟨h0, h1⟩, h2⟩, h3⟩, h4⟩ := h
  have h4 : offQ 0 / 128 ≠ zz c := fun e => by rw [e, Nat.beq_refl] at h4; cases h4
  have hx : (x 0).val < 32 := (x 0).isLt
  have hq := qq_lt c
  show ex (qoN m ρ c (offQ 0 + 1 * (x 0).val) (offQ 1 + 1 * (x 1).val)) = outN m ρ c (off 0 + 1 * (x 0).val) (off 1 + 1 * (x 1).val)
  unfold outN
  rw [if_neg (by omega), qoN_poN m ρ c _ _ (by omega), h0, h1, Nat.add_assoc]

theorem w_outP (c : Dev nD) (off : Fin 2 → ℕ) (inb) (offP : Fin 2 → ℕ) (inbP) (h : okPo c off offP = true) (x : S32x1024.Idx) :
    k0_pay116 (rd .po offP S32x1024.size inbP (stC m ρ c .po)) x = stC m ρ c .ou ((rct .ou off S32x1024.size inb).emb x) := by
  unfold okPo at h; simp only [Bool.and_eq_true, Nat.beq_eq, Nat.ble_eq, Bool.not_eq_true'] at h
  obtain ⟨⟨⟨⟨h0, h1⟩, h2⟩, h3⟩, h4⟩ := h
  have h4 : offP 0 / 512 ≠ qq c := fun e => by rw [e, Nat.beq_refl] at h4; cases h4
  have hx : (x 0).val < 32 := (x 0).isLt
  show ex (poN m ρ (offP 0 + 1 * (x 0).val) (offP 1 + 1 * (x 1).val)) = outN m ρ c (off 0 + 1 * (x 0).val) (off 1 + 1 * (x 1).val)
  unfold outN
  rw [if_neg (by omega), h0, h1]

end Cert.Ring
-- ==== Proof.Open.lean ====
module

public import proofs.«01_k».proof.Proof.Vals

@[expose] public section

set_option maxRecDepth 16384

noncomputable section

namespace Cert.Ring

open Cert.KernelIdeal Cert.KernelIdeal.Gen Cert.Plan
open Idealize.ShloMosaic
open Idealize.ShloMosaic.TcCoe
open Idealize.SL Idealize.SL.RA Idealize.SL.BI
open scoped Idealize.SL.BI Idealize.SL.RA
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × Fin 241 → ℕ)

/-! ## The opening: four signals and the wait for the neighbours' four -/

/-- The devices the four signals go to, in the order they are sent, -/
def nb (c : Dev nD) (d : Fin 4) : Dev nD := match d with
  | 0 => left c
  | 1 => right c
  | 2 => zup c
  | 3 => zdn c
/-- and the landing rows handed over with each. -/
def give (c : Dev nD) (d : Fin 4) : sProp 𝕄 := bigSep (keysOf d) fun k => iprop(∃ f, land (F := F) c k f)

theorem peer_nb : ∀ c : Dev nD, ∀ d : Fin 4, ∀ k : Fin 120, inKeys d k = true → peer (nb c d) k = c := by decide +kernel
omit [FloatOps F] in
theorem give_eq (c : Dev nD) (d : Fin 4) : barPay (F := F) (nb c d) d = give c d := by
  unfold barPay give
  refine bigSep_congr fun k hk => ?_
  have h := Finset.mem_filter.mp hk
  rw [peer_nb c d ⟨k, Finset.mem_range.mp h.1⟩ h.2]

/-- The signal sent when `j + 1` are left. -/
def dd (j : ℕ) : Fin 4 := ⟨3 - j, by omega⟩
def OB (c : Dev nD) : ℕ → CellTallies nD τ sig Unit
  | 0 => Ow c 0
  | j + 1 => OB c j + tallyAt (barCell (nb c (dd j))) () 1
def Gv (c : Dev nD) : ℕ → sProp 𝕄
  | 0 => iprop(emp)
  | j + 1 => iprop((dutyTok ER (barCell (nb c (dd j))) 0 (dd j) ∗ give (F := F) c (dd j)) ∗ Gv c j)
def K0 (c : Dev nD) (k : ℕ) : sProp 𝕄 :=
  iprop((atPos ER (sCell c k) 0 ∅ 0 ∗ dutyTok ER (sCell c k) 0 0 ∗ dutyTok ER (rCell (peer c k) k) 0 0) ∗ KR (F := F) c k false)

/-- Device `c` with `j` of its four signals still to send. -/
def Bs (c : Dev nD) (j : ℕ) : sProp 𝕄 :=
  iprop(recs m ρ K ∗ (∃ W, owes (c : Thread nD τ) (OB c j) W) ∗ Gv (F := F) c j ∗ (cred (tallyAt (barCell c) () 4) ∗ atPos ER (barCell c) 0 ∅ 0)
    ∗ (bigSep (Finset.range 120) fun k => K0 (F := F) c k) ∗ Wd m ρ c 0 ∗ ins m ρ c)

section
variable {m ρ K}
variable {c : Dev nD} {j : ℕ}

theorem st_sig {α : Type} {Q : α → sProp 𝕄} {p : Dev nD} (hp : p = nb c (dd j)) {v : Int} (hv : v = 1)
    {kk : PUnit → Prog (TpuEff nD τ sig (Elt F) Λ₀ .tc) α} (next : Bs m ρ K c j ⊢ WP c (kk ⟨⟩) Q) :
    Bs m ρ K c (j + 1) ⊢ WP c (.op (.semSignal ((p : Thread nD τ)) barS v) kk) Q := by
  subst hp; subst hv
  have hb := give_eq (F := F) c (dd j)
  unfold Bs OB Gv
  iintro ⟨#R, ⟨%W, O⟩, ⟨⟨Ht, Hg⟩, G⟩, B, Kk, Ww, I⟩
  ihave I1 := (recs_bar m ρ K (nb c (dd j))) $$ R
  icases I1 with ⟨#I1, #r1⟩
  iapply (Rounds.wp_signal 𝒱₀ ER (Rd m ρ) (c : Thread nD τ) none (dst := (nb c (dd j) : Thread nD τ)) (κ := K (nb c (dd j), 0))
      (d := dd j) (by rw [duties_bar]; exact Finset.mem_univ _) ((amount_bar m ρ (nb c (dd j)) (dd j)).trans (by decide)) () (OB c j) rfl)
    $$ [O Ht Hg]
  · isplitr; · iexact I1
    isplitl [O]; · iexact O
    isplitl [Ht]; · iexact Ht
    isplitl [Hg]; · rw [payload_bar, hb]; iexact Hg
    iexact r1
  iintro O
  iapply next
  unfold Bs
  isplitr; · iexact R
  isplitl [O]; · iexists W; iexact O
  isplitl [G]; · iexact G
  isplitl [B]; · iexact B
  isplitl [Kk]; · iexact Kk
  isplitl [Ww]; · iexact Ww
  iexact I

theorem keys_cover : Finset.range 120 = (keysOf 0 ∪ keysOf 1) ∪ keysOf 3 := by decide +kernel
theorem keys_disj : Disjoint (keysOf 0) (keysOf 1) ∧ Disjoint (keysOf 0 ∪ keysOf 1) (keysOf 3) := by decide +kernel

omit [FloatOps F] in
theorem keys_join (Φ : ℕ → sProp 𝕄) :
    bigSep (Finset.range 120) Φ = iprop((bigSep (keysOf 0) Φ ∗ bigSep (keysOf 1) Φ) ∗ bigSep (keysOf 3) Φ) := by
  rw [keys_cover, bigSep_union keys_disj.2, bigSep_union keys_disj.1]; rfl

omit [FloatOps F] in
theorem kjoin (c : Dev nD) :
    iprop((bigSep (Finset.range 120) fun k => K0 (F := F) c k) ∗ (barPay (F := F) c 0 ∗ barPay (F := F) c 1) ∗ barPay (F := F) c 3)
      ⊢ bigSep (Finset.range 120) fun k => KA (F := F) c 0 k := by
  unfold barPay
  rw [← keys_join (F := F) (fun k => iprop(∃ f, land (F := F) (peer c k) k f))]
  refine BIBase.Entails.trans (Entails.of_eq (bigSep_sep _ _ _).symm) (bigSep_mono fun k _ => ?_)
  show iprop(((atPos ER (sCell c k) 0 ∅ 0 ∗ dutyTok ER (sCell c k) 0 0 ∗ dutyTok ER (rCell (peer c k) k) 0 0) ∗ KR (F := F) c k false)
    ∗ ∃ f, land (F := F) (peer c k) k f) ⊢ iprop((atPos ER (sCell c k) 0 ∅ 0 ∗ dutyTok ER (sCell c k) 0 0 ∗ dutyTok ER (rCell (peer c k) k) 0 0
    ∗ ∃ f, land (F := F) (peer c k) k f) ∗ KR (F := F) c k false)
  iintro ⟨⟨⟨A, B, C⟩, D⟩, E⟩
  isplitr [D]
  · isplitl [A]; · iexact A
    isplitl [B]; · iexact B
    isplitl [C]; · iexact C
    iexact E
  iexact D

theorem st_barwait {α : Type} {Q : α → sProp 𝕄} {v : Int} (hv : v = 4)
    {kk : PUnit → Prog (TpuEff nD τ sig (Elt F) Λ₀ .tc) α} (next : St m ρ K c 0 ⊢ WP c (kk ⟨⟩) Q) :
    Bs m ρ K c 0 ⊢ WP c (.op (.semWait barS v) kk) fun r => iprop(Q r ∗ semVal (barCell c) 0) := by
  subst hv
  have hf : iprop(WP c (kk ⟨⟩) Q ∗ semVal (barCell c) 0) ⊢ WP c (kk ⟨⟩) fun r => iprop(Q r ∗ semVal (barCell c) 0) := wp_frame_r _ _ _
  unfold Bs OB Gv
  iintro ⟨#R, ⟨%W, O⟩, -, ⟨Hc, Hat⟩, Kk, Ww, I⟩
  ihave I1 := (recs_bar m ρ K c) $$ R
  icases I1 with ⟨#I1, #r1⟩
  iapply (Rounds.wp_wait_rest_token 𝒱₀ ER (Rd m ρ) (c : Thread nD τ) none (κ := K (c, 0))
      (wpE_semWait_eq 𝒱₀ (c : Thread nD τ) none Set.univ) (Set.mem_univ _) () (O := Ow c 0) (W := W) (R := 0) (m := 0) (T := ∅)
      (by rw [expect_bar])) $$ [Hc O Hat]
  · isplitr; · iexact I1
    isplitl [Hc]; · iexact Hc
    isplitl [O]; · iexact O
    isplitr
    · iapply (mayWait (F := F) c 0 1 (.reg barS) (le_refl 1) (fun k hk _ => lev_ge ⟨k, hk⟩))
      iapply (recs_lev m ρ K); iexact R
    iexact Hat
  iintro ⟨O, Hat, -, Hp⟩
  ihave Hp := (Entails.of_eq (rest_bar m ρ c)) $$ Hp
  icases Hp with ⟨P0, P1, -, P3⟩
  imod (Rounds.cell_close ER (Rd m ρ) (Set.mem_univ (K (c, 0))) (fun h => h) (R := 0 + 1) (duties_later m ρ (barCell c))) $$ [Hat] with Hz
  · isplitr; · iexact I1
    iexact Hat
  iapply hf
  isplitr [Hz]
  · iapply next
    unfold St Os Ks
    isplitr; · iexact R
    isplitl [O]; · iexists _; iexact O
    isplitl [Kk P0 P1 P3]
    · iapply (kjoin (F := F) c)
      unfold barPay
      isplitl [Kk]; · iexact Kk
      isplitr [P3]
      · isplitl [P0]; · iexact P0
        iexact P1
      iexact P3
    isplitl [Ww]; · iexact Ww
    iexact I
  iexact Hz

/-- A device asking which it is. -/
theorem st_dev {α : Type} {A : sProp 𝕄} {Q : α → sProp 𝕄} {kk : Dev nD → Prog (TpuEff nD τ sig (Elt F) Λ₀ .tc) α} (next : A ⊢ WP c (kk c) Q) :
    A ⊢ WP c (.op .deviceId kk) Q := by
  rw [WP, wp_deviceId]; exact next

end

end Cert.Ring
-- ==== Proof.Run.lean ====
module

public import proofs.«01_k».proof.Proof.Open

@[expose] public section

set_option maxRecDepth 16384

noncomputable section

namespace Cert.Ring

open Cert.KernelIdeal Cert.KernelIdeal.Gen Cert.Plan
open Idealize.ShloMosaic
open Idealize.ShloMosaic.TcCoe
open Idealize.SL Idealize.SL.RA Idealize.SL.BI
open scoped Idealize.SL.BI Idealize.SL.RA
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × Fin 241 → ℕ)

section
variable {m ρ K}
variable {c : Dev nD} {n : ℕ}

/-- Counting on. -/
theorem st_at {n' : ℕ} {A : sProp 𝕄} (h : n = n') (next : St m ρ K c n' ⊢ A) : St m ρ K c n ⊢ A := by subst h; exact next

/-- A send whose transfer the plan names outright. -/
theorem st_sendE {α : Type} {Q : α → sProp 𝕄} (b b' : Cb) {k k' : ℕ} (hev : ev (zz c) n = .send k') (hk : k' = k)
    {p : Dev nD} {off : Off b.bf} {off' : Off b'.bf}
    (hok : sendOK c n k b b' off off' p.val = true) {inb : InB b.bf off (bz b)} {inb' : InB b'.bf off' (bz b')} {sS sR : DmaSem sig} (hS : sS = semS k) (hR : sR = semR k)
    {hsc hsrc hdst hty} {kk : PUnit → Prog (TpuEff nD τ sig (Elt F) Λ₀ .tc) α} (next : St m ρ K c (n + 1) ⊢ WP c (kk ⟨⟩) Q) :
    St m ρ K c n ⊢ WP c (.op (.enqueueDma (blk b off inb) (.remote (Dev.tc p : Thread nD τ) (blk b' off' inb') (.dma sS) hsc) (.dma sR) hsrc hdst hty) kk) Q :=
  st_send b b' k hok hS hR next

theorem st_recvE {α : Type} {Q : α → sProp 𝕄} {k k' : ℕ} (hev : ev (zz c) n = .recv k') (hn : k' = k) (hk : k < 120) {sR : DmaSem sig} (hR : sR = semR k)
    {M M' : Memref sig .tc .vmem S32x1024 .bf16} (hN : M'.view.dmaCredit = N) {hs : M.view.WordExact} {hd : M'.view.WordExact}
    {kk : PUnit → Prog (TpuEff nD τ sig (Elt F) Λ₀ .tc) α} (next : St m ρ K c (n + 1) ⊢ WP c (kk ⟨⟩) Q) :
    St m ρ K c n ⊢ WP c (.op (.waitDma2 sR M M' hs hd) kk) Q :=
  st_recv (hev.trans (congrArg Ev.recv hn)) hk hR hN next

theorem st_swE {α : Type} {Q : α → sProp 𝕄} {k k' : ℕ} (hev : ev (zz c) n = .sw k') (hn : k' = k) (hk : k < 120) {sS : DmaSem sig} (hS : sS = semS k)
    {M M' : Memref sig .tc .vmem S32x1024 .bf16} (hN : M'.view.dmaCredit = N) {hs : M.view.WordExact} {hd : M'.view.WordExact}
    {kk : PUnit → Prog (TpuEff nD τ sig (Elt F) Λ₀ .tc) α} (next : St m ρ K c (n + 1) ⊢ WP c (kk ⟨⟩) Q) :
    St m ρ K c n ⊢ WP c (.op (.waitDma2 sS M M' hs hd) kk) Q :=
  st_sw (hev.trans (congrArg Ev.sw hn)) hk hS hN next

/-- The end of a stretch. -/
theorem st_ret {α : Type} {A : sProp 𝕄} {r : α} {φ : α → Prop} (h : φ r) : A ⊢ WP (F := F) c (.ret r) fun r => iprop(⌜φ r⌝ ∗ A) := by
  rw [WP, wp_ret]
  iintro HA
  imodintro
  isplitr
  · ipureintro; exact h
  iexact HA
end

end Cert.Ring
-- ==== Proof.First.lean ====
module

public import proofs.«01_k».proof.Proof.Run

@[expose] public section

set_option maxRecDepth 16384

noncomputable section

namespace Cert.Ring

open Cert.KernelIdeal Cert.KernelIdeal.Gen Cert.Plan
open Idealize.ShloMosaic
open Idealize.ShloMosaic.TcCoe
open Idealize.SL Idealize.SL.RA Idealize.SL.BI
open scoped Idealize.SL.BI Idealize.SL.RA
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × Fin 241 → ℕ)

section
variable {m ρ K}
variable {c : Dev nD}

set_option maxHeartbeats 0 in
/-- The opening, the first sums, and the plane's ring but for its last block. -/
theorem run_first : Bs m ρ K c 4 ⊢ WP c (k0_part172_skel (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 cc0_scratch16 cc0_scratch17 cc0_scratch18)
    fun r => iprop(iprop(⌜r.1 = c⌝ ∗ St m ρ K c 171) ∗ semVal (barCell c) 0) := by
  unfold k0_part172_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton]
  refine st_dev ?_
  iterate 4 refine st_sig (by revert c; decide +kernel) rfl ?_
  refine st_barwait rfl ?_
  iterate 8
    refine st_ldT ?_
    refine st_ldD .ar rfl (by clear * -; revert c; decide +kernel) fun _ => ?_
    refine st_st .ar rfl (by clear * -; revert c; decide +kernel) (w_ar0 m ρ c _ _ _ _ (by clear * -; revert c; decide +kernel)) ?_
    refine st_at (by simp only [Nat.reduceAdd]; rfl) ?_
    refine st_sendE .ar .ar rfl (by simp only [Nat.reduceDiv, Nat.reduceMod, Nat.reduceMul, Nat.reduceAdd, Nat.reduceSub]; rfl) (by clear * -; revert c; decide +kernel) (by exact rfl) (by exact rfl) ?_
    refine st_at (by simp only [Nat.reduceAdd]; rfl) ?_
    refine st_ldT ?_
    refine st_ldD .al rfl (by clear * -; revert c; decide +kernel) fun _ => ?_
    refine st_st .al rfl (by clear * -; revert c; decide +kernel) (w_al0 m ρ c _ _ _ _ (by clear * -; revert c; decide +kernel)) ?_
    refine st_at (by simp only [Nat.reduceAdd]; rfl) ?_
    refine st_sendE .al .al rfl (by simp only [Nat.reduceDiv, Nat.reduceMod, Nat.reduceMul, Nat.reduceAdd, Nat.reduceSub]; rfl) (by clear * -; revert c; decide +kernel) (by exact rfl) (by exact rfl) ?_
    refine st_at (by simp only [Nat.reduceAdd]; rfl) ?_
  refine st_ldW ?_
  refine st_ldD .wb rfl (by clear * -; revert c; decide +kernel) fun _ => ?_
  refine st_st .wb rfl (by clear * -; revert c; decide +kernel) (w_wb m ρ c _ _) ?_
  refine st_at (by simp only [Nat.reduceAdd]; rfl) ?_
  iterate 16
    refine st_recvE rfl (by simp only [Nat.reduceDiv, Nat.reduceMod, Nat.reduceMul, Nat.reduceAdd, Nat.reduceSub]; rfl) (by decide) (by exact rfl) (by exact rfl) ?_
    refine st_at (by simp only [Nat.reduceAdd]; rfl) ?_
    refine st_ldS .ar rfl (by clear * -; revert c; decide +kernel) ?_
    refine st_ldT ?_
    refine st_ldS .ar rfl (by clear * -; revert c; decide +kernel) ?_
    refine st_st .ar rfl (by clear * -; revert c; decide +kernel) (w_ar m ρ c _ _ _ _ _ (by clear * -; revert c; decide +kernel)) ?_
    refine st_at (by simp only [Nat.reduceAdd]; rfl) ?_
    refine st_sendE .ar .ar rfl (by simp only [Nat.reduceDiv, Nat.reduceMod, Nat.reduceMul, Nat.reduceAdd, Nat.reduceSub]; rfl) (by clear * -; revert c; decide +kernel) (by exact rfl) (by exact rfl) ?_
    refine st_at (by simp only [Nat.reduceAdd]; rfl) ?_
    refine st_recvE rfl (by simp only [Nat.reduceDiv, Nat.reduceMod, Nat.reduceMul, Nat.reduceAdd, Nat.reduceSub]; rfl) (by decide) (by exact rfl) (by exact rfl) ?_
    refine st_at (by simp only [Nat.reduceAdd]; rfl) ?_
    refine st_ldS .al rfl (by clear * -; revert c; decide +kernel) ?_
    refine st_ldT ?_
    refine st_ldS .al rfl (by clear * -; revert c; decide +kernel) ?_
    refine st_st .al rfl (by clear * -; revert c; decide +kernel) (w_al m ρ c _ _ _ _ _ (by clear * -; revert c; decide +kernel)) ?_
    refine st_at (by simp only [Nat.reduceAdd]; rfl) ?_
    refine st_sendE .al .al rfl (by simp only [Nat.reduceDiv, Nat.reduceMod, Nat.reduceMul, Nat.reduceAdd, Nat.reduceSub]; rfl) (by clear * -; revert c; decide +kernel) (by exact rfl) (by exact rfl) ?_
    refine st_at (by simp only [Nat.reduceAdd]; rfl) ?_
  iterate 7
    refine st_recvE rfl (by simp only [Nat.reduceDiv, Nat.reduceMod, Nat.reduceMul, Nat.reduceAdd, Nat.reduceSub]; rfl) (by decide) (by exact rfl) (by exact rfl) ?_
    refine st_at (by simp only [Nat.reduceAdd]; rfl) ?_
    refine st_ldS .ar rfl (by clear * -; revert c; decide +kernel) ?_
    refine st_ldT ?_
    refine st_ldS .ar rfl (by clear * -; revert c; decide +kernel) ?_
    refine st_st .ar rfl (by clear * -; revert c; decide +kernel) (w_ar m ρ c _ _ _ _ _ (by clear * -; revert c; decide +kernel)) ?_
    refine st_at (by simp only [Nat.reduceAdd]; rfl) ?_
    refine st_skip rfl ?_
    refine st_at (by simp only [Nat.reduceAdd]; rfl) ?_
    refine st_recvE rfl (by simp only [Nat.reduceDiv, Nat.reduceMod, Nat.reduceMul, Nat.reduceAdd, Nat.reduceSub]; rfl) (by decide) (by exact rfl) (by exact rfl) ?_
    refine st_at (by simp only [Nat.reduceAdd]; rfl) ?_
    refine st_ldS .al rfl (by clear * -; revert c; decide +kernel) ?_
    refine st_ldT ?_
    refine st_ldS .al rfl (by clear * -; revert c; decide +kernel) ?_
    refine st_st .al rfl (by clear * -; revert c; decide +kernel) (w_al m ρ c _ _ _ _ _ (by clear * -; revert c; decide +kernel)) ?_
    refine st_at (by simp only [Nat.reduceAdd]; rfl) ?_
    refine st_skip rfl ?_
    refine st_at (by simp only [Nat.reduceAdd]; rfl) ?_
  exact st_ret rfl
end

end Cert.Ring
-- ==== Proof.Runs.lean ====
module

public import proofs.«01_k».proof.Proof.Run

@[expose] public section

set_option maxRecDepth 16384

noncomputable section

namespace Cert.Ring

open Cert.KernelIdeal Cert.KernelIdeal.Gen Cert.Plan
open Idealize.ShloMosaic
open Idealize.ShloMosaic.TcCoe
open Idealize.SL Idealize.SL.RA Idealize.SL.BI
open scoped Idealize.SL.BI Idealize.SL.RA
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × Fin 241 → ℕ)

section
variable {m ρ K}
variable {c : Dev nD} {n : ℕ}

/-- A load changes nothing. -/
theorem St_ld {lo k v : ℕ} (hev : ev (zz c) n = .ld lo k v) : St m ρ K c (n + 1) = St m ρ K c n := by
  unfold St
  rw [Os_quiet c n (by rw [hev]; rfl), Ks_quiet c n (by rw [hev]; rfl)]
  have : Wd m ρ c (n + 1) = Wd m ρ c n := by
    unfold Wd; exact bigSep_congr fun w _ => by rw [look_succ, hev]; rfl
  rw [this]

/-- A received block read just before a load the plan names first. -/
theorem st_ldS' {α : Type} {Q : α → sProp 𝕄} (b : Bf) {lo' k' v' : ℕ} (hev' : ev (zz c) n = .ld lo' k' v') {lo : ℕ} (hev : ev (zz c) (n + 1) = .st lo 1 3)
    {off size : Off b} {inb : InB b off size} (hok : oneOK c b lo off size = true) {hl : (wm b).view.LoadsAt (rct b off size inb).toLoadRect}
    {k : ((rct b off size inb).toLoadRect.shape.Idx → Elt F (ref b).ty.elt) → Prog (TpuEff nD τ sig (Elt F) Λ₀ .tc) α}
    (next : St m ρ K c n ⊢ WP c (k (rd b off size inb (rcC m ρ c b))) Q) :
    St m ρ K c n ⊢ WP c (.op (.load (wm b) (rct b off size inb).toLoadRect hl) k) Q := by
  have h := St_ld (m := m) (ρ := ρ) (K := K) hev'
  rw [← h] at next ⊢
  exact st_ldS b hev hok next

/-- A send made under a condition the device's place decides. -/
theorem st_when {α β : Type} {Q : α → sProp 𝕄} (b b' : Cb) {C : Prop} {dc : Decidable C} {pz k k' : ℕ} (hev : ev (zz c) n = wh (zz c) pz k') (hk : k' = k)
    {p : C → Dev nD} {off : Off b.bf} {off' : Off b'.bf}
    (hok : ∀ h : C, sendOK c n k b b' off off' (p h).val = true) (hno : ¬ C → ev (zz c) n = .nop)
    {inb : C → InB b.bf off (bz b)} {inb' : C → InB b'.bf off' (bz b')} {sS sR : DmaSem sig} (hS : sS = semS k) (hR : sR = semR k)
    {hsc : ∀ h : C, (blk b' off' (inb' h) : Memref sig (Dev.tc (p h) : Thread nD τ).2.kind .vmem S32x1024 .bf16).view.ref.isScScratch = false}
    {hsrc : ∀ h : C, (blk b off (inb h)).view.WordExact} {hdst : ∀ h : C, (blk b' off' (inb' h)).view.WordExact}
    {hty : ∀ h : C, DmaTarget.Typed .vmem (.dma sR) (.remote (Dev.tc (p h) : Thread nD τ) (blk b' off' (inb' h) : Memref sig .tc .vmem S32x1024 .bf16) (.dma sS) (hsc h))}
    {jp : Prog (TpuEff nD τ sig (Elt F) Λ₀ .tc) β} {kk : β → Prog (TpuEff nD τ sig (Elt F) Λ₀ .tc) α}
    (next : St m ρ K c (n + 1) ⊢ WP c (Prog.bind jp kk) Q) :
    St m ρ K c n ⊢ WP c (Prog.bind (@dite _ C dc
      (fun h => .op (.enqueueDma (blk b off (inb h)) (.remote (Dev.tc (p h) : Thread nD τ) (blk b' off' (inb' h)) (.dma sS) (hsc h)) (.dma sR) (hsrc h) (hdst h) (hty h)) fun _ => jp)
      (fun _ => jp)) kk) Q := by
  by_cases h : C
  · rw [dif_pos h]
    exact st_send b b' k (hok h) hS hR next
  · rw [dif_neg h]
    exact st_skip (hno h) next

end

end Cert.Ring
-- ==== Proof.Second.lean ====
module

public import proofs.«01_k».proof.Proof.Runs

@[expose] public section

set_option maxRecDepth 16384

noncomputable section

namespace Cert.Ring

open Cert.KernelIdeal Cert.KernelIdeal.Gen Cert.Plan
open Idealize.ShloMosaic
open Idealize.ShloMosaic.TcCoe
open Idealize.SL Idealize.SL.RA Idealize.SL.BI
open scoped Idealize.SL.BI Idealize.SL.RA
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × Fin 241 → ℕ)

section
attribute [local irreducible] k0_cond1 k0_cond2 k0_cond3 k0_cond4 k0_cond5 k0_cond6 k0_cond7 k0_cond8 k0_cond9 k0_cond10 k0_cond11 k0_cond12 k0_cond13 k0_cond14 k0_cond15 k0_cond16 k0_cond17 k0_cond18 k0_cond19 k0_cond20 k0_cond21 k0_cond22 k0_cond23 k0_cond24 k0_cond25 k0_cond26 k0_cond27 k0_cond28 k0_cond29 k0_cond30 k0_cond31 k0_cond32 k0_cond33 k0_cond34 k0_cond35 k0_cond36 k0_cond37 k0_cond38 k0_cond39 k0_cond40 k0_cond41 k0_cond42 k0_cond43 k0_cond44 k0_cond45 k0_cond46 k0_cond47 k0_cond48 k0_cond49 k0_cond50 k0_cond51 k0_cond52 k0_cond53 k0_cond54 k0_cond55 k0_cond56 k0_cond57 k0_cond58 k0_cond59 k0_cond60 k0_cond61 k0_cond62 k0_cond63 k0_cond64
variable {m ρ K}
variable {c : Dev nD}

set_option maxHeartbeats 0 in
/-- The last block of the plane's ring, the column's ring, the device's own chunk, the column's blocks, and the plane's
ring of quarters up to its second hop. -/
theorem run_second (v3 v20 v24 v27 v29 v30 v31 : BitVec 32) : St m ρ K c 171 ⊢ WP c (k0_part173_skel (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 cc0_scratch16 cc0_scratch17 cc0_scratch18 c v3 v20 v24 v27 v29 v30 v31)
    fun r => iprop(⌜True⌝ ∗ St m ρ K c 462) := by
  unfold k0_part173_skel
  simp only [k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton]
  refine st_recvE rfl (by simp only [Nat.reduceDiv, Nat.reduceMod, Nat.reduceMul, Nat.reduceAdd, Nat.reduceSub]; rfl) (by decide) (by exact rfl) (by exact rfl) ?_
  refine st_at (by simp only [Nat.reduceAdd]; rfl) ?_
  refine st_ldS .ar rfl (by clear * -; revert c; decide +kernel) ?_
  refine st_ldT ?_
  refine st_ldS .ar rfl (by clear * -; revert c; decide +kernel) ?_
  refine st_st .ar rfl (by clear * -; revert c; decide +kernel) (w_ar m ρ c _ _ _ _ _ (by clear * -; revert c; decide +kernel)) ?_
  refine st_at (by simp only [Nat.reduceAdd]; rfl) ?_
  refine st_skip rfl ?_
  refine st_at (by simp only [Nat.reduceAdd]; rfl) ?_
  refine st_recvE rfl (by simp only [Nat.reduceDiv, Nat.reduceMod, Nat.reduceMul, Nat.reduceAdd, Nat.reduceSub]; rfl) (by decide) (by exact rfl) (by exact rfl) ?_
  refine st_at (by simp only [Nat.reduceAdd]; rfl) ?_
  refine st_ldS .al rfl (by clear * -; revert c; decide +kernel) ?_
  refine st_ldT ?_
  refine st_ldS .al rfl (by clear * -; revert c; decide +kernel) ?_
  refine st_st .al rfl (by clear * -; revert c; decide +kernel) (w_al m ρ c _ _ _ _ _ (by clear * -; revert c; decide +kernel)) ?_
  refine st_at (by simp only [Nat.reduceAdd]; rfl) ?_
  refine st_skip rfl ?_
  refine st_at (by simp only [Nat.reduceAdd]; rfl) ?_
  refine st_ld .ar rfl (by clear * -; revert c; decide +kernel) ?_
  refine st_at (by simp only [Nat.reduceAdd]; rfl) ?_
  refine st_ldD .qb rfl (by clear * -; revert c; decide +kernel) fun _ => ?_
  refine st_st .qb rfl (by clear * -; revert c; decide +kernel) (w_qar m ρ c _ _) ?_
  refine st_at (by simp only [Nat.reduceAdd]; rfl) ?_
  refine st_ld .al rfl (by clear * -; revert c; decide +kernel) ?_
  refine st_at (by simp only [Nat.reduceAdd]; rfl) ?_
  refine st_ldD .qb rfl (by clear * -; revert c; decide +kernel) fun _ => ?_
  refine st_st .qb rfl (by clear * -; revert c; decide +kernel) (w_qal m ρ c _ _) ?_
  refine st_at (by simp only [Nat.reduceAdd]; rfl) ?_
  iterate 4
    refine st_ld .qb rfl (by clear * -; revert c; decide +kernel) ?_
    refine st_at (by simp only [Nat.reduceAdd]; rfl) ?_
    refine st_ldD .bc rfl (by clear * -; revert c; decide +kernel) fun _ => ?_
    refine st_st .bc rfl (by clear * -; revert c; decide +kernel) (w_bc0 m ρ c _ _ _ _ (by clear * -; revert c; decide +kernel)) ?_
    refine st_at (by simp only [Nat.reduceAdd]; rfl) ?_
    refine st_sendE .bc .bc rfl (by simp only [Nat.reduceDiv, Nat.reduceMod, Nat.reduceMul, Nat.reduceAdd, Nat.reduceSub]; rfl) (by clear * -; revert c; decide +kernel) (by exact rfl) (by exact rfl) ?_
    refine st_at (by simp only [Nat.reduceAdd]; rfl) ?_
  iterate 8
    refine st_recvE rfl (by simp only [Nat.reduceDiv, Nat.reduceMod, Nat.reduceMul, Nat.reduceAdd, Nat.reduceSub]; rfl) (by decide) (by exact rfl) (by exact rfl) ?_
    refine st_at (by simp only [Nat.reduceAdd]; rfl) ?_
    refine st_ldS' .bc rfl rfl (by clear * -; revert c; decide +kernel) ?_
    refine st_ld .qb rfl (by clear * -; revert c; decide +kernel) ?_
    refine st_at (by simp only [Nat.reduceAdd]; rfl) ?_
    refine st_ldS .bc rfl (by clear * -; revert c; decide +kernel) ?_
    refine st_st .bc rfl (by clear * -; revert c; decide +kernel) (w_bc m ρ c _ _ _ _ _ (by clear * -; revert c; decide +kernel)) ?_
    refine st_at (by simp only [Nat.reduceAdd]; rfl) ?_
    refine st_sendE .bc .bc rfl (by simp only [Nat.reduceDiv, Nat.reduceMod, Nat.reduceMul, Nat.reduceAdd, Nat.reduceSub]; rfl) (by clear * -; revert c; decide +kernel) (by exact rfl) (by exact rfl) ?_
    refine st_at (by simp only [Nat.reduceAdd]; rfl) ?_
  iterate 4
    refine st_recvE rfl (by simp only [Nat.reduceDiv, Nat.reduceMod, Nat.reduceMul, Nat.reduceAdd, Nat.reduceSub]; rfl) (by decide) (by exact rfl) (by exact rfl) ?_
    refine st_at (by simp only [Nat.reduceAdd]; rfl) ?_
    refine st_ldS' .bc rfl rfl (by clear * -; revert c; decide +kernel) ?_
    refine st_ld .qb rfl (by clear * -; revert c; decide +kernel) ?_
    refine st_at (by simp only [Nat.reduceAdd]; rfl) ?_
    refine st_ldS .bc rfl (by clear * -; revert c; decide +kernel) ?_
    refine st_st .bc rfl (by clear * -; revert c; decide +kernel) (w_bc m ρ c _ _ _ _ _ (by clear * -; revert c; decide +kernel)) ?_
    refine st_at (by simp only [Nat.reduceAdd]; rfl) ?_
    refine st_skip rfl ?_
    refine st_at (by simp only [Nat.reduceAdd]; rfl) ?_
  refine st_ld .bc rfl (by clear * -; revert c; decide +kernel) ?_
  refine st_at (by simp only [Nat.reduceAdd]; rfl) ?_
  refine st_ld .wb rfl (by clear * -; revert c; decide +kernel) ?_
  refine st_at (by simp only [Nat.reduceAdd]; rfl) ?_
  refine st_ldD .ou rfl (by clear * -; revert c; decide +kernel) fun _ => ?_
  refine st_st .ou rfl (by clear * -; revert c; decide +kernel) (w_own m ρ c 0 _ _ _ _ _ _ (by clear * -; revert c; decide +kernel) (by clear * -; revert c; decide +kernel)) ?_
  refine st_at (by simp only [Nat.reduceAdd]; rfl) ?_
  refine st_ldQ 0 rfl (by clear * -; revert c; decide +kernel) fun _ => ?_
  refine st_sq 0 rfl (by clear * -; revert c; decide +kernel) (w_ownQ m ρ c 0 _ _ _ _ _ _ (by clear * -; revert c; decide +kernel) (by clear * -; revert c; decide +kernel)) ?_
  refine st_at (by simp only [Nat.reduceAdd]; rfl) ?_
  refine st_sendE .qo .qo rfl (by simp only [Nat.reduceDiv, Nat.reduceMod, Nat.reduceMul, Nat.reduceAdd, Nat.reduceSub]; rfl) (by clear * -; revert c; decide +kernel) (by exact rfl) (by exact rfl) ?_
  refine st_at (by simp only [Nat.reduceAdd]; rfl) ?_
  refine st_sendE .qo .qo rfl (by simp only [Nat.reduceDiv, Nat.reduceMod, Nat.reduceMul, Nat.reduceAdd, Nat.reduceSub]; rfl) (by clear * -; revert c; decide +kernel) (by exact rfl) (by exact rfl) ?_
  refine st_at (by simp only [Nat.reduceAdd]; rfl) ?_
  iterate 8
    refine st_when .qo .po rfl (by simp only [Nat.reduceDiv, Nat.reduceMod, Nat.reduceMul, Nat.reduceAdd, Nat.reduceSub]; rfl) (by clear * -; revert c; decide +kernel) (by clear * -; revert c; decide +kernel) (by exact rfl) (by exact rfl) ?_
    refine st_at (by simp only [Nat.reduceAdd]; rfl) ?_
  refine st_ld .bc rfl (by clear * -; revert c; decide +kernel) ?_
  refine st_at (by simp only [Nat.reduceAdd]; rfl) ?_
  refine st_ld .wb rfl (by clear * -; revert c; decide +kernel) ?_
  refine st_at (by simp only [Nat.reduceAdd]; rfl) ?_
  refine st_ldD .ou rfl (by clear * -; revert c; decide +kernel) fun _ => ?_
  refine st_st .ou rfl (by clear * -; revert c; decide +kernel) (w_own m ρ c 1 _ _ _ _ _ _ (by clear * -; revert c; decide +kernel) (by clear * -; revert c; decide +kernel)) ?_
  refine st_at (by simp only [Nat.reduceAdd]; rfl) ?_
  refine st_ldQ 1 rfl (by clear * -; revert c; decide +kernel) fun _ => ?_
  refine st_sq 1 rfl (by clear * -; revert c; decide +kernel) (w_ownQ m ρ c 1 _ _ _ _ _ _ (by clear * -; revert c; decide +kernel) (by clear * -; revert c; decide +kernel)) ?_
  refine st_at (by simp only [Nat.reduceAdd]; rfl) ?_
  refine st_sendE .qo .qo rfl (by simp only [Nat.reduceDiv, Nat.reduceMod, Nat.reduceMul, Nat.reduceAdd, Nat.reduceSub]; rfl) (by clear * -; revert c; decide +kernel) (by exact rfl) (by exact rfl) ?_
  refine st_at (by simp only [Nat.reduceAdd]; rfl) ?_
  refine st_sendE .qo .qo rfl (by simp only [Nat.reduceDiv, Nat.reduceMod, Nat.reduceMul, Nat.reduceAdd, Nat.reduceSub]; rfl) (by clear * -; revert c; decide +kernel) (by exact rfl) (by exact rfl) ?_
  refine st_at (by simp only [Nat.reduceAdd]; rfl) ?_
  iterate 8
    refine st_when .qo .po rfl (by simp only [Nat.reduceDiv, Nat.reduceMod, Nat.reduceMul, Nat.reduceAdd, Nat.reduceSub]; rfl) (by clear * -; revert c; decide +kernel) (by clear * -; revert c; decide +kernel) (by exact rfl) (by exact rfl) ?_
    refine st_at (by simp only [Nat.reduceAdd]; rfl) ?_
  refine st_recvE rfl (by simp only [Nat.reduceDiv, Nat.reduceMod, Nat.reduceMul, Nat.reduceAdd, Nat.reduceSub]; rfl) (by decide) (by exact rfl) (by exact rfl) ?_
  refine st_at (by simp only [Nat.reduceAdd]; rfl) ?_
  refine st_sendE .qo .qo rfl (by simp only [Nat.reduceDiv, Nat.reduceMod, Nat.reduceMul, Nat.reduceAdd, Nat.reduceSub]; rfl) (by clear * -; revert c; decide +kernel) (by exact rfl) (by exact rfl) ?_
  refine st_at (by simp only [Nat.reduceAdd]; rfl) ?_
  refine st_recvE rfl (by simp only [Nat.reduceDiv, Nat.reduceMod, Nat.reduceMul, Nat.reduceAdd, Nat.reduceSub]; rfl) (by decide) (by exact rfl) (by exact rfl) ?_
  refine st_at (by simp only [Nat.reduceAdd]; rfl) ?_
  refine st_sendE .qo .qo rfl (by simp only [Nat.reduceDiv, Nat.reduceMod, Nat.reduceMul, Nat.reduceAdd, Nat.reduceSub]; rfl) (by clear * -; revert c; decide +kernel) (by exact rfl) (by exact rfl) ?_
  refine st_at (by simp only [Nat.reduceAdd]; rfl) ?_
  refine st_recvE rfl (by simp only [Nat.reduceDiv, Nat.reduceMod, Nat.reduceMul, Nat.reduceAdd, Nat.reduceSub]; rfl) (by decide) (by exact rfl) (by exact rfl) ?_
  refine st_at (by simp only [Nat.reduceAdd]; rfl) ?_
  refine st_sendE .qo .qo rfl (by simp only [Nat.reduceDiv, Nat.reduceMod, Nat.reduceMul, Nat.reduceAdd, Nat.reduceSub]; rfl) (by clear * -; revert c; decide +kernel) (by exact rfl) (by exact rfl) ?_
  refine st_at (by simp only [Nat.reduceAdd]; rfl) ?_
  refine st_recvE rfl (by simp only [Nat.reduceDiv, Nat.reduceMod, Nat.reduceMul, Nat.reduceAdd, Nat.reduceSub]; rfl) (by decide) (by exact rfl) (by exact rfl) ?_
  refine st_at (by simp only [Nat.reduceAdd]; rfl) ?_
  refine st_sendE .qo .qo rfl (by simp only [Nat.reduceDiv, Nat.reduceMod, Nat.reduceMul, Nat.reduceAdd, Nat.reduceSub]; rfl) (by clear * -; revert c; decide +kernel) (by exact rfl) (by exact rfl) ?_
  refine st_at (by simp only [Nat.reduceAdd]; rfl) ?_
  refine st_when .qo .po rfl (by simp only [Nat.reduceDiv, Nat.reduceMod, Nat.reduceMul, Nat.reduceAdd, Nat.reduceSub]; rfl) (by clear * -; revert c; decide +kernel) (by clear * -; revert c; decide +kernel) (by exact rfl) (by exact rfl) ?_
  refine st_at (by simp only [Nat.reduceAdd]; rfl) ?_
  iterate 3
    refine st_when .qo .po rfl (by simp only [Nat.reduceDiv, Nat.reduceMod, Nat.reduceMul, Nat.reduceAdd, Nat.reduceSub]; rfl) (by clear * -; revert c; decide +kernel) (by clear * -; revert c; decide +kernel) (by exact rfl) (by exact rfl) ?_
    refine st_at (by simp only [Nat.reduceAdd]; rfl) ?_
  iterate 4
    refine st_when .qo .po rfl (by simp only [Nat.reduceDiv, Nat.reduceMod, Nat.reduceMul, Nat.reduceAdd, Nat.reduceSub]; rfl) (by clear * -; revert c; decide +kernel) (by clear * -; revert c; decide +kernel) (by exact rfl) (by exact rfl) ?_
    refine st_at (by simp only [Nat.reduceAdd]; rfl) ?_
  iterate 8
    refine st_when .qo .po rfl (by simp only [Nat.reduceDiv, Nat.reduceMod, Nat.reduceMul, Nat.reduceAdd, Nat.reduceSub]; rfl) (by clear * -; revert c; decide +kernel) (by clear * -; revert c; decide +kernel) (by exact rfl) (by exact rfl) ?_
    refine st_at (by simp only [Nat.reduceAdd]; rfl) ?_
  iterate 4
    refine st_ld .qo rfl (by clear * -; revert c; decide +kernel) ?_
    refine st_at (by simp only [Nat.reduceAdd]; rfl) ?_
    refine st_ldD .ou rfl (by clear * -; revert c; decide +kernel) fun _ => ?_
    refine st_st .ou rfl (by clear * -; revert c; decide +kernel) (w_outQ m ρ c _ _ _ _ (by clear * -; revert c; decide +kernel)) ?_
    refine st_at (by simp only [Nat.reduceAdd]; rfl) ?_
  iterate 4
    refine st_recvE rfl (by simp only [Nat.reduceDiv, Nat.reduceMod, Nat.reduceMul, Nat.reduceAdd, Nat.reduceSub]; rfl) (by decide) (by exact rfl) (by exact rfl) ?_
    refine st_at (by simp only [Nat.reduceAdd]; rfl) ?_
    refine st_sendE .qo .qo rfl (by simp only [Nat.reduceDiv, Nat.reduceMod, Nat.reduceMul, Nat.reduceAdd, Nat.reduceSub]; rfl) (by clear * -; revert c; decide +kernel) (by exact rfl) (by exact rfl) ?_
    refine st_at (by simp only [Nat.reduceAdd]; rfl) ?_
  iterate 16
    refine st_when .qo .po rfl (by simp only [Nat.reduceDiv, Nat.reduceMod, Nat.reduceMul, Nat.reduceAdd, Nat.reduceSub]; rfl) (by clear * -; revert c; decide +kernel) (by clear * -; revert c; decide +kernel) (by exact rfl) (by exact rfl) ?_
    refine st_at (by simp only [Nat.reduceAdd]; rfl) ?_
  iterate 4
    refine st_ld .qo rfl (by clear * -; revert c; decide +kernel) ?_
    refine st_at (by simp only [Nat.reduceAdd]; rfl) ?_
    refine st_ldD .ou rfl (by clear * -; revert c; decide +kernel) fun _ => ?_
    refine st_st .ou rfl (by clear * -; revert c; decide +kernel) (w_outQ m ρ c _ _ _ _ (by clear * -; revert c; decide +kernel)) ?_
    refine st_at (by simp only [Nat.reduceAdd]; rfl) ?_
  iterate 4
    refine st_recvE rfl (by simp only [Nat.reduceDiv, Nat.reduceMod, Nat.reduceMul, Nat.reduceAdd, Nat.reduceSub]; rfl) (by decide) (by exact rfl) (by exact rfl) ?_
    refine st_at (by simp only [Nat.reduceAdd]; rfl) ?_
    refine st_skip rfl ?_
    refine st_at (by simp only [Nat.reduceAdd]; rfl) ?_
  iterate 16
    refine st_when .qo .po rfl (by simp only [Nat.reduceDiv, Nat.reduceMod, Nat.reduceMul, Nat.reduceAdd, Nat.reduceSub]; rfl) (by clear * -; revert c; decide +kernel) (by clear * -; revert c; decide +kernel) (by exact rfl) (by exact rfl) ?_
    refine st_at (by simp only [Nat.reduceAdd]; rfl) ?_
  iterate 4
    refine st_ld .qo rfl (by clear * -; revert c; decide +kernel) ?_
    refine st_at (by simp only [Nat.reduceAdd]; rfl) ?_
    refine st_ldD .ou rfl (by clear * -; revert c; decide +kernel) fun _ => ?_
    refine st_st .ou rfl (by clear * -; revert c; decide +kernel) (w_outQ m ρ c _ _ _ _ (by clear * -; revert c; decide +kernel)) ?_
    refine st_at (by simp only [Nat.reduceAdd]; rfl) ?_
  iterate 12
    refine st_recvE rfl (by simp only [Nat.reduceDiv, Nat.reduceMod, Nat.reduceMul, Nat.reduceAdd, Nat.reduceSub]; rfl) (by decide) (by exact rfl) (by exact rfl) ?_
    refine st_at (by simp only [Nat.reduceAdd]; rfl) ?_
    refine st_sendE .po .po rfl (by simp only [Nat.reduceDiv, Nat.reduceMod, Nat.reduceMul, Nat.reduceAdd, Nat.reduceSub]; rfl) (by clear * -; revert c; decide +kernel) (by exact rfl) (by exact rfl) ?_
    refine st_at (by simp only [Nat.reduceAdd]; rfl) ?_
    refine st_ld .po rfl (by clear * -; revert c; decide +kernel) ?_
    refine st_at (by simp only [Nat.reduceAdd]; rfl) ?_
    refine st_ldD .ou rfl (by clear * -; revert c; decide +kernel) fun _ => ?_
    refine st_st .ou rfl (by clear * -; revert c; decide +kernel) (w_outP m ρ c _ _ _ _ (by clear * -; revert c; decide +kernel)) ?_
    refine st_at (by simp only [Nat.reduceAdd]; rfl) ?_
    refine st_recvE rfl (by simp only [Nat.reduceDiv, Nat.reduceMod, Nat.reduceMul, Nat.reduceAdd, Nat.reduceSub]; rfl) (by decide) (by exact rfl) (by exact rfl) ?_
    refine st_at (by simp only [Nat.reduceAdd]; rfl) ?_
    refine st_sendE .po .po rfl (by simp only [Nat.reduceDiv, Nat.reduceMod, Nat.reduceMul, Nat.reduceAdd, Nat.reduceSub]; rfl) (by clear * -; revert c; decide +kernel) (by exact rfl) (by exact rfl) ?_
    refine st_at (by simp only [Nat.reduceAdd]; rfl) ?_
    refine st_ld .po rfl (by clear * -; revert c; decide +kernel) ?_
    refine st_at (by simp only [Nat.reduceAdd]; rfl) ?_
    refine st_ldD .ou rfl (by clear * -; revert c; decide +kernel) fun _ => ?_
    refine st_st .ou rfl (by clear * -; revert c; decide +kernel) (w_outP m ρ c _ _ _ _ (by clear * -; revert c; decide +kernel)) ?_
    refine st_at (by simp only [Nat.reduceAdd]; rfl) ?_
  refine st_recvE rfl (by simp only [Nat.reduceDiv, Nat.reduceMod, Nat.reduceMul, Nat.reduceAdd, Nat.reduceSub]; rfl) (by decide) (by exact rfl) (by exact rfl) ?_
  refine st_at (by simp only [Nat.reduceAdd]; rfl) ?_
  exact st_ret trivial
end

end Cert.Ring
-- ==== Proof.Third.lean ====
module

public import proofs.«01_k».proof.Proof.Runs

@[expose] public section

set_option maxRecDepth 16384

noncomputable section

namespace Cert.Ring

open Cert.KernelIdeal Cert.KernelIdeal.Gen Cert.Plan
open Idealize.ShloMosaic
open Idealize.ShloMosaic.TcCoe
open Idealize.SL Idealize.SL.RA Idealize.SL.BI
open scoped Idealize.SL.BI Idealize.SL.RA
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × Fin 241 → ℕ)

section
variable {m ρ K}
variable {c : Dev nD}

set_option maxHeartbeats 0 in
/-- The rest of the ring of quarters, and all but three of the sent blocks taken back. -/
theorem run_third (v3 v20 v24 v27 v30 v31 v32 : BitVec 32) : St m ρ K c 462 ⊢ WP c (k0_part174_skel (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 cc0_scratch16 cc0_scratch17 cc0_scratch18 c v3 v20 v24 v27 v30 v31 v32)
    fun r => iprop(⌜True⌝ ∗ St m ρ K c 674) := by
  unfold k0_part174_skel
  simp only [k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton]
  refine st_sendE .po .po rfl (by simp only [Nat.reduceDiv, Nat.reduceMod, Nat.reduceMul, Nat.reduceAdd, Nat.reduceSub]; rfl) (by clear * -; revert c; decide +kernel) (by exact rfl) (by exact rfl) ?_
  refine st_at (by simp only [Nat.reduceAdd]; rfl) ?_
  refine st_ld .po rfl (by clear * -; revert c; decide +kernel) ?_
  refine st_at (by simp only [Nat.reduceAdd]; rfl) ?_
  refine st_ldD .ou rfl (by clear * -; revert c; decide +kernel) fun _ => ?_
  refine st_st .ou rfl (by clear * -; revert c; decide +kernel) (w_outP m ρ c _ _ _ _ (by clear * -; revert c; decide +kernel)) ?_
  refine st_at (by simp only [Nat.reduceAdd]; rfl) ?_
  refine st_recvE rfl (by simp only [Nat.reduceDiv, Nat.reduceMod, Nat.reduceMul, Nat.reduceAdd, Nat.reduceSub]; rfl) (by decide) (by exact rfl) (by exact rfl) ?_
  refine st_at (by simp only [Nat.reduceAdd]; rfl) ?_
  refine st_sendE .po .po rfl (by simp only [Nat.reduceDiv, Nat.reduceMod, Nat.reduceMul, Nat.reduceAdd, Nat.reduceSub]; rfl) (by clear * -; revert c; decide +kernel) (by exact rfl) (by exact rfl) ?_
  refine st_at (by simp only [Nat.reduceAdd]; rfl) ?_
  refine st_ld .po rfl (by clear * -; revert c; decide +kernel) ?_
  refine st_at (by simp only [Nat.reduceAdd]; rfl) ?_
  refine st_ldD .ou rfl (by clear * -; revert c; decide +kernel) fun _ => ?_
  refine st_st .ou rfl (by clear * -; revert c; decide +kernel) (w_outP m ρ c _ _ _ _ (by clear * -; revert c; decide +kernel)) ?_
  refine st_at (by simp only [Nat.reduceAdd]; rfl) ?_
  iterate 3
    refine st_recvE rfl (by simp only [Nat.reduceDiv, Nat.reduceMod, Nat.reduceMul, Nat.reduceAdd, Nat.reduceSub]; rfl) (by decide) (by exact rfl) (by exact rfl) ?_
    refine st_at (by simp only [Nat.reduceAdd]; rfl) ?_
    refine st_sendE .po .po rfl (by simp only [Nat.reduceDiv, Nat.reduceMod, Nat.reduceMul, Nat.reduceAdd, Nat.reduceSub]; rfl) (by clear * -; revert c; decide +kernel) (by exact rfl) (by exact rfl) ?_
    refine st_at (by simp only [Nat.reduceAdd]; rfl) ?_
    refine st_ld .po rfl (by clear * -; revert c; decide +kernel) ?_
    refine st_at (by simp only [Nat.reduceAdd]; rfl) ?_
    refine st_ldD .ou rfl (by clear * -; revert c; decide +kernel) fun _ => ?_
    refine st_st .ou rfl (by clear * -; revert c; decide +kernel) (w_outP m ρ c _ _ _ _ (by clear * -; revert c; decide +kernel)) ?_
    refine st_at (by simp only [Nat.reduceAdd]; rfl) ?_
    refine st_recvE rfl (by simp only [Nat.reduceDiv, Nat.reduceMod, Nat.reduceMul, Nat.reduceAdd, Nat.reduceSub]; rfl) (by decide) (by exact rfl) (by exact rfl) ?_
    refine st_at (by simp only [Nat.reduceAdd]; rfl) ?_
    refine st_sendE .po .po rfl (by simp only [Nat.reduceDiv, Nat.reduceMod, Nat.reduceMul, Nat.reduceAdd, Nat.reduceSub]; rfl) (by clear * -; revert c; decide +kernel) (by exact rfl) (by exact rfl) ?_
    refine st_at (by simp only [Nat.reduceAdd]; rfl) ?_
    refine st_ld .po rfl (by clear * -; revert c; decide +kernel) ?_
    refine st_at (by simp only [Nat.reduceAdd]; rfl) ?_
    refine st_ldD .ou rfl (by clear * -; revert c; decide +kernel) fun _ => ?_
    refine st_st .ou rfl (by clear * -; revert c; decide +kernel) (w_outP m ρ c _ _ _ _ (by clear * -; revert c; decide +kernel)) ?_
    refine st_at (by simp only [Nat.reduceAdd]; rfl) ?_
  iterate 8
    refine st_recvE rfl (by simp only [Nat.reduceDiv, Nat.reduceMod, Nat.reduceMul, Nat.reduceAdd, Nat.reduceSub]; rfl) (by decide) (by exact rfl) (by exact rfl) ?_
    refine st_at (by simp only [Nat.reduceAdd]; rfl) ?_
    refine st_skip rfl ?_
    refine st_at (by simp only [Nat.reduceAdd]; rfl) ?_
    refine st_ld .po rfl (by clear * -; revert c; decide +kernel) ?_
    refine st_at (by simp only [Nat.reduceAdd]; rfl) ?_
    refine st_ldD .ou rfl (by clear * -; revert c; decide +kernel) fun _ => ?_
    refine st_st .ou rfl (by clear * -; revert c; decide +kernel) (w_outP m ρ c _ _ _ _ (by clear * -; revert c; decide +kernel)) ?_
    refine st_at (by simp only [Nat.reduceAdd]; rfl) ?_
    refine st_recvE rfl (by simp only [Nat.reduceDiv, Nat.reduceMod, Nat.reduceMul, Nat.reduceAdd, Nat.reduceSub]; rfl) (by decide) (by exact rfl) (by exact rfl) ?_
    refine st_at (by simp only [Nat.reduceAdd]; rfl) ?_
    refine st_skip rfl ?_
    refine st_at (by simp only [Nat.reduceAdd]; rfl) ?_
    refine st_ld .po rfl (by clear * -; revert c; decide +kernel) ?_
    refine st_at (by simp only [Nat.reduceAdd]; rfl) ?_
    refine st_ldD .ou rfl (by clear * -; revert c; decide +kernel) fun _ => ?_
    refine st_st .ou rfl (by clear * -; revert c; decide +kernel) (w_outP m ρ c _ _ _ _ (by clear * -; revert c; decide +kernel)) ?_
    refine st_at (by simp only [Nat.reduceAdd]; rfl) ?_
  iterate 117
    refine st_swE rfl (by simp only [Nat.reduceDiv, Nat.reduceMod, Nat.reduceMul, Nat.reduceAdd, Nat.reduceSub]; rfl) (by decide) (by exact rfl) (by exact rfl) ?_
    refine st_at (by simp only [Nat.reduceAdd]; rfl) ?_
  exact st_ret trivial
end

end Cert.Ring
-- ==== Proof.Tiles.lean ====
module

public import proofs.«01_k».proof.Proof.Open

@[expose] public section

set_option maxRecDepth 16384

noncomputable section

namespace Cert.Ring

open Cert.KernelIdeal Cert.KernelIdeal.Gen Cert.Plan
open Idealize.ShloMosaic
open Idealize.ShloMosaic.TcCoe
open Idealize.SL Idealize.SL.RA Idealize.SL.BI
open scoped Idealize.SL.BI Idealize.SL.RA
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × Fin 241 → ℕ)

/-! ## Whole buffers cut into the plan's windows -/

/-- The slots and the 32-row units of a buffer, and its windows. -/
def nS : Bf → ℕ
  | .ar => 4 | .al => 4 | .bc => 4 | _ => 1
def nU : Bf → ℕ
  | .ar => 8 | .al => 8 | .bc => 4 | .qo => 16 | .po => 64 | .qb => 16 | .wb => 32 | .ou => 64
def wfrom : Bf → ℕ
  | .ar => 0 | .al => 32 | .bc => 64 | .qo => 80 | .po => 130 | .qb => 227 | .wb => 229 | .ou => 230
def wcnt : Bf → ℕ
  | .ar => 32 | .al => 32 | .bc => 16 | .qo => 50 | .po => 97 | .qb => 2 | .wb => 1 | .ou => 62

def one : List ℕ → Bool
  | [_] => true
  | _ => false
theorem one_at {l : List ℕ} (h : one l = true) : ∃ w ∈ l, ∀ w' ∈ l, w' = w := by
  match l, h with
  | [w], _ => exact ⟨w, List.mem_singleton.mpr rfl, fun w' h' => List.mem_singleton.mp h'⟩

/-- The windows `t` marks lie over every unit of buffer `b` once. -/
def tilesOK (t : ℕ → Bool) (c : Dev nD) (b : Bf) : Bool :=
  (List.range' (wfrom b) (wcnt b)).all (fun w => !t w || (decide (wbf w = b) && Nat.beq (wlo (qq c) (zz c) w % 32) 0 && Nat.beq (wlen w % 32) 0))
    && (List.range (nS b)).all fun sl => (List.range (nU b)).all fun u =>
      one ((List.range' (wfrom b) (wcnt b)).filter fun w => t w && Nat.beq (wsl w) sl && Nat.ble (wlo (qq c) (zz c) w / 32) u && Nat.blt u ((wlo (qq c) (zz c) w + wlen w) / 32))

theorem cS_lt (b : Bf) (i : Ix b) : cS b i < nS b := by
  cases b <;> dsimp only [cS, nS] <;> first | exact Nat.one_pos | exact (i (0 : Fin 3)).isLt
theorem cR_lt (b : Bf) (i : Ix b) : cR b i < 32 * nU b := by
  cases b <;> dsimp only [cR, nU] <;> first | exact (i (1 : Fin 3)).isLt | exact (i (0 : Fin 2)).isLt

def tset (t : ℕ → Bool) (b : Bf) : Finset ℕ := (win (wfrom b) (wcnt b)).filter fun w => t w = true
theorem mem_tset {t : ℕ → Bool} {b : Bf} {w : ℕ} : w ∈ tset t b ↔ w ∈ List.range' (wfrom b) (wcnt b) ∧ t w = true := by
  unfold tset
  rw [Finset.mem_filter, win, Finset.mem_Ico, List.mem_range'_1]

theorem tile_at {t : ℕ → Bool} {c : Dev nD} {b : Bf} (h : tilesOK t c b = true) (i : Ix b) :
    ∃ w ∈ tset t b, i ∈ rg b (wsl w) (wlo (qq c) (zz c) w) (wlen w)
      ∧ ∀ w' ∈ tset t b, i ∈ rg b (wsl w') (wlo (qq c) (zz c) w') (wlen w') → w' = w := by
  unfold tilesOK at h
  rw [Bool.and_eq_true, List.all_eq_true, List.all_eq_true] at h
  obtain ⟨h1, h2⟩ := h
  have h2 := h2 (cS b i) (List.mem_range.mpr (cS_lt b i))
  rw [List.all_eq_true] at h2
  have h2 := h2 (cR b i / 32) (List.mem_range.mpr (by have := cR_lt b i; omega))
  obtain ⟨w, hw, hu⟩ := one_at h2
  have key : ∀ w', w' ∈ ((List.range' (wfrom b) (wcnt b)).filter fun w => t w && Nat.beq (wsl w) (cS b i) && Nat.ble (wlo (qq c) (zz c) w / 32) (cR b i / 32)
      && Nat.blt (cR b i / 32) ((wlo (qq c) (zz c) w + wlen w) / 32)) ↔ (w' ∈ tset t b ∧ i ∈ rg b (wsl w') (wlo (qq c) (zz c) w') (wlen w')) := by
    intro w'
    rw [List.mem_filter, mem_tset, mem_rg]
    simp only [Bool.and_eq_true, Nat.beq_eq, Nat.ble_eq, Nat.blt_eq]
    constructor
    · rintro ⟨hr, ⟨⟨ht, hs⟩, ha⟩, hb⟩
      have h1 := h1 w' hr
      rw [ht] at h1
      simp only [Bool.not_true, Bool.false_or, Bool.and_eq_true, Nat.beq_eq] at h1
      obtain ⟨⟨_, h3⟩, h4⟩ := h1
      exact ⟨⟨hr, ht⟩, hs.symm, by omega, by omega⟩
    · rintro ⟨⟨hr, ht⟩, hs, ha, hb⟩
      have h1 := h1 w' hr
      rw [ht] at h1
      simp only [Bool.not_true, Bool.false_or, Bool.and_eq_true, Nat.beq_eq] at h1
      obtain ⟨⟨_, h3⟩, h4⟩ := h1
      exact ⟨hr, ⟨⟨ht, hs.symm⟩, by omega⟩, by omega⟩
  have hw' := (key w).mp hw
  exact ⟨w, hw'.1, hw'.2, fun w' h1 h2 => hu w' ((key w').mpr ⟨h1, h2⟩)⟩

def trg (c : Dev nD) (b : Bf) (w : ℕ) : Finset (Idx ((c : Thread nD τ).loc (ref b))) := rg b (wsl w) (wlo (qq c) (zz c) w) (wlen w)
theorem tiles_cover {t : ℕ → Bool} {c : Dev nD} {b : Bf} (h : tilesOK t c b = true) : (Finset.univ : Finset (Idx ((c : Thread nD τ).loc (ref b)))) = (tset t b).biUnion (trg c b) := by
  refine Finset.ext fun i => ?_
  obtain ⟨w, hw, hi, -⟩ := tile_at h i
  exact ⟨fun _ => Finset.mem_biUnion.mpr ⟨w, hw, hi⟩, fun _ => Finset.mem_univ _⟩
theorem tiles_disj {t : ℕ → Bool} {c : Dev nD} {b : Bf} (h : tilesOK t c b = true) :
    ∀ w ∈ tset t b, ∀ w' ∈ tset t b, w ≠ w' → Disjoint (trg c b w) (trg c b w') := by
  intro w hw w' hw' hne
  rw [Finset.disjoint_left]
  intro i hi hi'
  obtain ⟨v, -, -, hv⟩ := tile_at h i
  exact hne ((hv w hw hi).trans (hv w' hw' hi').symm)

omit [FloatOps F] in
theorem tiles_eq {t : ℕ → Bool} {c : Dev nD} {b : Bf} (h : tilesOK t c b = true) (f : Buf (Elt F) ((c : Thread nD τ).loc (ref b))) :
    (((c : Thread nD τ).loc (ref b)) ↦{fullShare} f : sProp 𝕄)
      = bigSep (win (wfrom b) (wcnt b)) fun w => if t w = true then P c b (wsl w) (wlo (qq c) (zz c) w) (wlen w) fullShare f else iprop(emp) := by
  refine Eq.trans ?_ (bigSep_filter (win (wfrom b) (wcnt b)) (fun w => t w = true) _)
  rw [tiles_cover h]
  refine Eq.trans (pointsTo_biUnion (tset t b) (trg c b) (tiles_disj h)) (bigSep_congr fun w _ => ?_)
  unfold P trg
  rfl

omit [FloatOps F] in
theorem join_any {T : Type} [DecidableEq T] (ℓ : Loc nD τ sig) (S : Finset T) (R : T → Finset (Idx ℓ)) (f₀ : Buf (Elt F) ℓ)
    (h : ∀ t ∈ S, ∀ t' ∈ S, t ≠ t' → Disjoint (R t) (R t')) :
    bigSep S (fun t => iprop(∃ f, ℓ ↦[R t]{fullShare} f)) ⊢ (iprop(∃ g, ℓ ↦[S.biUnion R]{fullShare} g) : sProp 𝕄) := by
  induction S using Finset.induction_on with
  | empty =>
    rw [Finset.biUnion_empty, bigSep_empty]
    iintro -
    iexists f₀
    rw [pointsTo_empty]; iempintro
  | insert t S ht ih =>
    rw [Finset.biUnion_insert, bigSep_insert ht]
    have ih := ih (fun a ha b hb => h a (Finset.mem_insert_of_mem ha) b (Finset.mem_insert_of_mem hb))
    have hd : Disjoint (R t) (S.biUnion R) := by
      rw [Finset.disjoint_biUnion_right]
      exact fun b hb => h t (Finset.mem_insert_self _ _) b (Finset.mem_insert_of_mem hb) (fun e => ht (e ▸ hb))
    show iprop((∃ f, ℓ ↦[R t]{fullShare} f) ∗ bigSep S (fun t => iprop(∃ f, ℓ ↦[R t]{fullShare} f))) ⊢ _
    iintro ⟨⟨%f, A⟩, B⟩
    ihave B := ih $$ B
    icases B with ⟨%g, B⟩
    iexists _
    iapply (pointsTo_join (f := f) (g := g) hd)
    isplitl [A]; · iexact A
    iexact B

omit [FloatOps F] in
theorem tiles_join {t : ℕ → Bool} {c : Dev nD} {b : Bf} (h : tilesOK t c b = true) (f₀ : Buf (Elt F) ((c : Thread nD τ).loc (ref b))) :
    (bigSep (win (wfrom b) (wcnt b)) fun w => if t w = true then iprop(∃ f, P (F := F) c b (wsl w) (wlo (qq c) (zz c) w) (wlen w) fullShare f) else iprop(emp))
      ⊢ (iprop(∃ g, ((c : Thread nD τ).loc (ref b)) ↦{fullShare} g) : sProp 𝕄) := by
  refine BIBase.Entails.trans (Eq.subst (motive := fun X => X ⊢ _) (bigSep_filter (win (wfrom b) (wcnt b)) (fun w => t w = true) (fun w => iprop(∃ f, P (F := F) c b (wsl w) (wlo (qq c) (zz c) w) (wlen w) fullShare f))) (BIBase.Entails.rfl)) ?_
  refine BIBase.Entails.trans (join_any ((c : Thread nD τ).loc (ref b)) (tset t b) (trg c b) f₀ (tiles_disj h)) ?_
  iintro ⟨%g, H⟩
  iexists g
  rw [← tiles_cover h]
  iexact H

/-- The windows a device's buffers are cut into at the start: those it keeps and those it hands out, -/
def t0 (w : ℕ) : Bool :=
  Nat.beq (init w) 1 || Nat.blt w 24 || (Nat.ble 32 w && Nat.blt w 56) || (Nat.ble 64 w && Nat.blt w 76) || (Nat.ble 94 w && Nat.blt w 130 && Nat.beq ((w - 82) % 3) 0)
    || (Nat.ble 130 w && Nat.blt w 226 && Nat.beq (w % 2) 0)
/-- and at the end. -/
def t1 (w : ℕ) : Bool :=
  Nat.blt w 80 || (Nat.ble 82 w && Nat.blt w 130 && Nat.beq ((w - 82) % 3) 0) || (Nat.ble 130 w && Nat.blt w 226 && Nat.beq (w % 2) 0) || Nat.ble 226 w

def bfs : List Bf := [.ar, .al, .bc, .qo, .po, .qb, .wb, .ou]
theorem t0_all : ∀ c : Dev nD, (bfs.all fun b => tilesOK t0 c b) = true := by decide +kernel
theorem t1_all : ∀ c : Dev nD, (bfs.all fun b => tilesOK t1 c b) = true := by decide +kernel
theorem mem_bfs (b : Bf) : b ∈ bfs := by cases b <;> decide
theorem t0_ok (c : Dev nD) (b : Bf) : tilesOK t0 c b = true := List.all_eq_true.mp (t0_all c) b (mem_bfs b)
theorem t1_ok (c : Dev nD) (b : Bf) : tilesOK t1 c b = true := List.all_eq_true.mp (t1_all c) b (mem_bfs b)

end Cert.Ring
-- ==== Proof.Ends.lean ====
module

public import proofs.«01_k».proof.Proof.Tiles

@[expose] public section

set_option maxRecDepth 16384

noncomputable section

namespace Cert.Ring

open Cert.KernelIdeal Cert.KernelIdeal.Gen Cert.Plan
open Idealize.ShloMosaic
open Idealize.ShloMosaic.TcCoe
open Idealize.SL Idealize.SL.RA Idealize.SL.BI
open scoped Idealize.SL.BI Idealize.SL.RA
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × Fin 241 → ℕ)

/-! ## From whole buffers to the plan's windows, and back -/

omit [FloatOps F] in
theorem smono {A A' B B' : sProp 𝕄} (h : A ⊢ A') (h' : B ⊢ B') : iprop(A ∗ B) ⊢ iprop(A' ∗ B') := BIClass.sep_mono h h'

def aw (c : Dev nD) (w : ℕ) : sProp 𝕄 := iprop(∃ f, P (F := F) c (wbf w) (wsl w) (wlo (qq c) (zz c) w) (wlen w) fullShare f)
def TW (t : ℕ → Bool) (c : Dev nD) (w : ℕ) : sProp 𝕄 := if t w = true then aw (F := F) c w else iprop(emp)
def own (c : Dev nD) (b : Bf) : sProp 𝕄 := iprop(∃ g : Buf (Elt F) ((c : Thread nD τ).loc (ref b)), ((c : Thread nD τ).loc (ref b)) ↦{fullShare} g)

omit [FloatOps F] in
theorem win_all (Φ : ℕ → sProp 𝕄) : bigSep (Finset.range 292) Φ = iprop(bigSep (win 0 32) Φ ∗ bigSep (win 32 32) Φ ∗ bigSep (win 64 16) Φ ∗ bigSep (win 80 50) Φ
    ∗ bigSep (win 130 97) Φ ∗ bigSep (win 227 2) Φ ∗ bigSep (win 229 1) Φ ∗ bigSep (win 230 62) Φ) := by
  rw [show Finset.range 292 = win 0 (32 + (32 + (16 + (50 + (97 + (2 + (1 + 62))))))) by ext x; simp only [win, Finset.mem_Ico, Finset.mem_range]; omega]
  rw [win_add, win_add, win_add, win_add, win_add, win_add, win_add]
omit [FloatOps F] in
theorem win_end (Φ : ℕ → sProp 𝕄) : bigSep (Finset.range 292) Φ = iprop(bigSep (win 0 80) Φ ∗ bigSep (win 80 2) Φ ∗ bigSep (win 82 48) Φ ∗ bigSep (win 130 96) Φ
    ∗ bigSep (win 226 4) Φ ∗ bigSep (win 230 62) Φ) := by
  rw [show Finset.range 292 = win 0 (80 + (2 + (48 + (96 + (4 + 62))))) by ext x; simp only [win, Finset.mem_Ico, Finset.mem_range]; omega]
  rw [win_add, win_add, win_add, win_add, win_add]

theorem tile_bf {t : ℕ → Bool} {c : Dev nD} {b : Bf} (h : tilesOK t c b = true) {w : ℕ} (hw : w ∈ win (wfrom b) (wcnt b)) (ht : t w = true) : wbf w = b := by
  unfold tilesOK at h
  rw [Bool.and_eq_true, List.all_eq_true] at h
  have h1 := h.1 w (List.mem_range'_1.mpr (by rwa [win, Finset.mem_Ico] at hw))
  rw [ht] at h1
  simp only [Bool.not_true, Bool.false_or, Bool.and_eq_true, decide_eq_true_eq] at h1
  exact h1.1.1

omit [FloatOps F] in
theorem own_split {t : ℕ → Bool} {c : Dev nD} {b : Bf} (h : tilesOK t c b = true) : own (F := F) c b ⊢ bigSep (win (wfrom b) (wcnt b)) fun w => TW (F := F) t c w := by
  have hg : ∀ g, (bigSep (win (wfrom b) (wcnt b)) fun w => if t w = true then P c b (wsl w) (wlo (qq c) (zz c) w) (wlen w) fullShare g else iprop(emp))
      ⊢ bigSep (win (wfrom b) (wcnt b)) fun w => TW (F := F) t c w := fun g => bigSep_mono fun w hw => by
    show (if t w = true then P c b (wsl w) (wlo (qq c) (zz c) w) (wlen w) fullShare g else iprop(emp)) ⊢ TW (F := F) t c w
    unfold TW
    by_cases ht : t w = true
    · rw [if_pos ht, if_pos ht]
      have hb := tile_bf h hw ht
      subst hb
      unfold aw
      iintro H; iexists g; iexact H
    · rw [if_neg ht, if_neg ht]
  unfold own
  have hg' : ∀ g, (((c : Thread nD τ).loc (ref b)) ↦{fullShare} g : sProp 𝕄) ⊢ bigSep (win (wfrom b) (wcnt b)) fun w => TW (F := F) t c w :=
    fun g => BIBase.Entails.trans (Entails.of_eq (tiles_eq h g)) (hg g)
  iintro ⟨%g, H⟩
  iapply (hg' g)
  iexact H

omit [FloatOps F] in
theorem own_join {t : ℕ → Bool} {c : Dev nD} {b : Bf} (h : tilesOK t c b = true) (f₀ : Buf (Elt F) ((c : Thread nD τ).loc (ref b))) :
    (bigSep (win (wfrom b) (wcnt b)) fun w => TW (F := F) t c w) ⊢ own (F := F) c b := by
  unfold own
  refine BIBase.Entails.trans (bigSep_mono (Ψ := fun w => if t w = true then iprop(∃ f, P (F := F) c b (wsl w) (wlo (qq c) (zz c) w) (wlen w) fullShare f) else iprop(emp)) fun w hw => ?_) (tiles_join h f₀)
  show TW (F := F) t c w ⊢ (if t w = true then iprop(∃ f, P (F := F) c b (wsl w) (wlo (qq c) (zz c) w) (wlen w) fullShare f) else iprop(emp))
  unfold TW
  by_cases ht : t w = true
  · rw [if_pos ht, if_pos ht]
    have hb := tile_bf h hw ht
    subst hb
    unfold aw
    exact BIBase.Entails.rfl
  · rw [if_neg ht, if_neg ht]

/-- The eight buffers the plan cuts up. -/
def owns8 (c : Dev nD) : sProp 𝕄 :=
  iprop(own (F := F) c .ar ∗ own (F := F) c .al ∗ own (F := F) c .bc ∗ own (F := F) c .qo ∗ own (F := F) c .po ∗ own (F := F) c .qb ∗ own (F := F) c .wb ∗ own (F := F) c .ou)

omit [FloatOps F] in
theorem owns_split (c : Dev nD) : owns8 (F := F) c ⊢ bigSep (Finset.range 292) fun w => TW (F := F) t0 c w := by
  rw [win_all]
  unfold owns8
  exact smono (own_split (t0_ok c .ar)) (smono (own_split (t0_ok c .al)) (smono (own_split (t0_ok c .bc)) (smono (own_split (t0_ok c .qo))
    (smono (own_split (t0_ok c .po)) (smono (own_split (t0_ok c .qb)) (smono (own_split (t0_ok c .wb)) (own_split (t0_ok c .ou))))))))

/-- The windows transfers land in. -/
def im (w : ℕ) : Bool := (List.range 120).any fun k => Nat.beq (dlo k) w
theorem t0_im : ∀ w : Fin 292, t0 w = (Nat.beq (init w) 1 || im w) ∧ (Nat.beq (init w) 1 && im w) = false ∧ (init w = 0 ∨ (init w = 1 ∧ wsh w = 0)) := by decide +kernel
theorem dlo_len : ∀ k : Fin 120, wlen (dlo k) = 32 := by decide +kernel
theorem dlo_inj : ∀ a b : Fin 120, dlo a = dlo b → a = b := by decide +kernel
theorem dlo_lt : ∀ k : Fin 120, dlo k < 292 := by decide +kernel

omit [FloatOps F] in
theorem big_image (S : Finset ℕ) (f : ℕ → ℕ) (h : ∀ a ∈ S, ∀ b ∈ S, f a = f b → a = b) (Φ : ℕ → sProp 𝕄) : bigSep (S.image f) Φ = bigSep S fun k => Φ (f k) := by
  induction S using Finset.induction_on with
  | empty => rw [Finset.image_empty, bigSep_empty, bigSep_empty]
  | insert t S ht ih =>
    rw [Finset.image_insert, bigSep_insert ht, bigSep_insert, ih (fun a ha b hb => h a (Finset.mem_insert_of_mem ha) b (Finset.mem_insert_of_mem hb))]
    intro hm
    obtain ⟨b, hb, e⟩ := Finset.mem_image.mp hm
    have := h b (Finset.mem_insert_of_mem hb) t (Finset.mem_insert_self _ _) e
    exact ht (this ▸ hb)

theorem im_set : (Finset.range 292).filter (fun w => im w = true) = (Finset.range 120).image dlo := by
  ext w
  rw [Finset.mem_filter, Finset.mem_image]
  unfold im
  simp only [List.any_eq_true, List.mem_range, Nat.beq_eq, Finset.mem_range]
  constructor
  · rintro ⟨-, k, hk, e⟩; exact ⟨k, hk, e⟩
  · rintro ⟨k, hk, e⟩; exact ⟨e ▸ dlo_lt ⟨k, hk⟩, k, hk, e⟩

theorem start_windows (c : Dev nD) : owns8 (F := F) c ⊢ iprop(Wd m ρ c 0 ∗ bigSep (Finset.range 120) fun k => iprop(∃ f, land (F := F) c k f)) := by
  have h1 : (bigSep (Finset.range 292) fun w => TW (F := F) t0 c w) ⊢ bigSep (Finset.range 292) fun w => iprop(X m ρ c w (init w) ∗ if im w = true then aw (F := F) c w else iprop(emp)) := by
    refine bigSep_mono fun w hw => ?_
    show TW (F := F) t0 c w ⊢ iprop(X m ρ c w (init w) ∗ if im w = true then aw (F := F) c w else iprop(emp))
    obtain ⟨h1, h2, h3⟩ := t0_im ⟨w, Finset.mem_range.mp hw⟩
    dsimp only at h1 h2 h3
    unfold TW
    rcases h3 with h3 | ⟨h3, h4⟩
    · rw [h3] at h1 h2 ⊢
      rw [h1]
      iintro H
      isplitr
      · rw [X0_eq]; iempintro
      iexact H
    · rw [h3] at h1 h2 ⊢
      rw [h1]
      have h5 : im w = false := h2
      rw [h5, X1_eq m ρ c w _ rfl, h4, shr_0, if_pos (by rfl), if_neg Bool.false_ne_true]
      unfold aw
      iintro H
      isplitl
      · iexact H
      iempintro
  have h2 : (bigSep (Finset.range 292) fun w => if im w = true then aw (F := F) c w else iprop(emp)) ⊢ bigSep (Finset.range 120) fun k => iprop(∃ f, land (F := F) c k f) := by
    refine BIBase.Entails.trans (Entails.of_eq (((bigSep_filter (Finset.range 292) (fun w => im w = true) (fun w => aw (F := F) c w)).symm.trans
      (congrArg (fun S => bigSep S fun w => aw (F := F) c w) im_set)).trans (big_image _ dlo (fun a ha b hb e => congrArg Fin.val
        (dlo_inj ⟨a, Finset.mem_range.mp ha⟩ ⟨b, Finset.mem_range.mp hb⟩ e)) _))) (bigSep_mono fun k hk => ?_)
    show aw (F := F) c (dlo k) ⊢ iprop(∃ f, land (F := F) c k f)
    unfold aw land
    rw [dlo_len ⟨k, Finset.mem_range.mp hk⟩]
  refine BIBase.Entails.trans ((owns_split c).trans h1) ?_
  refine BIBase.Entails.trans (Entails.of_eq (bigSep_sep (Finset.range 292) (fun w => X m ρ c w (init w)) (fun w => if im w = true then aw (F := F) c w else iprop(emp)))) ?_
  exact smono (BIBase.Entails.rfl) h2

/-! ### At the end -/

theorem end_two : ∀ z : Fin 4, ∀ j : Fin 144, look z 677 (82 + j) = 2 := by decide +kernel

/-- What a window is left as. -/
def Y (c : Dev nD) (w : ℕ) : sProp 𝕄 := if w < 230 then TW (F := F) t1 c w else X m ρ c w 2

theorem tri_ok : ∀ c : Dev nD, ∀ i : Fin 16, ((wbf (82 + 3 * i) = .qo ∧ wbf (82 + 3 * i + 1) = .qo ∧ wbf (82 + 3 * i + 2) = .qo)
    ∧ (wsl (82 + 3 * i + 1) = wsl (82 + 3 * i) ∧ wsl (82 + 3 * i + 2) = wsl (82 + 3 * i))
    ∧ (wlo (qq c) (zz c) (82 + 3 * i + 1) = wlo (qq c) (zz c) (82 + 3 * i) ∧ wlo (qq c) (zz c) (82 + 3 * i + 2) = wlo (qq c) (zz c) (82 + 3 * i))
    ∧ (wlen (82 + 3 * i + 1) = wlen (82 + 3 * i) ∧ wlen (82 + 3 * i + 2) = wlen (82 + 3 * i))
    ∧ (wsh (82 + 3 * i) = 1 ∧ wsh (82 + 3 * i + 1) = 3 ∧ wsh (82 + 3 * i + 2) = 4)
    ∧ (t1 (82 + 3 * i) = true ∧ t1 (82 + 3 * i + 1) = false ∧ t1 (82 + 3 * i + 2) = false)) := by decide +kernel
theorem two_ok : ∀ c : Dev nD, ∀ i : Fin 48, ((wbf (130 + 2 * i) = .po ∧ wbf (130 + 2 * i + 1) = .po)
    ∧ wsl (130 + 2 * i + 1) = wsl (130 + 2 * i) ∧ wlo (qq c) (zz c) (130 + 2 * i + 1) = wlo (qq c) (zz c) (130 + 2 * i)
    ∧ wlen (130 + 2 * i + 1) = wlen (130 + 2 * i) ∧ (wsh (130 + 2 * i) = 1 ∧ wsh (130 + 2 * i + 1) = 2)
    ∧ (t1 (130 + 2 * i) = true ∧ t1 (130 + 2 * i + 1) = false)) := by decide +kernel
theorem any_ok : ∀ w : Fin 292, (w.val < 80 → wsh w = 0 ∧ t1 w = true) ∧ (80 ≤ w.val → w.val < 82 → t1 w = false) ∧ (226 ≤ w.val → wsh w = 0 ∧ t1 w = true) ∧ (230 ≤ w.val → wbf w = .ou) := by decide +kernel

theorem aw_of (c : Dev nD) (w : ℕ) (b : Bf) (h : wbf w = b) (f) : P c b (wsl w) (wlo (qq c) (zz c) w) (wlen w) fullShare f ⊢ aw (F := F) c w := by
  subst h; unfold aw; iintro H; iexists f; iexact H

theorem tri_at (c : Dev nD) : ∀ n, n ≤ 16 → bigSep (win 82 (3 * n)) (fun w => X m ρ c w 2) ⊢ bigSep (win 82 (3 * n)) (fun w => Y m ρ c w) := by
  intro n
  induction n with
  | zero => intro _; rw [Nat.mul_zero, show win 82 0 = ∅ from Finset.Ico_self _, bigSep_empty, bigSep_empty]
  | succ n ih =>
    intro hn
    rw [Nat.mul_succ, win_add, win_add, win_3, win_3]
    refine smono (ih (by omega)) ?_
    obtain ⟨⟨a1, a2, a3⟩, ⟨b1, b2⟩, ⟨c1, c2⟩, ⟨d1, d2⟩, ⟨e1, e2, e3⟩, f1, f2, f3⟩ := tri_ok c ⟨n, by omega⟩
    dsimp only at *
    unfold Y TW
    rw [if_pos (show 82 + 3 * n < 230 by omega), if_pos f1, if_pos (show 82 + 3 * n + 1 < 230 by omega), if_pos (show 82 + 3 * n + 2 < 230 by omega),
      if_neg (show ¬ t1 (82 + 3 * n + 1) = true by rw [f2]; exact Bool.false_ne_true), if_neg (show ¬ t1 (82 + 3 * n + 2) = true by rw [f3]; exact Bool.false_ne_true)]
    rw [X2_eq m ρ c _ _ a1, X2_eq m ρ c _ _ a2, X2_eq m ρ c _ _ a3, b1, b2, c1, c2, d1, d2, e1, e2, e3]
    refine BIBase.Entails.trans (Entails.of_eq (P_three c .qo _ _ _ _).symm) (BIBase.Entails.trans (aw_of c _ _ a1 _) ?_)
    iintro H
    isplitl; · iexact H
    isplitr <;> iempintro

theorem two_at (c : Dev nD) : ∀ n, n ≤ 48 → bigSep (win 130 (2 * n)) (fun w => X m ρ c w 2) ⊢ bigSep (win 130 (2 * n)) (fun w => Y m ρ c w) := by
  intro n
  induction n with
  | zero => intro _; rw [Nat.mul_zero, show win 130 0 = ∅ from Finset.Ico_self _, bigSep_empty, bigSep_empty]
  | succ n ih =>
    intro hn
    rw [Nat.mul_succ, win_add, win_add, win_2, win_2]
    refine smono (ih (by omega)) ?_
    obtain ⟨⟨a1, a2⟩, b1, c1, d1, ⟨e1, e2⟩, f1, f2⟩ := two_ok c ⟨n, by omega⟩
    dsimp only at *
    unfold Y TW
    rw [if_pos (by omega), if_pos f1, if_pos (by omega), if_neg (by rw [f2]; exact Bool.false_ne_true)]
    rw [X2_eq m ρ c _ _ a1, X2_eq m ρ c _ _ a2, b1, c1, d1, e1, e2]
    refine BIBase.Entails.trans (Entails.of_eq (P_two c .po _ _ _ _).symm) (BIBase.Entails.trans (aw_of c _ _ a1 _) ?_)
    iintro H
    isplitl; · iexact H
    iempintro

theorem any_at (c : Dev nD) (w : ℕ) (hw : w < 230) (h : w < 82 ∨ 226 ≤ w) : X m ρ c w (look (zz c) 677 w) ⊢ Y m ρ c w := by
  obtain ⟨h1, h2, h3, -⟩ := any_ok ⟨w, by omega⟩
  dsimp only at h1 h2 h3
  unfold Y TW
  rw [if_pos hw]
  by_cases h8 : 80 ≤ w ∧ w < 82
  · rw [h2 h8.1 h8.2, if_neg Bool.false_ne_true]
    iintro -
    iempintro
  · have h4 : wsh w = 0 ∧ t1 w = true := by
      by_cases h9 : w < 80
      · exact h1 h9
      · exact h3 (by omega)
    rw [if_pos h4.2]
    have h5 := (end_look ⟨zz c, zz_lt c⟩ ⟨w, by omega⟩).resolve_left h8
    refine BIBase.Entails.trans (X_any m ρ c w _ _ rfl (Nat.pos_of_ne_zero h5)) ?_
    rw [h4.1, shr_0]
    unfold aw
    exact BIBase.Entails.rfl

theorem end_Y (c : Dev nD) : Wd m ρ c 677 ⊢ bigSep (Finset.range 292) fun w => Y m ρ c w := by
  unfold Wd
  rw [win_end, win_end]
  refine smono (bigSep_mono fun w hw => ?_) (smono (bigSep_mono fun w hw => ?_) (smono ?_ (smono ?_ (smono (bigSep_mono fun w hw => ?_) (bigSep_mono fun w hw => ?_)))))
  · rw [win, Finset.mem_Ico] at hw; exact any_at m ρ c w (by omega) (by omega)
  · rw [win, Finset.mem_Ico] at hw; exact any_at m ρ c w (by omega) (by omega)
  · refine BIBase.Entails.trans (bigSep_mono (Ψ := fun w => X m ρ c w 2) fun w hw => ?_) (tri_at m ρ c 16 (le_refl _))
    rw [win, Finset.mem_Ico] at hw
    have := end_two ⟨zz c, zz_lt c⟩ ⟨w - 82, by omega⟩
    rw [show 82 + (⟨w - 82, by omega⟩ : Fin 144).val = w from by show 82 + (w - 82) = w; omega] at this
    exact Entails.of_eq (congrArg (X m ρ c w) this)
  · refine BIBase.Entails.trans (bigSep_mono (Ψ := fun w => X m ρ c w 2) fun w hw => ?_) (two_at m ρ c 48 (le_refl _))
    rw [win, Finset.mem_Ico] at hw
    have := end_two ⟨zz c, zz_lt c⟩ ⟨w - 82, by omega⟩
    rw [show 82 + (⟨w - 82, by omega⟩ : Fin 144).val = w from by show 82 + (w - 82) = w; omega] at this
    exact Entails.of_eq (congrArg (X m ρ c w) this)
  · rw [win, Finset.mem_Ico] at hw; exact any_at m ρ c w (by omega) (by omega)
  · rw [win, Finset.mem_Ico] at hw
    have := end_out ⟨zz c, zz_lt c⟩ ⟨w - 230, by omega⟩
    rw [show 230 + (⟨w - 230, by omega⟩ : Fin 62).val = w from by show 230 + (w - 230) = w; omega] at this
    show X m ρ c w (look (zz c) 677 w) ⊢ Y m ρ c w
    unfold Y
    rw [if_neg (by omega)]
    exact Entails.of_eq (congrArg (X m ρ c w) this)

/-- The scratch buffers, whole again, and the result as computed. -/
theorem end_windows (c : Dev nD) : Wd m ρ c 677 ⊢ iprop((own (F := F) c .ar ∗ own (F := F) c .al ∗ own (F := F) c .bc ∗ own (F := F) c .qo ∗ own (F := F) c .po ∗ own (F := F) c .qb ∗ own (F := F) c .wb)
    ∗ ((c : Thread nD τ).loc (ref .ou)) ↦{fullShare} stC m ρ c .ou) := by
  have hY : ∀ b : Bf, wfrom b + wcnt b ≤ 230 → bigSep (win (wfrom b) (wcnt b)) (fun w => Y m ρ c w) ⊢ own (F := F) c b := fun b hb => by
    refine BIBase.Entails.trans (bigSep_mono (Ψ := fun w => TW (F := F) t1 c w) fun w hw => ?_) (own_join (t1_ok c b) (stC m ρ c b))
    rw [win, Finset.mem_Ico] at hw
    show Y m ρ c w ⊢ TW (F := F) t1 c w
    unfold Y
    rw [if_pos (by omega)]
  have hO : bigSep (win 230 62) (fun w => Y m ρ c w) ⊢ (((c : Thread nD τ).loc (ref .ou)) ↦{fullShare} stC m ρ c .ou : sProp 𝕄) := by
    rw [tiles_eq (t1_ok c .ou) (stC m ρ c .ou)]
    refine bigSep_mono (s := win 230 62) fun w hw => ?_
    rw [win, Finset.mem_Ico] at hw
    obtain ⟨-, -, h3, h4⟩ := any_ok ⟨w, by omega⟩
    dsimp only at h3 h4
    show Y m ρ c w ⊢ if t1 w = true then P c .ou (wsl w) (wlo (qq c) (zz c) w) (wlen w) fullShare (stC m ρ c .ou) else iprop(emp)
    unfold Y
    rw [if_neg (by omega), if_pos (h3 (by omega)).2, X2_eq m ρ c w _ (h4 hw.1), (h3 (by omega)).1, shr_0]
  refine BIBase.Entails.trans (end_Y m ρ c) ?_
  rw [win_all]
  iintro ⟨A, B, C, D, E, G, H, I⟩
  isplitr [I]
  · isplitl [A]; · iapply (hY .ar (by decide)); iexact A
    isplitl [B]; · iapply (hY .al (by decide)); iexact B
    isplitl [C]; · iapply (hY .bc (by decide)); iexact C
    isplitl [D]; · iapply (hY .qo (by decide)); iexact D
    isplitl [E]; · iapply (hY .po (by decide)); iexact E
    isplitl [G]; · iapply (hY .qb (by decide)); iexact G
    iapply (hY .wb (by decide)); iexact H
  iapply hO; iexact I

end Cert.Ring
-- ==== Proof.Whole.lean ====
module

public import proofs.«01_k».proof.Proof.First
public import proofs.«01_k».proof.Proof.Second
public import proofs.«01_k».proof.Proof.Third
public import proofs.«01_k».proof.Proof.Ends

@[expose] public section

set_option maxRecDepth 16384

noncomputable section

namespace Cert.Ring

open Cert.KernelIdeal Cert.KernelIdeal.Gen Cert.Plan
open Idealize.ShloMosaic
open Idealize.ShloMosaic.TcCoe
open Idealize.SL Idealize.SL.RA Idealize.SL.BI
open scoped Idealize.SL.BI Idealize.SL.RA
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × Fin 241 → ℕ)

/-! ## The whole body -/

section
variable {m ρ K}
variable {c : Dev nD}

theorem bindP {α β : Type} {Q : β → sProp 𝕄} {A B : sProp 𝕄} {φ : α → Prop} {p : Prog (TpuEff nD τ sig (Elt F) Λ₀ .tc) α} {k : α → Prog (TpuEff nD τ sig (Elt F) Λ₀ .tc) β}
    (h1 : A ⊢ WP c p fun r => iprop(⌜φ r⌝ ∗ B)) (h2 : ∀ r, φ r → B ⊢ WP c (k r) Q) : A ⊢ WP c (p >>= k) Q := by
  unfold WP
  rw [wp_bind]
  refine BIBase.Entails.trans h1 (wp_mono _ _ _ fun r => ?_)
  iintro ⟨%h, H⟩
  have h3 := h2 r h
  unfold WP at h3
  iapply h3; iexact H
theorem bindF {α β : Type} {Q : β → sProp 𝕄} {A B V : sProp 𝕄} {φ : α → Prop} {p : Prog (TpuEff nD τ sig (Elt F) Λ₀ .tc) α} {k : α → Prog (TpuEff nD τ sig (Elt F) Λ₀ .tc) β}
    (h1 : A ⊢ WP c p fun r => iprop(iprop(⌜φ r⌝ ∗ B) ∗ V)) (h2 : ∀ r, φ r → B ⊢ WP c (k r) Q) : A ⊢ WP c (p >>= k) fun r => iprop(Q r ∗ V) := by
  have hf : ∀ r, iprop(WP c (k r) Q ∗ V) ⊢ WP c (k r) fun r => iprop(Q r ∗ V) := fun r => wp_frame_r _ _ _
  unfold WP
  rw [wp_bind]
  refine BIBase.Entails.trans h1 (wp_mono _ _ _ fun r => ?_)
  iintro ⟨⟨%h, H⟩, HV⟩
  have h3 := hf r
  have h4 := h2 r h
  unfold WP at h3 h4
  iapply h3
  isplitl [H]
  · iapply h4; iexact H
  iexact HV

theorem retP {α : Type} {A : sProp 𝕄} (r : α) : A ⊢ WP (F := F) c (.ret r) fun _ => A := by
  rw [WP, wp_ret]
  iintro HA
  imodintro
  iexact HA

set_option maxHeartbeats 0 in
/-- Everything device `c` runs. -/
theorem run_body : Bs m ρ K c 4 ⊢ WP c (cc0_body (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 cc0_scratch16 cc0_scratch17 cc0_scratch18) fun _ => iprop(St m ρ K c 677 ∗ semVal (barCell c) 0) := by
  rw [cc0_body_eq_skeleton]
  unfold cc0_body_skel
  rw [k0_part172_eq_skeleton, k0_part173_eq_skeleton, k0_part174_eq_skeleton]
  refine bindF (run_first (m := m) (ρ := ρ) (K := K) (c := c)) fun r hr => ?_
  obtain ⟨d0, v3, v20, v24, v27, v29, v1390, v1393⟩ := r
  obtain rfl : d0 = c := hr
  refine bindP (run_second (m := m) (ρ := ρ) (K := K) (c := d0) v3 v20 v24 v27 v29 v1390 v1393) fun r _ => ?_
  obtain ⟨v3199, v3202, c1⟩ := r
  refine bindP (run_third (m := m) (ρ := ρ) (K := K) (c := d0) v3 v20 v24 v27 v3199 v3202 c1) fun r _ => ?_
  obtain ⟨v4662, c192⟩ := r
  iterate 3
    refine st_swE rfl (by simp only [Nat.reduceDiv, Nat.reduceMod, Nat.reduceMul, Nat.reduceAdd, Nat.reduceSub]; rfl) (by decide) (by exact rfl) (by exact rfl) ?_
    refine st_at (by simp only [Nat.reduceAdd]; rfl) ?_
  exact retP PUnit.unit
end

theorem Ow_end (c : Dev nD) : Ow c 677 = 0 := by
  unfold Ow
  refine Finset.sum_eq_zero fun k hk => ?_
  have := end_keys ⟨zz c, zz_lt c⟩ ⟨k, Finset.mem_range.mp hk⟩
  rw [Bool.and_eq_true, Bool.and_eq_true] at this
  exact if_pos this.1.1

/-- The counters of every transfer's two semaphores, at zero. -/
def zeros (c : Dev nD) : sProp 𝕄 := bigSep (Finset.range 120) fun k => iprop(semVal (sCell c k) 0 ∗ semVal (rCell c k) 0)

omit [FloatOps F] in
theorem Ks_end (c : Dev nD) : Ks (F := F) c 677 ⊢ zeros (F := F) c := by
  unfold Ks zeros
  refine bigSep_mono fun k hk => ?_
  have := end_keys ⟨zz c, zz_lt c⟩ ⟨k, Finset.mem_range.mp hk⟩
  rw [Bool.and_eq_true, Bool.and_eq_true] at this
  show KA (F := F) c 677 k ⊢ iprop(semVal (sCell c k) 0 ∗ semVal (rCell c k) 0)
  unfold KA KS KR
  rw [if_pos this.2, if_pos this.1.2]

theorem St_end (c : Dev nD) : St m ρ K c 677 ⊢ iprop((∃ W, owes (c : Thread nD τ) 0 W) ∗ zeros (F := F) c
    ∗ ((own (F := F) c .ar ∗ own (F := F) c .al ∗ own (F := F) c .bc ∗ own (F := F) c .qo ∗ own (F := F) c .po ∗ own (F := F) c .qb ∗ own (F := F) c .wb)
      ∗ ((c : Thread nD τ).loc (ref .ou)) ↦{fullShare} stC m ρ c .ou) ∗ ins m ρ c) := by
  have hO : Os (F := F) c 677 ⊢ iprop(∃ W, owes (c : Thread nD τ) 0 W) := by unfold Os; rw [Ow_end]
  unfold St
  iintro ⟨-, O, Kk, W, I⟩
  isplitl [O]; · iapply hO; iexact O
  isplitl [Kk]; · iapply (Ks_end (F := F) c); iexact Kk
  isplitl [W]; · iapply (end_windows m ρ c); iexact W
  iexact I

end Cert.Ring
-- ==== Proof.Start.lean ====
module

public import proofs.«01_k».proof.Proof.Whole
public import proofs.«01_k».proof.Proof.Gen.KernelIdeal.Launch
public import Idealize.ShloMosaic.Lib.Pipeline.Launch
public import Idealize.ShloMosaic.Lib.Pipeline.Kit

/-! What the launch deals a device: the invariants of every cell, its positions, the tokens of the duties it pays, and
    the credit the others owe its cells. -/

@[expose] public section

set_option maxRecDepth 16384

namespace Cert.Ring

open Cert.KernelIdeal Cert.KernelIdeal.Gen Cert.Plan
open Idealize.ShloMosaic
open Idealize.ShloMosaic.TcCoe
open Idealize.SL Idealize.SL.RA Idealize.SL.BI
open scoped Idealize.SL.BI Idealize.SL.RA
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × Fin 241 → ℕ)

noncomputable section

/-! ## Conjunctions re-indexed -/

omit [FloatOps F] in
theorem big_im {I J : Type} [DecidableEq I] [DecidableEq J] (S : Finset I) (f : I → J) (h : ∀ a ∈ S, ∀ b ∈ S, f a = f b → a = b) (Φ : J → sProp 𝕄) :
    bigSep (S.image f) Φ = bigSep S fun k => Φ (f k) := by
  induction S using Finset.induction_on with
  | empty => rw [Finset.image_empty, bigSep_empty, bigSep_empty]
  | insert t S ht ih =>
    rw [Finset.image_insert, bigSep_insert ht, bigSep_insert, ih (fun a ha b hb => h a (Finset.mem_insert_of_mem ha) b (Finset.mem_insert_of_mem hb))]
    intro hm
    obtain ⟨b, hb, e⟩ := Finset.mem_image.mp hm
    have := h b (Finset.mem_insert_of_mem hb) t (Finset.mem_insert_self _ _) e
    exact ht (this ▸ hb)

omit [FloatOps F] in
theorem big_swap {I : Type} [DecidableEq I] (S : Finset I) (Φ : Dev nD → I → sProp 𝕄) :
    (bigSep Finset.univ fun c => bigSep S fun k => Φ c k) = bigSep S fun k => bigSep Finset.univ fun c => Φ c k := by
  induction S using Finset.induction_on with
  | empty =>
    rw [bigSep_empty, bigSep_congr (s := Finset.univ) (Ψ := fun _ => (iprop(emp) : sProp 𝕄)) (fun c _ => bigSep_empty)]
    have h1 : ∀ P : sProp 𝕄, P ⊢ iprop(emp) := fun P => by iintro -; iempintro
    exact Entails.antisymm (h1 _) (bigSep_of_persistent Finset.univ (iprop(emp) : sProp 𝕄))
  | insert t S ht ih =>
    rw [bigSep_insert ht, ← ih]
    exact (bigSep_congr fun c _ => bigSep_insert ht).trans (bigSep_sep' _ _ _)

omit [FloatOps F] in
/-- A rearrangement of the devices. -/
theorem around (f : Dev nD → Dev nD) (h : ∀ a b, f a = f b → a = b) (hs : Finset.univ.image f = Finset.univ) (Φ : Dev nD → sProp 𝕄) :
    bigSep Finset.univ Φ = bigSep Finset.univ fun c => Φ (f c) := by
  rw [← big_im Finset.univ f (fun a _ b _ => h a b), hs]

theorem nb_inj : ∀ d : Fin 4, ∀ a b : Dev nD, nb a d = nb b d → a = b := by decide +kernel
theorem nb_surj : ∀ d : Fin 4, Finset.univ.image (fun c : Dev nD => nb c d) = Finset.univ := by decide +kernel
theorem peer_inj : ∀ k : Fin 120, ∀ a b : Dev nD, peer a k = peer b k → a = b := by decide +kernel
theorem peer_surj : ∀ k : Fin 120, Finset.univ.image (fun c : Dev nD => peer c k) = Finset.univ := by decide +kernel

theorem semS_inj : ∀ a b : Fin 120, semS a = semS b → a = b := by decide +kernel
theorem semR_inj : ∀ a b : Fin 120, semR a = semR b → a = b := by decide +kernel
theorem jS_inj : ∀ a b : Fin 120, jS a = jS b → a = b := by decide +kernel
theorem jR_inj : ∀ a b : Fin 120, jR a = jR b → a = b := by decide +kernel
theorem j_cover : (Finset.univ : Finset (Fin 241)) = insert 0 ((Finset.range 120).image jS ∪ (Finset.range 120).image jR) := by decide +kernel
theorem j_disj : Disjoint ((Finset.range 120).image jS) ((Finset.range 120).image jR) := by decide +kernel
theorem j_zero : (0 : Fin 241) ∉ (Finset.range 120).image jS ∪ (Finset.range 120).image jR := by decide +kernel

theorem range_inj {β : Type} {f : ℕ → β} (h : ∀ a b : Fin 120, f a = f b → a = b) : ∀ a ∈ Finset.range 120, ∀ b ∈ Finset.range 120, f a = f b → a = b :=
  fun a ha b hb e => congrArg Fin.val (h ⟨a, Finset.mem_range.mp ha⟩ ⟨b, Finset.mem_range.mp hb⟩ e)

omit [FloatOps F] in
/-- The cells of a device: its barrier's, and per transfer the send and the receive cell. -/
theorem cells_eq (Φ : SemLoc sig → sProp 𝕄) :
    (bigSep Finset.univ fun j : Fin 241 => Φ (csem j)) = iprop(Φ (.reg barS) ∗ bigSep (Finset.range 120) fun k => iprop(Φ (.dma (semS k)) ∗ Φ (.dma (semR k)))) := by
  have hS : ∀ k ∈ Finset.range 120, Φ (csem (jS k)) = Φ (.dma (semS k)) := fun k hk => congrArg Φ (csem_jS ⟨k, Finset.mem_range.mp hk⟩)
  have hR : ∀ k ∈ Finset.range 120, Φ (csem (jR k)) = Φ (.dma (semR k)) := fun k hk => congrArg Φ (csem_jR ⟨k, Finset.mem_range.mp hk⟩)
  rw [j_cover, bigSep_insert j_zero, bigSep_union j_disj, big_im _ _ (range_inj jS_inj), big_im _ _ (range_inj jR_inj), csem_0, bigSep_sep',
    bigSep_congr hS, bigSep_congr hR]
  rfl

def iS (k : ℕ) : Fin 240 := ⟨((semS k).val - 3) % 240, Nat.mod_lt _ (by decide)⟩
def iR (k : ℕ) : Fin 240 := ⟨((semR k).val - 3) % 240, Nat.mod_lt _ (by decide)⟩
theorem osem_iS : ∀ k : Fin 120, osem (iS k) = .dma (semS k) := by decide +kernel
theorem osem_iR : ∀ k : Fin 120, osem (iR k) = .dma (semR k) := by decide +kernel
theorem iS_inj : ∀ a b : Fin 120, iS a = iS b → a = b := by decide +kernel
theorem iR_inj : ∀ a b : Fin 120, iR a = iR b → a = b := by decide +kernel
theorem i_cover : (Finset.univ : Finset (Fin 240)) = (Finset.range 120).image iS ∪ (Finset.range 120).image iR := by decide +kernel
theorem i_disj : Disjoint ((Finset.range 120).image iS) ((Finset.range 120).image iR) := by decide +kernel

omit [FloatOps F] in
theorem own_eq (Φ : SemLoc sig → sProp 𝕄) :
    (bigSep Finset.univ fun j : Fin 240 => Φ (osem j)) = bigSep (Finset.range 120) fun k => iprop(Φ (.dma (semS k)) ∗ Φ (.dma (semR k))) := by
  have hS : ∀ k ∈ Finset.range 120, Φ (osem (iS k)) = Φ (.dma (semS k)) := fun k hk => congrArg Φ (osem_iS ⟨k, Finset.mem_range.mp hk⟩)
  have hR : ∀ k ∈ Finset.range 120, Φ (osem (iR k)) = Φ (.dma (semR k)) := fun k hk => congrArg Φ (osem_iR ⟨k, Finset.mem_range.mp hk⟩)
  rw [i_cover, bigSep_union i_disj, big_im _ _ (range_inj iS_inj), big_im _ _ (range_inj iR_inj), bigSep_sep',
    bigSep_congr hS, bigSep_congr hR]
  rfl

/-! ## The ghost state -/

/-- Transfer `k`'s share: its two cells' positions and the tokens of the two duties its sender pays. -/
def Q0 (c : Dev nD) (k : ℕ) : sProp 𝕄 :=
  iprop((atPos ER (sCell c k) 0 ∅ 0 ∗ dutyTok ER (sCell c k) 0 0 ∗ dutyTok ER (rCell (peer c k) k) 0 0) ∗ atPos ER (rCell c k) 0 ∅ 0)
/-- What stays with device `c`. -/
def linear (c : Dev nD) : sProp 𝕄 :=
  iprop(atPos ER (barCell c) 0 ∅ 0 ∗ (bigSep Finset.univ fun d : Fin 4 => dutyTok ER (barCell (nb c d)) 0 d) ∗ bigSep (Finset.range 120) fun k => Q0 (F := F) c k)
def invs : sProp 𝕄 := bigSep Finset.univ fun ck : Dev nD × Fin 241 => iprop(cellInv ER (Rd m ρ) (K ck) (kcell ck) ∗ reached ER (kcell ck) 0)
instance invs_persistent : BI.Persistent (invs m ρ K) := by unfold invs; infer_instance

def start (c : Dev nD) : sProp 𝕄 :=
  iprop((∃ K, invs m ρ K ∗ linear (F := F) c) ∗ (cred (tallyAt (barCell c) () 4) ∗ bigSep (Finset.range 120) fun k => cred (tallyAt (rCell c k) () N)) ∗ levAts L lv)

theorem csem_inj : ∀ j : Fin 241, ∀ j' : Fin 241, csem j = csem j' → j = j' := by
  have h : ∀ j : Fin 241, (match csem j with | .reg _ => 0 | .dma s => s.val - 2) = j.val := by decide +kernel
  intro j j' e
  exact Fin.ext (by rw [← h j, ← h j', e])
theorem kcell_injective : Function.Injective (kcell : Dev nD × Fin 241 → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_inj _ _ h2]
def ringCells : Finset (GSem nD τ sig) := Finset.univ.map ⟨kcell, kcell_injective⟩

/-- Four tokens of every cell are minted, though only a barrier's four are all used. -/
abbrev tokOf (x : Dev nD × (Fin 241 × Fin 4)) : GSem nD τ sig × ℕ × Fin 4 := (kcell (x.1, x.2.1), 0, x.2.2)
theorem tokOf_injective : Function.Injective (tokOf : Dev nD × (Fin 241 × Fin 4) → GSem nD τ sig × ℕ × Fin 4) := by
  rintro ⟨c, j, d⟩ ⟨c', j', d'⟩ h
  have h1 := kcell_injective (congrArg Prod.fst h)
  have h2 : d = d' := congrArg (fun x : GSem nD τ sig × ℕ × Fin 4 => x.2.2) h
  cases h1; cases h2; rfl
def ringToks : Finset (GSem nD τ sig × ℕ × Fin 4) := Finset.univ.map ⟨tokOf, tokOf_injective⟩

def u₀ : UU := (initOf (Pipeline.cells cfgs cellOf_inj) (Pipeline.launchToks cfgs cellOf_inj), initOf ringCells ringToks)

def toks (c : Dev nD) : sProp 𝕄 := bigSep Finset.univ fun j : Fin 241 => bigSep Finset.univ fun d : Fin 4 => dutyTok ER (kcell (c, j)) 0 d

def G (c : Dev nD) : sProp 𝕄 :=
  iprop((bigSep Finset.univ fun k : Fin 241 => roundState ER (Rd m ρ) (kcell (c, k)) 0)
    ∗ (bigSep Finset.univ fun k : Fin 241 => iprop(atPos ER (kcell (c, k)) 0 ∅ 0 ∗ reached ER (kcell (c, k)) 0)) ∗ toks (F := F) c)
def G' (c : Dev nD) : sProp 𝕄 := iprop(∃ K, invs m ρ K ∗ linear (F := F) c)

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : Fin 241 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks (F := F) c := by
    unfold ringToks; rw [bigSep_map, bigSep_univ_prod]
    exact bigSep_congr fun c _ => by unfold toks; rw [bigSep_univ_prod]; rfl
  iintro HX
  imod (Rounds.fund ER (Rd m ρ) ringCells ringToks) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
theorem ownSems0_eq (c : Dev nD) : (Pipeline.ownSems0 (Ix := Unit) (Name := ℕ) (U := UU) (Lvl := ℕ) (Val := Elt F) (τ := τ) osem c : sProp 𝕄) = zeros (F := F) c :=
  own_eq (F := F) fun sm => semVal ((c : Thread nD τ), sm) 0
omit [FloatOps F] in
theorem unscopedSems0_eq (c : Dev nD) : (unscopedSems0 c : sProp 𝕄) = semVal (barCell c) 0 := by
  unfold unscopedSems0; rw [bigSep_eq_bigSepL_of_eq [SemLoc.reg barS] (by decide +kernel) (by decide +kernel)]; rfl

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (Rd m ρ) κ (kcell (c, k))))
          ∗ (bigSep Finset.univ fun k => iprop(atPos ER (kcell (c, k)) 0 ∅ 0 ∗ reached ER (kcell (c, k)) 0)) ∗ toks (F := F) c) := by
  have hv : iprop(zeros (F := F) c ∗ semVal (barCell c) 0) ⊢ (bigSep Finset.univ fun k : Fin 241 => semVal (kcell (c, k)) 0 : sProp 𝕄) := by
    refine BIBase.Entails.trans ?_ (Entails.of_eq (cells_eq (F := F) fun sm => semVal ((c : Thread nD τ), sm) 0).symm)
    unfold zeros
    iintro ⟨A, B⟩
    isplitl [B] <;> iassumption
  rw [ownSems0_eq, unscopedSems0_eq]
  unfold G
  iintro ⟨Hos, Hus, Hst, Hat, Htok⟩
  ihave Hv := hv $$ [Hos Hus]
  · isplitl [Hos] <;> iassumption
  imod (show iprop((bigSep Finset.univ fun k : Fin 241 => semVal (kcell (c, k)) 0) ∗ bigSep Finset.univ fun k : Fin 241 => roundState ER (Rd m ρ) (kcell (c, k)) 0)
      ⊢ (|={Set.univ}=> bigSep Finset.univ fun k => iprop(∃ κ : ℕ, cellInv ER (Rd m ρ) κ (kcell (c, k))) : sProp 𝕄) from by
        rw [← bigSep_sep']
        exact (bigSep_mono fun k _ => (Rounds.body_intro ER (Rd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The tokens of a device's own cells. -/
def toks' (c : Dev nD) : sProp 𝕄 :=
  iprop((bigSep Finset.univ fun d : Fin 4 => dutyTok ER (barCell c) 0 d) ∗ bigSep (Finset.range 120) fun k => iprop(dutyTok ER (sCell c k) 0 0 ∗ dutyTok ER (rCell c k) 0 0))
/-- The tokens of the duties it pays. -/
def payToks (c : Dev nD) : sProp 𝕄 :=
  iprop((bigSep Finset.univ fun d : Fin 4 => dutyTok ER (barCell (nb c d)) 0 d) ∗ bigSep (Finset.range 120) fun k => iprop(dutyTok ER (sCell c k) 0 0 ∗ dutyTok ER (rCell (peer c k) k) 0 0))

omit [FloatOps F] in
theorem toks_own (c : Dev nD) : toks (F := F) c ⊢ toks' (F := F) c := by
  unfold toks toks'
  refine BIBase.Entails.trans (Entails.of_eq (cells_eq (F := F) fun sm => bigSep Finset.univ fun d : Fin 4 => dutyTok ER ((c : Thread nD τ), sm) 0 d)) ?_
  refine smono BIBase.Entails.rfl (bigSep_mono fun k _ => ?_)
  exact smono (bigSep_elim (Finset.mem_univ 0)) (bigSep_elim (Finset.mem_univ 0))

omit [FloatOps F] in
/-- Each token goes to the device that pays with it. -/
theorem toks_around : (bigSep Finset.univ fun c : Dev nD => (toks (F := F) c : sProp 𝕄)) ⊢ bigSep Finset.univ fun c : Dev nD => payToks (F := F) c := by
  refine BIBase.Entails.trans (bigSep_mono fun c _ => toks_own (F := F) c) (Entails.of_eq ?_)
  unfold toks' payToks
  rw [bigSep_sep', bigSep_sep', big_swap, big_swap, big_swap, big_swap]
  congr 1
  · exact bigSep_congr fun d _ => around (F := F) (fun c => nb c d) (nb_inj d) (nb_surj d) fun c => dutyTok ER (barCell c) 0 d
  · refine bigSep_congr fun k hk => ?_
    rw [bigSep_sep', bigSep_sep']
    congr 1
    exact around (F := F) (fun c => peer c k) (peer_inj ⟨k, Finset.mem_range.mp hk⟩) (peer_surj ⟨k, Finset.mem_range.mp hk⟩) fun c => dutyTok ER (rCell c k) 0 0

omit [FloatOps F] in
theorem linear_intro (c : Dev nD) : iprop((bigSep Finset.univ fun k : Fin 241 => (atPos ER (kcell (c, k)) 0 ∅ 0 : sProp 𝕄)) ∗ payToks (F := F) c) ⊢ linear (F := F) c := by
  have h : iprop((bigSep (Finset.range 120) fun k => iprop(atPos ER (sCell c k) 0 ∅ 0 ∗ atPos ER (rCell c k) 0 ∅ 0))
      ∗ bigSep (Finset.range 120) fun k => iprop(dutyTok ER (sCell c k) 0 0 ∗ dutyTok ER (rCell (peer c k) k) 0 0)) ⊢ bigSep (Finset.range 120) fun k => Q0 (F := F) c k := by
    rw [← bigSep_sep']
    refine bigSep_mono fun k _ => ?_
    show iprop((atPos ER (sCell c k) 0 ∅ 0 ∗ atPos ER (rCell c k) 0 ∅ 0) ∗ dutyTok ER (sCell c k) 0 0 ∗ dutyTok ER (rCell (peer c k) k) 0 0) ⊢ Q0 (F := F) c k
    unfold Q0
    iintro ⟨⟨A, B⟩, C, D⟩
    isplitr [B]
    · isplitl [A]; · iexact A
      isplitl [C] <;> iassumption
    · iexact B
  refine BIBase.Entails.trans (smono (Entails.of_eq (cells_eq (F := F) fun sm => atPos ER ((c : Thread nD τ), sm) 0 ∅ 0)) BIBase.Entails.rfl) ?_
  unfold payToks linear
  iintro ⟨⟨A, B⟩, C, D⟩
  isplitl [A]; · iexact A
  isplitl [C]; · iexact C
  iapply h
  isplitl [B] <;> iassumption

omit [FloatOps F] in
theorem big_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd m ρ) κ (kcell (c, k))))
          ∗ (bigSep Finset.univ fun k => iprop(atPos ER (kcell (c, k)) 0 ∅ 0 ∗ reached ER (kcell (c, k)) 0)) ∗ toks (F := F) c) : sProp 𝕄)
      ⊢ bigSep Finset.univ (G' m ρ) := by
  rw [bigSep_sep', bigSep_sep', ← bigSep_univ_prod (fun ck : Dev nD × Fin 241 => iprop(∃ κ : ℕ, cellInv ER (Rd m ρ) κ (kcell ck))),
    bigSep_congr (s := Finset.univ) (fun (c : Dev nD) _ => bigSep_sep' Finset.univ (fun k : Fin 241 => (atPos ER (kcell (c, k)) 0 ∅ 0 : sProp 𝕄)) (fun k => reached ER (kcell (c, k)) 0)),
    bigSep_sep', ← bigSep_univ_prod (fun ck : Dev nD × Fin 241 => (reached ER (kcell ck) 0 : sProp 𝕄))]
  iintro ⟨HI, ⟨Hat, #HR⟩, Htok⟩
  ihave HK := (BI.bigSep_exists_pi Finset.univ (fun (ck : Dev nD × Fin 241) (κ : ℕ) => (cellInv ER (Rd m ρ) κ (kcell ck) : sProp 𝕄))) $$ HI
  icases HK with ⟨%K, #HI⟩
  ihave Htk := (toks_around (F := F)) $$ Htok
  have hK : ∀ c ∈ (Finset.univ : Finset (Dev nD)), iprop(invs m ρ K ∗ linear (F := F) c) ⊢ G' m ρ c := fun c _ => by
    unfold G'; iintro H; iexists K; iexact H
  iapply (big_with (R := invs m ρ K) hK)
  isplitr
  · unfold invs
    iapply (Entails.of_eq (bigSep_sep' Finset.univ (fun ck : Dev nD × Fin 241 => cellInv ER (Rd m ρ) (K ck) (kcell ck)) (fun ck => (reached ER (kcell ck) 0 : sProp 𝕄))).symm)
    isplitl; · iexact HI
    iexact HR
  · iapply ((Entails.of_eq (bigSep_sep' Finset.univ (fun c : Dev nD => bigSep Finset.univ fun k : Fin 241 => (atPos ER (kcell (c, k)) 0 ∅ 0 : sProp 𝕄)) payToks).symm).trans
      (bigSep_mono fun c _ => linear_intro (F := F) c))
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

theorem bar_iff {a b : Dev nD} : barCell a = barCell b ↔ a = b :=
  ⟨fun h => Fin.ext (congrArg (fun g : GSem nD τ sig => g.1.1.val) h), fun h => h ▸ rfl⟩

theorem OB_4 (d : Dev nD) : OB d 4 = Ow d 0 + tallyAt (barCell (nb d 3)) () 1 + tallyAt (barCell (nb d 2)) () 1 + tallyAt (barCell (nb d 1)) () 1 + tallyAt (barCell (nb d 0)) () 1 := rfl

theorem tally_bar (a b : Dev nD) : (tallyAt (barCell a) () 1 : CellTallies nD τ sig Unit) (barCell b) () = if a = b then 1 else 0 := by
  rw [tallyAt_apply]
  by_cases h : a = b
  · subst h; rw [if_pos ⟨rfl, rfl⟩, if_pos rfl]
  · rw [if_neg (fun ⟨h1, _⟩ => h (bar_iff.mp h1).symm), if_neg h]

theorem Ow_bar (d c : Dev nD) : Ow d 0 (barCell c) () = 0 := by
  by_contra h
  obtain ⟨k, _, _, e⟩ := Ow_pos (Nat.pos_of_ne_zero h)
  exact absurd (congrArg Prod.snd e) (fun e => by cases e)

theorem owed_bar (d c : Dev nD) : OB d 4 (barCell c) () = (if nb d 3 = c then 1 else 0) + (if nb d 2 = c then 1 else 0) + (if nb d 1 = c then 1 else 0) + (if nb d 0 = c then 1 else 0) := by
  rw [OB_4]
  simp only [Pi.add_apply, Finsupp.add_apply, tally_bar, Ow_bar, Nat.zero_add]

theorem bar_sum : ∀ c : Dev nD, (∑ d : Dev nD, ((if nb d 3 = c then 1 else 0) + (if nb d 2 = c then 1 else 0) + (if nb d 1 = c then 1 else 0) + (if nb d 0 = c then 1 else 0)) : ℕ) = 4 := by
  decide +kernel

theorem owed_recv (d c : Dev nD) (k : ℕ) (hk : k < 120) : OB d 4 (rCell c k) () = if peer d k = c then N else 0 := by
  have hb : ∀ a : Dev nD, (tallyAt (barCell a) () 1 : CellTallies nD τ sig Unit) (rCell c k) () = 0 := fun a => by
    rw [tallyAt_ne_cell (fun h => by cases (congrArg Prod.snd h))]; rfl
  rw [OB_4]
  simp only [Pi.add_apply, Finsupp.add_apply, hb, Nat.add_zero]
  unfold Ow
  rw [Finset.sum_apply, Finsupp.finsetSum_apply, Finset.sum_eq_single k]
  · rw [if_neg (show ¬ sent (zz d) 0 k = true from fun h => by cases h), tallyAt_apply]
    by_cases h : peer d k = c
    · rw [h, if_pos ⟨rfl, rfl⟩, if_pos rfl]
    · rw [if_neg h, if_neg]
      rintro ⟨e, _⟩
      exact h (Fin.ext (congrArg (fun g : GSem nD τ sig => g.1.1.val) e)).symm
  · intro k' hk' hne
    by_cases hs : sent (zz d) 0 k' = true
    · rw [if_pos hs]; rfl
    · rw [if_neg hs, tallyAt_apply, if_neg]
      rintro ⟨e, _⟩
      have e2 : semR k = semR k' := by
        have := congrArg Prod.snd e
        exact SemLoc.dma.inj this
      exact hne (range_inj semR_inj k (Finset.mem_range.mpr hk) k' hk' e2).symm
  · intro h; exact absurd (Finset.mem_range.mpr hk) h

theorem launch_bar (c : Dev nD) :
    tallyOn (barCell c) (launchCredit (Pipeline.owing fun d => OB d 4) 0 (barCell c)) = (tallyAt (barCell c) () 4 : CellTallies nD τ sig Unit) := by
  unfold tallyAt; refine congrArg _ (Finsupp.ext fun u => ?_); cases u
  rw [Pipeline.launchCredit_owing, Finsupp.single_eq_same, Finset.sum_congr rfl fun d _ => owed_bar d c]
  exact bar_sum c

theorem launch_recv (c : Dev nD) (k : ℕ) (hk : k < 120) :
    tallyOn (rCell c k) (launchCredit (Pipeline.owing fun d => OB d 4) 0 (rCell c k)) = (tallyAt (rCell c k) () N : CellTallies nD τ sig Unit) := by
  unfold tallyAt; refine congrArg _ (Finsupp.ext fun u => ?_); cases u
  have hs : Finset.univ.image (fun c : Dev nD => peer c k) = Finset.univ := peer_surj ⟨k, hk⟩
  have hc : c ∈ Finset.univ.image fun c : Dev nD => peer c k := by rw [hs]; exact Finset.mem_univ c
  obtain ⟨d, -, hd⟩ := Finset.mem_image.mp hc
  rw [Pipeline.launchCredit_owing, Finsupp.single_eq_same, Finset.sum_congr rfl fun d _ => owed_recv d c k hk,
    Finset.sum_eq_single d (fun b _ hb => if_neg fun e => hb (peer_inj ⟨k, hk⟩ b d (e.trans hd.symm))) (fun h => absurd (Finset.mem_univ _) h), if_pos hd]

omit [FloatOps F] in
theorem creds (c : Dev nD) :
    (Pipeline.launchCred (fun d => OB d 4) c : sProp 𝕄) ⊢ iprop(cred (tallyAt (barCell c) () 4) ∗ bigSep (Finset.range 120) fun k => cred (tallyAt (rCell c k) () N)) := by
  have hsub : ∀ Ψ : SemLoc sig → sProp 𝕄, bigSep (Finset.univ.erase (SemLoc.reg barS)) Ψ ⊢ bigSep (Finset.range 120) fun k => Ψ (.dma (semR k)) := fun Ψ => by
    rw [← big_im (Finset.range 120) (fun k => (SemLoc.dma (semR k) : SemLoc sig)) (fun a ha b hb e => range_inj semR_inj a ha b hb (SemLoc.dma.inj e)) Ψ]
    refine bigSep_subset fun x hx => ?_
    obtain ⟨k, -, rfl⟩ := Finset.mem_image.mp hx
    exact Finset.mem_erase.mpr ⟨fun h => (by cases h), Finset.mem_univ _⟩
  unfold Pipeline.launchCred
  rw [bigSep_univ_at _ (SemLoc.reg barS), launch_bar]
  refine smono BIBase.Entails.rfl (BIBase.Entails.trans (hsub _) ?_)
  refine bigSep_mono fun k hk => ?_
  rw [← launch_recv c k (Finset.mem_range.mp hk)]
  exact Idealize.SL.BI.Entails.refl _

end

end Cert.Ring

end
-- ==== Proof.Main.lean ====
module

public import proofs.«01_k».proof.Proof.Start
public import Idealize.ShloMosaic.Lib.Tactic
public import Idealize.ShloMosaic.Lib.Pipeline.CollectiveSegs
public import Idealize.ShloMosaic.Lib.Pipeline.Launch
public import Idealize.ShloMosaic.Lib.Pipeline.Kit

/-! The run of @main: every device's body between the launch's set-up and its end. -/

@[expose] public section

set_option maxRecDepth 16384

namespace Cert.Ring

open Cert.KernelIdeal Cert.KernelIdeal.Gen Cert.Plan
open Idealize.ShloMosaic
open Idealize.ShloMosaic.TcCoe
open Idealize.SL Idealize.SL.RA Idealize.SL.BI
open scoped Idealize.SL.BI Idealize.SL.RA
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × Fin 241 → ℕ)

noncomputable section

/-! ## Levels -/

omit [FloatOps F] in
theorem OB_pos {c : Dev nD} {g : GSem nD τ sig} {u : Unit} (h : 0 < OB c 4 g u) : (∃ d, g = barCell d) ∨ ∃ k, k < 120 ∧ ∃ d, g = rCell d k := by
  by_contra hn
  rw [not_or] at hn
  have hb : ∀ d : Dev nD, (tallyAt (barCell d) () 1 : CellTallies nD τ sig Unit) g u = 0 := fun d => by
    rw [tallyAt_apply, if_neg (fun e => hn.1 ⟨d, e.1⟩)]
  have hO : Ow c 0 g u = 0 := by
    by_contra hp
    obtain ⟨k, hk, _, e⟩ := Ow_pos (Nat.pos_of_ne_zero hp)
    exact hn.2 ⟨k, hk, _, e⟩
  rw [OB_4] at h
  simp only [Pi.add_apply, Finsupp.add_apply, hb, hO] at h
  exact Nat.lt_irrefl 0 h

omit [FloatOps F] in
/-- A stage's semaphore is below everything a device ever owes. -/
theorem wait_stage (c : Dev nD) (q : DmaSem sig) (hq : lv ((c : Thread nD τ), .dma q) () = 0) (O : CellTallies nD τ sig Unit) (hO : O = OB c 4 ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases OB_pos hg with ⟨d, rfl⟩ | ⟨k, hk, d, rfl⟩ <;> exact Finset.mem_singleton_self _)
      (fun p hp => by rw [Finset.mem_singleton.mp hp]; exact Nat.le_of_eq hq)
      (fun g u hg => by
        rcases OB_pos hg with ⟨d, rfl⟩ | ⟨k, hk, d, rfl⟩
        · exact Nat.zero_lt_one
        · show 0 < lv (rCell d k) ()
          rw [lv_R d k hk]; exact Nat.lt_of_lt_of_le Nat.zero_lt_two (lev_ge ⟨k, hk⟩))
  · rw [MayWait_zero]; iintro -; iempintro

/-! ## The launch's data -/

def scr (c : Dev nD) : sProp 𝕄 :=
  iprop(own (F := F) c .ar ∗ own (F := F) c .al ∗ own (F := F) c .bc ∗ own (F := F) c .qo ∗ own (F := F) c .po ∗ own (F := F) c .qb ∗ own (F := F) c .wb)

def Φ₀ (c : Dev nD) : sProp 𝕄 := iprop(start m ρ c ∗ scr (F := F) c)
def Φ₁ (c : Dev nD) : sProp 𝕄 := iprop(scr (F := F) c ∗ zeros (F := F) c ∗ semVal (barCell c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => wstg m ρ c
    | ⟨2, _⟩ => stC m ρ c .ou
  Φ t := match t with
    | ⟨0, _⟩ => Φ₀ m ρ c
    | ⟨_ + 1, _⟩ => Φ₁ (F := F) c
  q _ := fullShare
  owed t := match t with
    | ⟨0, _⟩ => OB c 4
    | ⟨_ + 1, _⟩ => 0

theorem fetch_0 (t : Fin cfg0.N) : (cfg0.win (0 : Fin 3)).fetch t = true := by rw [fin_N0 t]; rfl
theorem fetch_1 (t : Fin cfg0.N) : (cfg0.win (1 : Fin 3)).fetch t = true := by rw [fin_N0 t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-! ## The body -/

theorem keys_two : keysOf 2 = ∅ := by decide +kernel

omit [FloatOps F] in
theorem tok4 (Φ : Fin 4 → sProp 𝕄) : bigSep Finset.univ Φ = iprop(Φ 0 ∗ Φ 1 ∗ Φ 2 ∗ Φ 3) := bigSep_univ_eq_bigSepL [0, 1, 2, 3] (by decide) (by decide) Φ

omit [FloatOps F] in
theorem gv_intro (c : Dev nD) : iprop((bigSep Finset.univ fun d : Fin 4 => dutyTok ER (barCell (nb c d)) 0 d) ∗ bigSep (Finset.range 120) fun k => iprop(∃ f, land (F := F) c k f))
    ⊢ Gv (F := F) c 4 := by
  have h2 : ⊢ give (F := F) c 2 := by unfold give; rw [keys_two, bigSep_empty]; iempintro
  rw [tok4, keys_join]
  show _ ⊢ iprop((dutyTok ER (barCell (nb c 0)) 0 0 ∗ give (F := F) c 0) ∗ (dutyTok ER (barCell (nb c 1)) 0 1 ∗ give (F := F) c 1)
    ∗ (dutyTok ER (barCell (nb c 2)) 0 2 ∗ give (F := F) c 2) ∗ (dutyTok ER (barCell (nb c 3)) 0 3 ∗ give (F := F) c 3) ∗ emp)
  iintro ⟨⟨T0, T1, T2, T3⟩, ⟨A, B⟩, C⟩
  isplitl [T0 A]
  · isplitl [T0]; · iexact T0
    unfold give; iexact A
  isplitl [T1 B]
  · isplitl [T1]; · iexact T1
    unfold give; iexact B
  isplitl [T2]
  · isplitl [T2]; · iexact T2
    iapply h2
  isplitl [T3 C]
  · isplitl [T3]; · iexact T3
    unfold give; iexact C
  iempintro

omit [FloatOps F] in
theorem k0_intro (c : Dev nD) : iprop((bigSep (Finset.range 120) fun k => Q0 (F := F) c k) ∗ bigSep (Finset.range 120) fun k => cred (tallyAt (rCell c k) () N))
    ⊢ bigSep (Finset.range 120) fun k => K0 (F := F) c k := by
  refine BIBase.Entails.trans (Entails.of_eq (bigSep_sep' _ _ _).symm) (bigSep_mono fun k _ => ?_)
  show iprop(Q0 (F := F) c k ∗ cred (tallyAt (rCell c k) () N)) ⊢ iprop((atPos ER (sCell c k) 0 ∅ 0 ∗ dutyTok ER (sCell c k) 0 0 ∗ dutyTok ER (rCell (peer c k) k) 0 0)
    ∗ cred (tallyAt (rCell c k) () N) ∗ atPos ER (rCell c k) 0 ∅ 0)
  unfold Q0
  iintro ⟨⟨A, B⟩, C⟩
  isplitl [A]; · iexact A
  isplitl [C] <;> iassumption

/-- What the launch dealt, put together. -/
theorem bs_intro (c : Dev nD) : iprop(start m ρ c ∗ scr (F := F) c ∗ own (F := F) c .ou ∗ (∃ W, owes (c : Thread nD τ) (OB c 4) W) ∗ ins m ρ c) ⊢ iprop(∃ K, Bs m ρ K c 4) := by
  unfold start linear
  iintro ⟨⟨⟨%K, #HI, Hat, Htok, HQ⟩, ⟨Hb, Hr⟩, #Hlev⟩, Hs, Ho, HO, Hin⟩
  iexists K
  have hs : iprop(scr (F := F) c ∗ own (F := F) c .ou) ⊢ owns8 (F := F) c := by
    unfold scr owns8
    iintro ⟨⟨A, B, C, D, E, G, H⟩, I⟩
    isplitl [A]; · iexact A
    isplitl [B]; · iexact B
    isplitl [C]; · iexact C
    isplitl [D]; · iexact D
    isplitl [E]; · iexact E
    isplitl [G]; · iexact G
    isplitl [H] <;> iassumption
  ihave H8 := (hs.trans (start_windows m ρ c)) $$ [Hs Ho]
  · isplitl [Hs] <;> iassumption
  icases H8 with ⟨Hw, Hland⟩
  unfold Bs recs
  isplitr
  · isplitl; · unfold invs; iexact HI
    iexact Hlev
  isplitl [HO]; · iexact HO
  isplitl [Htok Hland]
  · iapply (gv_intro (F := F) c)
    isplitl [Htok] <;> iassumption
  isplitl [Hb Hat]
  · isplitl [Hb] <;> iassumption
  isplitl [HQ Hr]
  · iapply (k0_intro (F := F) c)
    isplitl [HQ] <;> iassumption
  isplitl [Hw] <;> iassumption

def bodyPre (c : Dev nD) : sProp 𝕄 :=
  iprop(Φ₀ m ρ c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))

def bodyPost (c : Dev nD) : sProp 𝕄 :=
  iprop(Φ₁ (F := F) c ∗ (dats m ρ 0 c).owesAt () t0_0.succ ∗ stg c cc0_stg0_0 (xstg m ρ c) ∗ stg c cc0_stg1_0 (wstg m ρ c) ∗ stg c cc0_stg2_0 (stC m ρ c .ou))

theorem pre_intro (c : Dev nD) : bodyPre m ρ c ⊢ iprop(∃ K, Bs m ρ K c 4) := by
  refine BIBase.Entails.trans ?_ (bs_intro m ρ c)
  unfold bodyPre Φ₀ ins
  iintro ⟨⟨Hst, Hs⟩, Ho, ⟨%d0, %g0, %hg0, Hx⟩, ⟨%d1, %g1, %hg1, Hw⟩, ⟨%d2, %g2, %hg2, Hout⟩⟩
  have hx : g0 = xstg m ρ c := by rw [hg0]; unfold Dat.before; rw [if_pos (fetch_0 t0_0)]; rfl
  have hw : g1 = wstg m ρ c := by rw [hg1]; unfold Dat.before; rw [if_pos (fetch_1 t0_0)]; rfl
  subst hx hw
  unfold Dat.owesAt Pipeline.owesWithin
  icases Ho with ⟨%W, %hW, HO⟩
  isplitl [Hst]; · iexact Hst
  isplitl [Hs]; · iexact Hs
  isplitl [Hout]; · unfold own; iexists g2; iexact Hout
  isplitl [HO]; · iexists W; iexact HO
  isplitl [Hx] <;> iassumption

theorem post_intro (c : Dev nD) : iprop(St m ρ K c 677 ∗ semVal (barCell c) 0) ⊢ bodyPost m ρ c := by
  refine BIBase.Entails.trans (smono (St_end m ρ K c) BIBase.Entails.rfl) ?_
  unfold bodyPost Φ₁ ins Dat.owesAt Pipeline.owesWithin
  rw [show (dats m ρ 0 c).owed t0_0.succ = 0 from rfl]
  iintro ⟨⟨⟨%W, HO⟩, Hz, ⟨Hs, Hout⟩, Hx, Hw⟩, Hb⟩
  isplitl [Hs Hz Hb]
  · isplitl [Hs]; · unfold scr; iexact Hs
    isplitl [Hz] <;> iassumption
  isplitl [HO]
  · iexists W
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  iexists _; isplitr; · (ipureintro; rfl)
  iexact Hout

theorem bs_run (c : Dev nD) : iprop(∃ K, Bs m ρ K c 4) ⊢ wp frame (wpE (defs₀ (F := F)) 𝒱₀ c none) Set.univ
    (cc0_body (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 cc0_scratch16 cc0_scratch17 cc0_scratch18) (fun _ => bodyPost m ρ c) := by
  have hK : ∀ K, Bs m ρ K c 4 ⊢ wp frame (wpE (defs₀ (F := F)) 𝒱₀ c none) Set.univ (cc0_body (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 cc0_scratch16 cc0_scratch17 cc0_scratch18) (fun _ => bodyPost m ρ c) := fun K =>
    BIBase.Entails.trans (run_body (m := m) (ρ := ρ) (K := K) (c := c)) (wp_mono _ _ _ fun _ => post_intro m ρ K c)
  iintro ⟨%K, H⟩
  iapply (hK K)
  iexact H

theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre m ρ c ⊢ wp frame (wpE (defs₀ (F := F)) 𝒱₀ c none) Set.univ (cc0_body (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 cc0_scratch16 cc0_scratch17 cc0_scratch18) (fun _ => bodyPost m ρ c)
  exact BIBase.Entails.trans (pre_intro m ρ c) (bs_run m ρ c)

/-! ## The launch -/

theorem ownSemFacts : Pipeline.OwnSemFacts cfg0.spec osem := by decide +kernel

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred (fun d => OB d 4) c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

omit [FloatOps F] in
theorem scr_eq (c : Dev nD) : scr (F := F) c ⊣⊢ Pipeline.scopedRest cfg0.spec c := by
  rw [show Pipeline.scopedRest cfg0.spec c = Pipeline.scopedRest spec0 c from rfl, scopedRest0_eq]
  unfold scr own
  constructor
  · iintro ⟨A, B, C, D, E, G, H⟩
    isplitl [A]; · iexact A
    isplitl [B]; · iexact B
    isplitl [G]; · iexact G
    isplitl [C]; · iexact C
    isplitl [D]; · iexact D
    isplitl [E] <;> iassumption
  · iintro ⟨A, B, G, C, D, E, H⟩
    isplitl [A]; · iexact A
    isplitl [B]; · iexact B
    isplitl [C]; · iexact C
    isplitl [D]; · iexact D
    isplitl [E]; · iexact E
    isplitl [G] <;> iassumption

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl]
  unfold Φ₀
  iintro ⟨Hs, -, Hr⟩
  isplitl [Hs]; · iexact Hs
  iapply (scr_eq (F := F) c).2
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ (F := F) c from rfl, ownSems0_eq, unscopedSems0_eq]
  unfold Φ₁
  iintro ⟨Hr, Hz, HzB⟩
  isplitl [HzB]; · iexact HzB
  isplitl [Hz]; · iexact Hz
  iapply (scr_eq (F := F) c).1
  iexact Hr

theorem waits (c : Dev nD) : (levAts L lv : sProp 𝕄) ⊢ Pipeline.cellsWaits cfgs (dats m ρ) () 0 c :=
  Pipeline.cellsWaits_intro cfgs (dats m ρ) () 0 c fun w s t =>
    wait_stage c _ (by fin_cases w <;> fin_cases s <;> rfl) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

/-- From any memory with zero counters, for any float values, every weakly fair execution of @main on the sixteen devices
    ends, with each device's result array at the computed contents, its inputs unchanged and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := fun d => OB d 4) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The input arrays after the run hold what they held. -/
theorem finalA_x (c : Dev nD) : finalA m ρ c (0 : Fin 3) = (s₀ m ρ).mem (win0_0.arr.view.loc (c : Thread nD τ)) :=
  (dats (F := F) m ρ 0 c).arrAt_in (0 : Fin 3) rfl _
theorem finalA_w (c : Dev nD) : finalA m ρ c (1 : Fin 3) = (s₀ m ρ).mem (win0_1.arr.view.loc (c : Thread nD τ)) :=
  (dats (F := F) m ρ 0 c).arrAt_in (1 : Fin 3) rfl _

end

end Cert.Ring

end
-- ==== Proof.Sums.lean ====
module

public import proofs.«01_k».proof.Proof.Geom
public import proofs.«01_k».proof.Proof.Gen.KernelIdeal.Launch
public import Idealize.ShloMosaic.Lib.Pointwise
public import Idealize.ShloMosaic.PureOps.Ideal

/-! The result at the Ideal instance: every chunk is the product of the sum of the sixteen devices' rows with the weights. -/

@[expose] public section

set_option maxRecDepth 16384

namespace Cert.Ring

open Cert.KernelIdeal Cert.KernelIdeal.Gen Cert.Plan
open Idealize.ShloMosaic
open Idealize.ShloMosaic.TcCoe

noncomputable section

variable (m : (ℓ : Loc nD τ sig) → Buf (Elt Ideal) ℓ) (ρ : Dev nD → PrngReg)

/-! ## A plane, a column, the mesh -/

def plane (c : Dev nD) : Finset (Dev nD) := Finset.univ.filter fun d => zz d = zz c
def column (c : Dev nD) : Finset (Dev nD) := Finset.univ.filter fun d => qq d = qq c

theorem plane_left : ∀ c : Dev nD, plane c = insert (left (left (left c))) (insert (left (left c)) (insert (left c) {c}))
    ∧ left (left (left c)) ∉ (insert (left (left c)) (insert (left c) {c}) : Finset (Dev nD)) ∧ left (left c) ∉ (insert (left c) {c} : Finset (Dev nD))
    ∧ left c ∉ ({c} : Finset (Dev nD)) := by decide +kernel
theorem plane_right : ∀ c : Dev nD, plane c = insert (right (right (right c))) (insert (right (right c)) (insert (right c) {c}))
    ∧ right (right (right c)) ∉ (insert (right (right c)) (insert (right c) {c}) : Finset (Dev nD)) ∧ right (right c) ∉ (insert (right c) {c} : Finset (Dev nD))
    ∧ right c ∉ ({c} : Finset (Dev nD)) := by decide +kernel
theorem column_zdn : ∀ c : Dev nD, column c = insert (zdn (zdn (zdn c))) (insert (zdn (zdn c)) (insert (zdn c) {c}))
    ∧ zdn (zdn (zdn c)) ∉ (insert (zdn (zdn c)) (insert (zdn c) {c}) : Finset (Dev nD)) ∧ zdn (zdn c) ∉ (insert (zdn c) {c} : Finset (Dev nD))
    ∧ zdn c ∉ ({c} : Finset (Dev nD)) := by decide +kernel

theorem sum_four {a b c d : Dev nD} {s : Finset (Dev nD)} (h : s = insert a (insert b (insert c {d}))
    ∧ a ∉ (insert b (insert c {d}) : Finset (Dev nD)) ∧ b ∉ (insert c {d} : Finset (Dev nD)) ∧ c ∉ ({d} : Finset (Dev nD))) (f : Dev nD → EReal) :
    ∑ e ∈ s, f e = f a + f b + f c + f d := by
  rw [h.1, Finset.sum_insert h.2.1, Finset.sum_insert h.2.2.1, Finset.sum_insert h.2.2.2, Finset.sum_singleton, add_assoc, add_assoc]

theorem cover : ∀ c : Dev nD, (column c).biUnion plane = Finset.univ := by decide +kernel
theorem apart : ∀ c : Dev nD, ∀ a ∈ column c, ∀ b ∈ column c, a ≠ b → Disjoint (plane a) (plane b) := by decide +kernel
theorem sum_mesh (c : Dev nD) (f : Dev nD → EReal) : ∑ a ∈ column c, ∑ e ∈ plane a, f e = ∑ e, f e := by
  rw [← cover c, Finset.sum_biUnion (fun a ha b hb => apart c a ha b hb)]

/-! ## The two reductions -/

theorem qq_zdn (c : Dev nD) : qq (zdn c) = qq c := by revert c; decide
theorem zz_zdn (c : Dev nD) : zz (zdn c) = (zz c + 3) % 4 := by revert c; decide

theorem tr_id (x : Ideal .f32) : tr x = (show Ideal .bf16 from x) := rfl
theorem ex_id (x : Ideal .bf16) : ex x = (show Ideal .f32 from x) := rfl

abbrev T (d : Dev nD) (r j : ℕ) : EReal := tN m ρ d r j

theorem ar_sum (c : Dev nD) (r j : ℕ) : (arN m ρ 3 c r j : EReal) = ∑ d ∈ plane c, T m ρ d (512 * qq c + r) j := by
  have h := qq_lt c
  rw [sum_four (plane_left c)]
  show ((T m ρ _ (512 * ((qq (left (left (left c))) + 3) % 4) + r) j + T m ρ _ (512 * ((qq (left (left c)) + 6 - 0) % 4) + r) j)
    + T m ρ _ (512 * ((qq (left c) + 6 - 1) % 4) + r) j) + T m ρ _ (512 * ((qq c + 6 - 2) % 4) + r) j = _
  simp only [qq_left]
  rw [show (((qq c + 3) % 4 + 3) % 4 + 3) % 4 + 3 = (qq c + 9) % 4 + 3 by omega]
  rw [show ((qq c + 9) % 4 + 3) % 4 = qq c by omega, show (((qq c + 3) % 4 + 3) % 4 + 6 - 0) % 4 = qq c by omega,
    show ((qq c + 3) % 4 + 6 - 1) % 4 = qq c by omega, show (qq c + 6 - 2) % 4 = qq c by omega]

theorem al_sum (c : Dev nD) (r j : ℕ) : (alN m ρ 3 c r j : EReal) = ∑ d ∈ plane c, T m ρ d (512 * qq c + 256 + r) j := by
  have h := qq_lt c
  rw [sum_four (plane_right c)]
  show ((T m ρ _ (512 * ((qq (right (right (right c))) + 1) % 4) + 256 + r) j + T m ρ _ (512 * ((qq (right (right c)) + 0 + 2) % 4) + 256 + r) j)
    + T m ρ _ (512 * ((qq (right c) + 1 + 2) % 4) + 256 + r) j) + T m ρ _ (512 * ((qq c + 2 + 2) % 4) + 256 + r) j = _
  simp only [qq_right]
  rw [show ((((qq c + 1) % 4 + 1) % 4 + 1) % 4 + 1) % 4 = qq c by omega, show (((qq c + 1) % 4 + 1) % 4 + 0 + 2) % 4 = qq c by omega,
    show ((qq c + 1) % 4 + 1 + 2) % 4 = qq c by omega, show (qq c + 2 + 2) % 4 = qq c by omega]

theorem qb_sum (c : Dev nD) (r j : ℕ) : (qbN m ρ c r j : EReal) = ∑ d ∈ plane c, T m ρ d (512 * qq c + r) j := by
  unfold qbN
  by_cases h : r < 256
  · rw [if_pos h]; exact ar_sum m ρ c r j
  · rw [if_neg h, ← show 512 * qq c + 256 + (r - 256) = 512 * qq c + r by omega]; exact al_sum m ρ c (r - 256) j

theorem bc_sum (c : Dev nD) (r j : ℕ) : (bcN m ρ 3 c r j : EReal) = ∑ d, T m ρ d (512 * qq c + (128 * zz c + r)) j := by
  have h := zz_lt c
  have hq : ∀ a ∈ column c, qq a = qq c := fun a ha => (Finset.mem_filter.mp ha).2
  rw [← sum_mesh c]
  have e : ∑ a ∈ column c, ∑ d ∈ plane a, T m ρ d (512 * qq c + (128 * zz c + r)) j = ∑ a ∈ column c, (qbN m ρ a (128 * zz c + r) j : EReal) :=
    Finset.sum_congr rfl fun a ha => by rw [qb_sum, hq a ha]
  rw [e, sum_four (column_zdn c)]
  show ((qbN m ρ _ (128 * ((zz (zdn (zdn (zdn c))) + 3) % 4) + r) j + qbN m ρ _ (128 * ((zz (zdn (zdn c)) + 6 - 0) % 4) + r) j : EReal)
    + (qbN m ρ _ (128 * ((zz (zdn c) + 6 - 1) % 4) + r) j : EReal)) + (qbN m ρ _ (128 * ((zz c + 6 - 2) % 4) + r) j : EReal) = _
  simp only [zz_zdn]
  rw [show ((((zz c + 3) % 4 + 3) % 4 + 3) % 4 + 3) % 4 = zz c by omega, show (((zz c + 3) % 4 + 3) % 4 + 6 - 0) % 4 = zz c by omega,
    show ((zz c + 3) % 4 + 6 - 1) % 4 = zz c by omega, show (zz c + 6 - 2) % 4 = zz c by omega]

/-! ## The product -/

theorem wb_id (c : Dev nD) : wbV m ρ c = (show S1024x1024.Idx → Ideal .bf16 from wstg m ρ c) := by
  unfold wbV k0_pay22
  funext i
  pointwise

theorem pay_apply (a : S1x64x1024.Idx → Ideal .bf16) (w : S1024x1024.Idx → Ideal .bf16) (r : Fin 64) (j : Fin 1024) :
    (k0_pay110 (F := Ideal) a w (ix2 r j) : EReal) = ∑ k : Fin 1024, (a (ix3 (0 : Fin 1) r k) : EReal) * w (ix2 k j) := by
  unfold k0_pay110
  pointwise

end

end Cert.Ring

end
-- ==== Proof.Result.lean ====
module

public import proofs.«01_k».proof.Proof.Sums
public import proofs.«01_k».proof.Proof.Main
public import proofs.«01_k».proof.Proof.Gen.ReferenceIdeal.Run
public import Idealize.ShloMosaic.Lib.Layout

/-! Every device's result array is the reference's value of the whole arrays. -/

@[expose] public section

set_option maxRecDepth 16384

namespace Cert.Ring

open Cert.KernelIdeal Cert.KernelIdeal.Gen Cert.Plan
open Idealize.ShloMosaic
open Idealize.ShloMosaic.TcCoe

noncomputable section

section Arrays
variable {F : FTy → Type} [FloatOps F] (m : (ℓ : Loc nD τ sig) → Buf (Elt F) ℓ) (ρ : Dev nD → PrngReg)

/-- Each window is its whole array. -/
theorem xstg_eq (c : Dev nD) : xstg m ρ c = m ((c : Thread nD τ).loc main_arg0) := by
  funext i
  refine congrArg (m ((c : Thread nD τ).loc main_arg0)) (funext fun a => Fin.ext ?_)
  fin_cases a <;> (show 0 + 1 * _ = _; omega)
theorem wstg_eq (c : Dev nD) : wstg m ρ c = m ((c : Thread nD τ).loc main_arg1) := by
  funext i
  refine congrArg (m ((c : Thread nD τ).loc main_arg1)) (funext fun a => Fin.ext ?_)
  fin_cases a <;> (show 0 + 1 * _ = _; omega)

theorem finalA_read (c : Dev nD) : (win0_2.blk (0 : Fin 1)).view.read (Elt F) (finalA m ρ c (2 : Fin 3)) = stC m ρ c .ou := by
  unfold finalA
  rw [show cfg0.N = ((0 : Fin 1) : Fin cfg0.N).val + 1 from rfl, (dats m ρ 0 c).arrAt_succ (2 : Fin 3) (0 : Fin 1)]
  rw [show (cfg0.win (2 : Fin 3)).flush (0 : Fin 1) = true from by decide, if_pos rfl]
  exact View.read_write_univ _ _

theorem finalA_out (c : Dev nD) : finalA m ρ c (2 : Fin 3) = stC m ρ c .ou := by
  rw [← finalA_read m ρ c]
  funext i
  refine congrArg (finalA m ρ c (2 : Fin 3)) (funext fun a => Fin.ext ?_)
  fin_cases a <;> (show _ = 0 + 1 * _; omega)
end Arrays

variable (m : (ℓ : Loc nD τ sig) → Buf (Elt Ideal) ℓ) (ρ : Dev nD → PrngReg)

/-- Row `r`, column `j` of the sum's product with device `c`'s weights. -/
def sumDot (c : Dev nD) (r : Fin 2048) (j : Fin 1024) : EReal :=
  ∑ k : Fin 1024, (∑ d, T m ρ d r k) * (show S1024x1024.Idx → EReal from wstg m ρ c) (ix2 k j)

theorem res_eq (c : Dev nD) (r : Fin 2048) (j : Fin 1024) (hq : qq c = r.val / 512) (hz : zz c = r.val % 512 / 128) :
    (resN m ρ c (r.val % 128) j : EReal) = sumDot m ρ c r j := by
  unfold resN resV sumDot
  show (k0_pay110 (F := Ideal) _ _ (ix2 _ _) : EReal) = _
  rw [pay_apply, wb_id]
  have hj : (⟨j.val % 1024, Nat.mod_lt _ (by decide)⟩ : Fin 1024) = j := Fin.ext (Nat.mod_eq_of_lt j.isLt)
  refine Finset.sum_congr rfl fun k _ => ?_
  rw [hj]
  refine congrArg (· * _) ?_
  show (bcN m ρ 3 c (64 * (r.val % 128 / 64) + r.val % 128 % 64) k.val : EReal) = _
  rw [bc_sum, hq, hz, show 512 * (r.val / 512) + (128 * (r.val % 512 / 128) + (64 * (r.val % 128 / 64) + r.val % 128 % 64)) = r.val by omega]

theorem qq_dv : ∀ q z : Fin 4, qq (dv q z) = q.val ∧ zz (dv q z) = z.val := by decide
theorem dv_own : ∀ c : Dev nD, dv (qq c) (zz c) = c := by decide

theorem out_eq (c : Dev nD) (r : Fin 2048) (j : Fin 1024) :
    (outN m ρ c r.val j.val : EReal) = sumDot m ρ (dv (r.val / 512) (r.val % 512 / 128)) r j := by
  have hr := r.isLt
  have hd : qq (dv (r.val / 512) (r.val % 512 / 128)) = r.val / 512 ∧ zz (dv (r.val / 512) (r.val % 512 / 128)) = r.val % 512 / 128 :=
    qq_dv ⟨r.val / 512, by omega⟩ ⟨r.val % 512 / 128, by omega⟩
  rw [← res_eq m ρ _ r j hd.1 hd.2]
  unfold outN poN
  by_cases h : r.val / 512 = qq c ∧ r.val % 512 / 128 = zz c
  · have e : dv (r.val / 512) (r.val % 512 / 128) = c := by rw [h.1, h.2]; exact dv_own c
    rw [if_pos h, e]
  · rw [if_neg h, show r.val / 512 % 4 = r.val / 512 by omega]; rfl

/-! ## The reference -/

open Cert.ReferenceIdeal in
/-- The reference's value of the whole arrays. -/
abbrev refOut (t : (⟨2, ![32768, 1024]⟩ : Shape).Idx → Ideal .f32) (w : (⟨2, ![1024, 1024]⟩ : Shape).Idx → Ideal .f32) : (⟨2, ![2048, 1024]⟩ : Shape).Idx → Ideal .f32 :=
  Host.dotGeneral (F := Ideal) Cert.ReferenceIdeal.dot_S2048x1024_S1024x1024_S2048x1024_1_0_0_1_n_n none
    (Host.reduceAdd (F := Ideal) (shapeCast _ t Cert.ReferenceIdeal.Gen.facts.shapeCasts_S32768x1024_S16x2048x1024) (constant Cert.ReferenceIdeal.S_ .f32 0x00000000#32)
      Cert.ReferenceIdeal.Gen.facts.reducesTo_S16x2048x1024_S2048x1024_d0 Cert.ReferenceIdeal.Gen.facts.h_S_) w

theorem ref_apply (t : (⟨2, ![32768, 1024]⟩ : Shape).Idx → Ideal .f32) (w : (⟨2, ![1024, 1024]⟩ : Shape).Idx → Ideal .f32) (r : Fin 2048) (j : Fin 1024) :
    (refOut t w (ix2 r j) : EReal) = ∑ k : Fin 1024, (∑ d : Fin 16, (t (ix2 ⟨d.val * 2048 + r.val, by omega⟩ k) : EReal)) * w (ix2 k j) := by
  unfold refOut
  pointwise

/-- When every device holds its block of `t` and the whole of `w`, its result is the reference's. -/
theorem result_eq (t : (⟨2, ![32768, 1024]⟩ : Shape).Idx → Ideal .f32) (w : (⟨2, ![1024, 1024]⟩ : Shape).Idx → Ideal .f32)
    (hin : ∀ c : Dev nD, m ((c : Thread nD τ).loc main_arg0) = Layout.block ⟨2, ![2048, 1024]⟩ ⟨2, ![32768, 1024]⟩ 0 16 c t
      ∧ m ((c : Thread nD τ).loc main_arg1) = w) (c : Dev nD) :
    finalA m ρ c (2 : Fin 3) = refOut t w := by
  have hT : ∀ (d : Dev nD) (r : Fin 2048) (k : Fin 1024), (T m ρ d r k : EReal) = t (ix2 ⟨d.val * 2048 + r.val, by have := d.isLt; have := r.isLt; change d.val < 16 at *; omega⟩ k) := by
    intro d r k
    show (show S2048x1024.Idx → EReal from xstg m ρ d) (ixT r k) = _
    rw [xstg_eq, (hin d).1]
    refine congrArg t (funext fun a => Fin.ext ?_)
    have hr := r.isLt
    have hk := k.isLt
    fin_cases a
    · show d.val * 2048 + r.val % 2048 = d.val * 2048 + r.val
      omega
    · show k.val % 1024 = k.val
      omega
  have key : ∀ (r : Fin 2048) (j : Fin 1024), (outN m ρ c r.val j.val : EReal) = refOut t w (ix2 r j) := by
    intro r j
    rw [out_eq, ref_apply]
    unfold sumDot
    rw [wstg_eq, (hin _).2]
    exact Finset.sum_congr rfl fun k _ => congrArg (· * _) (Finset.sum_congr rfl fun d _ => hT d r k)
  rw [finalA_out]
  funext i
  refine (key (i 0) (i 1)).trans (congrArg (refOut t w) (funext fun a => ?_))
  fin_cases a <;> rfl

end

end Cert.Ring

end
-- ==== Proof.lean ====
/- The claims: the two programs' frames from the run of @main, the reference's from its own run, and the value
   equation at the Ideal instance. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Main
public import proofs.«01_k».proof.Proof.Result
public import Idealize.ShloMosaic.Adequacy
public import Idealize.ShloMosaic.Init

@[expose] public section

noncomputable section

namespace Cert.Proof

open Idealize.ShloMosaic Idealize.SL.Sem Idealize.ShloMosaic.TcCoe

attribute [local instance] Cert.Kernel.Gen.facts Cert.KernelIdeal.Gen.facts Cert.ReferenceIdeal.Gen.facts

theorem ends {F : FTy → Type} [FloatOps F] {m : (ℓ : Loc Cert.KernelIdeal.nD Cert.KernelIdeal.τ Cert.KernelIdeal.sig) → Buf (Elt F) ℓ} {ρ : Dev Cert.KernelIdeal.nD → PrngReg}
    {r : PUnit × MemSt Cert.KernelIdeal.nD Cert.KernelIdeal.τ Cert.KernelIdeal.sig (Elt F)} (h : Cert.Ring.QC m ρ r ∧ r.2.sem = fun _ => 0) :
    (∀ c : Dev Cert.KernelIdeal.nD, r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0 :=
  ⟨fun c => ⟨(h.1 c (0 : Fin 3)).trans (Cert.Ring.finalA_x m ρ c), (h.1 c (1 : Fin 3)).trans (Cert.Ring.finalA_w m ρ c)⟩, h.2⟩

theorem frame_kernelIdeal : Cert.quiescent_KernelIdeal := fun m ρ _ =>
  (θ_run Cert.KernelIdeal.defs _ _).mono (fun _ h => ends h) (Cert.Ring.run_main (F := Ideal) m ρ)

/-- The kernel as printed is the same text as its idealization. -/
theorem bodies_eq : Cert.Kernel.defs₀ (F := Bits) = Cert.KernelIdeal.defs₀ (F := Bits) := by
  unfold Cert.Kernel.defs₀ Cert.KernelIdeal.defs₀
  refine congrArg Defs.onTc (funext fun l => funext fun a => ?_)
  obtain ⟨_ | _, h⟩ := l
  · rfl
  · exact absurd h (Nat.not_lt.2 (Nat.le_add_left _ _))

theorem defs_eq : Cert.Kernel.defs (F := Bits) = Cert.KernelIdeal.defs (F := Bits) := by
  unfold Cert.Kernel.defs Cert.KernelIdeal.defs
  rw [bodies_eq]
  rfl

theorem frame_kernel : Cert.quiescent_Kernel := fun m ρ _ => by
  rw [defs_eq]
  exact (θ_run Cert.KernelIdeal.defs _ _).mono (fun _ h => ends h) (Cert.Ring.run_main (F := Bits) m ρ)

/-- The reference is a straight-line host program that declares no semaphore. -/
theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- Every device ends with the reference's whole product. -/
theorem value : Cert.algebraic_KernelIdeal_ReferenceIdeal := fun m g m' g' _ hin =>
  ⟨Cert.Ring.refOut (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono
      (fun _ h c => ⟨(h.1 c (2 : Fin 3)).trans (Cert.Ring.result_eq m g _ _ hin c), ((ends h).1 c).1, ((ends h).1 c).2⟩)
      (Cert.Ring.run_main (F := Ideal) m g),
    (θ_run Cert.ReferenceIdeal.defs _ _).mono (fun _ h => h 0) (Cert.ReferenceIdeal.Value.run (F := Ideal) m' g')⟩

theorem claim : Cert.Claim := ⟨Cert.Kernel.Gen.facts, Cert.KernelIdeal.Gen.facts, Cert.ReferenceIdeal.Gen.facts, by
  exact ⟨frame_kernel, frame_kernelIdeal, frame_reference, trivial, value⟩⟩

end Cert.Proof

end
